-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite [hPre_finite : Cert.Pre_finite.Facts] (m : (ℓ : Loc Cert.MixerIdeal.nD Cert.MixerIdeal.τ Cert.MixerIdeal.sig) → Buf (Elt Ideal) ℓ) : Prop :=
  ∀ c : Dev Cert.MixerIdeal.nD,
    (Cert.Pre_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11)) (m ((c.tc : Thread Cert.MixerIdeal.nD Cert.MixerIdeal.τ).loc Cert.MixerIdeal.main_arg12)) (m ((c.tc : Thread Cert.MixerIdeal.nD Cert.MixerIdeal.τ).loc Cert.MixerIdeal.main_arg13)) (m ((c.tc : Thread Cert.MixerIdeal.nD Cert.MixerIdeal.τ).loc Cert.MixerIdeal.main_arg14)) (m ((c.tc : Thread Cert.MixerIdeal.nD Cert.MixerIdeal.τ).loc Cert.MixerIdeal.main_arg15))).1 = (fun _ => 1#1)
    ∧ (Cert.Pre_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11)) (m ((c.tc : Thread Cert.MixerIdeal.nD Cert.MixerIdeal.τ).loc Cert.MixerIdeal.main_arg12)) (m ((c.tc : Thread Cert.MixerIdeal.nD Cert.MixerIdeal.τ).loc Cert.MixerIdeal.main_arg13)) (m ((c.tc : Thread Cert.MixerIdeal.nD Cert.MixerIdeal.τ).loc Cert.MixerIdeal.main_arg14)) (m ((c.tc : Thread Cert.MixerIdeal.nD Cert.MixerIdeal.τ).loc Cert.MixerIdeal.main_arg15))).2.1 = (fun _ => 1#1)
    ∧ (Cert.Pre_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11)) (m ((c.tc : Thread Cert.MixerIdeal.nD Cert.MixerIdeal.τ).loc Cert.MixerIdeal.main_arg12)) (m ((c.tc : Thread Cert.MixerIdeal.nD Cert.MixerIdeal.τ).loc Cert.MixerIdeal.main_arg13)) (m ((c.tc : Thread Cert.MixerIdeal.nD Cert.MixerIdeal.τ).loc Cert.MixerIdeal.main_arg14)) (m ((c.tc : Thread Cert.MixerIdeal.nD Cert.MixerIdeal.τ).loc Cert.MixerIdeal.main_arg15))).2.2 = (fun _ => 1#1)

def Pre_RefIdeal (m : (ℓ : Loc Cert.RefIdeal.nD Cert.RefIdeal.τ Cert.RefIdeal.sig) → Buf (Elt Ideal) ℓ) : Prop :=
  True

def Pre_RefIdeal_finite [hPre_finite : Cert.Pre_finite.Facts] (m : (ℓ : Loc Cert.RefIdeal.nD Cert.RefIdeal.τ Cert.RefIdeal.sig) → Buf (Elt Ideal) ℓ) : Prop :=
  ∀ c : Dev Cert.RefIdeal.nD,
    (Cert.Pre_finite.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8)) (m ((c.tc : Thread Cert.RefIdeal.nD Cert.RefIdeal.τ).loc Cert.RefIdeal.main_arg9)) (m ((c.tc : Thread Cert.RefIdeal.nD Cert.RefIdeal.τ).loc Cert.RefIdeal.main_arg10)) (m ((c.tc : Thread Cert.RefIdeal.nD Cert.RefIdeal.τ).loc Cert.RefIdeal.main_arg11)) (m ((c.tc : Thread Cert.RefIdeal.nD Cert.RefIdeal.τ).loc Cert.RefIdeal.main_arg12)) (m ((c.tc : Thread Cert.RefIdeal.nD Cert.RefIdeal.τ).loc Cert.RefIdeal.main_arg13)) (m ((c.tc : Thread Cert.RefIdeal.nD Cert.RefIdeal.τ).loc Cert.RefIdeal.main_arg14)) (m ((c.tc : Thread Cert.RefIdeal.nD Cert.RefIdeal.τ).loc Cert.RefIdeal.main_arg15))).1 = (fun _ => 1#1)
    ∧ (Cert.Pre_finite.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8)) (m ((c.tc : Thread Cert.RefIdeal.nD Cert.RefIdeal.τ).loc Cert.RefIdeal.main_arg9)) (m ((c.tc : Thread Cert.RefIdeal.nD Cert.RefIdeal.τ).loc Cert.RefIdeal.main_arg10)) (m ((c.tc : Thread Cert.RefIdeal.nD Cert.RefIdeal.τ).loc Cert.RefIdeal.main_arg11)) (m ((c.tc : Thread Cert.RefIdeal.nD Cert.RefIdeal.τ).loc Cert.RefIdeal.main_arg12)) (m ((c.tc : Thread Cert.RefIdeal.nD Cert.RefIdeal.τ).loc Cert.RefIdeal.main_arg13)) (m ((c.tc : Thread Cert.RefIdeal.nD Cert.RefIdeal.τ).loc Cert.RefIdeal.main_arg14)) (m ((c.tc : Thread Cert.RefIdeal.nD Cert.RefIdeal.τ).loc Cert.RefIdeal.main_arg15))).2.1 = (fun _ => 1#1)
    ∧ (Cert.Pre_finite.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8)) (m ((c.tc : Thread Cert.RefIdeal.nD Cert.RefIdeal.τ).loc Cert.RefIdeal.main_arg9)) (m ((c.tc : Thread Cert.RefIdeal.nD Cert.RefIdeal.τ).loc Cert.RefIdeal.main_arg10)) (m ((c.tc : Thread Cert.RefIdeal.nD Cert.RefIdeal.τ).loc Cert.RefIdeal.main_arg11)) (m ((c.tc : Thread Cert.RefIdeal.nD Cert.RefIdeal.τ).loc Cert.RefIdeal.main_arg12)) (m ((c.tc : Thread Cert.RefIdeal.nD Cert.RefIdeal.τ).loc Cert.RefIdeal.main_arg13)) (m ((c.tc : Thread Cert.RefIdeal.nD Cert.RefIdeal.τ).loc Cert.RefIdeal.main_arg14)) (m ((c.tc : Thread Cert.RefIdeal.nD Cert.RefIdeal.τ).loc Cert.RefIdeal.main_arg15))).2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13)
      ∧ r.2.mem ((c.tc : Thread Cert.Mixer.nD Cert.Mixer.τ).loc Cert.Mixer.main_arg14) = m ((c.tc : Thread Cert.Mixer.nD Cert.Mixer.τ).loc Cert.Mixer.main_arg14)
      ∧ r.2.mem ((c.tc : Thread Cert.Mixer.nD Cert.Mixer.τ).loc Cert.Mixer.main_arg15) = m ((c.tc : Thread Cert.Mixer.nD Cert.Mixer.τ).loc Cert.Mixer.main_arg15))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15))
      ∧ r.2.sem = fun _ => 0)

def quiescent_MixerIdeal_pre_finite [hMixerIdeal : Cert.MixerIdeal.Facts] [hPre_finite : Cert.Pre_finite.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7)
      ∧ r.2.mem ((c.tc : Thread Cert.RefIdeal.nD Cert.RefIdeal.τ).loc Cert.RefIdeal.main_arg8) = m ((c.tc : Thread Cert.RefIdeal.nD Cert.RefIdeal.τ).loc Cert.RefIdeal.main_arg8)
      ∧ r.2.mem ((c.tc : Thread Cert.RefIdeal.nD Cert.RefIdeal.τ).loc Cert.RefIdeal.main_arg9) = m ((c.tc : Thread Cert.RefIdeal.nD Cert.RefIdeal.τ).loc Cert.RefIdeal.main_arg9)
      ∧ r.2.mem ((c.tc : Thread Cert.RefIdeal.nD Cert.RefIdeal.τ).loc Cert.RefIdeal.main_arg10) = m ((c.tc : Thread Cert.RefIdeal.nD Cert.RefIdeal.τ).loc Cert.RefIdeal.main_arg10)
      ∧ r.2.mem ((c.tc : Thread Cert.RefIdeal.nD Cert.RefIdeal.τ).loc Cert.RefIdeal.main_arg11) = m ((c.tc : Thread Cert.RefIdeal.nD Cert.RefIdeal.τ).loc Cert.RefIdeal.main_arg11)
      ∧ r.2.mem ((c.tc : Thread Cert.RefIdeal.nD Cert.RefIdeal.τ).loc Cert.RefIdeal.main_arg12) = m ((c.tc : Thread Cert.RefIdeal.nD Cert.RefIdeal.τ).loc Cert.RefIdeal.main_arg12)
      ∧ r.2.mem ((c.tc : Thread Cert.RefIdeal.nD Cert.RefIdeal.τ).loc Cert.RefIdeal.main_arg13) = m ((c.tc : Thread Cert.RefIdeal.nD Cert.RefIdeal.τ).loc Cert.RefIdeal.main_arg13)
      ∧ r.2.mem ((c.tc : Thread Cert.RefIdeal.nD Cert.RefIdeal.τ).loc Cert.RefIdeal.main_arg14) = m ((c.tc : Thread Cert.RefIdeal.nD Cert.RefIdeal.τ).loc Cert.RefIdeal.main_arg14)
      ∧ r.2.mem ((c.tc : Thread Cert.RefIdeal.nD Cert.RefIdeal.τ).loc Cert.RefIdeal.main_arg15) = m ((c.tc : Thread Cert.RefIdeal.nD Cert.RefIdeal.τ).loc Cert.RefIdeal.main_arg15))
      ∧ r.2.sem = fun _ => 0)

def quiescent_RefIdeal_pre_finite [hRefIdeal : Cert.RefIdeal.Facts] [hPre_finite : Cert.Pre_finite.Facts] : Prop :=
  ∀ (m : (ℓ : Loc Cert.RefIdeal.nD Cert.RefIdeal.τ Cert.RefIdeal.sig) → Buf (Elt Ideal) ℓ) (g : Dev Cert.RefIdeal.nD → PrngReg), Pre_RefIdeal_finite m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7)
      ∧ r.2.mem ((c.tc : Thread Cert.RefIdeal.nD Cert.RefIdeal.τ).loc Cert.RefIdeal.main_arg8) = m ((c.tc : Thread Cert.RefIdeal.nD Cert.RefIdeal.τ).loc Cert.RefIdeal.main_arg8)
      ∧ r.2.mem ((c.tc : Thread Cert.RefIdeal.nD Cert.RefIdeal.τ).loc Cert.RefIdeal.main_arg9) = m ((c.tc : Thread Cert.RefIdeal.nD Cert.RefIdeal.τ).loc Cert.RefIdeal.main_arg9)
      ∧ r.2.mem ((c.tc : Thread Cert.RefIdeal.nD Cert.RefIdeal.τ).loc Cert.RefIdeal.main_arg10) = m ((c.tc : Thread Cert.RefIdeal.nD Cert.RefIdeal.τ).loc Cert.RefIdeal.main_arg10)
      ∧ r.2.mem ((c.tc : Thread Cert.RefIdeal.nD Cert.RefIdeal.τ).loc Cert.RefIdeal.main_arg11) = m ((c.tc : Thread Cert.RefIdeal.nD Cert.RefIdeal.τ).loc Cert.RefIdeal.main_arg11)
      ∧ r.2.mem ((c.tc : Thread Cert.RefIdeal.nD Cert.RefIdeal.τ).loc Cert.RefIdeal.main_arg12) = m ((c.tc : Thread Cert.RefIdeal.nD Cert.RefIdeal.τ).loc Cert.RefIdeal.main_arg12)
      ∧ r.2.mem ((c.tc : Thread Cert.RefIdeal.nD Cert.RefIdeal.τ).loc Cert.RefIdeal.main_arg13) = m ((c.tc : Thread Cert.RefIdeal.nD Cert.RefIdeal.τ).loc Cert.RefIdeal.main_arg13)
      ∧ r.2.mem ((c.tc : Thread Cert.RefIdeal.nD Cert.RefIdeal.τ).loc Cert.RefIdeal.main_arg14) = m ((c.tc : Thread Cert.RefIdeal.nD Cert.RefIdeal.τ).loc Cert.RefIdeal.main_arg14)
      ∧ r.2.mem ((c.tc : Thread Cert.RefIdeal.nD Cert.RefIdeal.τ).loc Cert.RefIdeal.main_arg15) = m ((c.tc : Thread Cert.RefIdeal.nD Cert.RefIdeal.τ).loc Cert.RefIdeal.main_arg15))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def preserves_Mixer_MixerIdeal : Prop :=
  IdealRules.named_const.Statement Cert.MixerIdeal.κ "masked" .f32 0xF49DC5AE#32 ⊥
  ∧ IdealRules.named_const.Statement Cert.MixerIdeal.κ "neg_inf" .f32 0xF149F2CA#32 ⊥

def algebraic_MixerIdeal_RefIdeal_pre_finite [hMixerIdeal : Cert.MixerIdeal.Facts] [hRefIdeal : Cert.RefIdeal.Facts] [hPre_finite : Cert.Pre_finite.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.RefIdeal.nD Cert.RefIdeal.τ Cert.RefIdeal.sig) → Buf (Elt Ideal) ℓ) (g' : Dev Cert.RefIdeal.nD → PrngReg), Pre_MixerIdeal_finite m →
    (∀ c : Dev Cert.MixerIdeal.nD,
      m' ((c.tc : Thread Cert.RefIdeal.nD Cert.RefIdeal.τ).loc Cert.RefIdeal.main_arg0) = m ((c.tc : Thread Cert.MixerIdeal.nD Cert.MixerIdeal.τ).loc Cert.MixerIdeal.main_arg0)
      ∧ m' ((c.tc : Thread Cert.RefIdeal.nD Cert.RefIdeal.τ).loc Cert.RefIdeal.main_arg1) = m ((c.tc : Thread Cert.MixerIdeal.nD Cert.MixerIdeal.τ).loc Cert.MixerIdeal.main_arg1)
      ∧ m' ((c.tc : Thread Cert.RefIdeal.nD Cert.RefIdeal.τ).loc Cert.RefIdeal.main_arg2) = m ((c.tc : Thread Cert.MixerIdeal.nD Cert.MixerIdeal.τ).loc Cert.MixerIdeal.main_arg2)
      ∧ m' ((c.tc : Thread Cert.RefIdeal.nD Cert.RefIdeal.τ).loc Cert.RefIdeal.main_arg3) = m ((c.tc : Thread Cert.MixerIdeal.nD Cert.MixerIdeal.τ).loc Cert.MixerIdeal.main_arg3)
      ∧ m' ((c.tc : Thread Cert.RefIdeal.nD Cert.RefIdeal.τ).loc Cert.RefIdeal.main_arg4) = m ((c.tc : Thread Cert.MixerIdeal.nD Cert.MixerIdeal.τ).loc Cert.MixerIdeal.main_arg4)
      ∧ m' ((c.tc : Thread Cert.RefIdeal.nD Cert.RefIdeal.τ).loc Cert.RefIdeal.main_arg5) = m ((c.tc : Thread Cert.MixerIdeal.nD Cert.MixerIdeal.τ).loc Cert.MixerIdeal.main_arg5)
      ∧ m' ((c.tc : Thread Cert.RefIdeal.nD Cert.RefIdeal.τ).loc Cert.RefIdeal.main_arg6) = m ((c.tc : Thread Cert.MixerIdeal.nD Cert.MixerIdeal.τ).loc Cert.MixerIdeal.main_arg6)
      ∧ m' ((c.tc : Thread Cert.RefIdeal.nD Cert.RefIdeal.τ).loc Cert.RefIdeal.main_arg7) = m ((c.tc : Thread Cert.MixerIdeal.nD Cert.MixerIdeal.τ).loc Cert.MixerIdeal.main_arg7)
      ∧ m' ((c.tc : Thread Cert.RefIdeal.nD Cert.RefIdeal.τ).loc Cert.RefIdeal.main_arg8) = m ((c.tc : Thread Cert.MixerIdeal.nD Cert.MixerIdeal.τ).loc Cert.MixerIdeal.main_arg8)
      ∧ m' ((c.tc : Thread Cert.RefIdeal.nD Cert.RefIdeal.τ).loc Cert.RefIdeal.main_arg9) = m ((c.tc : Thread Cert.MixerIdeal.nD Cert.MixerIdeal.τ).loc Cert.MixerIdeal.main_arg9)
      ∧ m' ((c.tc : Thread Cert.RefIdeal.nD Cert.RefIdeal.τ).loc Cert.RefIdeal.main_arg10) = m ((c.tc : Thread Cert.MixerIdeal.nD Cert.MixerIdeal.τ).loc Cert.MixerIdeal.main_arg10)
      ∧ m' ((c.tc : Thread Cert.RefIdeal.nD Cert.RefIdeal.τ).loc Cert.RefIdeal.main_arg11) = m ((c.tc : Thread Cert.MixerIdeal.nD Cert.MixerIdeal.τ).loc Cert.MixerIdeal.main_arg11)
      ∧ m' ((c.tc : Thread Cert.RefIdeal.nD Cert.RefIdeal.τ).loc Cert.RefIdeal.main_arg12) = m ((c.tc : Thread Cert.MixerIdeal.nD Cert.MixerIdeal.τ).loc Cert.MixerIdeal.main_arg12)
      ∧ m' ((c.tc : Thread Cert.RefIdeal.nD Cert.RefIdeal.τ).loc Cert.RefIdeal.main_arg13) = m ((c.tc : Thread Cert.MixerIdeal.nD Cert.MixerIdeal.τ).loc Cert.MixerIdeal.main_arg13)
      ∧ m' ((c.tc : Thread Cert.RefIdeal.nD Cert.RefIdeal.τ).loc Cert.RefIdeal.main_arg14) = m ((c.tc : Thread Cert.MixerIdeal.nD Cert.MixerIdeal.τ).loc Cert.MixerIdeal.main_arg14)
      ∧ m' ((c.tc : Thread Cert.RefIdeal.nD Cert.RefIdeal.τ).loc Cert.RefIdeal.main_arg15) = m ((c.tc : Thread Cert.MixerIdeal.nD Cert.MixerIdeal.τ).loc Cert.MixerIdeal.main_arg15)) →
    ∃ (v0 : (c : Dev Cert.MixerIdeal.nD) → Buf (Elt Ideal) ((c.tc : Thread Cert.MixerIdeal.nD Cert.MixerIdeal.τ).loc Cert.MixerIdeal.main_v0_0)) (v1 : (c : Dev Cert.MixerIdeal.nD) → Buf (Elt Ideal) ((c.tc : Thread Cert.MixerIdeal.nD Cert.MixerIdeal.τ).loc Cert.MixerIdeal.main_v0_1)) (v2 : (c : Dev Cert.MixerIdeal.nD) → Buf (Elt Ideal) ((c.tc : Thread Cert.MixerIdeal.nD Cert.MixerIdeal.τ).loc Cert.MixerIdeal.main_v0_2)) (v3 : (c : Dev Cert.MixerIdeal.nD) → Buf (Elt Ideal) ((c.tc : Thread Cert.MixerIdeal.nD Cert.MixerIdeal.τ).loc Cert.MixerIdeal.main_v0_3)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v0_0) = v0 c
          ∧ r.2.mem ((c.tc : Thread Cert.MixerIdeal.nD Cert.MixerIdeal.τ).loc Cert.MixerIdeal.main_v0_1) = v1 c
          ∧ r.2.mem ((c.tc : Thread Cert.MixerIdeal.nD Cert.MixerIdeal.τ).loc Cert.MixerIdeal.main_v0_2) = v2 c
          ∧ r.2.mem ((c.tc : Thread Cert.MixerIdeal.nD Cert.MixerIdeal.τ).loc Cert.MixerIdeal.main_v0_3) = v3 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
          ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
          ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
          ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v106) = v0 c
          ∧ r.2.mem ((c.tc : Thread Cert.RefIdeal.nD Cert.RefIdeal.τ).loc Cert.RefIdeal.main_v107) = v1 c
          ∧ r.2.mem ((c.tc : Thread Cert.RefIdeal.nD Cert.RefIdeal.τ).loc Cert.RefIdeal.main_v109) = v2 c
          ∧ r.2.mem ((c.tc : Thread Cert.RefIdeal.nD Cert.RefIdeal.τ).loc Cert.RefIdeal.main_v111) = v3 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5)
          ∧ r.2.mem ((c.tc : Thread Cert.RefIdeal.nD Cert.RefIdeal.τ).loc Cert.RefIdeal.main_arg6) = m' ((c.tc : Thread Cert.RefIdeal.nD Cert.RefIdeal.τ).loc Cert.RefIdeal.main_arg6)
          ∧ r.2.mem ((c.tc : Thread Cert.RefIdeal.nD Cert.RefIdeal.τ).loc Cert.RefIdeal.main_arg7) = m' ((c.tc : Thread Cert.RefIdeal.nD Cert.RefIdeal.τ).loc Cert.RefIdeal.main_arg7)
          ∧ r.2.mem ((c.tc : Thread Cert.RefIdeal.nD Cert.RefIdeal.τ).loc Cert.RefIdeal.main_arg8) = m' ((c.tc : Thread Cert.RefIdeal.nD Cert.RefIdeal.τ).loc Cert.RefIdeal.main_arg8)
          ∧ r.2.mem ((c.tc : Thread Cert.RefIdeal.nD Cert.RefIdeal.τ).loc Cert.RefIdeal.main_arg9) = m' ((c.tc : Thread Cert.RefIdeal.nD Cert.RefIdeal.τ).loc Cert.RefIdeal.main_arg9)
          ∧ r.2.mem ((c.tc : Thread Cert.RefIdeal.nD Cert.RefIdeal.τ).loc Cert.RefIdeal.main_arg10) = m' ((c.tc : Thread Cert.RefIdeal.nD Cert.RefIdeal.τ).loc Cert.RefIdeal.main_arg10)
          ∧ r.2.mem ((c.tc : Thread Cert.RefIdeal.nD Cert.RefIdeal.τ).loc Cert.RefIdeal.main_arg11) = m' ((c.tc : Thread Cert.RefIdeal.nD Cert.RefIdeal.τ).loc Cert.RefIdeal.main_arg11)
          ∧ r.2.mem ((c.tc : Thread Cert.RefIdeal.nD Cert.RefIdeal.τ).loc Cert.RefIdeal.main_arg12) = m' ((c.tc : Thread Cert.RefIdeal.nD Cert.RefIdeal.τ).loc Cert.RefIdeal.main_arg12)
          ∧ r.2.mem ((c.tc : Thread Cert.RefIdeal.nD Cert.RefIdeal.τ).loc Cert.RefIdeal.main_arg13) = m' ((c.tc : Thread Cert.RefIdeal.nD Cert.RefIdeal.τ).loc Cert.RefIdeal.main_arg13)
          ∧ r.2.mem ((c.tc : Thread Cert.RefIdeal.nD Cert.RefIdeal.τ).loc Cert.RefIdeal.main_arg14) = m' ((c.tc : Thread Cert.RefIdeal.nD Cert.RefIdeal.τ).loc Cert.RefIdeal.main_arg14)
          ∧ r.2.mem ((c.tc : Thread Cert.RefIdeal.nD Cert.RefIdeal.τ).loc Cert.RefIdeal.main_arg15) = m' ((c.tc : Thread Cert.RefIdeal.nD Cert.RefIdeal.τ).loc Cert.RefIdeal.main_arg15))

def preserves_Inproj_InprojIdeal : Prop :=
  True

def algebraic_InprojIdeal_InRefIdeal [hInprojIdeal : Cert.InprojIdeal.Facts] [hInRefIdeal : Cert.InRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InRefIdeal.nD Cert.InRefIdeal.τ Cert.InRefIdeal.sig) → Buf (Elt Ideal) ℓ) (g' : Dev Cert.InRefIdeal.nD → PrngReg), Pre_InprojIdeal m →
    (∀ c : Dev Cert.InprojIdeal.nD,
      m' ((c.tc : Thread Cert.InRefIdeal.nD Cert.InRefIdeal.τ).loc Cert.InRefIdeal.main_arg0) = m ((c.tc : Thread Cert.InprojIdeal.nD Cert.InprojIdeal.τ).loc Cert.InprojIdeal.main_arg0)
      ∧ m' ((c.tc : Thread Cert.InRefIdeal.nD Cert.InRefIdeal.τ).loc Cert.InRefIdeal.main_arg1) = m ((c.tc : Thread Cert.InprojIdeal.nD Cert.InprojIdeal.τ).loc Cert.InprojIdeal.main_arg1)
      ∧ m' ((c.tc : Thread Cert.InRefIdeal.nD Cert.InRefIdeal.τ).loc Cert.InRefIdeal.main_arg2) = m ((c.tc : Thread Cert.InprojIdeal.nD Cert.InprojIdeal.τ).loc Cert.InprojIdeal.main_arg2)
      ∧ m' ((c.tc : Thread Cert.InRefIdeal.nD Cert.InRefIdeal.τ).loc Cert.InRefIdeal.main_arg3) = m ((c.tc : Thread Cert.InprojIdeal.nD Cert.InprojIdeal.τ).loc Cert.InprojIdeal.main_arg3)
      ∧ m' ((c.tc : Thread Cert.InRefIdeal.nD Cert.InRefIdeal.τ).loc Cert.InRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)) (v2 : (c : Dev Cert.InprojIdeal.nD) → Buf (Elt Ideal) ((c.tc : Thread Cert.InprojIdeal.nD Cert.InprojIdeal.τ).loc Cert.InprojIdeal.main_v0_2)) (v3 : (c : Dev Cert.InprojIdeal.nD) → Buf (Elt Ideal) ((c.tc : Thread Cert.InprojIdeal.nD Cert.InprojIdeal.τ).loc Cert.InprojIdeal.main_v0_3)) (v4 : (c : Dev Cert.InprojIdeal.nD) → Buf (Elt Ideal) ((c.tc : Thread Cert.InprojIdeal.nD Cert.InprojIdeal.τ).loc Cert.InprojIdeal.main_v0_4)) (v5 : (c : Dev Cert.InprojIdeal.nD) → Buf (Elt Ideal) ((c.tc : Thread Cert.InprojIdeal.nD Cert.InprojIdeal.τ).loc Cert.InprojIdeal.main_v0_5)) (v6 : (c : Dev Cert.InprojIdeal.nD) → Buf (Elt Ideal) ((c.tc : Thread Cert.InprojIdeal.nD Cert.InprojIdeal.τ).loc Cert.InprojIdeal.main_v0_6)) (v7 : (c : Dev Cert.InprojIdeal.nD) → Buf (Elt Ideal) ((c.tc : Thread Cert.InprojIdeal.nD Cert.InprojIdeal.τ).loc Cert.InprojIdeal.main_v0_7)) (v8 : (c : Dev Cert.InprojIdeal.nD) → Buf (Elt Ideal) ((c.tc : Thread Cert.InprojIdeal.nD Cert.InprojIdeal.τ).loc Cert.InprojIdeal.main_v0_8)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_v0_2) = v2 c
          ∧ r.2.mem ((c.tc : Thread Cert.InprojIdeal.nD Cert.InprojIdeal.τ).loc Cert.InprojIdeal.main_v0_3) = v3 c
          ∧ r.2.mem ((c.tc : Thread Cert.InprojIdeal.nD Cert.InprojIdeal.τ).loc Cert.InprojIdeal.main_v0_4) = v4 c
          ∧ r.2.mem ((c.tc : Thread Cert.InprojIdeal.nD Cert.InprojIdeal.τ).loc Cert.InprojIdeal.main_v0_5) = v5 c
          ∧ r.2.mem ((c.tc : Thread Cert.InprojIdeal.nD Cert.InprojIdeal.τ).loc Cert.InprojIdeal.main_v0_6) = v6 c
          ∧ r.2.mem ((c.tc : Thread Cert.InprojIdeal.nD Cert.InprojIdeal.τ).loc Cert.InprojIdeal.main_v0_7) = v7 c
          ∧ r.2.mem ((c.tc : Thread Cert.InprojIdeal.nD Cert.InprojIdeal.τ).loc Cert.InprojIdeal.main_v0_8) = v8 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v62) = v0 c
          ∧ r.2.mem ((c.tc : Thread Cert.InRefIdeal.nD Cert.InRefIdeal.τ).loc Cert.InRefIdeal.main_v64) = v1 c
          ∧ r.2.mem ((c.tc : Thread Cert.InRefIdeal.nD Cert.InRefIdeal.τ).loc Cert.InRefIdeal.main_v67) = v2 c
          ∧ r.2.mem ((c.tc : Thread Cert.InRefIdeal.nD Cert.InRefIdeal.τ).loc Cert.InRefIdeal.main_v68) = v3 c
          ∧ r.2.mem ((c.tc : Thread Cert.InRefIdeal.nD Cert.InRefIdeal.τ).loc Cert.InRefIdeal.main_v69) = v4 c
          ∧ r.2.mem ((c.tc : Thread Cert.InRefIdeal.nD Cert.InRefIdeal.τ).loc Cert.InRefIdeal.main_v76) = v5 c
          ∧ r.2.mem ((c.tc : Thread Cert.InRefIdeal.nD Cert.InRefIdeal.τ).loc Cert.InRefIdeal.main_v83) = v6 c
          ∧ r.2.mem ((c.tc : Thread Cert.InRefIdeal.nD Cert.InRefIdeal.τ).loc Cert.InRefIdeal.main_v21) = v7 c
          ∧ r.2.mem ((c.tc : Thread Cert.InRefIdeal.nD Cert.InRefIdeal.τ).loc Cert.InRefIdeal.main_v84) = v8 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def Claim : Prop :=
  ∃ (hMixer : Cert.Mixer.Facts) (hMixerIdeal : Cert.MixerIdeal.Facts) (hRefIdeal : Cert.RefIdeal.Facts) (hInproj : Cert.Inproj.Facts) (hInprojIdeal : Cert.InprojIdeal.Facts) (hInRefIdeal : Cert.InRefIdeal.Facts) (hPre_finite : Cert.Pre_finite.Facts),
    quiescent_Mixer (hMixer := hMixer)
    ∧ quiescent_MixerIdeal (hMixerIdeal := hMixerIdeal)
    ∧ quiescent_MixerIdeal_pre_finite (hMixerIdeal := hMixerIdeal) (hPre_finite := hPre_finite)
    ∧ quiescent_RefIdeal (hRefIdeal := hRefIdeal)
    ∧ quiescent_RefIdeal_pre_finite (hRefIdeal := hRefIdeal) (hPre_finite := hPre_finite)
    ∧ quiescent_Inproj (hInproj := hInproj)
    ∧ quiescent_InprojIdeal (hInprojIdeal := hInprojIdeal)
    ∧ quiescent_InRefIdeal (hInRefIdeal := hInRefIdeal)
    ∧ preserves_Mixer_MixerIdeal
    ∧ algebraic_MixerIdeal_RefIdeal_pre_finite (hMixerIdeal := hMixerIdeal) (hRefIdeal := hRefIdeal) (hPre_finite := hPre_finite)
    ∧ preserves_Inproj_InprojIdeal
    ∧ algebraic_InprojIdeal_InRefIdeal (hInprojIdeal := hInprojIdeal) (hInRefIdeal := hInRefIdeal)
-- ==== Pre_finite.lean ====
abbrev S4x8192x1024 : Shape := ⟨3, ![4, 8192, 1024]⟩
abbrev S4x8192x2048 : Shape := ⟨3, ![4, 8192, 2048]⟩
abbrev S4x8192x3072 : Shape := ⟨3, ![4, 8192, 3072]⟩
abbrev S4x8192x512 : Shape := ⟨3, ![4, 8192, 512]⟩
abbrev S4x8192x128 : Shape := ⟨3, ![4, 8192, 128]⟩
abbrev S1x128 : Shape := ⟨2, ![1, 128]⟩
abbrev S1x2048 : Shape := ⟨2, ![1, 2048]⟩
abbrev S16 : Shape := ⟨1, ![16]⟩
abbrev S2048x1024 : Shape := ⟨2, ![2048, 1024]⟩
abbrev S1024x1024 : Shape := ⟨2, ![1024, 1024]⟩
abbrev S_ : Shape := ⟨0, ![]⟩

class Facts : Prop where
  bitsLt_bf16_f32 : FTy.bits .bf16 < FTy.bits .f32
  bcast_S_S4x8192x1024 : S_.BroadcastsInDim S4x8192x1024 (![] : Fin 0 → Fin S4x8192x1024.rank)
  bcast_S_S4x8192x512 : S_.BroadcastsInDim S4x8192x512 (![] : Fin 0 → Fin S4x8192x512.rank)
  bcast_S_S16 : S_.BroadcastsInDim S16 (![] : Fin 0 → Fin S16.rank)

variable [Facts]

def fn {F : FTy → Type} [FloatOps F] (main_arg0 : FVec F S4x8192x1024 .f32) (main_arg1 : FVec F S4x8192x2048 .bf16) (main_arg2 : FVec F S4x8192x3072 .bf16) (main_arg3 : FVec F S4x8192x1024 .bf16) (main_arg4 : FVec F S4x8192x512 .bf16) (main_arg5 : FVec F S4x8192x512 .bf16) (main_arg6 : FVec F S4x8192x1024 .bf16) (main_arg7 : FVec F S4x8192x1024 .bf16) (main_arg8 : FVec F S4x8192x128 .f32) (main_arg9 : FVec F S1x128 .f32) (main_arg10 : FVec F S1x128 .f32) (main_arg11 : FVec F S1x2048 .f32) (main_arg12 : FVec F S1x2048 .f32) (main_arg13 : FVec F S16 .f32) (main_arg14 : FVec F S2048x1024 .bf16) (main_arg15 : FVec F S1024x1024 .bf16) : IVec S4x8192x1024 1 × IVec S4x8192x512 1 × IVec S16 1 :=
  let main_v0 : FVec F S4x8192x1024 .f32 := (extf .f32 · bitsLt_bf16_f32) main_arg3
  let main_v1 : FVec F S4x8192x1024 .f32 := Host.absf main_v0
  let main_cst : FVec F S_ .f32 := constant S_ .f32 0x7F800000#32
  let main_v2 : FVec F S4x8192x1024 .f32 := broadcastInDim S4x8192x1024 ![] bcast_S_S4x8192x1024 main_cst
  let main_v3 : IVec S4x8192x1024 1 := cmpf .olt main_v1 main_v2
  let main_v4 : FVec F S4x8192x512 .f32 := (extf .f32 · bitsLt_bf16_f32) main_arg4
  let main_v5 : FVec F S4x8192x512 .f32 := Host.absf main_v4
  let main_cst_0 : FVec F S_ .f32 := constant S_ .f32 0x7F800000#32
  let main_v6 : FVec F S4x8192x512 .f32 := broadcastInDim S4x8192x512 ![] bcast_S_S4x8192x512 main_cst_0
  let main_v7 : IVec S4x8192x512 1 := cmpf .olt main_v5 main_v6
  let main_v8 : FVec F S16 .f32 := Host.absf main_arg13
  let main_cst_1 : FVec F S_ .f32 := constant S_ .f32 0x7F800000#32
  let main_v9 : FVec F S16 .f32 := broadcastInDim S16 ![] bcast_S_S16 main_cst_1
  let main_v10 : IVec S16 1 := cmpf .olt main_v8 main_v9
  (main_v3, main_v7, main_v10)
-- ==== Mixer.lean ====
abbrev S4x8192x1024 : Shape := ⟨3, ![4, 8192, 1024]⟩
abbrev S4x8192x2048 : Shape := ⟨3, ![4, 8192, 2048]⟩
abbrev S4x8192x3072 : Shape := ⟨3, ![4, 8192, 3072]⟩
abbrev S4x8192x512 : Shape := ⟨3, ![4, 8192, 512]⟩
abbrev S4x8192x128 : Shape := ⟨3, ![4, 8192, 128]⟩
abbrev S1x128 : Shape := ⟨2, ![1, 128]⟩
abbrev S1x2048 : Shape := ⟨2, ![1, 2048]⟩
abbrev S16 : Shape := ⟨1, ![16]⟩
abbrev S2048x1024 : Shape := ⟨2, ![2048, 1024]⟩
abbrev S1024x1024 : Shape := ⟨2, ![1024, 1024]⟩
abbrev S4x4x512x128 : Shape := ⟨4, ![4, 4, 512, 128]⟩
abbrev S4x128x512 : Shape := ⟨3, ![4, 128, 512]⟩
abbrev S1x128x3072 : Shape := ⟨3, ![1, 128, 3072]⟩
abbrev S1x128x2048 : Shape := ⟨3, ![1, 128, 2048]⟩
abbrev S1x128x128 : Shape := ⟨3, ![1, 128, 128]⟩
abbrev S1x128x1024 : Shape := ⟨3, ![1, 128, 1024]⟩
abbrev S1x128x512 : Shape := ⟨3, ![1, 128, 512]⟩
abbrev S1x4x512x128 : Shape := ⟨4, ![1, 4, 512, 128]⟩
abbrev S128x2048 : Shape := ⟨2, ![128, 2048]⟩
abbrev S128x1024 : Shape := ⟨2, ![128, 1024]⟩
abbrev S128x512 : Shape := ⟨2, ![128, 512]⟩
abbrev S128x128 : Shape := ⟨2, ![128, 128]⟩
abbrev S128x1 : Shape := ⟨2, ![128, 1]⟩
abbrev S256x128 : Shape := ⟨2, ![256, 128]⟩
abbrev S1x1 : Shape := ⟨2, ![1, 1]⟩
abbrev S1x512 : Shape := ⟨2, ![1, 512]⟩
abbrev S128 : Shape := ⟨1, ![128]⟩
abbrev S512x128 : Shape := ⟨2, ![512, 128]⟩
abbrev S1 : Shape := ⟨1, ![1]⟩
abbrev S512x1 : Shape := ⟨2, ![512, 1]⟩
abbrev S512 : Shape := ⟨1, ![512]⟩
abbrev S1x1x512x128 : Shape := ⟨4, ![1, 1, 512, 128]⟩

abbrev nBuf : Space → Nat
  | .hbm => 20
  | .vmem => 37
  | .smem => 1
  | _ => 0

abbrev bufTy : (tb : Table) → Fin (tcTables nBuf tb) → BufTy
  | .hbm, ⟨0, _⟩ => ⟨S4x8192x1024, .f32⟩
  | .hbm, ⟨1, _⟩ => ⟨S4x8192x2048, .bf16⟩
  | .hbm, ⟨2, _⟩ => ⟨S4x8192x3072, .bf16⟩
  | .hbm, ⟨3, _⟩ => ⟨S4x8192x1024, .bf16⟩
  | .hbm, ⟨4, _⟩ => ⟨S4x8192x512, .bf16⟩
  | .hbm, ⟨5, _⟩ => ⟨S4x8192x512, .bf16⟩
  | .hbm, ⟨6, _⟩ => ⟨S4x8192x1024, .bf16⟩
  | .hbm, ⟨7, _⟩ => ⟨S4x8192x1024, .bf16⟩
  | .hbm, ⟨8, _⟩ => ⟨S4x8192x128, .f32⟩
  | .hbm, ⟨9, _⟩ => ⟨S1x128, .f32⟩
  | .hbm, ⟨10, _⟩ => ⟨S1x128, .f32⟩
  | .hbm, ⟨11, _⟩ => ⟨S1x2048, .f32⟩
  | .hbm, ⟨12, _⟩ => ⟨S1x2048, .f32⟩
  | .hbm, ⟨13, _⟩ => ⟨S16, .f32⟩
  | .hbm, ⟨14, _⟩ => ⟨S2048x1024, .bf16⟩
  | .hbm, ⟨15, _⟩ => ⟨S1024x1024, .bf16⟩
  | .hbm, ⟨16, _⟩ => ⟨S4x8192x1024, .f32⟩
  | .hbm, ⟨17, _⟩ => ⟨S4x4x512x128, .f32⟩
  | .hbm, ⟨18, _⟩ => ⟨S4x128x512, .f32⟩
  | .hbm, ⟨19, _⟩ => ⟨S4x128x512, .f32⟩
  | .local _ .vmem, ⟨0, _⟩ => ⟨S1x128x3072, .bf16⟩
  | .local _ .vmem, ⟨1, _⟩ => ⟨S1x128x3072, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x128, .f32⟩
  | .local _ .vmem, ⟨5, _⟩ => ⟨S1x128x128, .f32⟩
  | .local _ .vmem, ⟨6, _⟩ => ⟨S1x128x1024, .bf16⟩
  | .local _ .vmem, ⟨7, _⟩ => ⟨S1x128x1024, .bf16⟩
  | .local _ .vmem, ⟨8, _⟩ => ⟨S1x128x512, .bf16⟩
  | .local _ .vmem, ⟨9, _⟩ => ⟨S1x128x512, .bf16⟩
  | .local _ .vmem, ⟨10, _⟩ => ⟨S1x128x512, .bf16⟩
  | .local _ .vmem, ⟨11, _⟩ => ⟨S1x128x512, .bf16⟩
  | .local _ .vmem, ⟨12, _⟩ => ⟨S1x128x1024, .bf16⟩
  | .local _ .vmem, ⟨13, _⟩ => ⟨S1x128x1024, .bf16⟩
  | .local _ .vmem, ⟨14, _⟩ => ⟨S1x128x1024, .bf16⟩
  | .local _ .vmem, ⟨15, _⟩ => ⟨S1x128x1024, .bf16⟩
  | .local _ .vmem, ⟨16, _⟩ => ⟨S1x128x1024, .f32⟩
  | .local _ .vmem, ⟨17, _⟩ => ⟨S1x128x1024, .f32⟩
  | .local _ .vmem, ⟨18, _⟩ => ⟨S1x128, .f32⟩
  | .local _ .vmem, ⟨19, _⟩ => ⟨S1x128, .f32⟩
  | .local _ .vmem, ⟨20, _⟩ => ⟨S1x2048, .f32⟩
  | .local _ .vmem, ⟨21, _⟩ => ⟨S1x2048, .f32⟩
  | .local _ .vmem, ⟨22, _⟩ => ⟨S2048x1024, .bf16⟩
  | .local _ .vmem, ⟨23, _⟩ => ⟨S1024x1024, .bf16⟩
  | .local _ .vmem, ⟨24, _⟩ => ⟨S1x128x1024, .f32⟩
  | .local _ .vmem, ⟨25, _⟩ => ⟨S1x128x1024, .f32⟩
  | .local _ .vmem, ⟨26, _⟩ => ⟨S1x4x512x128, .f32⟩
  | .local _ .vmem, ⟨27, _⟩ => ⟨S1x4x512x128, .f32⟩
  | .local _ .vmem, ⟨28, _⟩ => ⟨S1x128x512, .f32⟩
  | .local _ .vmem, ⟨29, _⟩ => ⟨S1x128x512, .f32⟩
  | .local _ .vmem, ⟨30, _⟩ => ⟨S1x128x512, .f32⟩
  | .local _ .vmem, ⟨31, _⟩ => ⟨S1x128x512, .f32⟩
  | .local _ .vmem, ⟨32, _⟩ => ⟨S128x2048, .f32⟩
  | .local _ .vmem, ⟨33, _⟩ => ⟨S128x1024, .f32⟩
  | .local _ .vmem, ⟨34, _⟩ => ⟨S128x512, .bf16⟩
  | .local _ .vmem, ⟨35, _⟩ => ⟨S128x512, .bf16⟩
  | .local _ .vmem, ⟨36, _⟩ => ⟨S4x128x512, .f32⟩
  | .local _ .smem, ⟨0, _⟩ => ⟨S16, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .smem, ⟨0, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_stg13_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨2, ![4, 64], ![false, false]⟩

def k0_cond2 (i : grid0.Coords) : BitVec 1 :=
  let arg1 : BitVec 32 := BitVec.ofNat 32 (i 1).val
  let c63_i32 : BitVec 32 := 63#32
  let v1660 : BitVec 1 := Scalar.cmpi .eq arg1 c63_i32
  let v1661 : BitVec 32 := Scalar.extui v1660
  let c0_i32_448 : BitVec 32 := 0#32
  let v1662 : BitVec 1 := Scalar.cmpi .ne v1661 c0_i32_448
  v1662

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .smem S16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2048x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x128x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x128x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== MixerIdeal.lean ====
variable {F : FTy → Type} [FloatOps F] [Named F]
def κ : String → Option EReal := fun
  | "masked" => some ⊥
  | "neg_inf" => some ⊥
  | _ => none
-- ==== RefIdeal.lean ====
abbrev S4x8192x1024 : Shape := ⟨3, ![4, 8192, 1024]⟩
abbrev S4x8192x2048 : Shape := ⟨3, ![4, 8192, 2048]⟩
abbrev S4x8192x3072 : Shape := ⟨3, ![4, 8192, 3072]⟩
abbrev S4x8192x512 : Shape := ⟨3, ![4, 8192, 512]⟩
abbrev S4x8192x128 : Shape := ⟨3, ![4, 8192, 128]⟩
abbrev S1x128 : Shape := ⟨2, ![1, 128]⟩
abbrev S1x2048 : Shape := ⟨2, ![1, 2048]⟩
abbrev S16 : Shape := ⟨1, ![16]⟩
abbrev S2048x1024 : Shape := ⟨2, ![2048, 1024]⟩
abbrev S1024x1024 : Shape := ⟨2, ![1024, 1024]⟩
abbrev S4x8192x32 : Shape := ⟨3, ![4, 8192, 32]⟩
abbrev S1x32 : Shape := ⟨2, ![1, 32]⟩
abbrev S32 : Shape := ⟨1, ![32]⟩
abbrev S1x1x32 : Shape := ⟨3, ![1, 1, 32]⟩
abbrev S_ : Shape := ⟨0, ![]⟩
abbrev S4x8192x4x128 : Shape := ⟨4, ![4, 8192, 4, 128]⟩
abbrev S4x4x8x64x128 : Shape := ⟨5, ![4, 4, 8, 64, 128]⟩
abbrev S4x8192x4x8x64 : Shape := ⟨5, ![4, 8192, 4, 8, 64]⟩
abbrev S4x64x128x4x8x64 : Shape := ⟨6, ![4, 64, 128, 4, 8, 64]⟩
abbrev S64x4x128x4x8x64 : Shape := ⟨6, ![64, 4, 128, 4, 8, 64]⟩
abbrev S4x8192x4x8 : Shape := ⟨4, ![4, 8192, 4, 8]⟩
abbrev S4x64x128x4x8 : Shape := ⟨5, ![4, 64, 128, 4, 8]⟩
abbrev S64x4x128x4x8 : Shape := ⟨5, ![64, 4, 128, 4, 8]⟩
abbrev S4x64x128x4x128 : Shape := ⟨5, ![4, 64, 128, 4, 128]⟩
abbrev S64x4x128x4x128 : Shape := ⟨5, ![64, 4, 128, 4, 128]⟩
abbrev S4x8192x4x2x2x64 : Shape := ⟨6, ![4, 8192, 4, 2, 2, 64]⟩
abbrev S4x64x128x4x2x2x64 : Shape := ⟨7, ![4, 64, 128, 4, 2, 2, 64]⟩
abbrev S64x4x128x4x2x2x64 : Shape := ⟨7, ![64, 4, 128, 4, 2, 2, 64]⟩
abbrev S64 : Shape := ⟨1, ![64]⟩
abbrev S64x1 : Shape := ⟨2, ![64, 1]⟩
abbrev S256 : Shape := ⟨1, ![256]⟩
abbrev S1x256 : Shape := ⟨2, ![1, 256]⟩
abbrev S64x256 : Shape := ⟨2, ![64, 256]⟩
abbrev S4x8 : Shape := ⟨2, ![4, 8]⟩
abbrev S128x128 : Shape := ⟨2, ![128, 128]⟩
abbrev S1x128x128x1x1 : Shape := ⟨5, ![1, 128, 128, 1, 1]⟩
abbrev S4x8192x4x2x64 : Shape := ⟨5, ![4, 8192, 4, 2, 64]⟩
abbrev S4x64x128x4x2x64 : Shape := ⟨6, ![4, 64, 128, 4, 2, 64]⟩
abbrev S64x4x128x4x2x64 : Shape := ⟨6, ![64, 4, 128, 4, 2, 64]⟩
abbrev S1x4x128x4x2x64 : Shape := ⟨6, ![1, 4, 128, 4, 2, 64]⟩
abbrev S63x4x128x4x2x64 : Shape := ⟨6, ![63, 4, 128, 4, 2, 64]⟩
abbrev S64x4x256x4x2x64 : Shape := ⟨6, ![64, 4, 256, 4, 2, 64]⟩
abbrev S64x4x4x2x64x2x128 : Shape := ⟨7, ![64, 4, 4, 2, 64, 2, 128]⟩
abbrev S1x4x128x4x8x64 : Shape := ⟨6, ![1, 4, 128, 4, 8, 64]⟩
abbrev S4x128x4x8x64 : Shape := ⟨5, ![4, 128, 4, 8, 64]⟩
abbrev S1x4x128x4x8 : Shape := ⟨5, ![1, 4, 128, 4, 8]⟩
abbrev S4x128x4x8 : Shape := ⟨4, ![4, 128, 4, 8]⟩
abbrev S1x4x128x4x128 : Shape := ⟨5, ![1, 4, 128, 4, 128]⟩
abbrev S4x128x4x128 : Shape := ⟨4, ![4, 128, 4, 128]⟩
abbrev S1x4x128x4x2x2x64 : Shape := ⟨7, ![1, 4, 128, 4, 2, 2, 64]⟩
abbrev S4x128x4x2x2x64 : Shape := ⟨6, ![4, 128, 4, 2, 2, 64]⟩
abbrev S1x4x256x4x2x64 : Shape := ⟨6, ![1, 4, 256, 4, 2, 64]⟩
abbrev S4x256x4x2x64 : Shape := ⟨5, ![4, 256, 4, 2, 64]⟩
abbrev S1x1x4x8 : Shape := ⟨4, ![1, 1, 4, 8]⟩
abbrev S4x128x1x4x8 : Shape := ⟨5, ![4, 128, 1, 4, 8]⟩
abbrev S4x1x128x4x8 : Shape := ⟨5, ![4, 1, 128, 4, 8]⟩
abbrev S4x128x128x4x8 : Shape := ⟨5, ![4, 128, 128, 4, 8]⟩
abbrev S4x4x128x128 : Shape := ⟨4, ![4, 4, 128, 128]⟩
abbrev S4x128x128x4 : Shape := ⟨4, ![4, 128, 128, 4]⟩
abbrev S4x128x128x4x1 : Shape := ⟨5, ![4, 128, 128, 4, 1]⟩
abbrev S4x128x4x8x1 : Shape := ⟨5, ![4, 128, 4, 8, 1]⟩
abbrev S4x1x4x8 : Shape := ⟨4, ![4, 1, 4, 8]⟩
abbrev S4x4x8 : Shape := ⟨3, ![4, 4, 8]⟩
abbrev S4x4x8x1x1 : Shape := ⟨5, ![4, 4, 8, 1, 1]⟩
abbrev S128 : Shape := ⟨1, ![128]⟩
abbrev S128x1 : Shape := ⟨2, ![128, 1]⟩
abbrev S128x256 : Shape := ⟨2, ![128, 256]⟩
abbrev S1 : Shape := ⟨1, ![1]⟩
abbrev S4x2x2x1x1 : Shape := ⟨5, ![4, 2, 2, 1, 1]⟩
abbrev S4x4x2x256x128x2 : Shape := ⟨6, ![4, 4, 2, 256, 128, 2]⟩
abbrev S4x4x2x2x128x256 : Shape := ⟨6, ![4, 4, 2, 2, 128, 256]⟩
abbrev S1x1x1x128x256 : Shape := ⟨5, ![1, 1, 1, 128, 256]⟩
abbrev S4x2x2x128x256 : Shape := ⟨5, ![4, 2, 2, 128, 256]⟩
abbrev S1x4x2x2x128x256 : Shape := ⟨6, ![1, 4, 2, 2, 128, 256]⟩
abbrev S4x4x2x2x128 : Shape := ⟨5, ![4, 4, 2, 2, 128]⟩
abbrev S4x4x2x2x128x1 : Shape := ⟨6, ![4, 4, 2, 2, 128, 1]⟩
abbrev S1x4x2x2x1x1 : Shape := ⟨6, ![1, 4, 2, 2, 1, 1]⟩
abbrev S4x4x2x64x2x128 : Shape := ⟨6, ![4, 4, 2, 64, 2, 128]⟩
abbrev S1x4x4x2x64x2x128 : Shape := ⟨7, ![1, 4, 4, 2, 64, 2, 128]⟩
abbrev S2048 : Shape := ⟨1, ![2048]⟩
abbrev S1x1x2048 : Shape := ⟨3, ![1, 1, 2048]⟩
abbrev S4x8192x4x512 : Shape := ⟨4, ![4, 8192, 4, 512]⟩
abbrev S4x8192x4 : Shape := ⟨3, ![4, 8192, 4]⟩
abbrev S4x8192x4x1 : Shape := ⟨4, ![4, 8192, 4, 1]⟩
abbrev S4x512 : Shape := ⟨2, ![4, 512]⟩
abbrev S1x1x4x512 : Shape := ⟨4, ![1, 1, 4, 512]⟩
abbrev S4x4x512x128 : Shape := ⟨4, ![4, 4, 512, 128]⟩
abbrev S4x128x512 : Shape := ⟨3, ![4, 128, 512]⟩

abbrev nBuf : Space → Nat
  | .hbm => 384
  | .vmem => 0
  | .smem => 0
  | _ => 0

abbrev hbmTy0_0 (i : Nat) : BufTy := match i % 128 with
  | 0 => ⟨S4x8192x1024, .f32⟩
  | 1 => ⟨S4x8192x2048, .bf16⟩
  | 2 => ⟨S4x8192x3072, .bf16⟩
  | 3 => ⟨S4x8192x1024, .bf16⟩
  | 4 => ⟨S4x8192x512, .bf16⟩
  | 5 => ⟨S4x8192x512, .bf16⟩
  | 6 => ⟨S4x8192x1024, .bf16⟩
  | 7 => ⟨S4x8192x1024, .bf16⟩
  | 8 => ⟨S4x8192x128, .f32⟩
  | 9 => ⟨S1x128, .f32⟩
  | 10 => ⟨S1x128, .f32⟩
  | 11 => ⟨S1x2048, .f32⟩
  | 12 => ⟨S1x2048, .f32⟩
  | 13 => ⟨S16, .f32⟩
  | 14 => ⟨S2048x1024, .bf16⟩
  | 15 => ⟨S1024x1024, .bf16⟩
  | 16 => ⟨S4x8192x3072, .f32⟩
  | 17 => ⟨S4x8192x2048, .f32⟩
  | 18 => ⟨S4x8192x512, .f32⟩
  | 19 => ⟨S4x8192x512, .f32⟩
  | 20 => ⟨S4x8192x32, .f32⟩
  | 21 => ⟨S1x32, .f32⟩
  | 22 => ⟨S32, .f32⟩
  | 23 => ⟨S1x1x32, .f32⟩
  | 24 => ⟨S4x8192x32, .f32⟩
  | 25 => ⟨S4x8192x32, .f32⟩
  | 26 => ⟨S_, .f32⟩
  | 27 => ⟨S4x8192x32, .f32⟩
  | 28 => ⟨S4x8192x32, .f32⟩
  | 29 => ⟨S4x8192x32, .f32⟩
  | 30 => ⟨S4x8192x32, .f32⟩
  | 31 => ⟨S4x8192x32, .i1⟩
  | 32 => ⟨S4x8192x32, .f32⟩
  | 33 => ⟨S4x8192x32, .f32⟩
  | 34 => ⟨S4x8192x32, .f32⟩
  | 35 => ⟨S4x8192x32, .f32⟩
  | 36 => ⟨S4x8192x32, .f32⟩
  | 37 => ⟨S4x8192x32, .f32⟩
  | 38 => ⟨S4x8192x32, .f32⟩
  | 39 => ⟨S4x8192x32, .f32⟩
  | 40 => ⟨S1x32, .f32⟩
  | 41 => ⟨S32, .f32⟩
  | 42 => ⟨S32, .f32⟩
  | 43 => ⟨S32, .f32⟩
  | 44 => ⟨S4x8192x4x128, .f32⟩
  | 45 => ⟨S4x8192x4x128, .f32⟩
  | 46 => ⟨S_, .f32⟩
  | 47 => ⟨S4x4x8x64x128, .f32⟩
  | 48 => ⟨S4x8192x1024, .f32⟩
  | 49 => ⟨S4x8192x512, .f32⟩
  | 50 => ⟨S4x8192x512, .f32⟩
  | 51 => ⟨S4x8192x4x8x64, .f32⟩
  | 52 => ⟨S4x64x128x4x8x64, .f32⟩
  | 53 => ⟨S64x4x128x4x8x64, .f32⟩
  | 54 => ⟨S4x8192x4x8, .f32⟩
  | 55 => ⟨S4x64x128x4x8, .f32⟩
  | 56 => ⟨S64x4x128x4x8, .f32⟩
  | 57 => ⟨S4x64x128x4x128, .f32⟩
  | 58 => ⟨S64x4x128x4x128, .f32⟩
  | 59 => ⟨S4x64x128x4x128, .f32⟩
  | 60 => ⟨S64x4x128x4x128, .f32⟩
  | 61 => ⟨S4x8192x4x2x2x64, .f32⟩
  | 62 => ⟨S4x64x128x4x2x2x64, .f32⟩
  | 63 => ⟨S64x4x128x4x2x2x64, .f32⟩
  | 64 => ⟨S64, .i32⟩
  | 65 => ⟨S64x1, .i32⟩
  | 66 => ⟨S_, .i32⟩
  | 67 => ⟨S64x1, .i32⟩
  | 68 => ⟨S64x1, .i1⟩
  | 69 => ⟨S256, .i32⟩
  | 70 => ⟨S1x256, .i32⟩
  | 71 => ⟨S_, .i32⟩
  | 72 => ⟨S1x256, .i32⟩
  | 73 => ⟨S1x256, .i1⟩
  | 74 => ⟨S64x256, .i1⟩
  | 75 => ⟨S64x256, .i1⟩
  | 76 => ⟨S64x256, .i1⟩
  | 77 => ⟨S4x8, .f32⟩
  | 78 => ⟨S_, .i1⟩
  | 79 => ⟨S128x128, .i1⟩
  | 80 => ⟨S128x128, .i32⟩
  | 81 => ⟨S_, .i32⟩
  | 82 => ⟨S128x128, .i32⟩
  | 83 => ⟨S128x128, .i32⟩
  | 84 => ⟨S128x128, .i32⟩
  | 85 => ⟨S128x128, .i1⟩
  | 86 => ⟨S_, .i1⟩
  | 87 => ⟨S128x128, .i1⟩
  | 88 => ⟨S128x128, .i1⟩
  | 89 => ⟨S1x128x128x1x1, .i1⟩
  | 90 => ⟨S4x8192x4x2x64, .f32⟩
  | 91 => ⟨S4x64x128x4x2x64, .f32⟩
  | 92 => ⟨S64x4x128x4x2x64, .f32⟩
  | 93 => ⟨S1x4x128x4x2x64, .f32⟩
  | 94 => ⟨S_, .f32⟩
  | 95 => ⟨S1x4x128x4x2x64, .f32⟩
  | 96 => ⟨S63x4x128x4x2x64, .f32⟩
  | 97 => ⟨S64x4x128x4x2x64, .f32⟩
  | 98 => ⟨S64x4x256x4x2x64, .f32⟩
  | 99 => ⟨S4x8192x4x2x64, .f32⟩
  | 100 => ⟨S4x64x128x4x2x64, .f32⟩
  | 101 => ⟨S64x4x128x4x2x64, .f32⟩
  | 102 => ⟨S1x4x128x4x2x64, .f32⟩
  | 103 => ⟨S_, .f32⟩
  | 104 => ⟨S1x4x128x4x2x64, .f32⟩
  | 105 => ⟨S63x4x128x4x2x64, .f32⟩
  | 106 => ⟨S64x4x128x4x2x64, .f32⟩
  | 107 => ⟨S64x4x256x4x2x64, .f32⟩
  | 108 => ⟨S_, .f32⟩
  | 109 => ⟨S64x4x128x4x8x64, .f32⟩
  | 110 => ⟨S_, .f32⟩
  | 111 => ⟨S64x4x4x2x64x2x128, .f32⟩
  | 112 => ⟨S_, .i32⟩
  | 113 => ⟨S64x4x128x4x8x64, .f32⟩
  | 114 => ⟨S64x4x128x4x8, .f32⟩
  | 115 => ⟨S64x4x128x4x128, .f32⟩
  | 116 => ⟨S64x4x128x4x128, .f32⟩
  | 117 => ⟨S64x4x128x4x2x2x64, .f32⟩
  | 118 => ⟨S64x4x256x4x2x64, .f32⟩
  | 119 => ⟨S64x4x256x4x2x64, .f32⟩
  | 120 => ⟨S64x256, .i1⟩
  | 121 => ⟨S4x8, .f32⟩
  | 122 => ⟨S1x128x128x1x1, .i1⟩
  | 123 => ⟨S16, .f32⟩
  | 124 => ⟨S_, .i32⟩
  | 125 => ⟨S4x4x8x64x128, .f32⟩
  | 126 => ⟨S64x4x128x4x8x64, .f32⟩
  | 127 => ⟨S64x4x4x2x64x2x128, .f32⟩
  | _ => ⟨S4x8192x1024, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S1x4x128x4x8x64, .f32⟩
  | 8 => ⟨S4x128x4x8x64, .f32⟩
  | 9 => ⟨S_, .i32⟩
  | 10 => ⟨S_, .i32⟩
  | 11 => ⟨S_, .i32⟩
  | 12 => ⟨S_, .i32⟩
  | 13 => ⟨S1x4x128x4x8, .f32⟩
  | 14 => ⟨S4x128x4x8, .f32⟩
  | 15 => ⟨S_, .i32⟩
  | 16 => ⟨S_, .i32⟩
  | 17 => ⟨S_, .i32⟩
  | 18 => ⟨S_, .i32⟩
  | 19 => ⟨S1x4x128x4x128, .f32⟩
  | 20 => ⟨S4x128x4x128, .f32⟩
  | 21 => ⟨S_, .i32⟩
  | 22 => ⟨S_, .i32⟩
  | 23 => ⟨S_, .i32⟩
  | 24 => ⟨S_, .i32⟩
  | 25 => ⟨S1x4x128x4x128, .f32⟩
  | 26 => ⟨S4x128x4x128, .f32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S1x4x128x4x2x2x64, .f32⟩
  | 34 => ⟨S4x128x4x2x2x64, .f32⟩
  | 35 => ⟨S_, .i32⟩
  | 36 => ⟨S_, .i32⟩
  | 37 => ⟨S_, .i32⟩
  | 38 => ⟨S_, .i32⟩
  | 39 => ⟨S_, .i32⟩
  | 40 => ⟨S1x4x256x4x2x64, .f32⟩
  | 41 => ⟨S4x256x4x2x64, .f32⟩
  | 42 => ⟨S_, .i32⟩
  | 43 => ⟨S_, .i32⟩
  | 44 => ⟨S_, .i32⟩
  | 45 => ⟨S_, .i32⟩
  | 46 => ⟨S_, .i32⟩
  | 47 => ⟨S1x4x256x4x2x64, .f32⟩
  | 48 => ⟨S4x256x4x2x64, .f32⟩
  | 49 => ⟨S_, .i32⟩
  | 50 => ⟨S1x256, .i1⟩
  | 51 => ⟨S256, .i1⟩
  | 52 => ⟨S1x1x4x8, .f32⟩
  | 53 => ⟨S4x128x4x8, .f32⟩
  | 54 => ⟨S4x128x4x8, .f32⟩
  | 55 => ⟨S_, .f32⟩
  | 56 => ⟨S_, .f32⟩
  | 57 => ⟨S4x128x4x8, .f32⟩
  | 58 => ⟨S4x128x1x4x8, .f32⟩
  | 59 => ⟨S4x1x128x4x8, .f32⟩
  | 60 => ⟨S4x128x128x4x8, .f32⟩
  | 61 => ⟨S4x128x128x4x8, .f32⟩
  | 62 => ⟨S4x128x128x4x8, .f32⟩
  | 63 => ⟨S_, .f32⟩
  | 64 => ⟨S_, .f32⟩
  | 65 => ⟨S4x128x128x4x8, .i1⟩
  | 66 => ⟨S4x128x128x4x8, .f32⟩
  | 67 => ⟨S4x128x128x4x8, .f32⟩
  | 68 => ⟨S4x128x128x4x8, .f32⟩
  | 69 => ⟨S4x4x128x128, .f32⟩
  | 70 => ⟨S4x128x128x4, .f32⟩
  | 71 => ⟨S4x128x128x4x1, .f32⟩
  | 72 => ⟨S4x128x128x4x8, .f32⟩
  | 73 => ⟨S4x128x128x4x8, .f32⟩
  | 74 => ⟨S4x1x128x4x8, .f32⟩
  | 75 => ⟨S4x128x128x4x8, .f32⟩
  | 76 => ⟨S4x128x128x4x8, .f32⟩
  | 77 => ⟨S4x4x8x64x128, .f32⟩
  | 78 => ⟨S4x128x4x8x64, .f32⟩
  | 79 => ⟨S4x4x8x64x128, .f32⟩
  | 80 => ⟨S4x128x4x8x64, .f32⟩
  | 81 => ⟨S4x128x4x8, .f32⟩
  | 82 => ⟨S4x128x4x8x1, .f32⟩
  | 83 => ⟨S4x128x4x8x64, .f32⟩
  | 84 => ⟨S4x128x4x8x64, .f32⟩
  | 85 => ⟨S4x128x4x8x64, .f32⟩
  | 86 => ⟨S4x1x4x8, .f32⟩
  | 87 => ⟨S4x128x4x8, .f32⟩
  | 88 => ⟨S4x128x4x8, .f32⟩
  | 89 => ⟨S4x128x4x8, .f32⟩
  | 90 => ⟨S4x128x4x8, .f32⟩
  | 91 => ⟨S4x1x4x8, .f32⟩
  | 92 => ⟨S4x4x8, .f32⟩
  | 93 => ⟨S4x4x8, .f32⟩
  | 94 => ⟨S4x4x8x1x1, .f32⟩
  | 95 => ⟨S4x4x8x64x128, .f32⟩
  | 96 => ⟨S4x4x8x64x128, .f32⟩
  | 97 => ⟨S4x128x4x8x1, .f32⟩
  | 98 => ⟨S4x128x4x8x64, .f32⟩
  | 99 => ⟨S4x128x4x8x64, .f32⟩
  | 100 => ⟨S4x4x8x64x128, .f32⟩
  | 101 => ⟨S4x4x8x64x128, .f32⟩
  | 102 => ⟨S128, .i32⟩
  | 103 => ⟨S128x1, .i32⟩
  | 104 => ⟨S_, .i32⟩
  | 105 => ⟨S128x1, .i32⟩
  | 106 => ⟨S128x1, .i32⟩
  | 107 => ⟨S256, .i32⟩
  | 108 => ⟨S1x256, .i32⟩
  | 109 => ⟨S128x256, .i32⟩
  | 110 => ⟨S128x256, .i32⟩
  | 111 => ⟨S128x256, .i32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4x8192x1024, .f32⟩

abbrev hbmTy0_2 (i : Nat) : BufTy := match i % 128 with
  | 0 => ⟨S1, .f32⟩
  | 1 => ⟨S1, .f32⟩
  | 2 => ⟨S1, .f32⟩
  | 3 => ⟨S1, .f32⟩
  | 4 => ⟨S1, .f32⟩
  | 5 => ⟨S1, .f32⟩
  | 6 => ⟨S1, .f32⟩
  | 7 => ⟨S1, .f32⟩
  | 8 => ⟨S1, .f32⟩
  | 9 => ⟨S1, .f32⟩
  | 10 => ⟨S1, .f32⟩
  | 11 => ⟨S1, .f32⟩
  | 12 => ⟨S1, .f32⟩
  | 13 => ⟨S1, .f32⟩
  | 14 => ⟨S1, .f32⟩
  | 15 => ⟨S1, .f32⟩
  | 16 => ⟨S16, .f32⟩
  | 17 => ⟨S4x2x2x1x1, .f32⟩
  | 18 => ⟨S_, .i32⟩
  | 19 => ⟨S128x256, .i32⟩
  | 20 => ⟨S128x256, .i1⟩
  | 21 => ⟨S_, .i32⟩
  | 22 => ⟨S128x256, .i32⟩
  | 23 => ⟨S128x256, .i1⟩
  | 24 => ⟨S128x256, .i1⟩
  | 25 => ⟨S1x256, .i1⟩
  | 26 => ⟨S128x256, .i1⟩
  | 27 => ⟨S128x256, .i1⟩
  | 28 => ⟨S4x4x2x256x128x2, .f32⟩
  | 29 => ⟨S4x4x2x2x128x256, .f32⟩
  | 30 => ⟨S128x256, .f32⟩
  | 31 => ⟨S1x1x1x128x256, .f32⟩
  | 32 => ⟨S4x2x2x128x256, .f32⟩
  | 33 => ⟨S4x2x2x128x256, .f32⟩
  | 34 => ⟨S4x2x2x128x256, .f32⟩
  | 35 => ⟨S1x4x2x2x128x256, .f32⟩
  | 36 => ⟨S4x4x2x2x128x256, .f32⟩
  | 37 => ⟨S4x4x2x2x128x256, .f32⟩
  | 38 => ⟨S_, .f32⟩
  | 39 => ⟨S_, .f32⟩
  | 40 => ⟨S4x4x2x2x128x256, .i1⟩
  | 41 => ⟨S4x4x2x2x128x256, .f32⟩
  | 42 => ⟨S4x4x2x2x128x256, .f32⟩
  | 43 => ⟨S4x2x2x1x1, .f32⟩
  | 44 => ⟨S_, .f32⟩
  | 45 => ⟨S4x4x2x2x128, .f32⟩
  | 46 => ⟨S4x4x2x2x128x1, .f32⟩
  | 47 => ⟨S1x4x2x2x1x1, .f32⟩
  | 48 => ⟨S4x4x2x2x128x1, .f32⟩
  | 49 => ⟨S4x4x2x2x128x1, .f32⟩
  | 50 => ⟨S4x4x2x2x128x256, .f32⟩
  | 51 => ⟨S4x4x2x2x128x256, .f32⟩
  | 52 => ⟨S4x4x2x2x128x256, .f32⟩
  | 53 => ⟨S_, .f32⟩
  | 54 => ⟨S4x4x2x2x128, .f32⟩
  | 55 => ⟨S4x4x2x2x128x1, .f32⟩
  | 56 => ⟨S1x4x2x2x1x1, .f32⟩
  | 57 => ⟨S4x4x2x2x128x1, .f32⟩
  | 58 => ⟨S4x4x2x2x128x1, .f32⟩
  | 59 => ⟨S4x4x2x2x128x1, .f32⟩
  | 60 => ⟨S4x4x2x2x128x1, .f32⟩
  | 61 => ⟨S4x4x2x2x128x256, .f32⟩
  | 62 => ⟨S4x4x2x2x128x256, .f32⟩
  | 63 => ⟨S4x4x2x64x2x128, .f32⟩
  | 64 => ⟨S1x4x128x4x8x64, .f32⟩
  | 65 => ⟨S_, .i32⟩
  | 66 => ⟨S_, .i32⟩
  | 67 => ⟨S_, .i32⟩
  | 68 => ⟨S_, .i32⟩
  | 69 => ⟨S_, .i32⟩
  | 70 => ⟨S64x4x128x4x8x64, .f32⟩
  | 71 => ⟨S1x4x4x2x64x2x128, .f32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S64x4x4x2x64x2x128, .f32⟩
  | 79 => ⟨S_, .i32⟩
  | 80 => ⟨S_, .i32⟩
  | 81 => ⟨S4x64x128x4x2x2x64, .f32⟩
  | 82 => ⟨S4x8192x1024, .f32⟩
  | 83 => ⟨S4x64x128x4x8x64, .f32⟩
  | 84 => ⟨S4x8192x2048, .f32⟩
  | 85 => ⟨S4x8192x2048, .bf16⟩
  | 86 => ⟨S4x8192x2048, .f32⟩
  | 87 => ⟨S2048, .f32⟩
  | 88 => ⟨S1x1x2048, .f32⟩
  | 89 => ⟨S4x8192x2048, .f32⟩
  | 90 => ⟨S4x8192x2048, .f32⟩
  | 91 => ⟨S4x8192x2048, .f32⟩
  | 92 => ⟨S4x8192x2048, .f32⟩
  | 93 => ⟨S4x8192x2048, .f32⟩
  | 94 => ⟨S4x8192x4x512, .f32⟩
  | 95 => ⟨S4x8192x4x512, .f32⟩
  | 96 => ⟨S_, .f32⟩
  | 97 => ⟨S4x8192x4, .f32⟩
  | 98 => ⟨S4x8192x4x1, .f32⟩
  | 99 => ⟨S_, .f32⟩
  | 100 => ⟨S4x8192x4x1, .f32⟩
  | 101 => ⟨S4x8192x4x1, .f32⟩
  | 102 => ⟨S_, .f32⟩
  | 103 => ⟨S4x8192x4x1, .f32⟩
  | 104 => ⟨S4x8192x4x1, .f32⟩
  | 105 => ⟨S4x8192x4x1, .f32⟩
  | 106 => ⟨S4x8192x4x512, .f32⟩
  | 107 => ⟨S4x8192x4x512, .f32⟩
  | 108 => ⟨S4x512, .f32⟩
  | 109 => ⟨S1x1x4x512, .f32⟩
  | 110 => ⟨S4x8192x4x512, .f32⟩
  | 111 => ⟨S4x8192x4x512, .f32⟩
  | 112 => ⟨S4x8192x2048, .f32⟩
  | 113 => ⟨S2048x1024, .f32⟩
  | 114 => ⟨S4x8192x1024, .f32⟩
  | 115 => ⟨S4x8192x1024, .f32⟩
  | 116 => ⟨S4x8192x1024, .f32⟩
  | 117 => ⟨S4x8192x1024, .f32⟩
  | 118 => ⟨S4x8192x1024, .f32⟩
  | 119 => ⟨S4x8192x1024, .f32⟩
  | 120 => ⟨S1024x1024, .f32⟩
  | 121 => ⟨S4x8192x1024, .f32⟩
  | 122 => ⟨S4x8192x1024, .f32⟩
  | 123 => ⟨S4x4x512x128, .f32⟩
  | 124 => ⟨S4x128x512, .bf16⟩
  | 125 => ⟨S4x128x512, .f32⟩
  | 126 => ⟨S4x128x512, .bf16⟩
  | 127 => ⟨S4x128x512, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_0 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_1 : Ref sig .tc := ⟨.hbm, 78, rfl⟩
abbrev main_v46 : Ref sig .tc := ⟨.hbm, 79, rfl⟩
abbrev main_call1_v0 : Ref sig .tc := ⟨.hbm, 80, rfl⟩
abbrev main_call1_c : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_c_0 : Ref sig .tc := ⟨.hbm, 86, rfl⟩
abbrev main_call1_v5 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_2 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_3 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_cst_4 : Ref sig .tc := ⟨.hbm, 108, rfl⟩
abbrev main_v65 : Ref sig .tc := ⟨.hbm, 109, rfl⟩
abbrev main_cst_5 : Ref sig .tc := ⟨.hbm, 110, rfl⟩
abbrev main_v66 : Ref sig .tc := ⟨.hbm, 111, rfl⟩
abbrev main_c_6 : Ref sig .tc := ⟨.hbm, 112, rfl⟩
abbrev main_v67_0 : Ref sig .tc := ⟨.hbm, 113, rfl⟩
abbrev main_v67_1 : Ref sig .tc := ⟨.hbm, 114, rfl⟩
abbrev main_v67_2 : Ref sig .tc := ⟨.hbm, 115, rfl⟩
abbrev main_v67_3 : Ref sig .tc := ⟨.hbm, 116, rfl⟩
abbrev main_v67_4 : Ref sig .tc := ⟨.hbm, 117, rfl⟩
abbrev main_v67_5 : Ref sig .tc := ⟨.hbm, 118, rfl⟩
abbrev main_v67_6 : Ref sig .tc := ⟨.hbm, 119, rfl⟩
abbrev main_v67_7 : Ref sig .tc := ⟨.hbm, 120, rfl⟩
abbrev main_v67_8 : Ref sig .tc := ⟨.hbm, 121, rfl⟩
abbrev main_v67_9 : Ref sig .tc := ⟨.hbm, 122, rfl⟩
abbrev main_v67_10 : Ref sig .tc := ⟨.hbm, 123, rfl⟩
abbrev main_v67_11 : Ref sig .tc := ⟨.hbm, 124, rfl⟩
abbrev main_v67_12 : Ref sig .tc := ⟨.hbm, 125, rfl⟩
abbrev main_v67_13 : Ref sig .tc := ⟨.hbm, 126, rfl⟩
abbrev main_v67_14 : Ref sig .tc := ⟨.hbm, 127, rfl⟩
abbrev main_while0c_c_24 : Ref sig .tc := ⟨.hbm, 128, rfl⟩
abbrev main_while0c_v112 : Ref sig .tc := ⟨.hbm, 129, rfl⟩
abbrev main_while0b_call2_c : Ref sig .tc := ⟨.hbm, 130, rfl⟩
abbrev main_while0b_call2_c_0 : Ref sig .tc := ⟨.hbm, 131, rfl⟩
abbrev main_while0b_call2_c_1 : Ref sig .tc := ⟨.hbm, 132, rfl⟩
abbrev main_while0b_call2_c_2 : Ref sig .tc := ⟨.hbm, 133, rfl⟩
abbrev main_while0b_call2_c_3 : Ref sig .tc := ⟨.hbm, 134, rfl⟩
abbrev main_while0b_call2_v0 : Ref sig .tc := ⟨.hbm, 135, rfl⟩
abbrev main_while0b_v112 : Ref sig .tc := ⟨.hbm, 136, rfl⟩
abbrev main_while0b_call3_c : Ref sig .tc := ⟨.hbm, 137, rfl⟩
abbrev main_while0b_call3_c_0 : Ref sig .tc := ⟨.hbm, 138, rfl⟩
abbrev main_while0b_call3_c_1 : Ref sig .tc := ⟨.hbm, 139, rfl⟩
abbrev main_while0b_call3_c_2 : Ref sig .tc := ⟨.hbm, 140, rfl⟩
abbrev main_while0b_call3_v0 : Ref sig .tc := ⟨.hbm, 141, rfl⟩
abbrev main_while0b_v113 : Ref sig .tc := ⟨.hbm, 142, rfl⟩
abbrev main_while0b_call4_c : Ref sig .tc := ⟨.hbm, 143, rfl⟩
abbrev main_while0b_call4_c_0 : Ref sig .tc := ⟨.hbm, 144, rfl⟩
abbrev main_while0b_call4_c_1 : Ref sig .tc := ⟨.hbm, 145, rfl⟩
abbrev main_while0b_call4_c_2 : Ref sig .tc := ⟨.hbm, 146, rfl⟩
abbrev main_while0b_call4_v0 : Ref sig .tc := ⟨.hbm, 147, rfl⟩
abbrev main_while0b_v114 : Ref sig .tc := ⟨.hbm, 148, rfl⟩
abbrev main_while0b_call5_c : Ref sig .tc := ⟨.hbm, 149, rfl⟩
abbrev main_while0b_call5_c_0 : Ref sig .tc := ⟨.hbm, 150, rfl⟩
abbrev main_while0b_call5_c_1 : Ref sig .tc := ⟨.hbm, 151, rfl⟩
abbrev main_while0b_call5_c_2 : Ref sig .tc := ⟨.hbm, 152, rfl⟩
abbrev main_while0b_call5_v0 : Ref sig .tc := ⟨.hbm, 153, rfl⟩
abbrev main_while0b_v115 : Ref sig .tc := ⟨.hbm, 154, rfl⟩
abbrev main_while0b_call6_c : Ref sig .tc := ⟨.hbm, 155, rfl⟩
abbrev main_while0b_call6_c_0 : Ref sig .tc := ⟨.hbm, 156, rfl⟩
abbrev main_while0b_call6_c_1 : Ref sig .tc := ⟨.hbm, 157, rfl⟩
abbrev main_while0b_call6_c_2 : Ref sig .tc := ⟨.hbm, 158, rfl⟩
abbrev main_while0b_call6_c_3 : Ref sig .tc := ⟨.hbm, 159, rfl⟩
abbrev main_while0b_call6_c_4 : Ref sig .tc := ⟨.hbm, 160, rfl⟩
abbrev main_while0b_call6_v0 : Ref sig .tc := ⟨.hbm, 161, rfl⟩
abbrev main_while0b_v116 : Ref sig .tc := ⟨.hbm, 162, rfl⟩
abbrev main_while0b_call7_c : Ref sig .tc := ⟨.hbm, 163, rfl⟩
abbrev main_while0b_call7_c_0 : Ref sig .tc := ⟨.hbm, 164, rfl⟩
abbrev main_while0b_call7_c_1 : Ref sig .tc := ⟨.hbm, 165, rfl⟩
abbrev main_while0b_call7_c_2 : Ref sig .tc := ⟨.hbm, 166, rfl⟩
abbrev main_while0b_call7_c_3 : Ref sig .tc := ⟨.hbm, 167, rfl⟩
abbrev main_while0b_call7_v0 : Ref sig .tc := ⟨.hbm, 168, rfl⟩
abbrev main_while0b_v117 : Ref sig .tc := ⟨.hbm, 169, rfl⟩
abbrev main_while0b_call8_c : Ref sig .tc := ⟨.hbm, 170, rfl⟩
abbrev main_while0b_call8_c_0 : Ref sig .tc := ⟨.hbm, 171, rfl⟩
abbrev main_while0b_call8_c_1 : Ref sig .tc := ⟨.hbm, 172, rfl⟩
abbrev main_while0b_call8_c_2 : Ref sig .tc := ⟨.hbm, 173, rfl⟩
abbrev main_while0b_call8_c_3 : Ref sig .tc := ⟨.hbm, 174, rfl⟩
abbrev main_while0b_call8_v0 : Ref sig .tc := ⟨.hbm, 175, rfl⟩
abbrev main_while0b_v118 : Ref sig .tc := ⟨.hbm, 176, rfl⟩
abbrev main_while0b_call9_c : Ref sig .tc := ⟨.hbm, 177, rfl⟩
abbrev main_while0b_call9_v0 : Ref sig .tc := ⟨.hbm, 178, rfl⟩
abbrev main_while0b_v119 : Ref sig .tc := ⟨.hbm, 179, rfl⟩
abbrev main_while0b_v120 : Ref sig .tc := ⟨.hbm, 180, rfl⟩
abbrev main_while0b_v121 : Ref sig .tc := ⟨.hbm, 181, rfl⟩
abbrev main_while0b_v122 : Ref sig .tc := ⟨.hbm, 182, rfl⟩
abbrev main_while0b_call10_call0_cst : Ref sig .tc := ⟨.hbm, 183, rfl⟩
abbrev main_while0b_call10_call0_v0 : Ref sig .tc := ⟨.hbm, 184, rfl⟩
abbrev main_while0b_v123 : Ref sig .tc := ⟨.hbm, 185, rfl⟩
abbrev main_while0b_v124 : Ref sig .tc := ⟨.hbm, 186, rfl⟩
abbrev main_while0b_v125 : Ref sig .tc := ⟨.hbm, 187, rfl⟩
abbrev main_while0b_v126 : Ref sig .tc := ⟨.hbm, 188, rfl⟩
abbrev main_while0b_v127 : Ref sig .tc := ⟨.hbm, 189, rfl⟩
abbrev main_while0b_v128 : Ref sig .tc := ⟨.hbm, 190, rfl⟩
abbrev main_while0b_cst_24 : Ref sig .tc := ⟨.hbm, 191, rfl⟩
abbrev main_while0b_call11_v0 : Ref sig .tc := ⟨.hbm, 192, rfl⟩
abbrev main_while0b_call11_v1 : Ref sig .tc := ⟨.hbm, 193, rfl⟩
abbrev main_while0b_call11_v2 : Ref sig .tc := ⟨.hbm, 194, rfl⟩
abbrev main_while0b_v129 : Ref sig .tc := ⟨.hbm, 195, rfl⟩
abbrev main_while0b_v130 : Ref sig .tc := ⟨.hbm, 196, rfl⟩
abbrev main_while0b_v131 : Ref sig .tc := ⟨.hbm, 197, rfl⟩
abbrev main_while0b_v132 : Ref sig .tc := ⟨.hbm, 198, rfl⟩
abbrev main_while0b_v133 : Ref sig .tc := ⟨.hbm, 199, rfl⟩
abbrev main_while0b_v134 : Ref sig .tc := ⟨.hbm, 200, rfl⟩
abbrev main_while0b_v135 : Ref sig .tc := ⟨.hbm, 201, rfl⟩
abbrev main_while0b_v136 : Ref sig .tc := ⟨.hbm, 202, rfl⟩
abbrev main_while0b_v137 : Ref sig .tc := ⟨.hbm, 203, rfl⟩
abbrev main_while0b_v138 : Ref sig .tc := ⟨.hbm, 204, rfl⟩
abbrev main_while0b_v139 : Ref sig .tc := ⟨.hbm, 205, rfl⟩
abbrev main_while0b_v140 : Ref sig .tc := ⟨.hbm, 206, rfl⟩
abbrev main_while0b_v141 : Ref sig .tc := ⟨.hbm, 207, rfl⟩
abbrev main_while0b_v142 : Ref sig .tc := ⟨.hbm, 208, rfl⟩
abbrev main_while0b_v143 : Ref sig .tc := ⟨.hbm, 209, rfl⟩
abbrev main_while0b_v144 : Ref sig .tc := ⟨.hbm, 210, rfl⟩
abbrev main_while0b_v145 : Ref sig .tc := ⟨.hbm, 211, rfl⟩
abbrev main_while0b_v146 : Ref sig .tc := ⟨.hbm, 212, rfl⟩
abbrev main_while0b_v147 : Ref sig .tc := ⟨.hbm, 213, rfl⟩
abbrev main_while0b_v148 : Ref sig .tc := ⟨.hbm, 214, rfl⟩
abbrev main_while0b_v149 : Ref sig .tc := ⟨.hbm, 215, rfl⟩
abbrev main_while0b_v150 : Ref sig .tc := ⟨.hbm, 216, rfl⟩
abbrev main_while0b_v151 : Ref sig .tc := ⟨.hbm, 217, rfl⟩
abbrev main_while0b_v152 : Ref sig .tc := ⟨.hbm, 218, rfl⟩
abbrev main_while0b_v153 : Ref sig .tc := ⟨.hbm, 219, rfl⟩
abbrev main_while0b_v154 : Ref sig .tc := ⟨.hbm, 220, rfl⟩
abbrev main_while0b_v155 : Ref sig .tc := ⟨.hbm, 221, rfl⟩
abbrev main_while0b_v156 : Ref sig .tc := ⟨.hbm, 222, rfl⟩
abbrev main_while0b_v157 : Ref sig .tc := ⟨.hbm, 223, rfl⟩
abbrev main_while0b_v158 : Ref sig .tc := ⟨.hbm, 224, rfl⟩
abbrev main_while0b_v159 : Ref sig .tc := ⟨.hbm, 225, rfl⟩
abbrev main_while0b_v160 : Ref sig .tc := ⟨.hbm, 226, rfl⟩
abbrev main_while0b_v161 : Ref sig .tc := ⟨.hbm, 227, rfl⟩
abbrev main_while0b_v162 : Ref sig .tc := ⟨.hbm, 228, rfl⟩
abbrev main_while0b_v163 : Ref sig .tc := ⟨.hbm, 229, rfl⟩
abbrev main_while0b_v164 : Ref sig .tc := ⟨.hbm, 230, rfl⟩
abbrev main_while0b_v165 : Ref sig .tc := ⟨.hbm, 231, rfl⟩
abbrev main_while0b_c_25 : Ref sig .tc := ⟨.hbm, 232, rfl⟩
abbrev main_while0b_v166 : Ref sig .tc := ⟨.hbm, 233, rfl⟩
abbrev main_while0b_v167 : Ref sig .tc := ⟨.hbm, 234, rfl⟩
abbrev main_while0b_v168 : Ref sig .tc := ⟨.hbm, 235, rfl⟩
abbrev main_while0b_v169 : Ref sig .tc := ⟨.hbm, 236, rfl⟩
abbrev main_while0b_v170 : Ref sig .tc := ⟨.hbm, 237, rfl⟩
abbrev main_while0b_v171 : Ref sig .tc := ⟨.hbm, 238, rfl⟩
abbrev main_while0b_v172 : Ref sig .tc := ⟨.hbm, 239, rfl⟩
abbrev main_while0b_cst_26 : Ref sig .tc := ⟨.hbm, 240, rfl⟩
abbrev main_while0b_cst_27 : Ref sig .tc := ⟨.hbm, 241, rfl⟩
abbrev main_while0b_cst_28 : Ref sig .tc := ⟨.hbm, 242, rfl⟩
abbrev main_while0b_cst_29 : Ref sig .tc := ⟨.hbm, 243, rfl⟩
abbrev main_while0b_cst_30 : Ref sig .tc := ⟨.hbm, 244, rfl⟩
abbrev main_while0b_cst_31 : Ref sig .tc := ⟨.hbm, 245, rfl⟩
abbrev main_while0b_cst_32 : Ref sig .tc := ⟨.hbm, 246, rfl⟩
abbrev main_while0b_cst_33 : Ref sig .tc := ⟨.hbm, 247, rfl⟩
abbrev main_while0b_cst_34 : Ref sig .tc := ⟨.hbm, 248, rfl⟩
abbrev main_while0b_cst_35 : Ref sig .tc := ⟨.hbm, 249, rfl⟩
abbrev main_while0b_cst_36 : Ref sig .tc := ⟨.hbm, 250, rfl⟩
abbrev main_while0b_cst_37 : Ref sig .tc := ⟨.hbm, 251, rfl⟩
abbrev main_while0b_cst_38 : Ref sig .tc := ⟨.hbm, 252, rfl⟩
abbrev main_while0b_cst_39 : Ref sig .tc := ⟨.hbm, 253, rfl⟩
abbrev main_while0b_cst_40 : Ref sig .tc := ⟨.hbm, 254, rfl⟩
abbrev main_while0b_cst_41 : Ref sig .tc := ⟨.hbm, 255, rfl⟩
abbrev main_while0b_v173 : Ref sig .tc := ⟨.hbm, 256, rfl⟩
abbrev main_while0b_v174 : Ref sig .tc := ⟨.hbm, 257, rfl⟩
abbrev main_while0b_v175 : Ref sig .tc := ⟨.hbm, 258, rfl⟩
abbrev main_while0b_v176 : Ref sig .tc := ⟨.hbm, 259, rfl⟩
abbrev main_while0b_v177 : Ref sig .tc := ⟨.hbm, 260, rfl⟩
abbrev main_while0b_v178 : Ref sig .tc := ⟨.hbm, 261, rfl⟩
abbrev main_while0b_v179 : Ref sig .tc := ⟨.hbm, 262, rfl⟩
abbrev main_while0b_v180 : Ref sig .tc := ⟨.hbm, 263, rfl⟩
abbrev main_while0b_v181 : Ref sig .tc := ⟨.hbm, 264, rfl⟩
abbrev main_while0b_v182 : Ref sig .tc := ⟨.hbm, 265, rfl⟩
abbrev main_while0b_v183 : Ref sig .tc := ⟨.hbm, 266, rfl⟩
abbrev main_while0b_v184 : Ref sig .tc := ⟨.hbm, 267, rfl⟩
abbrev main_while0b_v185 : Ref sig .tc := ⟨.hbm, 268, rfl⟩
abbrev main_while0b_v186 : Ref sig .tc := ⟨.hbm, 269, rfl⟩
abbrev main_while0b_v187 : Ref sig .tc := ⟨.hbm, 270, rfl⟩
abbrev main_while0b_v188 : Ref sig .tc := ⟨.hbm, 271, rfl⟩
abbrev main_while0b_v189 : Ref sig .tc := ⟨.hbm, 272, rfl⟩
abbrev main_while0b_v190 : Ref sig .tc := ⟨.hbm, 273, rfl⟩
abbrev main_while0b_c_42 : Ref sig .tc := ⟨.hbm, 274, rfl⟩
abbrev main_while0b_v191 : Ref sig .tc := ⟨.hbm, 275, rfl⟩
abbrev main_while0b_v192 : Ref sig .tc := ⟨.hbm, 276, rfl⟩
abbrev main_while0b_c_43 : Ref sig .tc := ⟨.hbm, 277, rfl⟩
abbrev main_while0b_v193 : Ref sig .tc := ⟨.hbm, 278, rfl⟩
abbrev main_while0b_v194 : Ref sig .tc := ⟨.hbm, 279, rfl⟩
abbrev main_while0b_v195 : Ref sig .tc := ⟨.hbm, 280, rfl⟩
abbrev main_while0b_v196 : Ref sig .tc := ⟨.hbm, 281, rfl⟩
abbrev main_while0b_v197 : Ref sig .tc := ⟨.hbm, 282, rfl⟩
abbrev main_while0b_v198 : Ref sig .tc := ⟨.hbm, 283, rfl⟩
abbrev main_while0b_v199 : Ref sig .tc := ⟨.hbm, 284, rfl⟩
abbrev main_while0b_v200 : Ref sig .tc := ⟨.hbm, 285, rfl⟩
abbrev main_while0b_v201 : Ref sig .tc := ⟨.hbm, 286, rfl⟩
abbrev main_while0b_v202 : Ref sig .tc := ⟨.hbm, 287, rfl⟩
abbrev main_while0b_v203 : Ref sig .tc := ⟨.hbm, 288, rfl⟩
abbrev main_while0b_v204 : Ref sig .tc := ⟨.hbm, 289, rfl⟩
abbrev main_while0b_v205 : Ref sig .tc := ⟨.hbm, 290, rfl⟩
abbrev main_while0b_v206 : Ref sig .tc := ⟨.hbm, 291, rfl⟩
abbrev main_while0b_v207 : Ref sig .tc := ⟨.hbm, 292, rfl⟩
abbrev main_while0b_v208 : Ref sig .tc := ⟨.hbm, 293, rfl⟩
abbrev main_while0b_cst_44 : Ref sig .tc := ⟨.hbm, 294, rfl⟩
abbrev main_while0b_call12_v0 : Ref sig .tc := ⟨.hbm, 295, rfl⟩
abbrev main_while0b_call12_v1 : Ref sig .tc := ⟨.hbm, 296, rfl⟩
abbrev main_while0b_call12_v2 : Ref sig .tc := ⟨.hbm, 297, rfl⟩
abbrev main_while0b_v209 : Ref sig .tc := ⟨.hbm, 298, rfl⟩
abbrev main_while0b_v210 : Ref sig .tc := ⟨.hbm, 299, rfl⟩
abbrev main_while0b_cst_45 : Ref sig .tc := ⟨.hbm, 300, rfl⟩
abbrev main_while0b_v211 : Ref sig .tc := ⟨.hbm, 301, rfl⟩
abbrev main_while0b_v212 : Ref sig .tc := ⟨.hbm, 302, rfl⟩
abbrev main_while0b_v213 : Ref sig .tc := ⟨.hbm, 303, rfl⟩
abbrev main_while0b_v214 : Ref sig .tc := ⟨.hbm, 304, rfl⟩
abbrev main_while0b_v215 : Ref sig .tc := ⟨.hbm, 305, rfl⟩
abbrev main_while0b_v216 : Ref sig .tc := ⟨.hbm, 306, rfl⟩
abbrev main_while0b_v217 : Ref sig .tc := ⟨.hbm, 307, rfl⟩
abbrev main_while0b_v218 : Ref sig .tc := ⟨.hbm, 308, rfl⟩
abbrev main_while0b_cst_46 : Ref sig .tc := ⟨.hbm, 309, rfl⟩
abbrev main_while0b_v219 : Ref sig .tc := ⟨.hbm, 310, rfl⟩
abbrev main_while0b_v220 : Ref sig .tc := ⟨.hbm, 311, rfl⟩
abbrev main_while0b_v221 : Ref sig .tc := ⟨.hbm, 312, rfl⟩
abbrev main_while0b_v222 : Ref sig .tc := ⟨.hbm, 313, rfl⟩
abbrev main_while0b_v223 : Ref sig .tc := ⟨.hbm, 314, rfl⟩
abbrev main_while0b_v224 : Ref sig .tc := ⟨.hbm, 315, rfl⟩
abbrev main_while0b_v225 : Ref sig .tc := ⟨.hbm, 316, rfl⟩
abbrev main_while0b_v226 : Ref sig .tc := ⟨.hbm, 317, rfl⟩
abbrev main_while0b_v227 : Ref sig .tc := ⟨.hbm, 318, rfl⟩
abbrev main_while0b_v228 : Ref sig .tc := ⟨.hbm, 319, rfl⟩
abbrev main_while0b_call13_v0 : Ref sig .tc := ⟨.hbm, 320, rfl⟩
abbrev main_while0b_call13_c : Ref sig .tc := ⟨.hbm, 321, rfl⟩
abbrev main_while0b_call13_c_0 : Ref sig .tc := ⟨.hbm, 322, rfl⟩
abbrev main_while0b_call13_c_1 : Ref sig .tc := ⟨.hbm, 323, rfl⟩
abbrev main_while0b_call13_c_2 : Ref sig .tc := ⟨.hbm, 324, rfl⟩
abbrev main_while0b_call13_c_3 : Ref sig .tc := ⟨.hbm, 325, rfl⟩
abbrev main_while0b_v229 : Ref sig .tc := ⟨.hbm, 326, rfl⟩
abbrev main_while0b_call14_v0 : Ref sig .tc := ⟨.hbm, 327, rfl⟩
abbrev main_while0b_call14_c : Ref sig .tc := ⟨.hbm, 328, rfl⟩
abbrev main_while0b_call14_c_0 : Ref sig .tc := ⟨.hbm, 329, rfl⟩
abbrev main_while0b_call14_c_1 : Ref sig .tc := ⟨.hbm, 330, rfl⟩
abbrev main_while0b_call14_c_2 : Ref sig .tc := ⟨.hbm, 331, rfl⟩
abbrev main_while0b_call14_c_3 : Ref sig .tc := ⟨.hbm, 332, rfl⟩
abbrev main_while0b_call14_c_4 : Ref sig .tc := ⟨.hbm, 333, rfl⟩
abbrev main_while0b_v230 : Ref sig .tc := ⟨.hbm, 334, rfl⟩
abbrev main_while0b_c_47 : Ref sig .tc := ⟨.hbm, 335, rfl⟩
abbrev main_while0b_v231 : Ref sig .tc := ⟨.hbm, 336, rfl⟩
abbrev main_v68 : Ref sig .tc := ⟨.hbm, 337, rfl⟩
abbrev main_v69 : Ref sig .tc := ⟨.hbm, 338, rfl⟩
abbrev main_v70 : Ref sig .tc := ⟨.hbm, 339, rfl⟩
abbrev main_v71 : Ref sig .tc := ⟨.hbm, 340, rfl⟩
abbrev main_v72 : Ref sig .tc := ⟨.hbm, 341, rfl⟩
abbrev main_v73 : Ref sig .tc := ⟨.hbm, 342, rfl⟩
abbrev main_v74 : Ref sig .tc := ⟨.hbm, 343, rfl⟩
abbrev main_v75 : Ref sig .tc := ⟨.hbm, 344, rfl⟩
abbrev main_v76 : Ref sig .tc := ⟨.hbm, 345, rfl⟩
abbrev main_v77 : Ref sig .tc := ⟨.hbm, 346, rfl⟩
abbrev main_v78 : Ref sig .tc := ⟨.hbm, 347, rfl⟩
abbrev main_v79 : Ref sig .tc := ⟨.hbm, 348, rfl⟩
abbrev main_v80 : Ref sig .tc := ⟨.hbm, 349, rfl⟩
abbrev main_v81 : Ref sig .tc := ⟨.hbm, 350, rfl⟩
abbrev main_v82 : Ref sig .tc := ⟨.hbm, 351, rfl⟩
abbrev main_cst_7 : Ref sig .tc := ⟨.hbm, 352, rfl⟩
abbrev main_v83 : Ref sig .tc := ⟨.hbm, 353, rfl⟩
abbrev main_v84 : Ref sig .tc := ⟨.hbm, 354, rfl⟩
abbrev main_cst_8 : Ref sig .tc := ⟨.hbm, 355, rfl⟩
abbrev main_v85 : Ref sig .tc := ⟨.hbm, 356, rfl⟩
abbrev main_v86 : Ref sig .tc := ⟨.hbm, 357, rfl⟩
abbrev main_cst_9 : Ref sig .tc := ⟨.hbm, 358, rfl⟩
abbrev main_v87 : Ref sig .tc := ⟨.hbm, 359, rfl⟩
abbrev main_v88 : Ref sig .tc := ⟨.hbm, 360, rfl⟩
abbrev main_v89 : Ref sig .tc := ⟨.hbm, 361, rfl⟩
abbrev main_v90 : Ref sig .tc := ⟨.hbm, 362, rfl⟩
abbrev main_v91 : Ref sig .tc := ⟨.hbm, 363, rfl⟩
abbrev main_v92 : Ref sig .tc := ⟨.hbm, 364, rfl⟩
abbrev main_v93 : Ref sig .tc := ⟨.hbm, 365, rfl⟩
abbrev main_v94 : Ref sig .tc := ⟨.hbm, 366, rfl⟩
abbrev main_v95 : Ref sig .tc := ⟨.hbm, 367, rfl⟩
abbrev main_v96 : Ref sig .tc := ⟨.hbm, 368, rfl⟩
abbrev main_v97 : Ref sig .tc := ⟨.hbm, 369, rfl⟩
abbrev main_v98 : Ref sig .tc := ⟨.hbm, 370, rfl⟩
abbrev main_v99 : Ref sig .tc := ⟨.hbm, 371, rfl⟩
abbrev main_v100 : Ref sig .tc := ⟨.hbm, 372, rfl⟩
abbrev main_v101 : Ref sig .tc := ⟨.hbm, 373, rfl⟩
abbrev main_v102 : Ref sig .tc := ⟨.hbm, 374, rfl⟩
abbrev main_v103 : Ref sig .tc := ⟨.hbm, 375, rfl⟩
abbrev main_v104 : Ref sig .tc := ⟨.hbm, 376, rfl⟩
abbrev main_v105 : Ref sig .tc := ⟨.hbm, 377, rfl⟩
abbrev main_v106 : Ref sig .tc := ⟨.hbm, 378, rfl⟩
abbrev main_v107 : Ref sig .tc := ⟨.hbm, 379, rfl⟩
abbrev main_v108 : Ref sig .tc := ⟨.hbm, 380, rfl⟩
abbrev main_v109 : Ref sig .tc := ⟨.hbm, 381, rfl⟩
abbrev main_v110 : Ref sig .tc := ⟨.hbm, 382, rfl⟩
abbrev main_v111 : Ref sig .tc := ⟨.hbm, 383, rfl⟩

abbrev nD : Nat := 1
abbrev τ : Topo := Topo.v7x

variable {F : FTy → Type} [FloatOps F]

def κ : String → Option EReal := fun
  | "neg_inf" => some ⊥
  | _ => none

abbrev main_while0_count : Scf.Loop 32 := ⟨0#32, 64#32, 1#32⟩
-- ==== Inproj.lean ====
abbrev S32768x1024 : Shape := ⟨2, ![32768, 1024]⟩
abbrev S1x1024 : Shape := ⟨2, ![1, 1024]⟩
abbrev S1024x9472 : Shape := ⟨2, ![1024, 9472]⟩
abbrev S4x3072 : Shape := ⟨2, ![4, 3072]⟩
abbrev S1x3072 : Shape := ⟨2, ![1, 3072]⟩
abbrev S32768x2048 : Shape := ⟨2, ![32768, 2048]⟩
abbrev S32768x3072 : Shape := ⟨2, ![32768, 3072]⟩
abbrev S32768x512 : Shape := ⟨2, ![32768, 512]⟩
abbrev S32768x128 : Shape := ⟨2, ![32768, 128]⟩
abbrev S4x8x3072 : Shape := ⟨3, ![4, 8, 3072]⟩
abbrev S512x1024 : Shape := ⟨2, ![512, 1024]⟩
abbrev S16x1024 : Shape := ⟨2, ![16, 1024]⟩
abbrev S512x2048 : Shape := ⟨2, ![512, 2048]⟩
abbrev S512x3072 : Shape := ⟨2, ![512, 3072]⟩
abbrev S512x512 : Shape := ⟨2, ![512, 512]⟩
abbrev S512x128 : Shape := ⟨2, ![512, 128]⟩
abbrev S1x8x3072 : Shape := ⟨3, ![1, 8, 3072]⟩
abbrev S528x512 : Shape := ⟨2, ![528, 512]⟩
abbrev S528x1024 : Shape := ⟨2, ![528, 1024]⟩
abbrev S512 : Shape := ⟨1, ![512]⟩
abbrev S512x1 : Shape := ⟨2, ![512, 1]⟩
abbrev S1024x512 : Shape := ⟨2, ![1024, 512]⟩
abbrev S1024x128 : Shape := ⟨2, ![1024, 128]⟩
abbrev S16 : Shape := ⟨1, ![16]⟩
abbrev S16x1 : Shape := ⟨2, ![16, 1]⟩
abbrev S1x512 : Shape := ⟨2, ![1, 512]⟩
abbrev S8x512 : Shape := ⟨2, ![8, 512]⟩
abbrev S1x8x512 : Shape := ⟨3, ![1, 8, 512]⟩

abbrev nBuf : Space → Nat
  | .hbm => 14
  | .vmem => 28
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x9472, .bf16⟩
  | .hbm, ⟨3, _⟩ => ⟨S4x3072, .f32⟩
  | .hbm, ⟨4, _⟩ => ⟨S1x3072, .f32⟩
  | .hbm, ⟨5, _⟩ => ⟨S32768x2048, .bf16⟩
  | .hbm, ⟨6, _⟩ => ⟨S32768x3072, .bf16⟩
  | .hbm, ⟨7, _⟩ => ⟨S32768x1024, .bf16⟩
  | .hbm, ⟨8, _⟩ => ⟨S32768x512, .bf16⟩
  | .hbm, ⟨9, _⟩ => ⟨S32768x512, .bf16⟩
  | .hbm, ⟨10, _⟩ => ⟨S32768x1024, .bf16⟩
  | .hbm, ⟨11, _⟩ => ⟨S32768x1024, .bf16⟩
  | .hbm, ⟨12, _⟩ => ⟨S32768x128, .f32⟩
  | .hbm, ⟨13, _⟩ => ⟨S4x8x3072, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x9472, .bf16⟩
  | .local _ .vmem, ⟨6, _⟩ => ⟨S4x3072, .f32⟩
  | .local _ .vmem, ⟨7, _⟩ => ⟨S1x3072, .f32⟩
  | .local _ .vmem, ⟨8, _⟩ => ⟨S512x2048, .bf16⟩
  | .local _ .vmem, ⟨9, _⟩ => ⟨S512x2048, .bf16⟩
  | .local _ .vmem, ⟨10, _⟩ => ⟨S512x3072, .bf16⟩
  | .local _ .vmem, ⟨11, _⟩ => ⟨S512x3072, .bf16⟩
  | .local _ .vmem, ⟨12, _⟩ => ⟨S512x1024, .bf16⟩
  | .local _ .vmem, ⟨13, _⟩ => ⟨S512x1024, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x128, .f32⟩
  | .local _ .vmem, ⟨23, _⟩ => ⟨S512x128, .f32⟩
  | .local _ .vmem, ⟨24, _⟩ => ⟨S1x8x3072, .f32⟩
  | .local _ .vmem, ⟨25, _⟩ => ⟨S1x8x3072, .f32⟩
  | .local _ .vmem, ⟨26, _⟩ => ⟨S528x512, .f32⟩
  | .local _ .vmem, ⟨27, _⟩ => ⟨S528x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev main_v0_7 : Ref sig .tc := ⟨.hbm, 12, rfl⟩
abbrev main_v0_8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x9472 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x3072 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InRefIdeal.lean ====
abbrev S32768x1024 : Shape := ⟨2, ![32768, 1024]⟩
abbrev S1x1024 : Shape := ⟨2, ![1, 1024]⟩
abbrev S1024x9472 : Shape := ⟨2, ![1024, 9472]⟩
abbrev S4x3072 : Shape := ⟨2, ![4, 3072]⟩
abbrev S1x3072 : Shape := ⟨2, ![1, 3072]⟩
abbrev S_ : Shape := ⟨0, ![]⟩
abbrev S32768 : Shape := ⟨1, ![32768]⟩
abbrev S32768x1 : Shape := ⟨2, ![32768, 1]⟩
abbrev S32768x9472 : Shape := ⟨2, ![32768, 9472]⟩
abbrev S32768x2048 : Shape := ⟨2, ![32768, 2048]⟩
abbrev S32768x3072 : Shape := ⟨2, ![32768, 3072]⟩
abbrev S32768x512 : Shape := ⟨2, ![32768, 512]⟩
abbrev S32768x128 : Shape := ⟨2, ![32768, 128]⟩
abbrev S4x8192x3072 : Shape := ⟨3, ![4, 8192, 3072]⟩
abbrev S3072 : Shape := ⟨1, ![3072]⟩
abbrev S4x3x3072 : Shape := ⟨3, ![4, 3, 3072]⟩
abbrev S4x8195x3072 : Shape := ⟨3, ![4, 8195, 3072]⟩
abbrev S1x1x3072 : Shape := ⟨3, ![1, 1, 3072]⟩
abbrev S4x8x3072 : Shape := ⟨3, ![4, 8, 3072]⟩

abbrev nBuf : Space → Nat
  | .hbm => 116
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x9472, .bf16⟩
  | .hbm, ⟨3, _⟩ => ⟨S4x3072, .f32⟩
  | .hbm, ⟨4, _⟩ => ⟨S1x3072, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S1024x9472, .f32⟩
  | .hbm, ⟨21, _⟩ => ⟨S32768x9472, .f32⟩
  | .hbm, ⟨22, _⟩ => ⟨S32768x2048, .f32⟩
  | .hbm, ⟨23, _⟩ => ⟨S32768x3072, .f32⟩
  | .hbm, ⟨24, _⟩ => ⟨S32768x1024, .f32⟩
  | .hbm, ⟨25, _⟩ => ⟨S32768x512, .f32⟩
  | .hbm, ⟨26, _⟩ => ⟨S32768x512, .f32⟩
  | .hbm, ⟨27, _⟩ => ⟨S32768x1024, .f32⟩
  | .hbm, ⟨28, _⟩ => ⟨S32768x1024, .f32⟩
  | .hbm, ⟨29, _⟩ => ⟨S32768x128, .f32⟩
  | .hbm, ⟨30, _⟩ => ⟨S32768x128, .f32⟩
  | .hbm, ⟨31, _⟩ => ⟨S4x8192x3072, .f32⟩
  | .hbm, ⟨32, _⟩ => ⟨S3072, .f32⟩
  | .hbm, ⟨33, _⟩ => ⟨S4x3x3072, .f32⟩
  | .hbm, ⟨34, _⟩ => ⟨S_, .f32⟩
  | .hbm, ⟨35, _⟩ => ⟨S4x3x3072, .f32⟩
  | .hbm, ⟨36, _⟩ => ⟨S4x8195x3072, .f32⟩
  | .hbm, ⟨37, _⟩ => ⟨S1x3072, .f32⟩
  | .hbm, ⟨38, _⟩ => ⟨S3072, .f32⟩
  | .hbm, ⟨39, _⟩ => ⟨S4x8192x3072, .f32⟩
  | .hbm, ⟨40, _⟩ => ⟨S1x1x3072, .f32⟩
  | .hbm, ⟨41, _⟩ => ⟨S4x8192x3072, .f32⟩
  | .hbm, ⟨42, _⟩ => ⟨S4x8192x3072, .f32⟩
  | .hbm, ⟨43, _⟩ => ⟨S_, .f32⟩
  | .hbm, ⟨44, _⟩ => ⟨S4x8192x3072, .f32⟩
  | .hbm, ⟨45, _⟩ => ⟨S4x8192x3072, .f32⟩
  | .hbm, ⟨46, _⟩ => ⟨S1x3072, .f32⟩
  | .hbm, ⟨47, _⟩ => ⟨S3072, .f32⟩
  | .hbm, ⟨48, _⟩ => ⟨S4x8192x3072, .f32⟩
  | .hbm, ⟨49, _⟩ => ⟨S1x1x3072, .f32⟩
  | .hbm, ⟨50, _⟩ => ⟨S4x8192x3072, .f32⟩
  | .hbm, ⟨51, _⟩ => ⟨S4x8192x3072, .f32⟩
  | .hbm, ⟨52, _⟩ => ⟨S4x8192x3072, .f32⟩
  | .hbm, ⟨53, _⟩ => ⟨S1x3072, .f32⟩
  | .hbm, ⟨54, _⟩ => ⟨S3072, .f32⟩
  | .hbm, ⟨55, _⟩ => ⟨S4x8192x3072, .f32⟩
  | .hbm, ⟨56, _⟩ => ⟨S1x1x3072, .f32⟩
  | .hbm, ⟨57, _⟩ => ⟨S4x8192x3072, .f32⟩
  | .hbm, ⟨58, _⟩ => ⟨S4x8192x3072, .f32⟩
  | .hbm, ⟨59, _⟩ => ⟨S4x8192x3072, .f32⟩
  | .hbm, ⟨60, _⟩ => ⟨S1x3072, .f32⟩
  | .hbm, ⟨61, _⟩ => ⟨S3072, .f32⟩
  | .hbm, ⟨62, _⟩ => ⟨S4x8192x3072, .f32⟩
  | .hbm, ⟨63, _⟩ => ⟨S1x1x3072, .f32⟩
  | .hbm, ⟨64, _⟩ => ⟨S4x8192x3072, .f32⟩
  | .hbm, ⟨65, _⟩ => ⟨S4x8192x3072, .f32⟩
  | .hbm, ⟨66, _⟩ => ⟨S4x8192x3072, .f32⟩
  | .hbm, ⟨67, _⟩ => ⟨S1x1x3072, .f32⟩
  | .hbm, ⟨68, _⟩ => ⟨S4x8192x3072, .f32⟩
  | .hbm, ⟨69, _⟩ => ⟨S4x8192x3072, .f32⟩
  | .hbm, ⟨70, _⟩ => ⟨S4x8192x3072, .f32⟩
  | .hbm, ⟨71, _⟩ => ⟨S4x8192x3072, .f32⟩
  | .hbm, ⟨72, _⟩ => ⟨S_, .f32⟩
  | .hbm, ⟨73, _⟩ => ⟨S4x8192x3072, .f32⟩
  | .hbm, ⟨74, _⟩ => ⟨S4x8192x3072, .f32⟩
  | .hbm, ⟨75, _⟩ => ⟨S_, .f32⟩
  | .hbm, ⟨76, _⟩ => ⟨S4x8192x3072, .f32⟩
  | .hbm, ⟨77, _⟩ => ⟨S4x8192x3072, .f32⟩
  | .hbm, ⟨78, _⟩ => ⟨S4x8192x3072, .f32⟩
  | .hbm, ⟨79, _⟩ => ⟨S32768x2048, .f32⟩
  | .hbm, ⟨80, _⟩ => ⟨S32768x2048, .f32⟩
  | .hbm, ⟨81, _⟩ => ⟨S_, .f32⟩
  | .hbm, ⟨82, _⟩ => ⟨S32768x2048, .f32⟩
  | .hbm, ⟨83, _⟩ => ⟨S32768x2048, .f32⟩
  | .hbm, ⟨84, _⟩ => ⟨S_, .f32⟩
  | .hbm, ⟨85, _⟩ => ⟨S32768x2048, .f32⟩
  | .hbm, ⟨86, _⟩ => ⟨S32768x2048, .f32⟩
  | .hbm, ⟨87, _⟩ => ⟨S32768x2048, .f32⟩
  | .hbm, ⟨88, _⟩ => ⟨S32768x2048, .bf16⟩
  | .hbm, ⟨89, _⟩ => ⟨S32768x3072, .f32⟩
  | .hbm, ⟨90, _⟩ => ⟨S32768x3072, .bf16⟩
  | .hbm, ⟨91, _⟩ => ⟨S_, .f32⟩
  | .hbm, ⟨92, _⟩ => ⟨S32768x1024, .f32⟩
  | .hbm, ⟨93, _⟩ => ⟨S32768x1024, .f32⟩
  | .hbm, ⟨94, _⟩ => ⟨S32768x1024, .bf16⟩
  | .hbm, ⟨95, _⟩ => ⟨S32768x512, .bf16⟩
  | .hbm, ⟨96, _⟩ => ⟨S32768x512, .bf16⟩
  | .hbm, ⟨97, _⟩ => ⟨S32768x1024, .f32⟩
  | .hbm, ⟨98, _⟩ => ⟨S32768x1024, .f32⟩
  | .hbm, ⟨99, _⟩ => ⟨S_, .f32⟩
  | .hbm, ⟨100, _⟩ => ⟨S32768x1024, .f32⟩
  | .hbm, ⟨101, _⟩ => ⟨S32768x1024, .f32⟩
  | .hbm, ⟨102, _⟩ => ⟨S_, .f32⟩
  | .hbm, ⟨103, _⟩ => ⟨S32768x1024, .f32⟩
  | .hbm, ⟨104, _⟩ => ⟨S32768x1024, .f32⟩
  | .hbm, ⟨105, _⟩ => ⟨S32768x1024, .bf16⟩
  | .hbm, ⟨106, _⟩ => ⟨S32768x1024, .f32⟩
  | .hbm, ⟨107, _⟩ => ⟨S32768x1024, .f32⟩
  | .hbm, ⟨108, _⟩ => ⟨S_, .f32⟩
  | .hbm, ⟨109, _⟩ => ⟨S32768x1024, .f32⟩
  | .hbm, ⟨110, _⟩ => ⟨S32768x1024, .f32⟩
  | .hbm, ⟨111, _⟩ => ⟨S_, .f32⟩
  | .hbm, ⟨112, _⟩ => ⟨S32768x1024, .f32⟩
  | .hbm, ⟨113, _⟩ => ⟨S32768x1024, .f32⟩
  | .hbm, ⟨114, _⟩ => ⟨S32768x1024, .bf16⟩
  | .hbm, ⟨115, _⟩ => ⟨S4x8x3072, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v60 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_4 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_5 : Ref sig .tc := ⟨.hbm, 99, rfl⟩
abbrev main_v72 : Ref sig .tc := ⟨.hbm, 100, rfl⟩
abbrev main_v73 : Ref sig .tc := ⟨.hbm, 101, rfl⟩
abbrev main_cst_6 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_7 : Ref sig .tc := ⟨.hbm, 108, rfl⟩
abbrev main_v79 : Ref sig .tc := ⟨.hbm, 109, rfl⟩
abbrev main_v80 : Ref sig .tc := ⟨.hbm, 110, rfl⟩
abbrev main_cst_8 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]
-- ==== Proof.RefLoop.lean ====
module

public import proofs.«01_k».proof.Proof.Gen.RefIdeal.Run
public import proofs.«01_k».proof.Proof.Gen.RefIdeal.Step

@[expose] public section

/-! The reference's run as its step iterated: the generated module of this statement, with the last lines of `step_13` and
    `step_14` changed to name the equations they use, and two of its lemmas joined. -/

noncomputable section

namespace Cert.RefIdeal.Loop

open Idealize.ShloMosaic Idealize.ShloMosaic.TcCoe Idealize.SL.Sem Idealize.ShloMosaic.StableHlo
open Cert.RefIdeal Cert.RefIdeal.Gen Cert.RefIdeal.Value
open Cert.RefIdeal.Step (State step init)

variable {F : FTy → Type} [FloatOps F]

variable (V0 : Valuation τ sig (Elt F)) (s : State F) (j : ℕ)

/-- The valuation holds the state, the set-up values and the trip's number. -/
structure Holds : Prop where
  f_12 : V0 (Proc.devRef .tc main_v67_12) = s.main_v67_12
  f_13 : V0 (Proc.devRef .tc main_v67_13) = s.main_v67_13
  f_14 : V0 (Proc.devRef .tc main_v67_14) = s.main_v67_14
  f_0 : V0 (Proc.devRef .tc main_v67_0) = s.main_v67_0
  f_1 : V0 (Proc.devRef .tc main_v67_1) = s.main_v67_1
  f_2 : V0 (Proc.devRef .tc main_v67_2) = s.main_v67_2
  f_3 : V0 (Proc.devRef .tc main_v67_3) = s.main_v67_3
  f_4 : V0 (Proc.devRef .tc main_v67_4) = s.main_v67_4
  f_5 : V0 (Proc.devRef .tc main_v67_5) = s.main_v67_5
  f_6 : V0 (Proc.devRef .tc main_v67_6) = s.main_v67_6
  f_8 : V0 (Proc.devRef .tc main_v67_8) = s.main_v67_8
  f_10 : V0 (Proc.devRef .tc main_v67_10) = s.main_v67_10
  n_11 : V0 (Proc.devRef .tc main_v67_11) = constantI S_ 32 (BitVec.ofNat 32 j)
  k_7 : V0 (Proc.devRef .tc main_v67_7) = Cert.RefIdeal.Step.K_main_v44 (F := F)
  k_9 : V0 (Proc.devRef .tc main_v67_9) = Cert.RefIdeal.Step.K_main_v48 (F := F)

variable {V0 s j}

set_option maxRecDepth 8192 in
theorem al_0 (h : Holds V0 s j) : (constantI S_ 32 0#32 : (Proc.devRef .tc main_while0b_call2_c : DevRef τ sig).ty.Contents (Elt F)) = Cert.RefIdeal.Step.b0 j s := by
  unfold Cert.RefIdeal.Step.b0
  rfl
set_option maxRecDepth 8192 in
theorem al_1 (h : Holds V0 s j) : (constantI S_ 32 0#32 : (Proc.devRef .tc main_while0b_call2_c_0 : DevRef τ sig).ty.Contents (Elt F)) = Cert.RefIdeal.Step.b1 j s := by
  unfold Cert.RefIdeal.Step.b1
  rfl
set_option maxRecDepth 8192 in
theorem al_2 (h : Holds V0 s j) : (constantI S_ 32 0#32 : (Proc.devRef .tc main_while0b_call2_c_1 : DevRef τ sig).ty.Contents (Elt F)) = Cert.RefIdeal.Step.b2 j s := by
  unfold Cert.RefIdeal.Step.b2
  rfl
set_option maxRecDepth 8192 in
theorem al_3 (h : Holds V0 s j) : (constantI S_ 32 0#32 : (Proc.devRef .tc main_while0b_call2_c_2 : DevRef τ sig).ty.Contents (Elt F)) = Cert.RefIdeal.Step.b3 j s := by
  unfold Cert.RefIdeal.Step.b3
  rfl
set_option maxRecDepth 8192 in
theorem al_4 (h : Holds V0 s j) : (constantI S_ 32 0#32 : (Proc.devRef .tc main_while0b_call2_c_3 : DevRef τ sig).ty.Contents (Elt F)) = Cert.RefIdeal.Step.b4 j s := by
  unfold Cert.RefIdeal.Step.b4
  rfl
set_option maxRecDepth 8192 in
theorem al_5 (h : Holds V0 s j) : (Host.dynamicSlice S1x4x128x4x8x64 (V0 (Proc.devRef .tc main_v67_0)) (fun k => (((![V0 (Proc.devRef .tc main_v67_11), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S64x4x128x4x8x64_S1x4x128x4x8x64 : (Proc.devRef .tc main_while0b_call2_v0 : DevRef τ sig).ty.Contents (Elt F)) = Cert.RefIdeal.Step.b5 j s := by
  unfold Cert.RefIdeal.Step.b5
  rw [← al_0 h, ← al_1 h, ← al_2 h, ← al_3 h, ← al_4 h, h.f_0, h.n_11]
  try rfl
set_option maxRecDepth 8192 in
theorem al_6 (h : Holds V0 s j) : (res_main_while0b_v112 V0 : (Proc.devRef .tc main_while0b_v112 : DevRef τ sig).ty.Contents (Elt F)) = Cert.RefIdeal.Step.b6 j s := by
  unfold res_main_while0b_v112 Cert.RefIdeal.Step.b6
  rw [← al_5 h]
  try rfl
set_option maxRecDepth 8192 in
theorem al_7 (h : Holds V0 s j) : (constantI S_ 32 0#32 : (Proc.devRef .tc main_while0b_call3_c : DevRef τ sig).ty.Contents (Elt F)) = Cert.RefIdeal.Step.b7 j s := by
  unfold Cert.RefIdeal.Step.b7
  rfl
set_option maxRecDepth 8192 in
theorem al_8 (h : Holds V0 s j) : (constantI S_ 32 0#32 : (Proc.devRef .tc main_while0b_call3_c_0 : DevRef τ sig).ty.Contents (Elt F)) = Cert.RefIdeal.Step.b8 j s := by
  unfold Cert.RefIdeal.Step.b8
  rfl
set_option maxRecDepth 8192 in
theorem al_9 (h : Holds V0 s j) : (constantI S_ 32 0#32 : (Proc.devRef .tc main_while0b_call3_c_1 : DevRef τ sig).ty.Contents (Elt F)) = Cert.RefIdeal.Step.b9 j s := by
  unfold Cert.RefIdeal.Step.b9
  rfl
set_option maxRecDepth 8192 in
theorem al_10 (h : Holds V0 s j) : (constantI S_ 32 0#32 : (Proc.devRef .tc main_while0b_call3_c_2 : DevRef τ sig).ty.Contents (Elt F)) = Cert.RefIdeal.Step.b10 j s := by
  unfold Cert.RefIdeal.Step.b10
  rfl
set_option maxRecDepth 8192 in
theorem al_11 (h : Holds V0 s j) : (Host.dynamicSlice S1x4x128x4x8 (V0 (Proc.devRef .tc main_v67_1)) (fun k => (((![V0 (Proc.devRef .tc main_v67_11), constantI S_ 32 0#32, constantI S_ 32 0#32, constantI S_ 32 0#32, constantI S_ 32 0#32] : Fin 5 → (⟨S_, .i32⟩ : BufTy).Contents (Elt F))) k (Shape.Idx.first h_S_)).toInt) sliceFits_S64x4x128x4x8_S1x4x128x4x8 : (Proc.devRef .tc main_while0b_call3_v0 : DevRef τ sig).ty.Contents (Elt F)) = Cert.RefIdeal.Step.b11 j s := by
  unfold Cert.RefIdeal.Step.b11
  rw [← al_7 h, ← al_8 h, ← al_9 h, ← al_10 h, h.f_1, h.n_11]
  try rfl
set_option maxRecDepth 8192 in
theorem al_12 (h : Holds V0 s j) : (res_main_while0b_v113 V0 : (Proc.devRef .tc main_while0b_v113 : DevRef τ sig).ty.Contents (Elt F)) = Cert.RefIdeal.Step.b12 j s := by
  unfold res_main_while0b_v113 Cert.RefIdeal.Step.b12
  rw [← al_11 h]
  try rfl
set_option maxRecDepth 8192 in
theorem al_13 (h : Holds V0 s j) : (constantI S_ 32 0#32 : (Proc.devRef .tc main_while0b_call4_c : DevRef τ sig).ty.Contents (Elt F)) = Cert.RefIdeal.Step.b13 j s := by
  unfold Cert.RefIdeal.Step.b13
  rfl
set_option maxRecDepth 8192 in
theorem al_14 (h : Holds V0 s j) : (constantI S_ 32 0#32 : (Proc.devRef .tc main_while0b_call4_c_0 : DevRef τ sig).ty.Contents (Elt F)) = Cert.RefIdeal.Step.b14 j s := by
  unfold Cert.RefIdeal.Step.b14
  rfl
set_option maxRecDepth 8192 in
theorem al_15 (h : Holds V0 s j) : (constantI S_ 32 0#32 : (Proc.devRef .tc main_while0b_call4_c_1 : DevRef τ sig).ty.Contents (Elt F)) = Cert.RefIdeal.Step.b15 j s := by
  unfold Cert.RefIdeal.Step.b15
  rfl
set_option maxRecDepth 8192 in
theorem al_16 (h : Holds V0 s j) : (constantI S_ 32 0#32 : (Proc.devRef .tc main_while0b_call4_c_2 : DevRef τ sig).ty.Contents (Elt F)) = Cert.RefIdeal.Step.b16 j s := by
  unfold Cert.RefIdeal.Step.b16
  rfl
set_option maxRecDepth 8192 in
theorem al_17 (h : Holds V0 s j) : (Host.dynamicSlice S1x4x128x4x128 (V0 (Proc.devRef .tc main_v67_2)) (fun k => (((![V0 (Proc.devRef .tc main_v67_11), constantI S_ 32 0#32, constantI S_ 32 0#32, constantI S_ 32 0#32, constantI S_ 32 0#32] : Fin 5 → (⟨S_, .i32⟩ : BufTy).Contents (Elt F))) k (Shape.Idx.first h_S_)).toInt) sliceFits_S64x4x128x4x128_S1x4x128x4x128 : (Proc.devRef .tc main_while0b_call4_v0 : DevRef τ sig).ty.Contents (Elt F)) = Cert.RefIdeal.Step.b17 j s := by
  unfold Cert.RefIdeal.Step.b17
  rw [← al_13 h, ← al_14 h, ← al_15 h, ← al_16 h, h.f_2, h.n_11]
  try rfl
set_option maxRecDepth 8192 in
theorem al_18 (h : Holds V0 s j) : (res_main_while0b_v114 V0 : (Proc.devRef .tc main_while0b_v114 : DevRef τ sig).ty.Contents (Elt F)) = Cert.RefIdeal.Step.b18 j s := by
  unfold res_main_while0b_v114 Cert.RefIdeal.Step.b18
  rw [← al_17 h]
  try rfl
set_option maxRecDepth 8192 in
theorem al_19 (h : Holds V0 s j) : (constantI S_ 32 0#32 : (Proc.devRef .tc main_while0b_call5_c : DevRef τ sig).ty.Contents (Elt F)) = Cert.RefIdeal.Step.b19 j s := by
  unfold Cert.RefIdeal.Step.b19
  rfl
set_option maxRecDepth 8192 in
theorem al_20 (h : Holds V0 s j) : (constantI S_ 32 0#32 : (Proc.devRef .tc main_while0b_call5_c_0 : DevRef τ sig).ty.Contents (Elt F)) = Cert.RefIdeal.Step.b20 j s := by
  unfold Cert.RefIdeal.Step.b20
  rfl
set_option maxRecDepth 8192 in
theorem al_21 (h : Holds V0 s j) : (constantI S_ 32 0#32 : (Proc.devRef .tc main_while0b_call5_c_1 : DevRef τ sig).ty.Contents (Elt F)) = Cert.RefIdeal.Step.b21 j s := by
  unfold Cert.RefIdeal.Step.b21
  rfl
set_option maxRecDepth 8192 in
theorem al_22 (h : Holds V0 s j) : (constantI S_ 32 0#32 : (Proc.devRef .tc main_while0b_call5_c_2 : DevRef τ sig).ty.Contents (Elt F)) = Cert.RefIdeal.Step.b22 j s := by
  unfold Cert.RefIdeal.Step.b22
  rfl
set_option maxRecDepth 8192 in
theorem al_23 (h : Holds V0 s j) : (Host.dynamicSlice S1x4x128x4x128 (V0 (Proc.devRef .tc main_v67_3)) (fun k => (((![V0 (Proc.devRef .tc main_v67_11), constantI S_ 32 0#32, constantI S_ 32 0#32, constantI S_ 32 0#32, constantI S_ 32 0#32] : Fin 5 → (⟨S_, .i32⟩ : BufTy).Contents (Elt F))) k (Shape.Idx.first h_S_)).toInt) sliceFits_S64x4x128x4x128_S1x4x128x4x128 : (Proc.devRef .tc main_while0b_call5_v0 : DevRef τ sig).ty.Contents (Elt F)) = Cert.RefIdeal.Step.b23 j s := by
  unfold Cert.RefIdeal.Step.b23
  rw [← al_19 h, ← al_20 h, ← al_21 h, ← al_22 h, h.f_3, h.n_11]
  try rfl
set_option maxRecDepth 8192 in
theorem al_24 (h : Holds V0 s j) : (res_main_while0b_v115 V0 : (Proc.devRef .tc main_while0b_v115 : DevRef τ sig).ty.Contents (Elt F)) = Cert.RefIdeal.Step.b24 j s := by
  unfold res_main_while0b_v115 Cert.RefIdeal.Step.b24
  rw [← al_23 h]
  try rfl
set_option maxRecDepth 8192 in
theorem al_25 (h : Holds V0 s j) : (constantI S_ 32 0#32 : (Proc.devRef .tc main_while0b_call6_c : DevRef τ sig).ty.Contents (Elt F)) = Cert.RefIdeal.Step.b25 j s := by
  unfold Cert.RefIdeal.Step.b25
  rfl
set_option maxRecDepth 8192 in
theorem al_26 (h : Holds V0 s j) : (constantI S_ 32 0#32 : (Proc.devRef .tc main_while0b_call6_c_0 : DevRef τ sig).ty.Contents (Elt F)) = Cert.RefIdeal.Step.b26 j s := by
  unfold Cert.RefIdeal.Step.b26
  rfl
set_option maxRecDepth 8192 in
theorem al_27 (h : Holds V0 s j) : (constantI S_ 32 0#32 : (Proc.devRef .tc main_while0b_call6_c_1 : DevRef τ sig).ty.Contents (Elt F)) = Cert.RefIdeal.Step.b27 j s := by
  unfold Cert.RefIdeal.Step.b27
  rfl
set_option maxRecDepth 8192 in
theorem al_28 (h : Holds V0 s j) : (constantI S_ 32 0#32 : (Proc.devRef .tc main_while0b_call6_c_2 : DevRef τ sig).ty.Contents (Elt F)) = Cert.RefIdeal.Step.b28 j s := by
  unfold Cert.RefIdeal.Step.b28
  rfl
set_option maxRecDepth 8192 in
theorem al_29 (h : Holds V0 s j) : (constantI S_ 32 0#32 : (Proc.devRef .tc main_while0b_call6_c_3 : DevRef τ sig).ty.Contents (Elt F)) = Cert.RefIdeal.Step.b29 j s := by
  unfold Cert.RefIdeal.Step.b29
  rfl
set_option maxRecDepth 8192 in
theorem al_30 (h : Holds V0 s j) : (constantI S_ 32 0#32 : (Proc.devRef .tc main_while0b_call6_c_4 : DevRef τ sig).ty.Contents (Elt F)) = Cert.RefIdeal.Step.b30 j s := by
  unfold Cert.RefIdeal.Step.b30
  rfl
set_option maxRecDepth 8192 in
theorem al_31 (h : Holds V0 s j) : (Host.dynamicSlice S1x4x128x4x2x2x64 (V0 (Proc.devRef .tc main_v67_4)) (fun k => (((![V0 (Proc.devRef .tc main_v67_11), constantI S_ 32 0#32, constantI S_ 32 0#32, constantI S_ 32 0#32, constantI S_ 32 0#32, constantI S_ 32 0#32, constantI S_ 32 0#32] : Fin 7 → (⟨S_, .i32⟩ : BufTy).Contents (Elt F))) k (Shape.Idx.first h_S_)).toInt) sliceFits_S64x4x128x4x2x2x64_S1x4x128x4x2x2x64 : (Proc.devRef .tc main_while0b_call6_v0 : DevRef τ sig).ty.Contents (Elt F)) = Cert.RefIdeal.Step.b31 j s := by
  unfold Cert.RefIdeal.Step.b31
  rw [← al_25 h, ← al_26 h, ← al_27 h, ← al_28 h, ← al_29 h, ← al_30 h, h.f_4, h.n_11]
  try rfl
set_option maxRecDepth 8192 in
theorem al_32 (h : Holds V0 s j) : (shapeCast S4x128x4x2x2x64 (Host.dynamicSlice S1x4x128x4x2x2x64 (V0 (Proc.devRef .tc main_v67_4)) (fun k => (((![V0 (Proc.devRef .tc main_v67_11), constantI S_ 32 0#32, constantI S_ 32 0#32, constantI S_ 32 0#32, constantI S_ 32 0#32, constantI S_ 32 0#32, constantI S_ 32 0#32] : Fin 7 → (⟨S_, .i32⟩ : BufTy).Contents (Elt F))) k (Shape.Idx.first h_S_)).toInt) sliceFits_S64x4x128x4x2x2x64_S1x4x128x4x2x2x64) shapeCasts_S1x4x128x4x2x2x64_S4x128x4x2x2x64 : (Proc.devRef .tc main_while0b_v116 : DevRef τ sig).ty.Contents (Elt F)) = Cert.RefIdeal.Step.b32 j s := by
  unfold Cert.RefIdeal.Step.b32
  rw [← al_31 h]
  try rfl
set_option maxRecDepth 8192 in
theorem al_33 (h : Holds V0 s j) : (constantI S_ 32 0#32 : (Proc.devRef .tc main_while0b_call7_c : DevRef τ sig).ty.Contents (Elt F)) = Cert.RefIdeal.Step.b33 j s := by
  unfold Cert.RefIdeal.Step.b33
  rfl
set_option maxRecDepth 8192 in
theorem al_34 (h : Holds V0 s j) : (constantI S_ 32 0#32 : (Proc.devRef .tc main_while0b_call7_c_0 : DevRef τ sig).ty.Contents (Elt F)) = Cert.RefIdeal.Step.b34 j s := by
  unfold Cert.RefIdeal.Step.b34
  rfl
set_option maxRecDepth 8192 in
theorem al_35 (h : Holds V0 s j) : (constantI S_ 32 0#32 : (Proc.devRef .tc main_while0b_call7_c_1 : DevRef τ sig).ty.Contents (Elt F)) = Cert.RefIdeal.Step.b35 j s := by
  unfold Cert.RefIdeal.Step.b35
  rfl
set_option maxRecDepth 8192 in
theorem al_36 (h : Holds V0 s j) : (constantI S_ 32 0#32 : (Proc.devRef .tc main_while0b_call7_c_2 : DevRef τ sig).ty.Contents (Elt F)) = Cert.RefIdeal.Step.b36 j s := by
  unfold Cert.RefIdeal.Step.b36
  rfl
set_option maxRecDepth 8192 in
theorem al_37 (h : Holds V0 s j) : (constantI S_ 32 0#32 : (Proc.devRef .tc main_while0b_call7_c_3 : DevRef τ sig).ty.Contents (Elt F)) = Cert.RefIdeal.Step.b37 j s := by
  unfold Cert.RefIdeal.Step.b37
  rfl
set_option maxRecDepth 8192 in
theorem al_38 (h : Holds V0 s j) : (Host.dynamicSlice S1x4x256x4x2x64 (V0 (Proc.devRef .tc main_v67_5)) (fun k => (((![V0 (Proc.devRef .tc main_v67_11), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S64x4x256x4x2x64_S1x4x256x4x2x64 : (Proc.devRef .tc main_while0b_call7_v0 : DevRef τ sig).ty.Contents (Elt F)) = Cert.RefIdeal.Step.b38 j s := by
  unfold Cert.RefIdeal.Step.b38
  rw [← al_33 h, ← al_34 h, ← al_35 h, ← al_36 h, ← al_37 h, h.f_5, h.n_11]
  try rfl
set_option maxRecDepth 8192 in
theorem al_39 (h : Holds V0 s j) : (shapeCast S4x256x4x2x64 (Host.dynamicSlice S1x4x256x4x2x64 (V0 (Proc.devRef .tc main_v67_5)) (fun k => (((![V0 (Proc.devRef .tc main_v67_11), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S64x4x256x4x2x64_S1x4x256x4x2x64) shapeCasts_S1x4x256x4x2x64_S4x256x4x2x64 : (Proc.devRef .tc main_while0b_v117 : DevRef τ sig).ty.Contents (Elt F)) = Cert.RefIdeal.Step.b39 j s := by
  unfold Cert.RefIdeal.Step.b39
  rw [← al_38 h]
  try rfl
set_option maxRecDepth 8192 in
theorem al_40 (h : Holds V0 s j) : (constantI S_ 32 0#32 : (Proc.devRef .tc main_while0b_call8_c : DevRef τ sig).ty.Contents (Elt F)) = Cert.RefIdeal.Step.b40 j s := by
  unfold Cert.RefIdeal.Step.b40
  rfl
set_option maxRecDepth 8192 in
theorem al_41 (h : Holds V0 s j) : (constantI S_ 32 0#32 : (Proc.devRef .tc main_while0b_call8_c_0 : DevRef τ sig).ty.Contents (Elt F)) = Cert.RefIdeal.Step.b41 j s := by
  unfold Cert.RefIdeal.Step.b41
  rfl
set_option maxRecDepth 8192 in
theorem al_42 (h : Holds V0 s j) : (constantI S_ 32 0#32 : (Proc.devRef .tc main_while0b_call8_c_1 : DevRef τ sig).ty.Contents (Elt F)) = Cert.RefIdeal.Step.b42 j s := by
  unfold Cert.RefIdeal.Step.b42
  rfl
set_option maxRecDepth 8192 in
theorem al_43 (h : Holds V0 s j) : (constantI S_ 32 0#32 : (Proc.devRef .tc main_while0b_call8_c_2 : DevRef τ sig).ty.Contents (Elt F)) = Cert.RefIdeal.Step.b43 j s := by
  unfold Cert.RefIdeal.Step.b43
  rfl
set_option maxRecDepth 8192 in
theorem al_44 (h : Holds V0 s j) : (constantI S_ 32 0#32 : (Proc.devRef .tc main_while0b_call8_c_3 : DevRef τ sig).ty.Contents (Elt F)) = Cert.RefIdeal.Step.b44 j s := by
  unfold Cert.RefIdeal.Step.b44
  rfl
set_option maxRecDepth 8192 in
theorem al_45 (h : Holds V0 s j) : (Host.dynamicSlice S1x4x256x4x2x64 (V0 (Proc.devRef .tc main_v67_6)) (fun k => (((![V0 (Proc.devRef .tc main_v67_11), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S64x4x256x4x2x64_S1x4x256x4x2x64 : (Proc.devRef .tc main_while0b_call8_v0 : DevRef τ sig).ty.Contents (Elt F)) = Cert.RefIdeal.Step.b45 j s := by
  unfold Cert.RefIdeal.Step.b45
  rw [← al_40 h, ← al_41 h, ← al_42 h, ← al_43 h, ← al_44 h, h.f_6, h.n_11]
  try rfl
set_option maxRecDepth 8192 in
theorem al_46 (h : Holds V0 s j) : (shapeCast S4x256x4x2x64 (Host.dynamicSlice S1x4x256x4x2x64 (V0 (Proc.devRef .tc main_v67_6)) (fun k => (((![V0 (Proc.devRef .tc main_v67_11), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S64x4x256x4x2x64_S1x4x256x4x2x64) shapeCasts_S1x4x256x4x2x64_S4x256x4x2x64 : (Proc.devRef .tc main_while0b_v118 : DevRef τ sig).ty.Contents (Elt F)) = Cert.RefIdeal.Step.b46 j s := by
  unfold Cert.RefIdeal.Step.b46
  rw [← al_45 h]
  try rfl
set_option maxRecDepth 8192 in
theorem al_47 (h : Holds V0 s j) : (constantI S_ 32 0#32 : (Proc.devRef .tc main_while0b_call9_c : DevRef τ sig).ty.Contents (Elt F)) = Cert.RefIdeal.Step.b47 j s := by
  unfold Cert.RefIdeal.Step.b47
  rfl
set_option maxRecDepth 8192 in
theorem al_48 (h : Holds V0 s j) : (Host.dynamicSlice S1x256 (V0 (Proc.devRef .tc main_v67_7)) (fun k => (((![V0 (Proc.devRef .tc main_v67_11), constantI S_ 32 0#32] : Fin 2 → (⟨S_, .i32⟩ : BufTy).Contents (Elt F))) k (Shape.Idx.first h_S_)).toInt) sliceFits_S64x256_S1x256 : (Proc.devRef .tc main_while0b_call9_v0 : DevRef τ sig).ty.Contents (Elt F)) = Cert.RefIdeal.Step.b48 j s := by
  unfold Cert.RefIdeal.Step.b48
  rw [← al_47 h, h.k_7, h.n_11]
  try rfl
set_option maxRecDepth 8192 in
theorem al_49 (h : Holds V0 s j) : (shapeCast S256 (Host.dynamicSlice S1x256 (V0 (Proc.devRef .tc main_v67_7)) (fun k => (((![V0 (Proc.devRef .tc main_v67_11), constantI S_ 32 0#32] : Fin 2 → (⟨S_, .i32⟩ : BufTy).Contents (Elt F))) k (Shape.Idx.first h_S_)).toInt) sliceFits_S64x256_S1x256) shapeCasts_S1x256_S256 : (Proc.devRef .tc main_while0b_v119 : DevRef τ sig).ty.Contents (Elt F)) = Cert.RefIdeal.Step.b49 j s := by
  unfold Cert.RefIdeal.Step.b49
  rw [← al_48 h]
  try rfl
set_option maxRecDepth 8192 in
theorem al_50 (h : Holds V0 s j) : (broadcastInDim S1x1x4x8 ![2, 3] bcast_S4x8_S1x1x4x8_2_3 (V0 (Proc.devRef .tc main_v67_8)) : (Proc.devRef .tc main_while0b_v120 : DevRef τ sig).ty.Contents (Elt F)) = Cert.RefIdeal.Step.b50 j s := by
  unfold Cert.RefIdeal.Step.b50
  rw [h.f_8]
  try rfl
set_option maxRecDepth 8192 in
theorem al_51 (h : Holds V0 s j) : (broadcastInDim S4x128x4x8 ![0, 1, 2, 3] bcast_S1x1x4x8_S4x128x4x8_0_1_2_3 (broadcastInDim S1x1x4x8 ![2, 3] bcast_S4x8_S1x1x4x8_2_3 (V0 (Proc.devRef .tc main_v67_8))) : (Proc.devRef .tc main_while0b_v121 : DevRef τ sig).ty.Contents (Elt F)) = Cert.RefIdeal.Step.b51 j s := by
  unfold Cert.RefIdeal.Step.b51
  rw [← al_50 h]
  try rfl
set_option maxRecDepth 8192 in
theorem al_52 (h : Holds V0 s j) : (mulf (res_main_while0b_v113 V0) (broadcastInDim S4x128x4x8 ![0, 1, 2, 3] bcast_S1x1x4x8_S4x128x4x8_0_1_2_3 (broadcastInDim S1x1x4x8 ![2, 3] bcast_S4x8_S1x1x4x8_2_3 (V0 (Proc.devRef .tc main_v67_8)))) : (Proc.devRef .tc main_while0b_v122 : DevRef τ sig).ty.Contents (Elt F)) = Cert.RefIdeal.Step.b52 j s := by
  unfold Cert.RefIdeal.Step.b52
  rw [← al_12 h, ← al_51 h]
  try rfl
set_option maxRecDepth 8192 in
theorem al_53 (h : Holds V0 s j) : (constant S_ .f32 0x00000000#32 : (Proc.devRef .tc main_while0b_call10_call0_cst : DevRef τ sig).ty.Contents (Elt F)) = Cert.RefIdeal.Step.b53 j s := by
  unfold Cert.RefIdeal.Step.b53
  rfl
set_option maxRecDepth 8192 in
theorem al_54 (h : Holds V0 s j) : (broadcastInDim S_ ![] bcast_S_S_ (constant S_ .f32 0x00000000#32) : (Proc.devRef .tc main_while0b_call10_call0_v0 : DevRef τ sig).ty.Contents (Elt F)) = Cert.RefIdeal.Step.b54 j s := by
  unfold Cert.RefIdeal.Step.b54
  rw [← al_53 h]
  try rfl
set_option maxRecDepth 8192 in
theorem al_55 (h : Holds V0 s j) : (res_main_while0b_v123 V0 : (Proc.devRef .tc main_while0b_v123 : DevRef τ sig).ty.Contents (Elt F)) = Cert.RefIdeal.Step.b55 j s := by
  unfold res_main_while0b_v123 Cert.RefIdeal.Step.b55
  rw [← al_52 h, ← al_54 h]
  try rfl
set_option maxRecDepth 8192 in
theorem al_56 (h : Holds V0 s j) : (broadcastInDim S4x128x1x4x8 ![0, 1, 3, 4] bcast_S4x128x4x8_S4x128x1x4x8_0_1_3_4 (res_main_while0b_v123 V0) : (Proc.devRef .tc main_while0b_v124 : DevRef τ sig).ty.Contents (Elt F)) = Cert.RefIdeal.Step.b56 j s := by
  unfold Cert.RefIdeal.Step.b56
  rw [← al_55 h]
  try rfl
set_option maxRecDepth 8192 in
theorem al_57 (h : Holds V0 s j) : (broadcastInDim S4x1x128x4x8 ![0, 2, 3, 4] bcast_S4x128x4x8_S4x1x128x4x8_0_2_3_4 (res_main_while0b_v123 V0) : (Proc.devRef .tc main_while0b_v125 : DevRef τ sig).ty.Contents (Elt F)) = Cert.RefIdeal.Step.b57 j s := by
  unfold Cert.RefIdeal.Step.b57
  rw [← al_55 h]
  try rfl
set_option maxRecDepth 8192 in
theorem al_58 (h : Holds V0 s j) : (broadcastInDim S4x128x128x4x8 ![0, 1, 2, 3, 4] bcast_S4x128x1x4x8_S4x128x128x4x8_0_1_2_3_4 (broadcastInDim S4x128x1x4x8 ![0, 1, 3, 4] bcast_S4x128x4x8_S4x128x1x4x8_0_1_3_4 (res_main_while0b_v123 V0)) : (Proc.devRef .tc main_while0b_v126 : DevRef τ sig).ty.Contents (Elt F)) = Cert.RefIdeal.Step.b58 j s := by
  unfold Cert.RefIdeal.Step.b58
  rw [← al_56 h]
  try rfl
set_option maxRecDepth 8192 in
theorem al_59 (h : Holds V0 s j) : (broadcastInDim S4x128x128x4x8 ![0, 1, 2, 3, 4] bcast_S4x1x128x4x8_S4x128x128x4x8_0_1_2_3_4 (broadcastInDim S4x1x128x4x8 ![0, 2, 3, 4] bcast_S4x128x4x8_S4x1x128x4x8_0_2_3_4 (res_main_while0b_v123 V0)) : (Proc.devRef .tc main_while0b_v127 : DevRef τ sig).ty.Contents (Elt F)) = Cert.RefIdeal.Step.b59 j s := by
  unfold Cert.RefIdeal.Step.b59
  rw [← al_57 h]
  try rfl
set_option maxRecDepth 8192 in
theorem al_60 (h : Holds V0 s j) : (subf (broadcastInDim S4x128x128x4x8 ![0, 1, 2, 3, 4] bcast_S4x128x1x4x8_S4x128x128x4x8_0_1_2_3_4 (broadcastInDim S4x128x1x4x8 ![0, 1, 3, 4] bcast_S4x128x4x8_S4x128x1x4x8_0_1_3_4 (res_main_while0b_v123 V0))) (broadcastInDim S4x128x128x4x8 ![0, 1, 2, 3, 4] bcast_S4x1x128x4x8_S4x128x128x4x8_0_1_2_3_4 (broadcastInDim S4x1x128x4x8 ![0, 2, 3, 4] bcast_S4x128x4x8_S4x1x128x4x8_0_2_3_4 (res_main_while0b_v123 V0))) : (Proc.devRef .tc main_while0b_v128 : DevRef τ sig).ty.Contents (Elt F)) = Cert.RefIdeal.Step.b60 j s := by
  unfold Cert.RefIdeal.Step.b60
  rw [← al_58 h, ← al_59 h]
  try rfl
set_option maxRecDepth 8192 in
theorem al_61 (h : Holds V0 s j) : (constant S_ .f32 0xFF800000#32 : (Proc.devRef .tc main_while0b_cst_24 : DevRef τ sig).ty.Contents (Elt F)) = Cert.RefIdeal.Step.b61 j s := by
  unfold Cert.RefIdeal.Step.b61
  rfl
set_option maxRecDepth 8192 in
theorem al_62 (h : Holds V0 s j) : (id (constant S_ .f32 0xFF800000#32) : (Proc.devRef .tc main_while0b_call11_v0 : DevRef τ sig).ty.Contents (Elt F)) = Cert.RefIdeal.Step.b62 j s := by
  unfold Cert.RefIdeal.Step.b62
  rw [← al_61 h]
  try rfl
set_option maxRecDepth 8192 in
theorem al_63 (h : Holds V0 s j) : (broadcastInDim S4x128x128x4x8 ![0, 1, 2, 3, 4] bcast_S1x128x128x1x1_S4x128x128x4x8_0_1_2_3_4 (V0 (Proc.devRef .tc main_v67_9)) : (Proc.devRef .tc main_while0b_call11_v1 : DevRef τ sig).ty.Contents (Elt F)) = Cert.RefIdeal.Step.b63 j s := by
  unfold Cert.RefIdeal.Step.b63
  rw [h.k_9]
  try rfl
set_option maxRecDepth 8192 in
theorem al_64 (h : Holds V0 s j) : (broadcastInDim S4x128x128x4x8 ![] bcast_S_S4x128x128x4x8 (id (constant S_ .f32 0xFF800000#32)) : (Proc.devRef .tc main_while0b_call11_v2 : DevRef τ sig).ty.Contents (Elt F)) = Cert.RefIdeal.Step.b64 j s := by
  unfold Cert.RefIdeal.Step.b64
  rw [← al_62 h]
  try rfl
set_option maxRecDepth 8192 in
theorem al_65 (h : Holds V0 s j) : (select (broadcastInDim S4x128x128x4x8 ![0, 1, 2, 3, 4] bcast_S1x128x128x1x1_S4x128x128x4x8_0_1_2_3_4 (V0 (Proc.devRef .tc main_v67_9))) (subf (broadcastInDim S4x128x128x4x8 ![0, 1, 2, 3, 4] bcast_S4x128x1x4x8_S4x128x128x4x8_0_1_2_3_4 (broadcastInDim S4x128x1x4x8 ![0, 1, 3, 4] bcast_S4x128x4x8_S4x128x1x4x8_0_1_3_4 (res_main_while0b_v123 V0))) (broadcastInDim S4x128x128x4x8 ![0, 1, 2, 3, 4] bcast_S4x1x128x4x8_S4x128x128x4x8_0_1_2_3_4 (broadcastInDim S4x1x128x4x8 ![0, 2, 3, 4] bcast_S4x128x4x8_S4x1x128x4x8_0_2_3_4 (res_main_while0b_v123 V0)))) (broadcastInDim S4x128x128x4x8 ![] bcast_S_S4x128x128x4x8 (id (constant S_ .f32 0xFF800000#32))) : (Proc.devRef .tc main_while0b_v129 : DevRef τ sig).ty.Contents (Elt F)) = Cert.RefIdeal.Step.b65 j s := by
  unfold Cert.RefIdeal.Step.b65
  rw [← al_63 h, ← al_60 h, ← al_64 h]
  try rfl
set_option maxRecDepth 8192 in
theorem al_66 (h : Holds V0 s j) : (Host.exp (select (broadcastInDim S4x128x128x4x8 ![0, 1, 2, 3, 4] bcast_S1x128x128x1x1_S4x128x128x4x8_0_1_2_3_4 (V0 (Proc.devRef .tc main_v67_9))) (subf (broadcastInDim S4x128x128x4x8 ![0, 1, 2, 3, 4] bcast_S4x128x1x4x8_S4x128x128x4x8_0_1_2_3_4 (broadcastInDim S4x128x1x4x8 ![0, 1, 3, 4] bcast_S4x128x4x8_S4x128x1x4x8_0_1_3_4 (res_main_while0b_v123 V0))) (broadcastInDim S4x128x128x4x8 ![0, 1, 2, 3, 4] bcast_S4x1x128x4x8_S4x128x128x4x8_0_1_2_3_4 (broadcastInDim S4x1x128x4x8 ![0, 2, 3, 4] bcast_S4x128x4x8_S4x1x128x4x8_0_2_3_4 (res_main_while0b_v123 V0)))) (broadcastInDim S4x128x128x4x8 ![] bcast_S_S4x128x128x4x8 (id (constant S_ .f32 0xFF800000#32)))) : (Proc.devRef .tc main_while0b_v130 : DevRef τ sig).ty.Contents (Elt F)) = Cert.RefIdeal.Step.b66 j s := by
  unfold Cert.RefIdeal.Step.b66
  rw [← al_65 h]
  try rfl
set_option maxRecDepth 8192 in
theorem al_67 (h : Holds V0 s j) : (Host.dotGeneral dot_S4x128x4x128_S4x128x4x128_S4x4x128x128_3_3_1_1_02_02 none (res_main_while0b_v114 V0) (res_main_while0b_v115 V0) : (Proc.devRef .tc main_while0b_v131 : DevRef τ sig).ty.Contents (Elt F)) = Cert.RefIdeal.Step.b67 j s := by
  unfold Cert.RefIdeal.Step.b67
  rw [← al_18 h, ← al_24 h]
  try rfl
set_option maxRecDepth 8192 in
theorem al_68 (h : Holds V0 s j) : (transpose S4x128x128x4 [0, 3, 2, 1] (Host.dotGeneral dot_S4x128x4x128_S4x128x4x128_S4x4x128x128_3_3_1_1_02_02 none (res_main_while0b_v114 V0) (res_main_while0b_v115 V0)) transposes_S4x4x128x128_S4x128x128x4_0_3_2_1 : (Proc.devRef .tc main_while0b_v132 : DevRef τ sig).ty.Contents (Elt F)) = Cert.RefIdeal.Step.b68 j s := by
  unfold Cert.RefIdeal.Step.b68
  rw [← al_67 h]
  try rfl
set_option maxRecDepth 8192 in
theorem al_69 (h : Holds V0 s j) : (broadcastInDim S4x128x128x4x1 ![0, 1, 2, 3] bcast_S4x128x128x4_S4x128x128x4x1_0_1_2_3 (transpose S4x128x128x4 [0, 3, 2, 1] (Host.dotGeneral dot_S4x128x4x128_S4x128x4x128_S4x4x128x128_3_3_1_1_02_02 none (res_main_while0b_v114 V0) (res_main_while0b_v115 V0)) transposes_S4x4x128x128_S4x128x128x4_0_3_2_1) : (Proc.devRef .tc main_while0b_v133 : DevRef τ sig).ty.Contents (Elt F)) = Cert.RefIdeal.Step.b69 j s := by
  unfold Cert.RefIdeal.Step.b69
  rw [← al_68 h]
  try rfl
set_option maxRecDepth 8192 in
theorem al_70 (h : Holds V0 s j) : (broadcastInDim S4x128x128x4x8 ![0, 1, 2, 3, 4] bcast_S4x128x128x4x1_S4x128x128x4x8_0_1_2_3_4 (broadcastInDim S4x128x128x4x1 ![0, 1, 2, 3] bcast_S4x128x128x4_S4x128x128x4x1_0_1_2_3 (transpose S4x128x128x4 [0, 3, 2, 1] (Host.dotGeneral dot_S4x128x4x128_S4x128x4x128_S4x4x128x128_3_3_1_1_02_02 none (res_main_while0b_v114 V0) (res_main_while0b_v115 V0)) transposes_S4x4x128x128_S4x128x128x4_0_3_2_1)) : (Proc.devRef .tc main_while0b_v134 : DevRef τ sig).ty.Contents (Elt F)) = Cert.RefIdeal.Step.b70 j s := by
  unfold Cert.RefIdeal.Step.b70
  rw [← al_69 h]
  try rfl
set_option maxRecDepth 8192 in
theorem al_71 (h : Holds V0 s j) : (mulf (broadcastInDim S4x128x128x4x8 ![0, 1, 2, 3, 4] bcast_S4x128x128x4x1_S4x128x128x4x8_0_1_2_3_4 (broadcastInDim S4x128x128x4x1 ![0, 1, 2, 3] bcast_S4x128x128x4_S4x128x128x4x1_0_1_2_3 (transpose S4x128x128x4 [0, 3, 2, 1] (Host.dotGeneral dot_S4x128x4x128_S4x128x4x128_S4x4x128x128_3_3_1_1_02_02 none (res_main_while0b_v114 V0) (res_main_while0b_v115 V0)) transposes_S4x4x128x128_S4x128x128x4_0_3_2_1))) (Host.exp (select (broadcastInDim S4x128x128x4x8 ![0, 1, 2, 3, 4] bcast_S1x128x128x1x1_S4x128x128x4x8_0_1_2_3_4 (V0 (Proc.devRef .tc main_v67_9))) (subf (broadcastInDim S4x128x128x4x8 ![0, 1, 2, 3, 4] bcast_S4x128x1x4x8_S4x128x128x4x8_0_1_2_3_4 (broadcastInDim S4x128x1x4x8 ![0, 1, 3, 4] bcast_S4x128x4x8_S4x128x1x4x8_0_1_3_4 (res_main_while0b_v123 V0))) (broadcastInDim S4x128x128x4x8 ![0, 1, 2, 3, 4] bcast_S4x1x128x4x8_S4x128x128x4x8_0_1_2_3_4 (broadcastInDim S4x1x128x4x8 ![0, 2, 3, 4] bcast_S4x128x4x8_S4x1x128x4x8_0_2_3_4 (res_main_while0b_v123 V0)))) (broadcastInDim S4x128x128x4x8 ![] bcast_S_S4x128x128x4x8 (id (constant S_ .f32 0xFF800000#32))))) : (Proc.devRef .tc main_while0b_v135 : DevRef τ sig).ty.Contents (Elt F)) = Cert.RefIdeal.Step.b71 j s := by
  unfold Cert.RefIdeal.Step.b71
  rw [← al_70 h, ← al_66 h]
  try rfl
set_option maxRecDepth 8192 in
theorem al_72 (h : Holds V0 s j) : (broadcastInDim S4x1x128x4x8 ![0, 2, 3, 4] bcast_S4x128x4x8_S4x1x128x4x8_0_2_3_4 (res_main_while0b_v113 V0) : (Proc.devRef .tc main_while0b_v136 : DevRef τ sig).ty.Contents (Elt F)) = Cert.RefIdeal.Step.b72 j s := by
  unfold Cert.RefIdeal.Step.b72
  rw [← al_12 h]
  try rfl
set_option maxRecDepth 8192 in
theorem al_73 (h : Holds V0 s j) : (broadcastInDim S4x128x128x4x8 ![0, 1, 2, 3, 4] bcast_S4x1x128x4x8_S4x128x128x4x8_0_1_2_3_4 (broadcastInDim S4x1x128x4x8 ![0, 2, 3, 4] bcast_S4x128x4x8_S4x1x128x4x8_0_2_3_4 (res_main_while0b_v113 V0)) : (Proc.devRef .tc main_while0b_v137 : DevRef τ sig).ty.Contents (Elt F)) = Cert.RefIdeal.Step.b73 j s := by
  unfold Cert.RefIdeal.Step.b73
  rw [← al_72 h]
  try rfl
set_option maxRecDepth 8192 in
theorem al_74 (h : Holds V0 s j) : (mulf (mulf (broadcastInDim S4x128x128x4x8 ![0, 1, 2, 3, 4] bcast_S4x128x128x4x1_S4x128x128x4x8_0_1_2_3_4 (broadcastInDim S4x128x128x4x1 ![0, 1, 2, 3] bcast_S4x128x128x4_S4x128x128x4x1_0_1_2_3 (transpose S4x128x128x4 [0, 3, 2, 1] (Host.dotGeneral dot_S4x128x4x128_S4x128x4x128_S4x4x128x128_3_3_1_1_02_02 none (res_main_while0b_v114 V0) (res_main_while0b_v115 V0)) transposes_S4x4x128x128_S4x128x128x4_0_3_2_1))) (Host.exp (select (broadcastInDim S4x128x128x4x8 ![0, 1, 2, 3, 4] bcast_S1x128x128x1x1_S4x128x128x4x8_0_1_2_3_4 (V0 (Proc.devRef .tc main_v67_9))) (subf (broadcastInDim S4x128x128x4x8 ![0, 1, 2, 3, 4] bcast_S4x128x1x4x8_S4x128x128x4x8_0_1_2_3_4 (broadcastInDim S4x128x1x4x8 ![0, 1, 3, 4] bcast_S4x128x4x8_S4x128x1x4x8_0_1_3_4 (res_main_while0b_v123 V0))) (broadcastInDim S4x128x128x4x8 ![0, 1, 2, 3, 4] bcast_S4x1x128x4x8_S4x128x128x4x8_0_1_2_3_4 (broadcastInDim S4x1x128x4x8 ![0, 2, 3, 4] bcast_S4x128x4x8_S4x1x128x4x8_0_2_3_4 (res_main_while0b_v123 V0)))) (broadcastInDim S4x128x128x4x8 ![] bcast_S_S4x128x128x4x8 (id (constant S_ .f32 0xFF800000#32)))))) (broadcastInDim S4x128x128x4x8 ![0, 1, 2, 3, 4] bcast_S4x1x128x4x8_S4x128x128x4x8_0_1_2_3_4 (broadcastInDim S4x1x128x4x8 ![0, 2, 3, 4] bcast_S4x128x4x8_S4x1x128x4x8_0_2_3_4 (res_main_while0b_v113 V0))) : (Proc.devRef .tc main_while0b_v138 : DevRef τ sig).ty.Contents (Elt F)) = Cert.RefIdeal.Step.b74 j s := by
  unfold Cert.RefIdeal.Step.b74
  rw [← al_71 h, ← al_73 h]
  try rfl
set_option maxRecDepth 8192 in
theorem al_75 (h : Holds V0 s j) : (Host.dotGeneral dot_S4x128x4x8x64_S4x128x128x4x8_S4x4x8x64x128_1_2_4_1_023_034 none (res_main_while0b_v112 V0) (mulf (mulf (broadcastInDim S4x128x128x4x8 ![0, 1, 2, 3, 4] bcast_S4x128x128x4x1_S4x128x128x4x8_0_1_2_3_4 (broadcastInDim S4x128x128x4x1 ![0, 1, 2, 3] bcast_S4x128x128x4_S4x128x128x4x1_0_1_2_3 (transpose S4x128x128x4 [0, 3, 2, 1] (Host.dotGeneral dot_S4x128x4x128_S4x128x4x128_S4x4x128x128_3_3_1_1_02_02 none (res_main_while0b_v114 V0) (res_main_while0b_v115 V0)) transposes_S4x4x128x128_S4x128x128x4_0_3_2_1))) (Host.exp (select (broadcastInDim S4x128x128x4x8 ![0, 1, 2, 3, 4] bcast_S1x128x128x1x1_S4x128x128x4x8_0_1_2_3_4 (V0 (Proc.devRef .tc main_v67_9))) (subf (broadcastInDim S4x128x128x4x8 ![0, 1, 2, 3, 4] bcast_S4x128x1x4x8_S4x128x128x4x8_0_1_2_3_4 (broadcastInDim S4x128x1x4x8 ![0, 1, 3, 4] bcast_S4x128x4x8_S4x128x1x4x8_0_1_3_4 (res_main_while0b_v123 V0))) (broadcastInDim S4x128x128x4x8 ![0, 1, 2, 3, 4] bcast_S4x1x128x4x8_S4x128x128x4x8_0_1_2_3_4 (broadcastInDim S4x1x128x4x8 ![0, 2, 3, 4] bcast_S4x128x4x8_S4x1x128x4x8_0_2_3_4 (res_main_while0b_v123 V0)))) (broadcastInDim S4x128x128x4x8 ![] bcast_S_S4x128x128x4x8 (id (constant S_ .f32 0xFF800000#32)))))) (broadcastInDim S4x128x128x4x8 ![0, 1, 2, 3, 4] bcast_S4x1x128x4x8_S4x128x128x4x8_0_1_2_3_4 (broadcastInDim S4x1x128x4x8 ![0, 2, 3, 4] bcast_S4x128x4x8_S4x1x128x4x8_0_2_3_4 (res_main_while0b_v113 V0)))) : (Proc.devRef .tc main_while0b_v139 : DevRef τ sig).ty.Contents (Elt F)) = Cert.RefIdeal.Step.b75 j s := by
  unfold Cert.RefIdeal.Step.b75
  rw [← al_6 h, ← al_74 h]
  try rfl
set_option maxRecDepth 8192 in
theorem al_76 (h : Holds V0 s j) : (transpose S4x128x4x8x64 [0, 4, 1, 2, 3] (Host.dotGeneral dot_S4x128x4x8x64_S4x128x128x4x8_S4x4x8x64x128_1_2_4_1_023_034 none (res_main_while0b_v112 V0) (mulf (mulf (broadcastInDim S4x128x128x4x8 ![0, 1, 2, 3, 4] bcast_S4x128x128x4x1_S4x128x128x4x8_0_1_2_3_4 (broadcastInDim S4x128x128x4x1 ![0, 1, 2, 3] bcast_S4x128x128x4_S4x128x128x4x1_0_1_2_3 (transpose S4x128x128x4 [0, 3, 2, 1] (Host.dotGeneral dot_S4x128x4x128_S4x128x4x128_S4x4x128x128_3_3_1_1_02_02 none (res_main_while0b_v114 V0) (res_main_while0b_v115 V0)) transposes_S4x4x128x128_S4x128x128x4_0_3_2_1))) (Host.exp (select (broadcastInDim S4x128x128x4x8 ![0, 1, 2, 3, 4] bcast_S1x128x128x1x1_S4x128x128x4x8_0_1_2_3_4 (V0 (Proc.devRef .tc main_v67_9))) (subf (broadcastInDim S4x128x128x4x8 ![0, 1, 2, 3, 4] bcast_S4x128x1x4x8_S4x128x128x4x8_0_1_2_3_4 (broadcastInDim S4x128x1x4x8 ![0, 1, 3, 4] bcast_S4x128x4x8_S4x128x1x4x8_0_1_3_4 (res_main_while0b_v123 V0))) (broadcastInDim S4x128x128x4x8 ![0, 1, 2, 3, 4] bcast_S4x1x128x4x8_S4x128x128x4x8_0_1_2_3_4 (broadcastInDim S4x1x128x4x8 ![0, 2, 3, 4] bcast_S4x128x4x8_S4x1x128x4x8_0_2_3_4 (res_main_while0b_v123 V0)))) (broadcastInDim S4x128x128x4x8 ![] bcast_S_S4x128x128x4x8 (id (constant S_ .f32 0xFF800000#32)))))) (broadcastInDim S4x128x128x4x8 ![0, 1, 2, 3, 4] bcast_S4x1x128x4x8_S4x128x128x4x8_0_1_2_3_4 (broadcastInDim S4x1x128x4x8 ![0, 2, 3, 4] bcast_S4x128x4x8_S4x1x128x4x8_0_2_3_4 (res_main_while0b_v113 V0))))) transposes_S4x4x8x64x128_S4x128x4x8x64_0_4_1_2_3 : (Proc.devRef .tc main_while0b_v140 : DevRef τ sig).ty.Contents (Elt F)) = Cert.RefIdeal.Step.b76 j s := by
  unfold Cert.RefIdeal.Step.b76
  rw [← al_75 h]
  try rfl
set_option maxRecDepth 8192 in
theorem al_77 (h : Holds V0 s j) : (Host.dotGeneral dot_S4x4x8x64x128_S4x128x4x128_S4x4x8x64x128_4_3_23_1_01_02 none (V0 (Proc.devRef .tc main_v67_12)) (res_main_while0b_v115 V0) : (Proc.devRef .tc main_while0b_v141 : DevRef τ sig).ty.Contents (Elt F)) = Cert.RefIdeal.Step.b77 j s := by
  unfold Cert.RefIdeal.Step.b77
  rw [← al_24 h, h.f_12]
  try rfl
set_option maxRecDepth 8192 in
theorem al_78 (h : Holds V0 s j) : (transpose S4x128x4x8x64 [0, 4, 1, 2, 3] (Host.dotGeneral dot_S4x4x8x64x128_S4x128x4x128_S4x4x8x64x128_4_3_23_1_01_02 none (V0 (Proc.devRef .tc main_v67_12)) (res_main_while0b_v115 V0)) transposes_S4x4x8x64x128_S4x128x4x8x64_0_4_1_2_3 : (Proc.devRef .tc main_while0b_v142 : DevRef τ sig).ty.Contents (Elt F)) = Cert.RefIdeal.Step.b78 j s := by
  unfold Cert.RefIdeal.Step.b78
  rw [← al_77 h]
  try rfl
set_option maxRecDepth 8192 in
theorem al_79 (h : Holds V0 s j) : (Host.exp (res_main_while0b_v123 V0) : (Proc.devRef .tc main_while0b_v143 : DevRef τ sig).ty.Contents (Elt F)) = Cert.RefIdeal.Step.b79 j s := by
  unfold Cert.RefIdeal.Step.b79
  rw [← al_55 h]
  try rfl
set_option maxRecDepth 8192 in
theorem al_80 (h : Holds V0 s j) : (broadcastInDim S4x128x4x8x1 ![0, 1, 2, 3] bcast_S4x128x4x8_S4x128x4x8x1_0_1_2_3 (Host.exp (res_main_while0b_v123 V0)) : (Proc.devRef .tc main_while0b_v144 : DevRef τ sig).ty.Contents (Elt F)) = Cert.RefIdeal.Step.b80 j s := by
  unfold Cert.RefIdeal.Step.b80
  rw [← al_79 h]
  try rfl
set_option maxRecDepth 8192 in
theorem al_81 (h : Holds V0 s j) : (broadcastInDim S4x128x4x8x64 ![0, 1, 2, 3, 4] bcast_S4x128x4x8x1_S4x128x4x8x64_0_1_2_3_4 (broadcastInDim S4x128x4x8x1 ![0, 1, 2, 3] bcast_S4x128x4x8_S4x128x4x8x1_0_1_2_3 (Host.exp (res_main_while0b_v123 V0))) : (Proc.devRef .tc main_while0b_v145 : DevRef τ sig).ty.Contents (Elt F)) = Cert.RefIdeal.Step.b81 j s := by
  unfold Cert.RefIdeal.Step.b81
  rw [← al_80 h]
  try rfl
set_option maxRecDepth 8192 in
theorem al_82 (h : Holds V0 s j) : (mulf (transpose S4x128x4x8x64 [0, 4, 1, 2, 3] (Host.dotGeneral dot_S4x4x8x64x128_S4x128x4x128_S4x4x8x64x128_4_3_23_1_01_02 none (V0 (Proc.devRef .tc main_v67_12)) (res_main_while0b_v115 V0)) transposes_S4x4x8x64x128_S4x128x4x8x64_0_4_1_2_3) (broadcastInDim S4x128x4x8x64 ![0, 1, 2, 3, 4] bcast_S4x128x4x8x1_S4x128x4x8x64_0_1_2_3_4 (broadcastInDim S4x128x4x8x1 ![0, 1, 2, 3] bcast_S4x128x4x8_S4x128x4x8x1_0_1_2_3 (Host.exp (res_main_while0b_v123 V0)))) : (Proc.devRef .tc main_while0b_v146 : DevRef τ sig).ty.Contents (Elt F)) = Cert.RefIdeal.Step.b82 j s := by
  unfold Cert.RefIdeal.Step.b82
  rw [← al_78 h, ← al_81 h]
  try rfl
set_option maxRecDepth 8192 in
theorem al_83 (h : Holds V0 s j) : (addf (transpose S4x128x4x8x64 [0, 4, 1, 2, 3] (Host.dotGeneral dot_S4x128x4x8x64_S4x128x128x4x8_S4x4x8x64x128_1_2_4_1_023_034 none (res_main_while0b_v112 V0) (mulf (mulf (broadcastInDim S4x128x128x4x8 ![0, 1, 2, 3, 4] bcast_S4x128x128x4x1_S4x128x128x4x8_0_1_2_3_4 (broadcastInDim S4x128x128x4x1 ![0, 1, 2, 3] bcast_S4x128x128x4_S4x128x128x4x1_0_1_2_3 (transpose S4x128x128x4 [0, 3, 2, 1] (Host.dotGeneral dot_S4x128x4x128_S4x128x4x128_S4x4x128x128_3_3_1_1_02_02 none (res_main_while0b_v114 V0) (res_main_while0b_v115 V0)) transposes_S4x4x128x128_S4x128x128x4_0_3_2_1))) (Host.exp (select (broadcastInDim S4x128x128x4x8 ![0, 1, 2, 3, 4] bcast_S1x128x128x1x1_S4x128x128x4x8_0_1_2_3_4 (V0 (Proc.devRef .tc main_v67_9))) (subf (broadcastInDim S4x128x128x4x8 ![0, 1, 2, 3, 4] bcast_S4x128x1x4x8_S4x128x128x4x8_0_1_2_3_4 (broadcastInDim S4x128x1x4x8 ![0, 1, 3, 4] bcast_S4x128x4x8_S4x128x1x4x8_0_1_3_4 (res_main_while0b_v123 V0))) (broadcastInDim S4x128x128x4x8 ![0, 1, 2, 3, 4] bcast_S4x1x128x4x8_S4x128x128x4x8_0_1_2_3_4 (broadcastInDim S4x1x128x4x8 ![0, 2, 3, 4] bcast_S4x128x4x8_S4x1x128x4x8_0_2_3_4 (res_main_while0b_v123 V0)))) (broadcastInDim S4x128x128x4x8 ![] bcast_S_S4x128x128x4x8 (id (constant S_ .f32 0xFF800000#32)))))) (broadcastInDim S4x128x128x4x8 ![0, 1, 2, 3, 4] bcast_S4x1x128x4x8_S4x128x128x4x8_0_1_2_3_4 (broadcastInDim S4x1x128x4x8 ![0, 2, 3, 4] bcast_S4x128x4x8_S4x1x128x4x8_0_2_3_4 (res_main_while0b_v113 V0))))) transposes_S4x4x8x64x128_S4x128x4x8x64_0_4_1_2_3) (mulf (transpose S4x128x4x8x64 [0, 4, 1, 2, 3] (Host.dotGeneral dot_S4x4x8x64x128_S4x128x4x128_S4x4x8x64x128_4_3_23_1_01_02 none (V0 (Proc.devRef .tc main_v67_12)) (res_main_while0b_v115 V0)) transposes_S4x4x8x64x128_S4x128x4x8x64_0_4_1_2_3) (broadcastInDim S4x128x4x8x64 ![0, 1, 2, 3, 4] bcast_S4x128x4x8x1_S4x128x4x8x64_0_1_2_3_4 (broadcastInDim S4x128x4x8x1 ![0, 1, 2, 3] bcast_S4x128x4x8_S4x128x4x8x1_0_1_2_3 (Host.exp (res_main_while0b_v123 V0))))) : (Proc.devRef .tc main_while0b_v147 : DevRef τ sig).ty.Contents (Elt F)) = Cert.RefIdeal.Step.b83 j s := by
  unfold Cert.RefIdeal.Step.b83
  rw [← al_76 h, ← al_82 h]
  try rfl
set_option maxRecDepth 8192 in
theorem al_84 (h : Holds V0 s j) : (extractStridedSlice S4x1x4x8 ![0, 127, 0, 0] (res_main_while0b_v123 V0) slices_S4x128x4x8_S4x1x4x8_0_127_0_0 : (Proc.devRef .tc main_while0b_v148 : DevRef τ sig).ty.Contents (Elt F)) = Cert.RefIdeal.Step.b84 j s := by
  unfold Cert.RefIdeal.Step.b84
  rw [← al_55 h]
  try rfl
set_option maxRecDepth 8192 in
theorem al_85 (h : Holds V0 s j) : (broadcastInDim S4x128x4x8 ![0, 1, 2, 3] bcast_S4x1x4x8_S4x128x4x8_0_1_2_3 (extractStridedSlice S4x1x4x8 ![0, 127, 0, 0] (res_main_while0b_v123 V0) slices_S4x128x4x8_S4x1x4x8_0_127_0_0) : (Proc.devRef .tc main_while0b_v149 : DevRef τ sig).ty.Contents (Elt F)) = Cert.RefIdeal.Step.b85 j s := by
  unfold Cert.RefIdeal.Step.b85
  rw [← al_84 h]
  try rfl
set_option maxRecDepth 8192 in
theorem al_86 (h : Holds V0 s j) : (subf (broadcastInDim S4x128x4x8 ![0, 1, 2, 3] bcast_S4x1x4x8_S4x128x4x8_0_1_2_3 (extractStridedSlice S4x1x4x8 ![0, 127, 0, 0] (res_main_while0b_v123 V0) slices_S4x128x4x8_S4x1x4x8_0_127_0_0)) (res_main_while0b_v123 V0) : (Proc.devRef .tc main_while0b_v150 : DevRef τ sig).ty.Contents (Elt F)) = Cert.RefIdeal.Step.b86 j s := by
  unfold Cert.RefIdeal.Step.b86
  rw [← al_85 h, ← al_55 h]
  try rfl
set_option maxRecDepth 8192 in
theorem al_87 (h : Holds V0 s j) : (Host.exp (subf (broadcastInDim S4x128x4x8 ![0, 1, 2, 3] bcast_S4x1x4x8_S4x128x4x8_0_1_2_3 (extractStridedSlice S4x1x4x8 ![0, 127, 0, 0] (res_main_while0b_v123 V0) slices_S4x128x4x8_S4x1x4x8_0_127_0_0)) (res_main_while0b_v123 V0)) : (Proc.devRef .tc main_while0b_v151 : DevRef τ sig).ty.Contents (Elt F)) = Cert.RefIdeal.Step.b87 j s := by
  unfold Cert.RefIdeal.Step.b87
  rw [← al_86 h]
  try rfl
set_option maxRecDepth 8192 in
theorem al_88 (h : Holds V0 s j) : (mulf (Host.exp (subf (broadcastInDim S4x128x4x8 ![0, 1, 2, 3] bcast_S4x1x4x8_S4x128x4x8_0_1_2_3 (extractStridedSlice S4x1x4x8 ![0, 127, 0, 0] (res_main_while0b_v123 V0) slices_S4x128x4x8_S4x1x4x8_0_127_0_0)) (res_main_while0b_v123 V0))) (res_main_while0b_v113 V0) : (Proc.devRef .tc main_while0b_v152 : DevRef τ sig).ty.Contents (Elt F)) = Cert.RefIdeal.Step.b88 j s := by
  unfold Cert.RefIdeal.Step.b88
  rw [← al_87 h, ← al_12 h]
  try rfl
set_option maxRecDepth 8192 in
theorem al_89 (h : Holds V0 s j) : (extractStridedSlice S4x1x4x8 ![0, 127, 0, 0] (res_main_while0b_v123 V0) slices_S4x128x4x8_S4x1x4x8_0_127_0_0 : (Proc.devRef .tc main_while0b_v153 : DevRef τ sig).ty.Contents (Elt F)) = Cert.RefIdeal.Step.b89 j s := by
  unfold Cert.RefIdeal.Step.b89
  rw [← al_55 h]
  try rfl
set_option maxRecDepth 8192 in
theorem al_90 (h : Holds V0 s j) : (shapeCast S4x4x8 (extractStridedSlice S4x1x4x8 ![0, 127, 0, 0] (res_main_while0b_v123 V0) slices_S4x128x4x8_S4x1x4x8_0_127_0_0) shapeCasts_S4x1x4x8_S4x4x8 : (Proc.devRef .tc main_while0b_v154 : DevRef τ sig).ty.Contents (Elt F)) = Cert.RefIdeal.Step.b90 j s := by
  unfold Cert.RefIdeal.Step.b90
  rw [← al_89 h]
  try rfl
set_option maxRecDepth 8192 in
theorem al_91 (h : Holds V0 s j) : (Host.exp (shapeCast S4x4x8 (extractStridedSlice S4x1x4x8 ![0, 127, 0, 0] (res_main_while0b_v123 V0) slices_S4x128x4x8_S4x1x4x8_0_127_0_0) shapeCasts_S4x1x4x8_S4x4x8) : (Proc.devRef .tc main_while0b_v155 : DevRef τ sig).ty.Contents (Elt F)) = Cert.RefIdeal.Step.b91 j s := by
  unfold Cert.RefIdeal.Step.b91
  rw [← al_90 h]
  try rfl
set_option maxRecDepth 8192 in
theorem al_92 (h : Holds V0 s j) : (broadcastInDim S4x4x8x1x1 ![0, 1, 2] bcast_S4x4x8_S4x4x8x1x1_0_1_2 (Host.exp (shapeCast S4x4x8 (extractStridedSlice S4x1x4x8 ![0, 127, 0, 0] (res_main_while0b_v123 V0) slices_S4x128x4x8_S4x1x4x8_0_127_0_0) shapeCasts_S4x1x4x8_S4x4x8)) : (Proc.devRef .tc main_while0b_v156 : DevRef τ sig).ty.Contents (Elt F)) = Cert.RefIdeal.Step.b92 j s := by
  unfold Cert.RefIdeal.Step.b92
  rw [← al_91 h]
  try rfl
set_option maxRecDepth 8192 in
theorem al_93 (h : Holds V0 s j) : (broadcastInDim S4x4x8x64x128 ![0, 1, 2, 3, 4] bcast_S4x4x8x1x1_S4x4x8x64x128_0_1_2_3_4 (broadcastInDim S4x4x8x1x1 ![0, 1, 2] bcast_S4x4x8_S4x4x8x1x1_0_1_2 (Host.exp (shapeCast S4x4x8 (extractStridedSlice S4x1x4x8 ![0, 127, 0, 0] (res_main_while0b_v123 V0) slices_S4x128x4x8_S4x1x4x8_0_127_0_0) shapeCasts_S4x1x4x8_S4x4x8))) : (Proc.devRef .tc main_while0b_v157 : DevRef τ sig).ty.Contents (Elt F)) = Cert.RefIdeal.Step.b93 j s := by
  unfold Cert.RefIdeal.Step.b93
  rw [← al_92 h]
  try rfl
set_option maxRecDepth 8192 in
theorem al_94 (h : Holds V0 s j) : (mulf (V0 (Proc.devRef .tc main_v67_12)) (broadcastInDim S4x4x8x64x128 ![0, 1, 2, 3, 4] bcast_S4x4x8x1x1_S4x4x8x64x128_0_1_2_3_4 (broadcastInDim S4x4x8x1x1 ![0, 1, 2] bcast_S4x4x8_S4x4x8x1x1_0_1_2 (Host.exp (shapeCast S4x4x8 (extractStridedSlice S4x1x4x8 ![0, 127, 0, 0] (res_main_while0b_v123 V0) slices_S4x128x4x8_S4x1x4x8_0_127_0_0) shapeCasts_S4x1x4x8_S4x4x8)))) : (Proc.devRef .tc main_while0b_v158 : DevRef τ sig).ty.Contents (Elt F)) = Cert.RefIdeal.Step.b94 j s := by
  unfold Cert.RefIdeal.Step.b94
  rw [← al_93 h, h.f_12]
  try rfl
set_option maxRecDepth 8192 in
theorem al_95 (h : Holds V0 s j) : (broadcastInDim S4x128x4x8x1 ![0, 1, 2, 3] bcast_S4x128x4x8_S4x128x4x8x1_0_1_2_3 (mulf (Host.exp (subf (broadcastInDim S4x128x4x8 ![0, 1, 2, 3] bcast_S4x1x4x8_S4x128x4x8_0_1_2_3 (extractStridedSlice S4x1x4x8 ![0, 127, 0, 0] (res_main_while0b_v123 V0) slices_S4x128x4x8_S4x1x4x8_0_127_0_0)) (res_main_while0b_v123 V0))) (res_main_while0b_v113 V0)) : (Proc.devRef .tc main_while0b_v159 : DevRef τ sig).ty.Contents (Elt F)) = Cert.RefIdeal.Step.b95 j s := by
  unfold Cert.RefIdeal.Step.b95
  rw [← al_88 h]
  try rfl
set_option maxRecDepth 8192 in
theorem al_96 (h : Holds V0 s j) : (broadcastInDim S4x128x4x8x64 ![0, 1, 2, 3, 4] bcast_S4x128x4x8x1_S4x128x4x8x64_0_1_2_3_4 (broadcastInDim S4x128x4x8x1 ![0, 1, 2, 3] bcast_S4x128x4x8_S4x128x4x8x1_0_1_2_3 (mulf (Host.exp (subf (broadcastInDim S4x128x4x8 ![0, 1, 2, 3] bcast_S4x1x4x8_S4x128x4x8_0_1_2_3 (extractStridedSlice S4x1x4x8 ![0, 127, 0, 0] (res_main_while0b_v123 V0) slices_S4x128x4x8_S4x1x4x8_0_127_0_0)) (res_main_while0b_v123 V0))) (res_main_while0b_v113 V0))) : (Proc.devRef .tc main_while0b_v160 : DevRef τ sig).ty.Contents (Elt F)) = Cert.RefIdeal.Step.b96 j s := by
  unfold Cert.RefIdeal.Step.b96
  rw [← al_95 h]
  try rfl
set_option maxRecDepth 8192 in
theorem al_97 (h : Holds V0 s j) : (mulf (broadcastInDim S4x128x4x8x64 ![0, 1, 2, 3, 4] bcast_S4x128x4x8x1_S4x128x4x8x64_0_1_2_3_4 (broadcastInDim S4x128x4x8x1 ![0, 1, 2, 3] bcast_S4x128x4x8_S4x128x4x8x1_0_1_2_3 (mulf (Host.exp (subf (broadcastInDim S4x128x4x8 ![0, 1, 2, 3] bcast_S4x1x4x8_S4x128x4x8_0_1_2_3 (extractStridedSlice S4x1x4x8 ![0, 127, 0, 0] (res_main_while0b_v123 V0) slices_S4x128x4x8_S4x1x4x8_0_127_0_0)) (res_main_while0b_v123 V0))) (res_main_while0b_v113 V0)))) (res_main_while0b_v112 V0) : (Proc.devRef .tc main_while0b_v161 : DevRef τ sig).ty.Contents (Elt F)) = Cert.RefIdeal.Step.b97 j s := by
  unfold Cert.RefIdeal.Step.b97
  rw [← al_96 h, ← al_6 h]
  try rfl
set_option maxRecDepth 8192 in
theorem al_98 (h : Holds V0 s j) : (Host.dotGeneral dot_S4x128x4x8x64_S4x128x4x128_S4x4x8x64x128_1_1_34_3_02_02 none (mulf (broadcastInDim S4x128x4x8x64 ![0, 1, 2, 3, 4] bcast_S4x128x4x8x1_S4x128x4x8x64_0_1_2_3_4 (broadcastInDim S4x128x4x8x1 ![0, 1, 2, 3] bcast_S4x128x4x8_S4x128x4x8x1_0_1_2_3 (mulf (Host.exp (subf (broadcastInDim S4x128x4x8 ![0, 1, 2, 3] bcast_S4x1x4x8_S4x128x4x8_0_1_2_3 (extractStridedSlice S4x1x4x8 ![0, 127, 0, 0] (res_main_while0b_v123 V0) slices_S4x128x4x8_S4x1x4x8_0_127_0_0)) (res_main_while0b_v123 V0))) (res_main_while0b_v113 V0)))) (res_main_while0b_v112 V0)) (res_main_while0b_v114 V0) : (Proc.devRef .tc main_while0b_v162 : DevRef τ sig).ty.Contents (Elt F)) = Cert.RefIdeal.Step.b98 j s := by
  unfold Cert.RefIdeal.Step.b98
  rw [← al_97 h, ← al_18 h]
  try rfl
set_option maxRecDepth 8192 in
theorem al_99 (h : Holds V0 s j) : (addf (mulf (V0 (Proc.devRef .tc main_v67_12)) (broadcastInDim S4x4x8x64x128 ![0, 1, 2, 3, 4] bcast_S4x4x8x1x1_S4x4x8x64x128_0_1_2_3_4 (broadcastInDim S4x4x8x1x1 ![0, 1, 2] bcast_S4x4x8_S4x4x8x1x1_0_1_2 (Host.exp (shapeCast S4x4x8 (extractStridedSlice S4x1x4x8 ![0, 127, 0, 0] (res_main_while0b_v123 V0) slices_S4x128x4x8_S4x1x4x8_0_127_0_0) shapeCasts_S4x1x4x8_S4x4x8))))) (Host.dotGeneral dot_S4x128x4x8x64_S4x128x4x128_S4x4x8x64x128_1_1_34_3_02_02 none (mulf (broadcastInDim S4x128x4x8x64 ![0, 1, 2, 3, 4] bcast_S4x128x4x8x1_S4x128x4x8x64_0_1_2_3_4 (broadcastInDim S4x128x4x8x1 ![0, 1, 2, 3] bcast_S4x128x4x8_S4x128x4x8x1_0_1_2_3 (mulf (Host.exp (subf (broadcastInDim S4x128x4x8 ![0, 1, 2, 3] bcast_S4x1x4x8_S4x128x4x8_0_1_2_3 (extractStridedSlice S4x1x4x8 ![0, 127, 0, 0] (res_main_while0b_v123 V0) slices_S4x128x4x8_S4x1x4x8_0_127_0_0)) (res_main_while0b_v123 V0))) (res_main_while0b_v113 V0)))) (res_main_while0b_v112 V0)) (res_main_while0b_v114 V0)) : (Proc.devRef .tc main_while0b_v163 : DevRef τ sig).ty.Contents (Elt F)) = Cert.RefIdeal.Step.b99 j s := by
  unfold Cert.RefIdeal.Step.b99
  rw [← al_94 h, ← al_98 h]
  try rfl
set_option maxRecDepth 8192 in
theorem al_100 (h : Holds V0 s j) : (iotaInDim S128 32 0 : (Proc.devRef .tc main_while0b_v164 : DevRef τ sig).ty.Contents (Elt F)) = Cert.RefIdeal.Step.b100 j s := by
  unfold Cert.RefIdeal.Step.b100
  rfl
set_option maxRecDepth 8192 in
theorem al_101 (h : Holds V0 s j) : (broadcastInDim S128x1 ![0] bcast_S128_S128x1_0 (iotaInDim S128 32 0) : (Proc.devRef .tc main_while0b_v165 : DevRef τ sig).ty.Contents (Elt F)) = Cert.RefIdeal.Step.b101 j s := by
  unfold Cert.RefIdeal.Step.b101
  rw [← al_100 h]
  try rfl
set_option maxRecDepth 8192 in
theorem al_102 (h : Holds V0 s j) : (constantI S_ 32 128#32 : (Proc.devRef .tc main_while0b_c_25 : DevRef τ sig).ty.Contents (Elt F)) = Cert.RefIdeal.Step.b102 j s := by
  unfold Cert.RefIdeal.Step.b102
  rfl
set_option maxRecDepth 8192 in
theorem al_103 (h : Holds V0 s j) : (broadcastInDim S128x1 ![] bcast_S_S128x1 (constantI S_ 32 128#32) : (Proc.devRef .tc main_while0b_v166 : DevRef τ sig).ty.Contents (Elt F)) = Cert.RefIdeal.Step.b103 j s := by
  unfold Cert.RefIdeal.Step.b103
  rw [← al_102 h]
  try rfl
set_option maxRecDepth 8192 in
theorem al_104 (h : Holds V0 s j) : (addi (broadcastInDim S128x1 ![0] bcast_S128_S128x1_0 (iotaInDim S128 32 0)) (broadcastInDim S128x1 ![] bcast_S_S128x1 (constantI S_ 32 128#32)) : (Proc.devRef .tc main_while0b_v167 : DevRef τ sig).ty.Contents (Elt F)) = Cert.RefIdeal.Step.b104 j s := by
  unfold Cert.RefIdeal.Step.b104
  rw [← al_101 h, ← al_103 h]
  try rfl
set_option maxRecDepth 8192 in
theorem al_105 (h : Holds V0 s j) : (iotaInDim S256 32 0 : (Proc.devRef .tc main_while0b_v168 : DevRef τ sig).ty.Contents (Elt F)) = Cert.RefIdeal.Step.b105 j s := by
  unfold Cert.RefIdeal.Step.b105
  rfl
set_option maxRecDepth 8192 in
theorem al_106 (h : Holds V0 s j) : (broadcastInDim S1x256 ![1] bcast_S256_S1x256_1 (iotaInDim S256 32 0) : (Proc.devRef .tc main_while0b_v169 : DevRef τ sig).ty.Contents (Elt F)) = Cert.RefIdeal.Step.b106 j s := by
  unfold Cert.RefIdeal.Step.b106
  rw [← al_105 h]
  try rfl
set_option maxRecDepth 8192 in
theorem al_107 (h : Holds V0 s j) : (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32))) : (Proc.devRef .tc main_while0b_v170 : DevRef τ sig).ty.Contents (Elt F)) = Cert.RefIdeal.Step.b107 j s := by
  unfold Cert.RefIdeal.Step.b107
  rw [← al_104 h]
  try rfl
set_option maxRecDepth 8192 in
theorem al_108 (h : Holds V0 s j) : (broadcastInDim S128x256 ![0, 1] bcast_S1x256_S128x256_0_1 (broadcastInDim S1x256 ![1] bcast_S256_S1x256_1 (iotaInDim S256 32 0)) : (Proc.devRef .tc main_while0b_v171 : DevRef τ sig).ty.Contents (Elt F)) = Cert.RefIdeal.Step.b108 j s := by
  unfold Cert.RefIdeal.Step.b108
  rw [← al_106 h]
  try rfl
set_option maxRecDepth 8192 in
theorem al_109 (h : Holds V0 s j) : (res_main_while0b_v172 V0 : (Proc.devRef .tc main_while0b_v172 : DevRef τ sig).ty.Contents (Elt F)) = Cert.RefIdeal.Step.b109 j s := by
  unfold res_main_while0b_v172 Cert.RefIdeal.Step.b109
  rw [← al_107 h, ← al_108 h]
  try rfl
set_option maxRecDepth 8192 in
theorem al_110 (h : Holds V0 s j) : (constant S_ .f32 0x3F3504F3#32 : (Proc.devRef .tc main_while0b_cst_26 : DevRef τ sig).ty.Contents (Elt F)) = Cert.RefIdeal.Step.b110 j s := by
  unfold Cert.RefIdeal.Step.b110
  rfl
set_option maxRecDepth 8192 in
theorem al_111 (h : Holds V0 s j) : (constant S_ .f32 0x3F000000#32 : (Proc.devRef .tc main_while0b_cst_27 : DevRef τ sig).ty.Contents (Elt F)) = Cert.RefIdeal.Step.b111 j s := by
  unfold Cert.RefIdeal.Step.b111
  rfl
set_option maxRecDepth 8192 in
theorem al_112 (h : Holds V0 s j) : (constant S_ .f32 0x3EB504F3#32 : (Proc.devRef .tc main_while0b_cst_28 : DevRef τ sig).ty.Contents (Elt F)) = Cert.RefIdeal.Step.b112 j s := by
  unfold Cert.RefIdeal.Step.b112
  rfl
set_option maxRecDepth 8192 in
theorem al_113 (h : Holds V0 s j) : (constant S_ .f32 0x3E800000#32 : (Proc.devRef .tc main_while0b_cst_29 : DevRef τ sig).ty.Contents (Elt F)) = Cert.RefIdeal.Step.b113 j s := by
  unfold Cert.RefIdeal.Step.b113
  rfl
set_option maxRecDepth 8192 in
theorem al_114 (h : Holds V0 s j) : (constant S_ .f32 0x3E3504F3#32 : (Proc.devRef .tc main_while0b_cst_30 : DevRef τ sig).ty.Contents (Elt F)) = Cert.RefIdeal.Step.b114 j s := by
  unfold Cert.RefIdeal.Step.b114
  rfl
set_option maxRecDepth 8192 in
theorem al_115 (h : Holds V0 s j) : (constant S_ .f32 0x3E000000#32 : (Proc.devRef .tc main_while0b_cst_31 : DevRef τ sig).ty.Contents (Elt F)) = Cert.RefIdeal.Step.b115 j s := by
  unfold Cert.RefIdeal.Step.b115
  rfl
set_option maxRecDepth 8192 in
theorem al_116 (h : Holds V0 s j) : (constant S_ .f32 0x3DB504F3#32 : (Proc.devRef .tc main_while0b_cst_32 : DevRef τ sig).ty.Contents (Elt F)) = Cert.RefIdeal.Step.b116 j s := by
  unfold Cert.RefIdeal.Step.b116
  rfl
set_option maxRecDepth 8192 in
theorem al_117 (h : Holds V0 s j) : (constant S_ .f32 0x3D800000#32 : (Proc.devRef .tc main_while0b_cst_33 : DevRef τ sig).ty.Contents (Elt F)) = Cert.RefIdeal.Step.b117 j s := by
  unfold Cert.RefIdeal.Step.b117
  rfl
set_option maxRecDepth 8192 in
theorem al_118 (h : Holds V0 s j) : (constant S_ .f32 0x3D3504F3#32 : (Proc.devRef .tc main_while0b_cst_34 : DevRef τ sig).ty.Contents (Elt F)) = Cert.RefIdeal.Step.b118 j s := by
  unfold Cert.RefIdeal.Step.b118
  rfl
set_option maxRecDepth 8192 in
theorem al_119 (h : Holds V0 s j) : (constant S_ .f32 0x3D000000#32 : (Proc.devRef .tc main_while0b_cst_35 : DevRef τ sig).ty.Contents (Elt F)) = Cert.RefIdeal.Step.b119 j s := by
  unfold Cert.RefIdeal.Step.b119
  rfl
set_option maxRecDepth 8192 in
theorem al_120 (h : Holds V0 s j) : (constant S_ .f32 0x3CB504F3#32 : (Proc.devRef .tc main_while0b_cst_36 : DevRef τ sig).ty.Contents (Elt F)) = Cert.RefIdeal.Step.b120 j s := by
  unfold Cert.RefIdeal.Step.b120
  rfl
set_option maxRecDepth 8192 in
theorem al_121 (h : Holds V0 s j) : (constant S_ .f32 0x3C800000#32 : (Proc.devRef .tc main_while0b_cst_37 : DevRef τ sig).ty.Contents (Elt F)) = Cert.RefIdeal.Step.b121 j s := by
  unfold Cert.RefIdeal.Step.b121
  rfl
set_option maxRecDepth 8192 in
theorem al_122 (h : Holds V0 s j) : (constant S_ .f32 0x3C3504F3#32 : (Proc.devRef .tc main_while0b_cst_38 : DevRef τ sig).ty.Contents (Elt F)) = Cert.RefIdeal.Step.b122 j s := by
  unfold Cert.RefIdeal.Step.b122
  rfl
set_option maxRecDepth 8192 in
theorem al_123 (h : Holds V0 s j) : (constant S_ .f32 0x3C000000#32 : (Proc.devRef .tc main_while0b_cst_39 : DevRef τ sig).ty.Contents (Elt F)) = Cert.RefIdeal.Step.b123 j s := by
  unfold Cert.RefIdeal.Step.b123
  rfl
set_option maxRecDepth 8192 in
theorem al_124 (h : Holds V0 s j) : (constant S_ .f32 0x3BB504F3#32 : (Proc.devRef .tc main_while0b_cst_40 : DevRef τ sig).ty.Contents (Elt F)) = Cert.RefIdeal.Step.b124 j s := by
  unfold Cert.RefIdeal.Step.b124
  rfl
set_option maxRecDepth 8192 in
theorem al_125 (h : Holds V0 s j) : (constant S_ .f32 0x3B800000#32 : (Proc.devRef .tc main_while0b_cst_41 : DevRef τ sig).ty.Contents (Elt F)) = Cert.RefIdeal.Step.b125 j s := by
  unfold Cert.RefIdeal.Step.b125
  rfl
set_option maxRecDepth 8192 in
theorem al_126 (h : Holds V0 s j) : (broadcastInDim S1 ![] bcast_S_S1 (constant S_ .f32 0x3F3504F3#32) : (Proc.devRef .tc main_while0b_v173 : DevRef τ sig).ty.Contents (Elt F)) = Cert.RefIdeal.Step.b126 j s := by
  unfold Cert.RefIdeal.Step.b126
  rw [← al_110 h]
  try rfl
set_option maxRecDepth 8192 in
theorem al_127 (h : Holds V0 s j) : (broadcastInDim S1 ![] bcast_S_S1 (constant S_ .f32 0x3F000000#32) : (Proc.devRef .tc main_while0b_v174 : DevRef τ sig).ty.Contents (Elt F)) = Cert.RefIdeal.Step.b127 j s := by
  unfold Cert.RefIdeal.Step.b127
  rw [← al_111 h]
  try rfl
set_option maxRecDepth 8192 in
theorem al_128 (h : Holds V0 s j) : (broadcastInDim S1 ![] bcast_S_S1 (constant S_ .f32 0x3EB504F3#32) : (Proc.devRef .tc main_while0b_v175 : DevRef τ sig).ty.Contents (Elt F)) = Cert.RefIdeal.Step.b128 j s := by
  unfold Cert.RefIdeal.Step.b128
  rw [← al_112 h]
  try rfl
set_option maxRecDepth 8192 in
theorem al_129 (h : Holds V0 s j) : (broadcastInDim S1 ![] bcast_S_S1 (constant S_ .f32 0x3E800000#32) : (Proc.devRef .tc main_while0b_v176 : DevRef τ sig).ty.Contents (Elt F)) = Cert.RefIdeal.Step.b129 j s := by
  unfold Cert.RefIdeal.Step.b129
  rw [← al_113 h]
  try rfl
set_option maxRecDepth 8192 in
theorem al_130 (h : Holds V0 s j) : (broadcastInDim S1 ![] bcast_S_S1 (constant S_ .f32 0x3E3504F3#32) : (Proc.devRef .tc main_while0b_v177 : DevRef τ sig).ty.Contents (Elt F)) = Cert.RefIdeal.Step.b130 j s := by
  unfold Cert.RefIdeal.Step.b130
  rw [← al_114 h]
  try rfl
set_option maxRecDepth 8192 in
theorem al_131 (h : Holds V0 s j) : (broadcastInDim S1 ![] bcast_S_S1 (constant S_ .f32 0x3E000000#32) : (Proc.devRef .tc main_while0b_v178 : DevRef τ sig).ty.Contents (Elt F)) = Cert.RefIdeal.Step.b131 j s := by
  unfold Cert.RefIdeal.Step.b131
  rw [← al_115 h]
  try rfl
set_option maxRecDepth 8192 in
theorem al_132 (h : Holds V0 s j) : (broadcastInDim S1 ![] bcast_S_S1 (constant S_ .f32 0x3DB504F3#32) : (Proc.devRef .tc main_while0b_v179 : DevRef τ sig).ty.Contents (Elt F)) = Cert.RefIdeal.Step.b132 j s := by
  unfold Cert.RefIdeal.Step.b132
  rw [← al_116 h]
  try rfl
set_option maxRecDepth 8192 in
theorem al_133 (h : Holds V0 s j) : (broadcastInDim S1 ![] bcast_S_S1 (constant S_ .f32 0x3D800000#32) : (Proc.devRef .tc main_while0b_v180 : DevRef τ sig).ty.Contents (Elt F)) = Cert.RefIdeal.Step.b133 j s := by
  unfold Cert.RefIdeal.Step.b133
  rw [← al_117 h]
  try rfl
set_option maxRecDepth 8192 in
theorem al_134 (h : Holds V0 s j) : (broadcastInDim S1 ![] bcast_S_S1 (constant S_ .f32 0x3D3504F3#32) : (Proc.devRef .tc main_while0b_v181 : DevRef τ sig).ty.Contents (Elt F)) = Cert.RefIdeal.Step.b134 j s := by
  unfold Cert.RefIdeal.Step.b134
  rw [← al_118 h]
  try rfl
set_option maxRecDepth 8192 in
theorem al_135 (h : Holds V0 s j) : (broadcastInDim S1 ![] bcast_S_S1 (constant S_ .f32 0x3D000000#32) : (Proc.devRef .tc main_while0b_v182 : DevRef τ sig).ty.Contents (Elt F)) = Cert.RefIdeal.Step.b135 j s := by
  unfold Cert.RefIdeal.Step.b135
  rw [← al_119 h]
  try rfl
set_option maxRecDepth 8192 in
theorem al_136 (h : Holds V0 s j) : (broadcastInDim S1 ![] bcast_S_S1 (constant S_ .f32 0x3CB504F3#32) : (Proc.devRef .tc main_while0b_v183 : DevRef τ sig).ty.Contents (Elt F)) = Cert.RefIdeal.Step.b136 j s := by
  unfold Cert.RefIdeal.Step.b136
  rw [← al_120 h]
  try rfl
set_option maxRecDepth 8192 in
theorem al_137 (h : Holds V0 s j) : (broadcastInDim S1 ![] bcast_S_S1 (constant S_ .f32 0x3C800000#32) : (Proc.devRef .tc main_while0b_v184 : DevRef τ sig).ty.Contents (Elt F)) = Cert.RefIdeal.Step.b137 j s := by
  unfold Cert.RefIdeal.Step.b137
  rw [← al_121 h]
  try rfl
set_option maxRecDepth 8192 in
theorem al_138 (h : Holds V0 s j) : (broadcastInDim S1 ![] bcast_S_S1 (constant S_ .f32 0x3C3504F3#32) : (Proc.devRef .tc main_while0b_v185 : DevRef τ sig).ty.Contents (Elt F)) = Cert.RefIdeal.Step.b138 j s := by
  unfold Cert.RefIdeal.Step.b138
  rw [← al_122 h]
  try rfl
set_option maxRecDepth 8192 in
theorem al_139 (h : Holds V0 s j) : (broadcastInDim S1 ![] bcast_S_S1 (constant S_ .f32 0x3C000000#32) : (Proc.devRef .tc main_while0b_v186 : DevRef τ sig).ty.Contents (Elt F)) = Cert.RefIdeal.Step.b139 j s := by
  unfold Cert.RefIdeal.Step.b139
  rw [← al_123 h]
  try rfl
set_option maxRecDepth 8192 in
theorem al_140 (h : Holds V0 s j) : (broadcastInDim S1 ![] bcast_S_S1 (constant S_ .f32 0x3BB504F3#32) : (Proc.devRef .tc main_while0b_v187 : DevRef τ sig).ty.Contents (Elt F)) = Cert.RefIdeal.Step.b140 j s := by
  unfold Cert.RefIdeal.Step.b140
  rw [← al_124 h]
  try rfl
set_option maxRecDepth 8192 in
theorem al_141 (h : Holds V0 s j) : (broadcastInDim S1 ![] bcast_S_S1 (constant S_ .f32 0x3B800000#32) : (Proc.devRef .tc main_while0b_v188 : DevRef τ sig).ty.Contents (Elt F)) = Cert.RefIdeal.Step.b141 j s := by
  unfold Cert.RefIdeal.Step.b141
  rw [← al_125 h]
  try rfl
set_option maxRecDepth 8192 in
theorem al_142 (h : Holds V0 s j) : ((concatenate S16 0 [⟨S1, ((broadcastInDim S1 ![] bcast_S_S1 (constant S_ .f32 0x3F3504F3#32)) : (⟨S1, .f32⟩ : BufTy).Contents (Elt F))⟩, ⟨S1, ((broadcastInDim S1 ![] bcast_S_S1 (constant S_ .f32 0x3F000000#32)) : (⟨S1, .f32⟩ : BufTy).Contents (Elt F))⟩, ⟨S1, ((broadcastInDim S1 ![] bcast_S_S1 (constant S_ .f32 0x3EB504F3#32)) : (⟨S1, .f32⟩ : BufTy).Contents (Elt F))⟩, ⟨S1, ((broadcastInDim S1 ![] bcast_S_S1 (constant S_ .f32 0x3E800000#32)) : (⟨S1, .f32⟩ : BufTy).Contents (Elt F))⟩, ⟨S1, ((broadcastInDim S1 ![] bcast_S_S1 (constant S_ .f32 0x3E3504F3#32)) : (⟨S1, .f32⟩ : BufTy).Contents (Elt F))⟩, ⟨S1, ((broadcastInDim S1 ![] bcast_S_S1 (constant S_ .f32 0x3E000000#32)) : (⟨S1, .f32⟩ : BufTy).Contents (Elt F))⟩, ⟨S1, ((broadcastInDim S1 ![] bcast_S_S1 (constant S_ .f32 0x3DB504F3#32)) : (⟨S1, .f32⟩ : BufTy).Contents (Elt F))⟩, ⟨S1, ((broadcastInDim S1 ![] bcast_S_S1 (constant S_ .f32 0x3D800000#32)) : (⟨S1, .f32⟩ : BufTy).Contents (Elt F))⟩, ⟨S1, ((broadcastInDim S1 ![] bcast_S_S1 (constant S_ .f32 0x3D3504F3#32)) : (⟨S1, .f32⟩ : BufTy).Contents (Elt F))⟩, ⟨S1, ((broadcastInDim S1 ![] bcast_S_S1 (constant S_ .f32 0x3D000000#32)) : (⟨S1, .f32⟩ : BufTy).Contents (Elt F))⟩, ⟨S1, ((broadcastInDim S1 ![] bcast_S_S1 (constant S_ .f32 0x3CB504F3#32)) : (⟨S1, .f32⟩ : BufTy).Contents (Elt F))⟩, ⟨S1, ((broadcastInDim S1 ![] bcast_S_S1 (constant S_ .f32 0x3C800000#32)) : (⟨S1, .f32⟩ : BufTy).Contents (Elt F))⟩, ⟨S1, ((broadcastInDim S1 ![] bcast_S_S1 (constant S_ .f32 0x3C3504F3#32)) : (⟨S1, .f32⟩ : BufTy).Contents (Elt F))⟩, ⟨S1, ((broadcastInDim S1 ![] bcast_S_S1 (constant S_ .f32 0x3C000000#32)) : (⟨S1, .f32⟩ : BufTy).Contents (Elt F))⟩, ⟨S1, ((broadcastInDim S1 ![] bcast_S_S1 (constant S_ .f32 0x3BB504F3#32)) : (⟨S1, .f32⟩ : BufTy).Contents (Elt F))⟩, ⟨S1, ((broadcastInDim S1 ![] bcast_S_S1 (constant S_ .f32 0x3B800000#32)) : (⟨S1, .f32⟩ : BufTy).Contents (Elt F))⟩] concatenates_S1_S1_S1_S1_S1_S1_S1_S1_S1_S1_S1_S1_S1_S1_S1_S1_S16_d0 : (⟨S16, .f32⟩ : BufTy).Contents (Elt F)) : (Proc.devRef .tc main_while0b_v189 : DevRef τ sig).ty.Contents (Elt F)) = Cert.RefIdeal.Step.b142 j s := by
  unfold Cert.RefIdeal.Step.b142
  rw [← al_126 h, ← al_127 h, ← al_128 h, ← al_129 h, ← al_130 h, ← al_131 h, ← al_132 h, ← al_133 h, ← al_134 h, ← al_135 h, ← al_136 h, ← al_137 h, ← al_138 h, ← al_139 h, ← al_140 h, ← al_141 h]
  try rfl
set_option maxRecDepth 8192 in
theorem al_143 (h : Holds V0 s j) : (shapeCast S4x2x2x1x1 ((concatenate S16 0 [⟨S1, ((broadcastInDim S1 ![] bcast_S_S1 (constant S_ .f32 0x3F3504F3#32)) : (⟨S1, .f32⟩ : BufTy).Contents (Elt F))⟩, ⟨S1, ((broadcastInDim S1 ![] bcast_S_S1 (constant S_ .f32 0x3F000000#32)) : (⟨S1, .f32⟩ : BufTy).Contents (Elt F))⟩, ⟨S1, ((broadcastInDim S1 ![] bcast_S_S1 (constant S_ .f32 0x3EB504F3#32)) : (⟨S1, .f32⟩ : BufTy).Contents (Elt F))⟩, ⟨S1, ((broadcastInDim S1 ![] bcast_S_S1 (constant S_ .f32 0x3E800000#32)) : (⟨S1, .f32⟩ : BufTy).Contents (Elt F))⟩, ⟨S1, ((broadcastInDim S1 ![] bcast_S_S1 (constant S_ .f32 0x3E3504F3#32)) : (⟨S1, .f32⟩ : BufTy).Contents (Elt F))⟩, ⟨S1, ((broadcastInDim S1 ![] bcast_S_S1 (constant S_ .f32 0x3E000000#32)) : (⟨S1, .f32⟩ : BufTy).Contents (Elt F))⟩, ⟨S1, ((broadcastInDim S1 ![] bcast_S_S1 (constant S_ .f32 0x3DB504F3#32)) : (⟨S1, .f32⟩ : BufTy).Contents (Elt F))⟩, ⟨S1, ((broadcastInDim S1 ![] bcast_S_S1 (constant S_ .f32 0x3D800000#32)) : (⟨S1, .f32⟩ : BufTy).Contents (Elt F))⟩, ⟨S1, ((broadcastInDim S1 ![] bcast_S_S1 (constant S_ .f32 0x3D3504F3#32)) : (⟨S1, .f32⟩ : BufTy).Contents (Elt F))⟩, ⟨S1, ((broadcastInDim S1 ![] bcast_S_S1 (constant S_ .f32 0x3D000000#32)) : (⟨S1, .f32⟩ : BufTy).Contents (Elt F))⟩, ⟨S1, ((broadcastInDim S1 ![] bcast_S_S1 (constant S_ .f32 0x3CB504F3#32)) : (⟨S1, .f32⟩ : BufTy).Contents (Elt F))⟩, ⟨S1, ((broadcastInDim S1 ![] bcast_S_S1 (constant S_ .f32 0x3C800000#32)) : (⟨S1, .f32⟩ : BufTy).Contents (Elt F))⟩, ⟨S1, ((broadcastInDim S1 ![] bcast_S_S1 (constant S_ .f32 0x3C3504F3#32)) : (⟨S1, .f32⟩ : BufTy).Contents (Elt F))⟩, ⟨S1, ((broadcastInDim S1 ![] bcast_S_S1 (constant S_ .f32 0x3C000000#32)) : (⟨S1, .f32⟩ : BufTy).Contents (Elt F))⟩, ⟨S1, ((broadcastInDim S1 ![] bcast_S_S1 (constant S_ .f32 0x3BB504F3#32)) : (⟨S1, .f32⟩ : BufTy).Contents (Elt F))⟩, ⟨S1, ((broadcastInDim S1 ![] bcast_S_S1 (constant S_ .f32 0x3B800000#32)) : (⟨S1, .f32⟩ : BufTy).Contents (Elt F))⟩] concatenates_S1_S1_S1_S1_S1_S1_S1_S1_S1_S1_S1_S1_S1_S1_S1_S1_S16_d0 : (⟨S16, .f32⟩ : BufTy).Contents (Elt F))) shapeCasts_S16_S4x2x2x1x1 : (Proc.devRef .tc main_while0b_v190 : DevRef τ sig).ty.Contents (Elt F)) = Cert.RefIdeal.Step.b143 j s := by
  unfold Cert.RefIdeal.Step.b143
  rw [← al_142 h]
  try rfl
set_option maxRecDepth 8192 in
theorem al_144 (h : Holds V0 s j) : (constantI S_ 32 0#32 : (Proc.devRef .tc main_while0b_c_42 : DevRef τ sig).ty.Contents (Elt F)) = Cert.RefIdeal.Step.b144 j s := by
  unfold Cert.RefIdeal.Step.b144
  rfl
set_option maxRecDepth 8192 in
theorem al_145 (h : Holds V0 s j) : (broadcastInDim S128x256 ![] bcast_S_S128x256 (constantI S_ 32 0#32) : (Proc.devRef .tc main_while0b_v191 : DevRef τ sig).ty.Contents (Elt F)) = Cert.RefIdeal.Step.b145 j s := by
  unfold Cert.RefIdeal.Step.b145
  rw [← al_144 h]
  try rfl
set_option maxRecDepth 8192 in
theorem al_146 (h : Holds V0 s j) : (cmpi .sge (res_main_while0b_v172 V0) (broadcastInDim S128x256 ![] bcast_S_S128x256 (constantI S_ 32 0#32)) : (Proc.devRef .tc main_while0b_v192 : DevRef τ sig).ty.Contents (Elt F)) = Cert.RefIdeal.Step.b146 j s := by
  unfold Cert.RefIdeal.Step.b146
  rw [← al_109 h, ← al_145 h]
  try rfl
set_option maxRecDepth 8192 in
theorem al_147 (h : Holds V0 s j) : (constantI S_ 32 128#32 : (Proc.devRef .tc main_while0b_c_43 : DevRef τ sig).ty.Contents (Elt F)) = Cert.RefIdeal.Step.b147 j s := by
  unfold Cert.RefIdeal.Step.b147
  rfl
set_option maxRecDepth 8192 in
theorem al_148 (h : Holds V0 s j) : (broadcastInDim S128x256 ![] bcast_S_S128x256 (constantI S_ 32 128#32) : (Proc.devRef .tc main_while0b_v193 : DevRef τ sig).ty.Contents (Elt F)) = Cert.RefIdeal.Step.b148 j s := by
  unfold Cert.RefIdeal.Step.b148
  rw [← al_147 h]
  try rfl
set_option maxRecDepth 8192 in
theorem al_149 (h : Holds V0 s j) : (cmpi .sle (res_main_while0b_v172 V0) (broadcastInDim S128x256 ![] bcast_S_S128x256 (constantI S_ 32 128#32)) : (Proc.devRef .tc main_while0b_v194 : DevRef τ sig).ty.Contents (Elt F)) = Cert.RefIdeal.Step.b149 j s := by
  unfold Cert.RefIdeal.Step.b149
  rw [← al_109 h, ← al_148 h]
  try rfl
set_option maxRecDepth 8192 in
theorem al_150 (h : Holds V0 s j) : (andi (cmpi .sge (res_main_while0b_v172 V0) (broadcastInDim S128x256 ![] bcast_S_S128x256 (constantI S_ 32 0#32))) (cmpi .sle (res_main_while0b_v172 V0) (broadcastInDim S128x256 ![] bcast_S_S128x256 (constantI S_ 32 128#32))) : (Proc.devRef .tc main_while0b_v195 : DevRef τ sig).ty.Contents (Elt F)) = Cert.RefIdeal.Step.b150 j s := by
  unfold Cert.RefIdeal.Step.b150
  rw [← al_146 h, ← al_149 h]
  try rfl
set_option maxRecDepth 8192 in
theorem al_151 (h : Holds V0 s j) : (broadcastInDim S1x256 ![1] bcast_S256_S1x256_1 (shapeCast S256 (Host.dynamicSlice S1x256 (V0 (Proc.devRef .tc main_v67_7)) (fun k => (((![V0 (Proc.devRef .tc main_v67_11), constantI S_ 32 0#32] : Fin 2 → (⟨S_, .i32⟩ : BufTy).Contents (Elt F))) k (Shape.Idx.first h_S_)).toInt) sliceFits_S64x256_S1x256) shapeCasts_S1x256_S256) : (Proc.devRef .tc main_while0b_v196 : DevRef τ sig).ty.Contents (Elt F)) = Cert.RefIdeal.Step.b151 j s := by
  unfold Cert.RefIdeal.Step.b151
  rw [← al_49 h]
  try rfl
set_option maxRecDepth 8192 in
theorem al_152 (h : Holds V0 s j) : (broadcastInDim S128x256 ![0, 1] bcast_S1x256_S128x256_0_1 (broadcastInDim S1x256 ![1] bcast_S256_S1x256_1 (shapeCast S256 (Host.dynamicSlice S1x256 (V0 (Proc.devRef .tc main_v67_7)) (fun k => (((![V0 (Proc.devRef .tc main_v67_11), constantI S_ 32 0#32] : Fin 2 → (⟨S_, .i32⟩ : BufTy).Contents (Elt F))) k (Shape.Idx.first h_S_)).toInt) sliceFits_S64x256_S1x256) shapeCasts_S1x256_S256)) : (Proc.devRef .tc main_while0b_v197 : DevRef τ sig).ty.Contents (Elt F)) = Cert.RefIdeal.Step.b152 j s := by
  unfold Cert.RefIdeal.Step.b152
  rw [← al_151 h]
  try rfl
set_option maxRecDepth 8192 in
theorem al_153 (h : Holds V0 s j) : (andi (andi (cmpi .sge (res_main_while0b_v172 V0) (broadcastInDim S128x256 ![] bcast_S_S128x256 (constantI S_ 32 0#32))) (cmpi .sle (res_main_while0b_v172 V0) (broadcastInDim S128x256 ![] bcast_S_S128x256 (constantI S_ 32 128#32)))) (broadcastInDim S128x256 ![0, 1] bcast_S1x256_S128x256_0_1 (broadcastInDim S1x256 ![1] bcast_S256_S1x256_1 (shapeCast S256 (Host.dynamicSlice S1x256 (V0 (Proc.devRef .tc main_v67_7)) (fun k => (((![V0 (Proc.devRef .tc main_v67_11), constantI S_ 32 0#32] : Fin 2 → (⟨S_, .i32⟩ : BufTy).Contents (Elt F))) k (Shape.Idx.first h_S_)).toInt) sliceFits_S64x256_S1x256) shapeCasts_S1x256_S256))) : (Proc.devRef .tc main_while0b_v198 : DevRef τ sig).ty.Contents (Elt F)) = Cert.RefIdeal.Step.b153 j s := by
  unfold Cert.RefIdeal.Step.b153
  rw [← al_150 h, ← al_152 h]
  try rfl
set_option maxRecDepth 8192 in
theorem al_154 (h : Holds V0 s j) : (Host.dotGeneral dot_S4x256x4x2x64_S4x128x4x2x2x64_S4x4x2x256x128x2_4_5_1_13_023_024 none (shapeCast S4x256x4x2x64 (Host.dynamicSlice S1x4x256x4x2x64 (V0 (Proc.devRef .tc main_v67_5)) (fun k => (((![V0 (Proc.devRef .tc main_v67_11), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S64x4x256x4x2x64_S1x4x256x4x2x64) shapeCasts_S1x4x256x4x2x64_S4x256x4x2x64) (shapeCast S4x128x4x2x2x64 (Host.dynamicSlice S1x4x128x4x2x2x64 (V0 (Proc.devRef .tc main_v67_4)) (fun k => (((![V0 (Proc.devRef .tc main_v67_11), constantI S_ 32 0#32, constantI S_ 32 0#32, constantI S_ 32 0#32, constantI S_ 32 0#32, constantI S_ 32 0#32, constantI S_ 32 0#32] : Fin 7 → (⟨S_, .i32⟩ : BufTy).Contents (Elt F))) k (Shape.Idx.first h_S_)).toInt) sliceFits_S64x4x128x4x2x2x64_S1x4x128x4x2x2x64) shapeCasts_S1x4x128x4x2x2x64_S4x128x4x2x2x64) : (Proc.devRef .tc main_while0b_v199 : DevRef τ sig).ty.Contents (Elt F)) = Cert.RefIdeal.Step.b154 j s := by
  unfold Cert.RefIdeal.Step.b154
  rw [← al_39 h, ← al_32 h]
  try rfl
set_option maxRecDepth 8192 in
theorem al_155 (h : Holds V0 s j) : (transpose S4x4x2x2x128x256 [0, 1, 5, 2, 4, 3] (Host.dotGeneral dot_S4x256x4x2x64_S4x128x4x2x2x64_S4x4x2x256x128x2_4_5_1_13_023_024 none (shapeCast S4x256x4x2x64 (Host.dynamicSlice S1x4x256x4x2x64 (V0 (Proc.devRef .tc main_v67_5)) (fun k => (((![V0 (Proc.devRef .tc main_v67_11), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S64x4x256x4x2x64_S1x4x256x4x2x64) shapeCasts_S1x4x256x4x2x64_S4x256x4x2x64) (shapeCast S4x128x4x2x2x64 (Host.dynamicSlice S1x4x128x4x2x2x64 (V0 (Proc.devRef .tc main_v67_4)) (fun k => (((![V0 (Proc.devRef .tc main_v67_11), constantI S_ 32 0#32, constantI S_ 32 0#32, constantI S_ 32 0#32, constantI S_ 32 0#32, constantI S_ 32 0#32, constantI S_ 32 0#32] : Fin 7 → (⟨S_, .i32⟩ : BufTy).Contents (Elt F))) k (Shape.Idx.first h_S_)).toInt) sliceFits_S64x4x128x4x2x2x64_S1x4x128x4x2x2x64) shapeCasts_S1x4x128x4x2x2x64_S4x128x4x2x2x64)) transposes_S4x4x2x256x128x2_S4x4x2x2x128x256_0_1_5_2_4_3 : (Proc.devRef .tc main_while0b_v200 : DevRef τ sig).ty.Contents (Elt F)) = Cert.RefIdeal.Step.b155 j s := by
  unfold Cert.RefIdeal.Step.b155
  rw [← al_154 h]
  try rfl
set_option maxRecDepth 8192 in
theorem al_156 (h : Holds V0 s j) : (sitofp .f32 (res_main_while0b_v172 V0) : (Proc.devRef .tc main_while0b_v201 : DevRef τ sig).ty.Contents (Elt F)) = Cert.RefIdeal.Step.b156 j s := by
  unfold Cert.RefIdeal.Step.b156
  rw [← al_109 h]
  try rfl
set_option maxRecDepth 8192 in
theorem al_157 (h : Holds V0 s j) : (broadcastInDim S1x1x1x128x256 ![3, 4] bcast_S128x256_S1x1x1x128x256_3_4 (sitofp .f32 (res_main_while0b_v172 V0)) : (Proc.devRef .tc main_while0b_v202 : DevRef τ sig).ty.Contents (Elt F)) = Cert.RefIdeal.Step.b157 j s := by
  unfold Cert.RefIdeal.Step.b157
  rw [← al_156 h]
  try rfl
set_option maxRecDepth 8192 in
theorem al_158 (h : Holds V0 s j) : (broadcastInDim S4x2x2x128x256 ![0, 1, 2, 3, 4] bcast_S4x2x2x1x1_S4x2x2x128x256_0_1_2_3_4 (shapeCast S4x2x2x1x1 ((concatenate S16 0 [⟨S1, ((broadcastInDim S1 ![] bcast_S_S1 (constant S_ .f32 0x3F3504F3#32)) : (⟨S1, .f32⟩ : BufTy).Contents (Elt F))⟩, ⟨S1, ((broadcastInDim S1 ![] bcast_S_S1 (constant S_ .f32 0x3F000000#32)) : (⟨S1, .f32⟩ : BufTy).Contents (Elt F))⟩, ⟨S1, ((broadcastInDim S1 ![] bcast_S_S1 (constant S_ .f32 0x3EB504F3#32)) : (⟨S1, .f32⟩ : BufTy).Contents (Elt F))⟩, ⟨S1, ((broadcastInDim S1 ![] bcast_S_S1 (constant S_ .f32 0x3E800000#32)) : (⟨S1, .f32⟩ : BufTy).Contents (Elt F))⟩, ⟨S1, ((broadcastInDim S1 ![] bcast_S_S1 (constant S_ .f32 0x3E3504F3#32)) : (⟨S1, .f32⟩ : BufTy).Contents (Elt F))⟩, ⟨S1, ((broadcastInDim S1 ![] bcast_S_S1 (constant S_ .f32 0x3E000000#32)) : (⟨S1, .f32⟩ : BufTy).Contents (Elt F))⟩, ⟨S1, ((broadcastInDim S1 ![] bcast_S_S1 (constant S_ .f32 0x3DB504F3#32)) : (⟨S1, .f32⟩ : BufTy).Contents (Elt F))⟩, ⟨S1, ((broadcastInDim S1 ![] bcast_S_S1 (constant S_ .f32 0x3D800000#32)) : (⟨S1, .f32⟩ : BufTy).Contents (Elt F))⟩, ⟨S1, ((broadcastInDim S1 ![] bcast_S_S1 (constant S_ .f32 0x3D3504F3#32)) : (⟨S1, .f32⟩ : BufTy).Contents (Elt F))⟩, ⟨S1, ((broadcastInDim S1 ![] bcast_S_S1 (constant S_ .f32 0x3D000000#32)) : (⟨S1, .f32⟩ : BufTy).Contents (Elt F))⟩, ⟨S1, ((broadcastInDim S1 ![] bcast_S_S1 (constant S_ .f32 0x3CB504F3#32)) : (⟨S1, .f32⟩ : BufTy).Contents (Elt F))⟩, ⟨S1, ((broadcastInDim S1 ![] bcast_S_S1 (constant S_ .f32 0x3C800000#32)) : (⟨S1, .f32⟩ : BufTy).Contents (Elt F))⟩, ⟨S1, ((broadcastInDim S1 ![] bcast_S_S1 (constant S_ .f32 0x3C3504F3#32)) : (⟨S1, .f32⟩ : BufTy).Contents (Elt F))⟩, ⟨S1, ((broadcastInDim S1 ![] bcast_S_S1 (constant S_ .f32 0x3C000000#32)) : (⟨S1, .f32⟩ : BufTy).Contents (Elt F))⟩, ⟨S1, ((broadcastInDim S1 ![] bcast_S_S1 (constant S_ .f32 0x3BB504F3#32)) : (⟨S1, .f32⟩ : BufTy).Contents (Elt F))⟩, ⟨S1, ((broadcastInDim S1 ![] bcast_S_S1 (constant S_ .f32 0x3B800000#32)) : (⟨S1, .f32⟩ : BufTy).Contents (Elt F))⟩] concatenates_S1_S1_S1_S1_S1_S1_S1_S1_S1_S1_S1_S1_S1_S1_S1_S1_S16_d0 : (⟨S16, .f32⟩ : BufTy).Contents (Elt F))) shapeCasts_S16_S4x2x2x1x1) : (Proc.devRef .tc main_while0b_v203 : DevRef τ sig).ty.Contents (Elt F)) = Cert.RefIdeal.Step.b158 j s := by
  unfold Cert.RefIdeal.Step.b158
  rw [← al_143 h]
  try rfl
set_option maxRecDepth 8192 in
theorem al_159 (h : Holds V0 s j) : (broadcastInDim S4x2x2x128x256 ![0, 1, 2, 3, 4] bcast_S1x1x1x128x256_S4x2x2x128x256_0_1_2_3_4 (broadcastInDim S1x1x1x128x256 ![3, 4] bcast_S128x256_S1x1x1x128x256_3_4 (sitofp .f32 (res_main_while0b_v172 V0))) : (Proc.devRef .tc main_while0b_v204 : DevRef τ sig).ty.Contents (Elt F)) = Cert.RefIdeal.Step.b159 j s := by
  unfold Cert.RefIdeal.Step.b159
  rw [← al_157 h]
  try rfl
set_option maxRecDepth 8192 in
theorem al_160 (h : Holds V0 s j) : (mulf (broadcastInDim S4x2x2x128x256 ![0, 1, 2, 3, 4] bcast_S4x2x2x1x1_S4x2x2x128x256_0_1_2_3_4 (shapeCast S4x2x2x1x1 ((concatenate S16 0 [⟨S1, ((broadcastInDim S1 ![] bcast_S_S1 (constant S_ .f32 0x3F3504F3#32)) : (⟨S1, .f32⟩ : BufTy).Contents (Elt F))⟩, ⟨S1, ((broadcastInDim S1 ![] bcast_S_S1 (constant S_ .f32 0x3F000000#32)) : (⟨S1, .f32⟩ : BufTy).Contents (Elt F))⟩, ⟨S1, ((broadcastInDim S1 ![] bcast_S_S1 (constant S_ .f32 0x3EB504F3#32)) : (⟨S1, .f32⟩ : BufTy).Contents (Elt F))⟩, ⟨S1, ((broadcastInDim S1 ![] bcast_S_S1 (constant S_ .f32 0x3E800000#32)) : (⟨S1, .f32⟩ : BufTy).Contents (Elt F))⟩, ⟨S1, ((broadcastInDim S1 ![] bcast_S_S1 (constant S_ .f32 0x3E3504F3#32)) : (⟨S1, .f32⟩ : BufTy).Contents (Elt F))⟩, ⟨S1, ((broadcastInDim S1 ![] bcast_S_S1 (constant S_ .f32 0x3E000000#32)) : (⟨S1, .f32⟩ : BufTy).Contents (Elt F))⟩, ⟨S1, ((broadcastInDim S1 ![] bcast_S_S1 (constant S_ .f32 0x3DB504F3#32)) : (⟨S1, .f32⟩ : BufTy).Contents (Elt F))⟩, ⟨S1, ((broadcastInDim S1 ![] bcast_S_S1 (constant S_ .f32 0x3D800000#32)) : (⟨S1, .f32⟩ : BufTy).Contents (Elt F))⟩, ⟨S1, ((broadcastInDim S1 ![] bcast_S_S1 (constant S_ .f32 0x3D3504F3#32)) : (⟨S1, .f32⟩ : BufTy).Contents (Elt F))⟩, ⟨S1, ((broadcastInDim S1 ![] bcast_S_S1 (constant S_ .f32 0x3D000000#32)) : (⟨S1, .f32⟩ : BufTy).Contents (Elt F))⟩, ⟨S1, ((broadcastInDim S1 ![] bcast_S_S1 (constant S_ .f32 0x3CB504F3#32)) : (⟨S1, .f32⟩ : BufTy).Contents (Elt F))⟩, ⟨S1, ((broadcastInDim S1 ![] bcast_S_S1 (constant S_ .f32 0x3C800000#32)) : (⟨S1, .f32⟩ : BufTy).Contents (Elt F))⟩, ⟨S1, ((broadcastInDim S1 ![] bcast_S_S1 (constant S_ .f32 0x3C3504F3#32)) : (⟨S1, .f32⟩ : BufTy).Contents (Elt F))⟩, ⟨S1, ((broadcastInDim S1 ![] bcast_S_S1 (constant S_ .f32 0x3C000000#32)) : (⟨S1, .f32⟩ : BufTy).Contents (Elt F))⟩, ⟨S1, ((broadcastInDim S1 ![] bcast_S_S1 (constant S_ .f32 0x3BB504F3#32)) : (⟨S1, .f32⟩ : BufTy).Contents (Elt F))⟩, ⟨S1, ((broadcastInDim S1 ![] bcast_S_S1 (constant S_ .f32 0x3B800000#32)) : (⟨S1, .f32⟩ : BufTy).Contents (Elt F))⟩] concatenates_S1_S1_S1_S1_S1_S1_S1_S1_S1_S1_S1_S1_S1_S1_S1_S1_S16_d0 : (⟨S16, .f32⟩ : BufTy).Contents (Elt F))) shapeCasts_S16_S4x2x2x1x1)) (broadcastInDim S4x2x2x128x256 ![0, 1, 2, 3, 4] bcast_S1x1x1x128x256_S4x2x2x128x256_0_1_2_3_4 (broadcastInDim S1x1x1x128x256 ![3, 4] bcast_S128x256_S1x1x1x128x256_3_4 (sitofp .f32 (res_main_while0b_v172 V0)))) : (Proc.devRef .tc main_while0b_v205 : DevRef τ sig).ty.Contents (Elt F)) = Cert.RefIdeal.Step.b160 j s := by
  unfold Cert.RefIdeal.Step.b160
  rw [← al_158 h, ← al_159 h]
  try rfl
set_option maxRecDepth 8192 in
theorem al_161 (h : Holds V0 s j) : (broadcastInDim S1x4x2x2x128x256 ![1, 2, 3, 4, 5] bcast_S4x2x2x128x256_S1x4x2x2x128x256_1_2_3_4_5 (mulf (broadcastInDim S4x2x2x128x256 ![0, 1, 2, 3, 4] bcast_S4x2x2x1x1_S4x2x2x128x256_0_1_2_3_4 (shapeCast S4x2x2x1x1 ((concatenate S16 0 [⟨S1, ((broadcastInDim S1 ![] bcast_S_S1 (constant S_ .f32 0x3F3504F3#32)) : (⟨S1, .f32⟩ : BufTy).Contents (Elt F))⟩, ⟨S1, ((broadcastInDim S1 ![] bcast_S_S1 (constant S_ .f32 0x3F000000#32)) : (⟨S1, .f32⟩ : BufTy).Contents (Elt F))⟩, ⟨S1, ((broadcastInDim S1 ![] bcast_S_S1 (constant S_ .f32 0x3EB504F3#32)) : (⟨S1, .f32⟩ : BufTy).Contents (Elt F))⟩, ⟨S1, ((broadcastInDim S1 ![] bcast_S_S1 (constant S_ .f32 0x3E800000#32)) : (⟨S1, .f32⟩ : BufTy).Contents (Elt F))⟩, ⟨S1, ((broadcastInDim S1 ![] bcast_S_S1 (constant S_ .f32 0x3E3504F3#32)) : (⟨S1, .f32⟩ : BufTy).Contents (Elt F))⟩, ⟨S1, ((broadcastInDim S1 ![] bcast_S_S1 (constant S_ .f32 0x3E000000#32)) : (⟨S1, .f32⟩ : BufTy).Contents (Elt F))⟩, ⟨S1, ((broadcastInDim S1 ![] bcast_S_S1 (constant S_ .f32 0x3DB504F3#32)) : (⟨S1, .f32⟩ : BufTy).Contents (Elt F))⟩, ⟨S1, ((broadcastInDim S1 ![] bcast_S_S1 (constant S_ .f32 0x3D800000#32)) : (⟨S1, .f32⟩ : BufTy).Contents (Elt F))⟩, ⟨S1, ((broadcastInDim S1 ![] bcast_S_S1 (constant S_ .f32 0x3D3504F3#32)) : (⟨S1, .f32⟩ : BufTy).Contents (Elt F))⟩, ⟨S1, ((broadcastInDim S1 ![] bcast_S_S1 (constant S_ .f32 0x3D000000#32)) : (⟨S1, .f32⟩ : BufTy).Contents (Elt F))⟩, ⟨S1, ((broadcastInDim S1 ![] bcast_S_S1 (constant S_ .f32 0x3CB504F3#32)) : (⟨S1, .f32⟩ : BufTy).Contents (Elt F))⟩, ⟨S1, ((broadcastInDim S1 ![] bcast_S_S1 (constant S_ .f32 0x3C800000#32)) : (⟨S1, .f32⟩ : BufTy).Contents (Elt F))⟩, ⟨S1, ((broadcastInDim S1 ![] bcast_S_S1 (constant S_ .f32 0x3C3504F3#32)) : (⟨S1, .f32⟩ : BufTy).Contents (Elt F))⟩, ⟨S1, ((broadcastInDim S1 ![] bcast_S_S1 (constant S_ .f32 0x3C000000#32)) : (⟨S1, .f32⟩ : BufTy).Contents (Elt F))⟩, ⟨S1, ((broadcastInDim S1 ![] bcast_S_S1 (constant S_ .f32 0x3BB504F3#32)) : (⟨S1, .f32⟩ : BufTy).Contents (Elt F))⟩, ⟨S1, ((broadcastInDim S1 ![] bcast_S_S1 (constant S_ .f32 0x3B800000#32)) : (⟨S1, .f32⟩ : BufTy).Contents (Elt F))⟩] concatenates_S1_S1_S1_S1_S1_S1_S1_S1_S1_S1_S1_S1_S1_S1_S1_S1_S16_d0 : (⟨S16, .f32⟩ : BufTy).Contents (Elt F))) shapeCasts_S16_S4x2x2x1x1)) (broadcastInDim S4x2x2x128x256 ![0, 1, 2, 3, 4] bcast_S1x1x1x128x256_S4x2x2x128x256_0_1_2_3_4 (broadcastInDim S1x1x1x128x256 ![3, 4] bcast_S128x256_S1x1x1x128x256_3_4 (sitofp .f32 (res_main_while0b_v172 V0))))) : (Proc.devRef .tc main_while0b_v206 : DevRef τ sig).ty.Contents (Elt F)) = Cert.RefIdeal.Step.b161 j s := by
  unfold Cert.RefIdeal.Step.b161
  rw [← al_160 h]
  try rfl
set_option maxRecDepth 8192 in
theorem al_162 (h : Holds V0 s j) : (broadcastInDim S4x4x2x2x128x256 ![0, 1, 2, 3, 4, 5] bcast_S1x4x2x2x128x256_S4x4x2x2x128x256_0_1_2_3_4_5 (broadcastInDim S1x4x2x2x128x256 ![1, 2, 3, 4, 5] bcast_S4x2x2x128x256_S1x4x2x2x128x256_1_2_3_4_5 (mulf (broadcastInDim S4x2x2x128x256 ![0, 1, 2, 3, 4] bcast_S4x2x2x1x1_S4x2x2x128x256_0_1_2_3_4 (shapeCast S4x2x2x1x1 ((concatenate S16 0 [⟨S1, ((broadcastInDim S1 ![] bcast_S_S1 (constant S_ .f32 0x3F3504F3#32)) : (⟨S1, .f32⟩ : BufTy).Contents (Elt F))⟩, ⟨S1, ((broadcastInDim S1 ![] bcast_S_S1 (constant S_ .f32 0x3F000000#32)) : (⟨S1, .f32⟩ : BufTy).Contents (Elt F))⟩, ⟨S1, ((broadcastInDim S1 ![] bcast_S_S1 (constant S_ .f32 0x3EB504F3#32)) : (⟨S1, .f32⟩ : BufTy).Contents (Elt F))⟩, ⟨S1, ((broadcastInDim S1 ![] bcast_S_S1 (constant S_ .f32 0x3E800000#32)) : (⟨S1, .f32⟩ : BufTy).Contents (Elt F))⟩, ⟨S1, ((broadcastInDim S1 ![] bcast_S_S1 (constant S_ .f32 0x3E3504F3#32)) : (⟨S1, .f32⟩ : BufTy).Contents (Elt F))⟩, ⟨S1, ((broadcastInDim S1 ![] bcast_S_S1 (constant S_ .f32 0x3E000000#32)) : (⟨S1, .f32⟩ : BufTy).Contents (Elt F))⟩, ⟨S1, ((broadcastInDim S1 ![] bcast_S_S1 (constant S_ .f32 0x3DB504F3#32)) : (⟨S1, .f32⟩ : BufTy).Contents (Elt F))⟩, ⟨S1, ((broadcastInDim S1 ![] bcast_S_S1 (constant S_ .f32 0x3D800000#32)) : (⟨S1, .f32⟩ : BufTy).Contents (Elt F))⟩, ⟨S1, ((broadcastInDim S1 ![] bcast_S_S1 (constant S_ .f32 0x3D3504F3#32)) : (⟨S1, .f32⟩ : BufTy).Contents (Elt F))⟩, ⟨S1, ((broadcastInDim S1 ![] bcast_S_S1 (constant S_ .f32 0x3D000000#32)) : (⟨S1, .f32⟩ : BufTy).Contents (Elt F))⟩, ⟨S1, ((broadcastInDim S1 ![] bcast_S_S1 (constant S_ .f32 0x3CB504F3#32)) : (⟨S1, .f32⟩ : BufTy).Contents (Elt F))⟩, ⟨S1, ((broadcastInDim S1 ![] bcast_S_S1 (constant S_ .f32 0x3C800000#32)) : (⟨S1, .f32⟩ : BufTy).Contents (Elt F))⟩, ⟨S1, ((broadcastInDim S1 ![] bcast_S_S1 (constant S_ .f32 0x3C3504F3#32)) : (⟨S1, .f32⟩ : BufTy).Contents (Elt F))⟩, ⟨S1, ((broadcastInDim S1 ![] bcast_S_S1 (constant S_ .f32 0x3C000000#32)) : (⟨S1, .f32⟩ : BufTy).Contents (Elt F))⟩, ⟨S1, ((broadcastInDim S1 ![] bcast_S_S1 (constant S_ .f32 0x3BB504F3#32)) : (⟨S1, .f32⟩ : BufTy).Contents (Elt F))⟩, ⟨S1, ((broadcastInDim S1 ![] bcast_S_S1 (constant S_ .f32 0x3B800000#32)) : (⟨S1, .f32⟩ : BufTy).Contents (Elt F))⟩] concatenates_S1_S1_S1_S1_S1_S1_S1_S1_S1_S1_S1_S1_S1_S1_S1_S1_S16_d0 : (⟨S16, .f32⟩ : BufTy).Contents (Elt F))) shapeCasts_S16_S4x2x2x1x1)) (broadcastInDim S4x2x2x128x256 ![0, 1, 2, 3, 4] bcast_S1x1x1x128x256_S4x2x2x128x256_0_1_2_3_4 (broadcastInDim S1x1x1x128x256 ![3, 4] bcast_S128x256_S1x1x1x128x256_3_4 (sitofp .f32 (res_main_while0b_v172 V0)))))) : (Proc.devRef .tc main_while0b_v207 : DevRef τ sig).ty.Contents (Elt F)) = Cert.RefIdeal.Step.b162 j s := by
  unfold Cert.RefIdeal.Step.b162
  rw [← al_161 h]
  try rfl
set_option maxRecDepth 8192 in
theorem al_163 (h : Holds V0 s j) : (subf (transpose S4x4x2x2x128x256 [0, 1, 5, 2, 4, 3] (Host.dotGeneral dot_S4x256x4x2x64_S4x128x4x2x2x64_S4x4x2x256x128x2_4_5_1_13_023_024 none (shapeCast S4x256x4x2x64 (Host.dynamicSlice S1x4x256x4x2x64 (V0 (Proc.devRef .tc main_v67_5)) (fun k => (((![V0 (Proc.devRef .tc main_v67_11), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S64x4x256x4x2x64_S1x4x256x4x2x64) shapeCasts_S1x4x256x4x2x64_S4x256x4x2x64) (shapeCast S4x128x4x2x2x64 (Host.dynamicSlice S1x4x128x4x2x2x64 (V0 (Proc.devRef .tc main_v67_4)) (fun k => (((![V0 (Proc.devRef .tc main_v67_11), constantI S_ 32 0#32, constantI S_ 32 0#32, constantI S_ 32 0#32, constantI S_ 32 0#32, constantI S_ 32 0#32, constantI S_ 32 0#32] : Fin 7 → (⟨S_, .i32⟩ : BufTy).Contents (Elt F))) k (Shape.Idx.first h_S_)).toInt) sliceFits_S64x4x128x4x2x2x64_S1x4x128x4x2x2x64) shapeCasts_S1x4x128x4x2x2x64_S4x128x4x2x2x64)) transposes_S4x4x2x256x128x2_S4x4x2x2x128x256_0_1_5_2_4_3) (broadcastInDim S4x4x2x2x128x256 ![0, 1, 2, 3, 4, 5] bcast_S1x4x2x2x128x256_S4x4x2x2x128x256_0_1_2_3_4_5 (broadcastInDim S1x4x2x2x128x256 ![1, 2, 3, 4, 5] bcast_S4x2x2x128x256_S1x4x2x2x128x256_1_2_3_4_5 (mulf (broadcastInDim S4x2x2x128x256 ![0, 1, 2, 3, 4] bcast_S4x2x2x1x1_S4x2x2x128x256_0_1_2_3_4 (shapeCast S4x2x2x1x1 ((concatenate S16 0 [⟨S1, ((broadcastInDim S1 ![] bcast_S_S1 (constant S_ .f32 0x3F3504F3#32)) : (⟨S1, .f32⟩ : BufTy).Contents (Elt F))⟩, ⟨S1, ((broadcastInDim S1 ![] bcast_S_S1 (constant S_ .f32 0x3F000000#32)) : (⟨S1, .f32⟩ : BufTy).Contents (Elt F))⟩, ⟨S1, ((broadcastInDim S1 ![] bcast_S_S1 (constant S_ .f32 0x3EB504F3#32)) : (⟨S1, .f32⟩ : BufTy).Contents (Elt F))⟩, ⟨S1, ((broadcastInDim S1 ![] bcast_S_S1 (constant S_ .f32 0x3E800000#32)) : (⟨S1, .f32⟩ : BufTy).Contents (Elt F))⟩, ⟨S1, ((broadcastInDim S1 ![] bcast_S_S1 (constant S_ .f32 0x3E3504F3#32)) : (⟨S1, .f32⟩ : BufTy).Contents (Elt F))⟩, ⟨S1, ((broadcastInDim S1 ![] bcast_S_S1 (constant S_ .f32 0x3E000000#32)) : (⟨S1, .f32⟩ : BufTy).Contents (Elt F))⟩, ⟨S1, ((broadcastInDim S1 ![] bcast_S_S1 (constant S_ .f32 0x3DB504F3#32)) : (⟨S1, .f32⟩ : BufTy).Contents (Elt F))⟩, ⟨S1, ((broadcastInDim S1 ![] bcast_S_S1 (constant S_ .f32 0x3D800000#32)) : (⟨S1, .f32⟩ : BufTy).Contents (Elt F))⟩, ⟨S1, ((broadcastInDim S1 ![] bcast_S_S1 (constant S_ .f32 0x3D3504F3#32)) : (⟨S1, .f32⟩ : BufTy).Contents (Elt F))⟩, ⟨S1, ((broadcastInDim S1 ![] bcast_S_S1 (constant S_ .f32 0x3D000000#32)) : (⟨S1, .f32⟩ : BufTy).Contents (Elt F))⟩, ⟨S1, ((broadcastInDim S1 ![] bcast_S_S1 (constant S_ .f32 0x3CB504F3#32)) : (⟨S1, .f32⟩ : BufTy).Contents (Elt F))⟩, ⟨S1, ((broadcastInDim S1 ![] bcast_S_S1 (constant S_ .f32 0x3C800000#32)) : (⟨S1, .f32⟩ : BufTy).Contents (Elt F))⟩, ⟨S1, ((broadcastInDim S1 ![] bcast_S_S1 (constant S_ .f32 0x3C3504F3#32)) : (⟨S1, .f32⟩ : BufTy).Contents (Elt F))⟩, ⟨S1, ((broadcastInDim S1 ![] bcast_S_S1 (constant S_ .f32 0x3C000000#32)) : (⟨S1, .f32⟩ : BufTy).Contents (Elt F))⟩, ⟨S1, ((broadcastInDim S1 ![] bcast_S_S1 (constant S_ .f32 0x3BB504F3#32)) : (⟨S1, .f32⟩ : BufTy).Contents (Elt F))⟩, ⟨S1, ((broadcastInDim S1 ![] bcast_S_S1 (constant S_ .f32 0x3B800000#32)) : (⟨S1, .f32⟩ : BufTy).Contents (Elt F))⟩] concatenates_S1_S1_S1_S1_S1_S1_S1_S1_S1_S1_S1_S1_S1_S1_S1_S1_S16_d0 : (⟨S16, .f32⟩ : BufTy).Contents (Elt F))) shapeCasts_S16_S4x2x2x1x1)) (broadcastInDim S4x2x2x128x256 ![0, 1, 2, 3, 4] bcast_S1x1x1x128x256_S4x2x2x128x256_0_1_2_3_4 (broadcastInDim S1x1x1x128x256 ![3, 4] bcast_S128x256_S1x1x1x128x256_3_4 (sitofp .f32 (res_main_while0b_v172 V0))))))) : (Proc.devRef .tc main_while0b_v208 : DevRef τ sig).ty.Contents (Elt F)) = Cert.RefIdeal.Step.b163 j s := by
  unfold Cert.RefIdeal.Step.b163
  rw [← al_155 h, ← al_162 h]
  try rfl
set_option maxRecDepth 8192 in
theorem al_164 (h : Holds V0 s j) : (constant S_ .f32 0xFF800000#32 : (Proc.devRef .tc main_while0b_cst_44 : DevRef τ sig).ty.Contents (Elt F)) = Cert.RefIdeal.Step.b164 j s := by
  unfold Cert.RefIdeal.Step.b164
  rfl
set_option maxRecDepth 8192 in
theorem al_165 (h : Holds V0 s j) : (id (constant S_ .f32 0xFF800000#32) : (Proc.devRef .tc main_while0b_call12_v0 : DevRef τ sig).ty.Contents (Elt F)) = Cert.RefIdeal.Step.b165 j s := by
  unfold Cert.RefIdeal.Step.b165
  rw [← al_164 h]
  try rfl
set_option maxRecDepth 8192 in
theorem al_166 (h : Holds V0 s j) : (broadcastInDim S4x4x2x2x128x256 ![4, 5] bcast_S128x256_S4x4x2x2x128x256_4_5 (andi (andi (cmpi .sge (res_main_while0b_v172 V0) (broadcastInDim S128x256 ![] bcast_S_S128x256 (constantI S_ 32 0#32))) (cmpi .sle (res_main_while0b_v172 V0) (broadcastInDim S128x256 ![] bcast_S_S128x256 (constantI S_ 32 128#32)))) (broadcastInDim S128x256 ![0, 1] bcast_S1x256_S128x256_0_1 (broadcastInDim S1x256 ![1] bcast_S256_S1x256_1 (shapeCast S256 (Host.dynamicSlice S1x256 (V0 (Proc.devRef .tc main_v67_7)) (fun k => (((![V0 (Proc.devRef .tc main_v67_11), constantI S_ 32 0#32] : Fin 2 → (⟨S_, .i32⟩ : BufTy).Contents (Elt F))) k (Shape.Idx.first h_S_)).toInt) sliceFits_S64x256_S1x256) shapeCasts_S1x256_S256)))) : (Proc.devRef .tc main_while0b_call12_v1 : DevRef τ sig).ty.Contents (Elt F)) = Cert.RefIdeal.Step.b166 j s := by
  unfold Cert.RefIdeal.Step.b166
  rw [← al_153 h]
  try rfl
set_option maxRecDepth 8192 in
theorem al_167 (h : Holds V0 s j) : (broadcastInDim S4x4x2x2x128x256 ![] bcast_S_S4x4x2x2x128x256 (id (constant S_ .f32 0xFF800000#32)) : (Proc.devRef .tc main_while0b_call12_v2 : DevRef τ sig).ty.Contents (Elt F)) = Cert.RefIdeal.Step.b167 j s := by
  unfold Cert.RefIdeal.Step.b167
  rw [← al_165 h]
  try rfl
set_option maxRecDepth 8192 in
theorem al_168 (h : Holds V0 s j) : (res_main_while0b_v209 V0 : (Proc.devRef .tc main_while0b_v209 : DevRef τ sig).ty.Contents (Elt F)) = Cert.RefIdeal.Step.b168 j s := by
  unfold res_main_while0b_v209 Cert.RefIdeal.Step.b168
  rw [← al_166 h, ← al_163 h, ← al_167 h]
  try rfl
set_option maxRecDepth 8192 in
theorem al_169 (h : Holds V0 s j) : (res_main_while0b_v210 V0 : (Proc.devRef .tc main_while0b_v210 : DevRef τ sig).ty.Contents (Elt F)) = Cert.RefIdeal.Step.b169 j s := by
  unfold res_main_while0b_v210 Cert.RefIdeal.Step.b169
  rw [h.f_10]
  try rfl
set_option maxRecDepth 8192 in
theorem al_170 (h : Holds V0 s j) : (constant S_ .f32 0xFF800000#32 : (Proc.devRef .tc main_while0b_cst_45 : DevRef τ sig).ty.Contents (Elt F)) = Cert.RefIdeal.Step.b170 j s := by
  unfold Cert.RefIdeal.Step.b170
  rfl
set_option maxRecDepth 8192 in
theorem al_171 (h : Holds V0 s j) : (Host.reduce FloatOps.maximumf (res_main_while0b_v209 V0) (constant S_ .f32 0xFF800000#32) reducesTo_S4x4x2x2x128x256_S4x4x2x2x128_d5 h_S_ : (Proc.devRef .tc main_while0b_v211 : DevRef τ sig).ty.Contents (Elt F)) = Cert.RefIdeal.Step.b171 j s := by
  unfold Cert.RefIdeal.Step.b171
  rw [← al_168 h, ← al_170 h]
  try rfl
set_option maxRecDepth 8192 in
theorem al_172 (h : Holds V0 s j) : (broadcastInDim S4x4x2x2x128x1 ![0, 1, 2, 3, 4] bcast_S4x4x2x2x128_S4x4x2x2x128x1_0_1_2_3_4 (Host.reduce FloatOps.maximumf (res_main_while0b_v209 V0) (constant S_ .f32 0xFF800000#32) reducesTo_S4x4x2x2x128x256_S4x4x2x2x128_d5 h_S_) : (Proc.devRef .tc main_while0b_v212 : DevRef τ sig).ty.Contents (Elt F)) = Cert.RefIdeal.Step.b172 j s := by
  unfold Cert.RefIdeal.Step.b172
  rw [← al_171 h]
  try rfl
set_option maxRecDepth 8192 in
theorem al_173 (h : Holds V0 s j) : (broadcastInDim S1x4x2x2x1x1 ![1, 2, 3, 4, 5] bcast_S4x2x2x1x1_S1x4x2x2x1x1_1_2_3_4_5 (res_main_while0b_v210 V0) : (Proc.devRef .tc main_while0b_v213 : DevRef τ sig).ty.Contents (Elt F)) = Cert.RefIdeal.Step.b173 j s := by
  unfold Cert.RefIdeal.Step.b173
  rw [← al_169 h]
  try rfl
set_option maxRecDepth 8192 in
theorem al_174 (h : Holds V0 s j) : (broadcastInDim S4x4x2x2x128x1 ![0, 1, 2, 3, 4, 5] bcast_S1x4x2x2x1x1_S4x4x2x2x128x1_0_1_2_3_4_5 (broadcastInDim S1x4x2x2x1x1 ![1, 2, 3, 4, 5] bcast_S4x2x2x1x1_S1x4x2x2x1x1_1_2_3_4_5 (res_main_while0b_v210 V0)) : (Proc.devRef .tc main_while0b_v214 : DevRef τ sig).ty.Contents (Elt F)) = Cert.RefIdeal.Step.b174 j s := by
  unfold Cert.RefIdeal.Step.b174
  rw [← al_173 h]
  try rfl
set_option maxRecDepth 8192 in
theorem al_175 (h : Holds V0 s j) : (res_main_while0b_v215 V0 : (Proc.devRef .tc main_while0b_v215 : DevRef τ sig).ty.Contents (Elt F)) = Cert.RefIdeal.Step.b175 j s := by
  unfold res_main_while0b_v215 Cert.RefIdeal.Step.b175
  rw [← al_172 h, ← al_174 h]
  try rfl
set_option maxRecDepth 8192 in
theorem al_177 (h : Holds V0 s j) : (subf (res_main_while0b_v209 V0) (broadcastInDim S4x4x2x2x128x256 ![0, 1, 2, 3, 4, 5] bcast_S4x4x2x2x128x1_S4x4x2x2x128x256_0_1_2_3_4_5 (res_main_while0b_v215 V0)) : (Proc.devRef .tc main_while0b_v217 : DevRef τ sig).ty.Contents (Elt F)) = Cert.RefIdeal.Step.b177 j s := by
  unfold Cert.RefIdeal.Step.b177 Cert.RefIdeal.Step.b176
  rw [← al_168 h, ← al_175 h]
  try rfl
set_option maxRecDepth 8192 in
theorem al_178 (h : Holds V0 s j) : (res_main_while0b_v218 V0 : (Proc.devRef .tc main_while0b_v218 : DevRef τ sig).ty.Contents (Elt F)) = Cert.RefIdeal.Step.b178 j s := by
  unfold res_main_while0b_v218 Cert.RefIdeal.Step.b178
  rw [← al_177 h]
  try rfl
set_option maxRecDepth 8192 in
theorem al_179 (h : Holds V0 s j) : (constant S_ .f32 0x00000000#32 : (Proc.devRef .tc main_while0b_cst_46 : DevRef τ sig).ty.Contents (Elt F)) = Cert.RefIdeal.Step.b179 j s := by
  unfold Cert.RefIdeal.Step.b179
  rfl
set_option maxRecDepth 8192 in
theorem al_180 (h : Holds V0 s j) : (Host.reduceAdd (res_main_while0b_v218 V0) (constant S_ .f32 0x00000000#32) reducesTo_S4x4x2x2x128x256_S4x4x2x2x128_d5 h_S_ : (Proc.devRef .tc main_while0b_v219 : DevRef τ sig).ty.Contents (Elt F)) = Cert.RefIdeal.Step.b180 j s := by
  unfold Cert.RefIdeal.Step.b180
  rw [← al_178 h, ← al_179 h]
  try rfl
set_option maxRecDepth 8192 in
theorem al_181 (h : Holds V0 s j) : (broadcastInDim S4x4x2x2x128x1 ![0, 1, 2, 3, 4] bcast_S4x4x2x2x128_S4x4x2x2x128x1_0_1_2_3_4 (Host.reduceAdd (res_main_while0b_v218 V0) (constant S_ .f32 0x00000000#32) reducesTo_S4x4x2x2x128x256_S4x4x2x2x128_d5 h_S_) : (Proc.devRef .tc main_while0b_v220 : DevRef τ sig).ty.Contents (Elt F)) = Cert.RefIdeal.Step.b181 j s := by
  unfold Cert.RefIdeal.Step.b181
  rw [← al_180 h]
  try rfl
set_option maxRecDepth 8192 in
theorem al_182 (h : Holds V0 s j) : (broadcastInDim S1x4x2x2x1x1 ![1, 2, 3, 4, 5] bcast_S4x2x2x1x1_S1x4x2x2x1x1_1_2_3_4_5 (res_main_while0b_v210 V0) : (Proc.devRef .tc main_while0b_v221 : DevRef τ sig).ty.Contents (Elt F)) = Cert.RefIdeal.Step.b182 j s := by
  unfold Cert.RefIdeal.Step.b182
  rw [← al_169 h]
  try rfl
set_option maxRecDepth 8192 in
theorem al_183 (h : Holds V0 s j) : (broadcastInDim S4x4x2x2x128x1 ![0, 1, 2, 3, 4, 5] bcast_S1x4x2x2x1x1_S4x4x2x2x128x1_0_1_2_3_4_5 (broadcastInDim S1x4x2x2x1x1 ![1, 2, 3, 4, 5] bcast_S4x2x2x1x1_S1x4x2x2x1x1_1_2_3_4_5 (res_main_while0b_v210 V0)) : (Proc.devRef .tc main_while0b_v222 : DevRef τ sig).ty.Contents (Elt F)) = Cert.RefIdeal.Step.b183 j s := by
  unfold Cert.RefIdeal.Step.b183
  rw [← al_182 h]
  try rfl
set_option maxRecDepth 8192 in
theorem al_184 (h : Holds V0 s j) : (subf (broadcastInDim S4x4x2x2x128x1 ![0, 1, 2, 3, 4, 5] bcast_S1x4x2x2x1x1_S4x4x2x2x128x1_0_1_2_3_4_5 (broadcastInDim S1x4x2x2x1x1 ![1, 2, 3, 4, 5] bcast_S4x2x2x1x1_S1x4x2x2x1x1_1_2_3_4_5 (res_main_while0b_v210 V0))) (res_main_while0b_v215 V0) : (Proc.devRef .tc main_while0b_v223 : DevRef τ sig).ty.Contents (Elt F)) = Cert.RefIdeal.Step.b184 j s := by
  unfold Cert.RefIdeal.Step.b184
  rw [← al_183 h, ← al_175 h]
  try rfl
set_option maxRecDepth 8192 in
theorem al_185 (h : Holds V0 s j) : (Host.exp (subf (broadcastInDim S4x4x2x2x128x1 ![0, 1, 2, 3, 4, 5] bcast_S1x4x2x2x1x1_S4x4x2x2x128x1_0_1_2_3_4_5 (broadcastInDim S1x4x2x2x1x1 ![1, 2, 3, 4, 5] bcast_S4x2x2x1x1_S1x4x2x2x1x1_1_2_3_4_5 (res_main_while0b_v210 V0))) (res_main_while0b_v215 V0)) : (Proc.devRef .tc main_while0b_v224 : DevRef τ sig).ty.Contents (Elt F)) = Cert.RefIdeal.Step.b185 j s := by
  unfold Cert.RefIdeal.Step.b185
  rw [← al_184 h]
  try rfl
set_option maxRecDepth 8192 in
theorem al_186 (h : Holds V0 s j) : (addf (broadcastInDim S4x4x2x2x128x1 ![0, 1, 2, 3, 4] bcast_S4x4x2x2x128_S4x4x2x2x128x1_0_1_2_3_4 (Host.reduceAdd (res_main_while0b_v218 V0) (constant S_ .f32 0x00000000#32) reducesTo_S4x4x2x2x128x256_S4x4x2x2x128_d5 h_S_)) (Host.exp (subf (broadcastInDim S4x4x2x2x128x1 ![0, 1, 2, 3, 4, 5] bcast_S1x4x2x2x1x1_S4x4x2x2x128x1_0_1_2_3_4_5 (broadcastInDim S1x4x2x2x1x1 ![1, 2, 3, 4, 5] bcast_S4x2x2x1x1_S1x4x2x2x1x1_1_2_3_4_5 (res_main_while0b_v210 V0))) (res_main_while0b_v215 V0))) : (Proc.devRef .tc main_while0b_v225 : DevRef τ sig).ty.Contents (Elt F)) = Cert.RefIdeal.Step.b186 j s := by
  unfold Cert.RefIdeal.Step.b186
  rw [← al_181 h, ← al_185 h]
  try rfl
set_option maxRecDepth 8192 in
theorem al_187 (h : Holds V0 s j) : (broadcastInDim S4x4x2x2x128x256 ![0, 1, 2, 3, 4, 5] bcast_S4x4x2x2x128x1_S4x4x2x2x128x256_0_1_2_3_4_5 (addf (broadcastInDim S4x4x2x2x128x1 ![0, 1, 2, 3, 4] bcast_S4x4x2x2x128_S4x4x2x2x128x1_0_1_2_3_4 (Host.reduceAdd (res_main_while0b_v218 V0) (constant S_ .f32 0x00000000#32) reducesTo_S4x4x2x2x128x256_S4x4x2x2x128_d5 h_S_)) (Host.exp (subf (broadcastInDim S4x4x2x2x128x1 ![0, 1, 2, 3, 4, 5] bcast_S1x4x2x2x1x1_S4x4x2x2x128x1_0_1_2_3_4_5 (broadcastInDim S1x4x2x2x1x1 ![1, 2, 3, 4, 5] bcast_S4x2x2x1x1_S1x4x2x2x1x1_1_2_3_4_5 (res_main_while0b_v210 V0))) (res_main_while0b_v215 V0)))) : (Proc.devRef .tc main_while0b_v226 : DevRef τ sig).ty.Contents (Elt F)) = Cert.RefIdeal.Step.b187 j s := by
  unfold Cert.RefIdeal.Step.b187
  rw [← al_186 h]
  try rfl
set_option maxRecDepth 8192 in
theorem al_188 (h : Holds V0 s j) : (Host.divf (res_main_while0b_v218 V0) (broadcastInDim S4x4x2x2x128x256 ![0, 1, 2, 3, 4, 5] bcast_S4x4x2x2x128x1_S4x4x2x2x128x256_0_1_2_3_4_5 (addf (broadcastInDim S4x4x2x2x128x1 ![0, 1, 2, 3, 4] bcast_S4x4x2x2x128_S4x4x2x2x128x1_0_1_2_3_4 (Host.reduceAdd (res_main_while0b_v218 V0) (constant S_ .f32 0x00000000#32) reducesTo_S4x4x2x2x128x256_S4x4x2x2x128_d5 h_S_)) (Host.exp (subf (broadcastInDim S4x4x2x2x128x1 ![0, 1, 2, 3, 4, 5] bcast_S1x4x2x2x1x1_S4x4x2x2x128x1_0_1_2_3_4_5 (broadcastInDim S1x4x2x2x1x1 ![1, 2, 3, 4, 5] bcast_S4x2x2x1x1_S1x4x2x2x1x1_1_2_3_4_5 (res_main_while0b_v210 V0))) (res_main_while0b_v215 V0))))) : (Proc.devRef .tc main_while0b_v227 : DevRef τ sig).ty.Contents (Elt F)) = Cert.RefIdeal.Step.b188 j s := by
  unfold Cert.RefIdeal.Step.b188
  rw [← al_178 h, ← al_187 h]
  try rfl
set_option maxRecDepth 8192 in
theorem al_189 (h : Holds V0 s j) : (Host.dotGeneral dot_S4x256x4x2x64_S4x4x2x2x128x256_S4x4x2x64x2x128_1_5_4_24_023_013 none (shapeCast S4x256x4x2x64 (Host.dynamicSlice S1x4x256x4x2x64 (V0 (Proc.devRef .tc main_v67_6)) (fun k => (((![V0 (Proc.devRef .tc main_v67_11), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S64x4x256x4x2x64_S1x4x256x4x2x64) shapeCasts_S1x4x256x4x2x64_S4x256x4x2x64) (Host.divf (res_main_while0b_v218 V0) (broadcastInDim S4x4x2x2x128x256 ![0, 1, 2, 3, 4, 5] bcast_S4x4x2x2x128x1_S4x4x2x2x128x256_0_1_2_3_4_5 (addf (broadcastInDim S4x4x2x2x128x1 ![0, 1, 2, 3, 4] bcast_S4x4x2x2x128_S4x4x2x2x128x1_0_1_2_3_4 (Host.reduceAdd (res_main_while0b_v218 V0) (constant S_ .f32 0x00000000#32) reducesTo_S4x4x2x2x128x256_S4x4x2x2x128_d5 h_S_)) (Host.exp (subf (broadcastInDim S4x4x2x2x128x1 ![0, 1, 2, 3, 4, 5] bcast_S1x4x2x2x1x1_S4x4x2x2x128x1_0_1_2_3_4_5 (broadcastInDim S1x4x2x2x1x1 ![1, 2, 3, 4, 5] bcast_S4x2x2x1x1_S1x4x2x2x1x1_1_2_3_4_5 (res_main_while0b_v210 V0))) (res_main_while0b_v215 V0)))))) : (Proc.devRef .tc main_while0b_v228 : DevRef τ sig).ty.Contents (Elt F)) = Cert.RefIdeal.Step.b189 j s := by
  unfold Cert.RefIdeal.Step.b189
  rw [← al_46 h, ← al_188 h]
  try rfl
set_option maxRecDepth 8192 in
theorem al_190 (h : Holds V0 s j) : (broadcastInDim S1x4x128x4x8x64 ![1, 2, 3, 4, 5] bcast_S4x128x4x8x64_S1x4x128x4x8x64_1_2_3_4_5 (addf (transpose S4x128x4x8x64 [0, 4, 1, 2, 3] (Host.dotGeneral dot_S4x128x4x8x64_S4x128x128x4x8_S4x4x8x64x128_1_2_4_1_023_034 none (res_main_while0b_v112 V0) (mulf (mulf (broadcastInDim S4x128x128x4x8 ![0, 1, 2, 3, 4] bcast_S4x128x128x4x1_S4x128x128x4x8_0_1_2_3_4 (broadcastInDim S4x128x128x4x1 ![0, 1, 2, 3] bcast_S4x128x128x4_S4x128x128x4x1_0_1_2_3 (transpose S4x128x128x4 [0, 3, 2, 1] (Host.dotGeneral dot_S4x128x4x128_S4x128x4x128_S4x4x128x128_3_3_1_1_02_02 none (res_main_while0b_v114 V0) (res_main_while0b_v115 V0)) transposes_S4x4x128x128_S4x128x128x4_0_3_2_1))) (Host.exp (select (broadcastInDim S4x128x128x4x8 ![0, 1, 2, 3, 4] bcast_S1x128x128x1x1_S4x128x128x4x8_0_1_2_3_4 (V0 (Proc.devRef .tc main_v67_9))) (subf (broadcastInDim S4x128x128x4x8 ![0, 1, 2, 3, 4] bcast_S4x128x1x4x8_S4x128x128x4x8_0_1_2_3_4 (broadcastInDim S4x128x1x4x8 ![0, 1, 3, 4] bcast_S4x128x4x8_S4x128x1x4x8_0_1_3_4 (res_main_while0b_v123 V0))) (broadcastInDim S4x128x128x4x8 ![0, 1, 2, 3, 4] bcast_S4x1x128x4x8_S4x128x128x4x8_0_1_2_3_4 (broadcastInDim S4x1x128x4x8 ![0, 2, 3, 4] bcast_S4x128x4x8_S4x1x128x4x8_0_2_3_4 (res_main_while0b_v123 V0)))) (broadcastInDim S4x128x128x4x8 ![] bcast_S_S4x128x128x4x8 (id (constant S_ .f32 0xFF800000#32)))))) (broadcastInDim S4x128x128x4x8 ![0, 1, 2, 3, 4] bcast_S4x1x128x4x8_S4x128x128x4x8_0_1_2_3_4 (broadcastInDim S4x1x128x4x8 ![0, 2, 3, 4] bcast_S4x128x4x8_S4x1x128x4x8_0_2_3_4 (res_main_while0b_v113 V0))))) transposes_S4x4x8x64x128_S4x128x4x8x64_0_4_1_2_3) (mulf (transpose S4x128x4x8x64 [0, 4, 1, 2, 3] (Host.dotGeneral dot_S4x4x8x64x128_S4x128x4x128_S4x4x8x64x128_4_3_23_1_01_02 none (V0 (Proc.devRef .tc main_v67_12)) (res_main_while0b_v115 V0)) transposes_S4x4x8x64x128_S4x128x4x8x64_0_4_1_2_3) (broadcastInDim S4x128x4x8x64 ![0, 1, 2, 3, 4] bcast_S4x128x4x8x1_S4x128x4x8x64_0_1_2_3_4 (broadcastInDim S4x128x4x8x1 ![0, 1, 2, 3] bcast_S4x128x4x8_S4x128x4x8x1_0_1_2_3 (Host.exp (res_main_while0b_v123 V0)))))) : (Proc.devRef .tc main_while0b_call13_v0 : DevRef τ sig).ty.Contents (Elt F)) = Cert.RefIdeal.Step.b190 j s := by
  unfold Cert.RefIdeal.Step.b190
  rw [← al_83 h]
  try rfl
set_option maxRecDepth 8192 in
theorem al_191 (h : Holds V0 s j) : (constantI S_ 32 0#32 : (Proc.devRef .tc main_while0b_call13_c : DevRef τ sig).ty.Contents (Elt F)) = Cert.RefIdeal.Step.b191 j s := by
  unfold Cert.RefIdeal.Step.b191
  rfl
set_option maxRecDepth 8192 in
theorem al_192 (h : Holds V0 s j) : (constantI S_ 32 0#32 : (Proc.devRef .tc main_while0b_call13_c_0 : DevRef τ sig).ty.Contents (Elt F)) = Cert.RefIdeal.Step.b192 j s := by
  unfold Cert.RefIdeal.Step.b192
  rfl
set_option maxRecDepth 8192 in
theorem al_193 (h : Holds V0 s j) : (constantI S_ 32 0#32 : (Proc.devRef .tc main_while0b_call13_c_1 : DevRef τ sig).ty.Contents (Elt F)) = Cert.RefIdeal.Step.b193 j s := by
  unfold Cert.RefIdeal.Step.b193
  rfl
set_option maxRecDepth 8192 in
theorem al_194 (h : Holds V0 s j) : (constantI S_ 32 0#32 : (Proc.devRef .tc main_while0b_call13_c_2 : DevRef τ sig).ty.Contents (Elt F)) = Cert.RefIdeal.Step.b194 j s := by
  unfold Cert.RefIdeal.Step.b194
  rfl
set_option maxRecDepth 8192 in
theorem al_195 (h : Holds V0 s j) : (constantI S_ 32 0#32 : (Proc.devRef .tc main_while0b_call13_c_3 : DevRef τ sig).ty.Contents (Elt F)) = Cert.RefIdeal.Step.b195 j s := by
  unfold Cert.RefIdeal.Step.b195
  rfl
set_option maxRecDepth 8192 in
theorem al_196 (h : Holds V0 s j) : (Host.dynamicUpdateSlice (V0 (Proc.devRef .tc main_v67_13)) (broadcastInDim S1x4x128x4x8x64 ![1, 2, 3, 4, 5] bcast_S4x128x4x8x64_S1x4x128x4x8x64_1_2_3_4_5 (addf (transpose S4x128x4x8x64 [0, 4, 1, 2, 3] (Host.dotGeneral dot_S4x128x4x8x64_S4x128x128x4x8_S4x4x8x64x128_1_2_4_1_023_034 none (res_main_while0b_v112 V0) (mulf (mulf (broadcastInDim S4x128x128x4x8 ![0, 1, 2, 3, 4] bcast_S4x128x128x4x1_S4x128x128x4x8_0_1_2_3_4 (broadcastInDim S4x128x128x4x1 ![0, 1, 2, 3] bcast_S4x128x128x4_S4x128x128x4x1_0_1_2_3 (transpose S4x128x128x4 [0, 3, 2, 1] (Host.dotGeneral dot_S4x128x4x128_S4x128x4x128_S4x4x128x128_3_3_1_1_02_02 none (res_main_while0b_v114 V0) (res_main_while0b_v115 V0)) transposes_S4x4x128x128_S4x128x128x4_0_3_2_1))) (Host.exp (select (broadcastInDim S4x128x128x4x8 ![0, 1, 2, 3, 4] bcast_S1x128x128x1x1_S4x128x128x4x8_0_1_2_3_4 (V0 (Proc.devRef .tc main_v67_9))) (subf (broadcastInDim S4x128x128x4x8 ![0, 1, 2, 3, 4] bcast_S4x128x1x4x8_S4x128x128x4x8_0_1_2_3_4 (broadcastInDim S4x128x1x4x8 ![0, 1, 3, 4] bcast_S4x128x4x8_S4x128x1x4x8_0_1_3_4 (res_main_while0b_v123 V0))) (broadcastInDim S4x128x128x4x8 ![0, 1, 2, 3, 4] bcast_S4x1x128x4x8_S4x128x128x4x8_0_1_2_3_4 (broadcastInDim S4x1x128x4x8 ![0, 2, 3, 4] bcast_S4x128x4x8_S4x1x128x4x8_0_2_3_4 (res_main_while0b_v123 V0)))) (broadcastInDim S4x128x128x4x8 ![] bcast_S_S4x128x128x4x8 (id (constant S_ .f32 0xFF800000#32)))))) (broadcastInDim S4x128x128x4x8 ![0, 1, 2, 3, 4] bcast_S4x1x128x4x8_S4x128x128x4x8_0_1_2_3_4 (broadcastInDim S4x1x128x4x8 ![0, 2, 3, 4] bcast_S4x128x4x8_S4x1x128x4x8_0_2_3_4 (res_main_while0b_v113 V0))))) transposes_S4x4x8x64x128_S4x128x4x8x64_0_4_1_2_3) (mulf (transpose S4x128x4x8x64 [0, 4, 1, 2, 3] (Host.dotGeneral dot_S4x4x8x64x128_S4x128x4x128_S4x4x8x64x128_4_3_23_1_01_02 none (V0 (Proc.devRef .tc main_v67_12)) (res_main_while0b_v115 V0)) transposes_S4x4x8x64x128_S4x128x4x8x64_0_4_1_2_3) (broadcastInDim S4x128x4x8x64 ![0, 1, 2, 3, 4] bcast_S4x128x4x8x1_S4x128x4x8x64_0_1_2_3_4 (broadcastInDim S4x128x4x8x1 ![0, 1, 2, 3] bcast_S4x128x4x8_S4x128x4x8x1_0_1_2_3 (Host.exp (res_main_while0b_v123 V0))))))) (fun k => (((![V0 (Proc.devRef .tc main_v67_11), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) updateFits_S64x4x128x4x8x64_S1x4x128x4x8x64 : (Proc.devRef .tc main_while0b_v229 : DevRef τ sig).ty.Contents (Elt F)) = Cert.RefIdeal.Step.b196 j s := by
  unfold Cert.RefIdeal.Step.b196
  rw [← al_190 h, ← al_191 h, ← al_192 h, ← al_193 h, ← al_194 h, ← al_195 h, h.f_13, h.n_11]
  try rfl
set_option maxRecDepth 8192 in
theorem al_197 (h : Holds V0 s j) : (broadcastInDim S1x4x4x2x64x2x128 ![1, 2, 3, 4, 5, 6] bcast_S4x4x2x64x2x128_S1x4x4x2x64x2x128_1_2_3_4_5_6 (Host.dotGeneral dot_S4x256x4x2x64_S4x4x2x2x128x256_S4x4x2x64x2x128_1_5_4_24_023_013 none (shapeCast S4x256x4x2x64 (Host.dynamicSlice S1x4x256x4x2x64 (V0 (Proc.devRef .tc main_v67_6)) (fun k => (((![V0 (Proc.devRef .tc main_v67_11), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S64x4x256x4x2x64_S1x4x256x4x2x64) shapeCasts_S1x4x256x4x2x64_S4x256x4x2x64) (Host.divf (res_main_while0b_v218 V0) (broadcastInDim S4x4x2x2x128x256 ![0, 1, 2, 3, 4, 5] bcast_S4x4x2x2x128x1_S4x4x2x2x128x256_0_1_2_3_4_5 (addf (broadcastInDim S4x4x2x2x128x1 ![0, 1, 2, 3, 4] bcast_S4x4x2x2x128_S4x4x2x2x128x1_0_1_2_3_4 (Host.reduceAdd (res_main_while0b_v218 V0) (constant S_ .f32 0x00000000#32) reducesTo_S4x4x2x2x128x256_S4x4x2x2x128_d5 h_S_)) (Host.exp (subf (broadcastInDim S4x4x2x2x128x1 ![0, 1, 2, 3, 4, 5] bcast_S1x4x2x2x1x1_S4x4x2x2x128x1_0_1_2_3_4_5 (broadcastInDim S1x4x2x2x1x1 ![1, 2, 3, 4, 5] bcast_S4x2x2x1x1_S1x4x2x2x1x1_1_2_3_4_5 (res_main_while0b_v210 V0))) (res_main_while0b_v215 V0))))))) : (Proc.devRef .tc main_while0b_call14_v0 : DevRef τ sig).ty.Contents (Elt F)) = Cert.RefIdeal.Step.b197 j s := by
  unfold Cert.RefIdeal.Step.b197
  rw [← al_189 h]
  try rfl
set_option maxRecDepth 8192 in
theorem al_198 (h : Holds V0 s j) : (constantI S_ 32 0#32 : (Proc.devRef .tc main_while0b_call14_c : DevRef τ sig).ty.Contents (Elt F)) = Cert.RefIdeal.Step.b198 j s := by
  unfold Cert.RefIdeal.Step.b198
  rfl
set_option maxRecDepth 8192 in
theorem al_199 (h : Holds V0 s j) : (constantI S_ 32 0#32 : (Proc.devRef .tc main_while0b_call14_c_0 : DevRef τ sig).ty.Contents (Elt F)) = Cert.RefIdeal.Step.b199 j s := by
  unfold Cert.RefIdeal.Step.b199
  rfl
set_option maxRecDepth 8192 in
theorem al_200 (h : Holds V0 s j) : (constantI S_ 32 0#32 : (Proc.devRef .tc main_while0b_call14_c_1 : DevRef τ sig).ty.Contents (Elt F)) = Cert.RefIdeal.Step.b200 j s := by
  unfold Cert.RefIdeal.Step.b200
  rfl
set_option maxRecDepth 8192 in
theorem al_201 (h : Holds V0 s j) : (constantI S_ 32 0#32 : (Proc.devRef .tc main_while0b_call14_c_2 : DevRef τ sig).ty.Contents (Elt F)) = Cert.RefIdeal.Step.b201 j s := by
  unfold Cert.RefIdeal.Step.b201
  rfl
set_option maxRecDepth 8192 in
theorem al_202 (h : Holds V0 s j) : (constantI S_ 32 0#32 : (Proc.devRef .tc main_while0b_call14_c_3 : DevRef τ sig).ty.Contents (Elt F)) = Cert.RefIdeal.Step.b202 j s := by
  unfold Cert.RefIdeal.Step.b202
  rfl
set_option maxRecDepth 8192 in
theorem al_203 (h : Holds V0 s j) : (constantI S_ 32 0#32 : (Proc.devRef .tc main_while0b_call14_c_4 : DevRef τ sig).ty.Contents (Elt F)) = Cert.RefIdeal.Step.b203 j s := by
  unfold Cert.RefIdeal.Step.b203
  rfl
set_option maxRecDepth 8192 in
theorem al_204 (h : Holds V0 s j) : (Host.dynamicUpdateSlice (V0 (Proc.devRef .tc main_v67_14)) (broadcastInDim S1x4x4x2x64x2x128 ![1, 2, 3, 4, 5, 6] bcast_S4x4x2x64x2x128_S1x4x4x2x64x2x128_1_2_3_4_5_6 (Host.dotGeneral dot_S4x256x4x2x64_S4x4x2x2x128x256_S4x4x2x64x2x128_1_5_4_24_023_013 none (shapeCast S4x256x4x2x64 (Host.dynamicSlice S1x4x256x4x2x64 (V0 (Proc.devRef .tc main_v67_6)) (fun k => (((![V0 (Proc.devRef .tc main_v67_11), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S64x4x256x4x2x64_S1x4x256x4x2x64) shapeCasts_S1x4x256x4x2x64_S4x256x4x2x64) (Host.divf (res_main_while0b_v218 V0) (broadcastInDim S4x4x2x2x128x256 ![0, 1, 2, 3, 4, 5] bcast_S4x4x2x2x128x1_S4x4x2x2x128x256_0_1_2_3_4_5 (addf (broadcastInDim S4x4x2x2x128x1 ![0, 1, 2, 3, 4] bcast_S4x4x2x2x128_S4x4x2x2x128x1_0_1_2_3_4 (Host.reduceAdd (res_main_while0b_v218 V0) (constant S_ .f32 0x00000000#32) reducesTo_S4x4x2x2x128x256_S4x4x2x2x128_d5 h_S_)) (Host.exp (subf (broadcastInDim S4x4x2x2x128x1 ![0, 1, 2, 3, 4, 5] bcast_S1x4x2x2x1x1_S4x4x2x2x128x1_0_1_2_3_4_5 (broadcastInDim S1x4x2x2x1x1 ![1, 2, 3, 4, 5] bcast_S4x2x2x1x1_S1x4x2x2x1x1_1_2_3_4_5 (res_main_while0b_v210 V0))) (res_main_while0b_v215 V0)))))))) (fun k => (((![V0 (Proc.devRef .tc main_v67_11), constantI S_ 32 0#32, constantI S_ 32 0#32, constantI S_ 32 0#32, constantI S_ 32 0#32, constantI S_ 32 0#32, constantI S_ 32 0#32] : Fin 7 → (⟨S_, .i32⟩ : BufTy).Contents (Elt F))) k (Shape.Idx.first h_S_)).toInt) updateFits_S64x4x4x2x64x2x128_S1x4x4x2x64x2x128 : (Proc.devRef .tc main_while0b_v230 : DevRef τ sig).ty.Contents (Elt F)) = Cert.RefIdeal.Step.b204 j s := by
  unfold Cert.RefIdeal.Step.b204
  rw [← al_197 h, ← al_198 h, ← al_199 h, ← al_200 h, ← al_201 h, ← al_202 h, ← al_203 h, h.f_14, h.n_11]
  try rfl

/-! One trip's step of the carried values is `step`, field by field; a counter steps to the next number. -/

theorem step_12 (h : Holds V0 s j) : step_main_v67_12 V0 = (step j s).main_v67_12 := by
  unfold step_main_v67_12 Cert.RefIdeal.Step.step
  show id (addf (mulf (V0 (Proc.devRef .tc main_v67_12)) (broadcastInDim S4x4x8x64x128 ![0, 1, 2, 3, 4] bcast_S4x4x8x1x1_S4x4x8x64x128_0_1_2_3_4 (broadcastInDim S4x4x8x1x1 ![0, 1, 2] bcast_S4x4x8_S4x4x8x1x1_0_1_2 (Host.exp (shapeCast S4x4x8 (extractStridedSlice S4x1x4x8 ![0, 127, 0, 0] (res_main_while0b_v123 V0) slices_S4x128x4x8_S4x1x4x8_0_127_0_0) shapeCasts_S4x1x4x8_S4x4x8))))) (Host.dotGeneral dot_S4x128x4x8x64_S4x128x4x128_S4x4x8x64x128_1_1_34_3_02_02 none (mulf (broadcastInDim S4x128x4x8x64 ![0, 1, 2, 3, 4] bcast_S4x128x4x8x1_S4x128x4x8x64_0_1_2_3_4 (broadcastInDim S4x128x4x8x1 ![0, 1, 2, 3] bcast_S4x128x4x8_S4x128x4x8x1_0_1_2_3 (mulf (Host.exp (subf (broadcastInDim S4x128x4x8 ![0, 1, 2, 3] bcast_S4x1x4x8_S4x128x4x8_0_1_2_3 (extractStridedSlice S4x1x4x8 ![0, 127, 0, 0] (res_main_while0b_v123 V0) slices_S4x128x4x8_S4x1x4x8_0_127_0_0)) (res_main_while0b_v123 V0))) (res_main_while0b_v113 V0)))) (res_main_while0b_v112 V0)) (res_main_while0b_v114 V0))) = _
  rw [al_99 h]
  try rfl
theorem step_13 (h : Holds V0 s j) : step_main_v67_13 V0 = (step j s).main_v67_13 := by
  unfold step_main_v67_13 Cert.RefIdeal.Step.step
  show id (Host.dynamicUpdateSlice (V0 (Proc.devRef .tc main_v67_13)) (broadcastInDim S1x4x128x4x8x64 ![1, 2, 3, 4, 5] bcast_S4x128x4x8x64_S1x4x128x4x8x64_1_2_3_4_5 (addf (transpose S4x128x4x8x64 [0, 4, 1, 2, 3] (Host.dotGeneral dot_S4x128x4x8x64_S4x128x128x4x8_S4x4x8x64x128_1_2_4_1_023_034 none (res_main_while0b_v112 V0) (mulf (mulf (broadcastInDim S4x128x128x4x8 ![0, 1, 2, 3, 4] bcast_S4x128x128x4x1_S4x128x128x4x8_0_1_2_3_4 (broadcastInDim S4x128x128x4x1 ![0, 1, 2, 3] bcast_S4x128x128x4_S4x128x128x4x1_0_1_2_3 (transpose S4x128x128x4 [0, 3, 2, 1] (Host.dotGeneral dot_S4x128x4x128_S4x128x4x128_S4x4x128x128_3_3_1_1_02_02 none (res_main_while0b_v114 V0) (res_main_while0b_v115 V0)) transposes_S4x4x128x128_S4x128x128x4_0_3_2_1))) (Host.exp (select (broadcastInDim S4x128x128x4x8 ![0, 1, 2, 3, 4] bcast_S1x128x128x1x1_S4x128x128x4x8_0_1_2_3_4 (V0 (Proc.devRef .tc main_v67_9))) (subf (broadcastInDim S4x128x128x4x8 ![0, 1, 2, 3, 4] bcast_S4x128x1x4x8_S4x128x128x4x8_0_1_2_3_4 (broadcastInDim S4x128x1x4x8 ![0, 1, 3, 4] bcast_S4x128x4x8_S4x128x1x4x8_0_1_3_4 (res_main_while0b_v123 V0))) (broadcastInDim S4x128x128x4x8 ![0, 1, 2, 3, 4] bcast_S4x1x128x4x8_S4x128x128x4x8_0_1_2_3_4 (broadcastInDim S4x1x128x4x8 ![0, 2, 3, 4] bcast_S4x128x4x8_S4x1x128x4x8_0_2_3_4 (res_main_while0b_v123 V0)))) (broadcastInDim S4x128x128x4x8 ![] bcast_S_S4x128x128x4x8 (id (constant S_ .f32 0xFF800000#32)))))) (broadcastInDim S4x128x128x4x8 ![0, 1, 2, 3, 4] bcast_S4x1x128x4x8_S4x128x128x4x8_0_1_2_3_4 (broadcastInDim S4x1x128x4x8 ![0, 2, 3, 4] bcast_S4x128x4x8_S4x1x128x4x8_0_2_3_4 (res_main_while0b_v113 V0))))) transposes_S4x4x8x64x128_S4x128x4x8x64_0_4_1_2_3) (mulf (transpose S4x128x4x8x64 [0, 4, 1, 2, 3] (Host.dotGeneral dot_S4x4x8x64x128_S4x128x4x128_S4x4x8x64x128_4_3_23_1_01_02 none (V0 (Proc.devRef .tc main_v67_12)) (res_main_while0b_v115 V0)) transposes_S4x4x8x64x128_S4x128x4x8x64_0_4_1_2_3) (broadcastInDim S4x128x4x8x64 ![0, 1, 2, 3, 4] bcast_S4x128x4x8x1_S4x128x4x8x64_0_1_2_3_4 (broadcastInDim S4x128x4x8x1 ![0, 1, 2, 3] bcast_S4x128x4x8_S4x128x4x8x1_0_1_2_3 (Host.exp (res_main_while0b_v123 V0))))))) (fun k => (((![V0 (Proc.devRef .tc main_v67_11), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) updateFits_S64x4x128x4x8x64_S1x4x128x4x8x64) = _
  exact al_196 h
theorem step_14 (h : Holds V0 s j) : step_main_v67_14 V0 = (step j s).main_v67_14 := by
  unfold step_main_v67_14 Cert.RefIdeal.Step.step
  show id (Host.dynamicUpdateSlice (V0 (Proc.devRef .tc main_v67_14)) (broadcastInDim S1x4x4x2x64x2x128 ![1, 2, 3, 4, 5, 6] bcast_S4x4x2x64x2x128_S1x4x4x2x64x2x128_1_2_3_4_5_6 (Host.dotGeneral dot_S4x256x4x2x64_S4x4x2x2x128x256_S4x4x2x64x2x128_1_5_4_24_023_013 none (shapeCast S4x256x4x2x64 (Host.dynamicSlice S1x4x256x4x2x64 (V0 (Proc.devRef .tc main_v67_6)) (fun k => (((![V0 (Proc.devRef .tc main_v67_11), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S64x4x256x4x2x64_S1x4x256x4x2x64) shapeCasts_S1x4x256x4x2x64_S4x256x4x2x64) (Host.divf (res_main_while0b_v218 V0) (broadcastInDim S4x4x2x2x128x256 ![0, 1, 2, 3, 4, 5] bcast_S4x4x2x2x128x1_S4x4x2x2x128x256_0_1_2_3_4_5 (addf (broadcastInDim S4x4x2x2x128x1 ![0, 1, 2, 3, 4] bcast_S4x4x2x2x128_S4x4x2x2x128x1_0_1_2_3_4 (Host.reduceAdd (res_main_while0b_v218 V0) (constant S_ .f32 0x00000000#32) reducesTo_S4x4x2x2x128x256_S4x4x2x2x128_d5 h_S_)) (Host.exp (subf (broadcastInDim S4x4x2x2x128x1 ![0, 1, 2, 3, 4, 5] bcast_S1x4x2x2x1x1_S4x4x2x2x128x1_0_1_2_3_4_5 (broadcastInDim S1x4x2x2x1x1 ![1, 2, 3, 4, 5] bcast_S4x2x2x1x1_S1x4x2x2x1x1_1_2_3_4_5 (res_main_while0b_v210 V0))) (res_main_while0b_v215 V0)))))))) (fun k => (((![V0 (Proc.devRef .tc main_v67_11), constantI S_ 32 0#32, constantI S_ 32 0#32, constantI S_ 32 0#32, constantI S_ 32 0#32, constantI S_ 32 0#32, constantI S_ 32 0#32] : Fin 7 → (⟨S_, .i32⟩ : BufTy).Contents (Elt F))) k (Shape.Idx.first h_S_)).toInt) updateFits_S64x4x4x2x64x2x128_S1x4x4x2x64x2x128) = _
  exact al_204 h
theorem step_11 (h : Holds V0 s j) : step_main_v67_11 V0 = constantI S_ 32 (BitVec.ofNat 32 (j + 1)) := by
  unfold step_main_v67_11
  rw [h.n_11]
  funext i
  show BitVec.ofNat 32 j + 1#32 = BitVec.ofNat 32 (j + 1)
  simp only [BitVec.ofNat_add]

set_option maxRecDepth 8192 in
theorem out_main_v106_holds (h : Holds V0 s j) {x_main_arg0 : (⟨S4x8192x1024, .f32⟩ : BufTy).Contents (Elt F)} (h_main_arg0 : V0 (Proc.devRef .tc main_arg0) = x_main_arg0) {x_main_arg1 : (⟨S4x8192x2048, .bf16⟩ : BufTy).Contents (Elt F)} (h_main_arg1 : V0 (Proc.devRef .tc main_arg1) = x_main_arg1) {x_main_arg2 : (⟨S4x8192x3072, .bf16⟩ : BufTy).Contents (Elt F)} (h_main_arg2 : V0 (Proc.devRef .tc main_arg2) = x_main_arg2) {x_main_arg6 : (⟨S4x8192x1024, .bf16⟩ : BufTy).Contents (Elt F)} (h_main_arg6 : V0 (Proc.devRef .tc main_arg6) = x_main_arg6) {x_main_arg7 : (⟨S4x8192x1024, .bf16⟩ : BufTy).Contents (Elt F)} (h_main_arg7 : V0 (Proc.devRef .tc main_arg7) = x_main_arg7) {x_main_arg11 : (⟨S1x2048, .f32⟩ : BufTy).Contents (Elt F)} (h_main_arg11 : V0 (Proc.devRef .tc main_arg11) = x_main_arg11) {x_main_arg12 : (⟨S1x2048, .f32⟩ : BufTy).Contents (Elt F)} (h_main_arg12 : V0 (Proc.devRef .tc main_arg12) = x_main_arg12) {x_main_arg14 : (⟨S2048x1024, .bf16⟩ : BufTy).Contents (Elt F)} (h_main_arg14 : V0 (Proc.devRef .tc main_arg14) = x_main_arg14) {x_main_arg15 : (⟨S1024x1024, .bf16⟩ : BufTy).Contents (Elt F)} (h_main_arg15 : V0 (Proc.devRef .tc main_arg15) = x_main_arg15) : out_main_v106 V0 = Cert.RefIdeal.Step.R_main_v106 s x_main_arg0 x_main_arg1 x_main_arg2 x_main_arg6 x_main_arg7 x_main_arg11 x_main_arg12 x_main_arg14 x_main_arg15 := by
  unfold out_main_v106 Cert.RefIdeal.Step.R_main_v106
  rw [h.f_13, h.f_14, h_main_arg0, h_main_arg1, h_main_arg2, h_main_arg6, h_main_arg7, h_main_arg11, h_main_arg12, h_main_arg14, h_main_arg15]
  try rfl

set_option maxRecDepth 8192 in
theorem out_main_v107_holds (h : Holds V0 s j) : out_main_v107 V0 = Cert.RefIdeal.Step.R_main_v107 s := by
  unfold out_main_v107 Cert.RefIdeal.Step.R_main_v107
  rw [h.f_12]
  try rfl

set_option maxRecDepth 8192 in
theorem out_main_v109_holds (h : Holds V0 s j) {x_main_arg4 : (⟨S4x8192x512, .bf16⟩ : BufTy).Contents (Elt F)} (h_main_arg4 : V0 (Proc.devRef .tc main_arg4) = x_main_arg4) : out_main_v109 V0 = Cert.RefIdeal.Step.R_main_v109 s x_main_arg4 := by
  unfold out_main_v109 Cert.RefIdeal.Step.R_main_v109
  rw [h_main_arg4]
  try rfl

set_option maxRecDepth 8192 in
theorem out_main_v111_holds (h : Holds V0 s j) {x_main_arg5 : (⟨S4x8192x512, .bf16⟩ : BufTy).Contents (Elt F)} (h_main_arg5 : V0 (Proc.devRef .tc main_arg5) = x_main_arg5) : out_main_v111 V0 = Cert.RefIdeal.Step.R_main_v111 s x_main_arg5 := by
  unfold out_main_v111 Cert.RefIdeal.Step.R_main_v111
  rw [h_main_arg5]
  try rfl

/-- One trip keeps the valuation holding: `step` of the state, the same set-up values, the next number. -/
theorem holds_step (h : Holds V0 s j) : Holds (STEP V0) (step j s) (j + 1) where
  f_12 := (STEP_main_v67_12 V0).trans (step_12 h)
  f_13 := (STEP_main_v67_13 V0).trans (step_13 h)
  f_14 := (STEP_main_v67_14 V0).trans (step_14 h)
  n_11 := (STEP_main_v67_11 V0).trans (step_11 h)
  k_7 := (STEP_main_v67_7 V0).trans h.k_7
  k_9 := (STEP_main_v67_9 V0).trans h.k_9
  f_0 := (STEP_main_v67_0 V0).trans h.f_0
  f_1 := (STEP_main_v67_1 V0).trans h.f_1
  f_2 := (STEP_main_v67_2 V0).trans h.f_2
  f_3 := (STEP_main_v67_3 V0).trans h.f_3
  f_4 := (STEP_main_v67_4 V0).trans h.f_4
  f_5 := (STEP_main_v67_5 V0).trans h.f_5
  f_6 := (STEP_main_v67_6 V0).trans h.f_6
  f_8 := (STEP_main_v67_8 V0).trans h.f_8
  f_10 := (STEP_main_v67_10 V0).trans h.f_10

/-- The state the first trip starts from, of the memory the run starts from. -/
abbrev initState (m : (ℓ : Loc nD τ sig) → Buf (Elt F) ℓ) (c : Dev nD) : State F :=
  init (m ((c.tc : Thread nD τ).loc main_arg13)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10))

variable (m : (ℓ : Loc nD τ sig) → Buf (Elt F) ℓ) (c : Dev nD)

set_option maxRecDepth 65536 in
set_option maxHeartbeats 800000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `RefIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v106) = Cert.RefIdeal.Step.R_main_v106 (it c 64) (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg11)) (m ((c.tc : Thread nD τ).loc main_arg12)) (m ((c.tc : Thread nD τ).loc main_arg14)) (m ((c.tc : Thread nD τ).loc main_arg15))
      ∧ r.2.mem ((c.tc : Thread nD τ).loc main_v107) = Cert.RefIdeal.Step.R_main_v107 (it c 64)
      ∧ r.2.mem ((c.tc : Thread nD τ).loc main_v109) = Cert.RefIdeal.Step.R_main_v109 (it c 64) (m ((c.tc : Thread nD τ).loc main_arg4))
      ∧ r.2.mem ((c.tc : Thread nD τ).loc main_v111) = Cert.RefIdeal.Step.R_main_v111 (it c 64) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
    have hk := holds_iter m c (it c) (h0 c) (hs c) 64
    ⟨(h c).1.trans (out_main_v106_holds hk (iter_main_arg0 m c 64) (iter_main_arg1 m c 64) (iter_main_arg2 m c 64) (iter_main_arg6 m c 64) (iter_main_arg7 m c 64) (iter_main_arg11 m c 64) (iter_main_arg12 m c 64) (iter_main_arg14 m c 64) (iter_main_arg15 m c 64)), (h c).2.1.trans (out_main_v107_holds hk), (h c).2.2.1.trans (out_main_v109_holds hk (iter_main_arg4 m c 64)), (h c).2.2.2.1.trans (out_main_v111_holds hk (iter_main_arg5 m c 64)), (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2⟩) (Value.run m ρ)

end Cert.RefIdeal.Loop

end
-- ==== Proof.Words.lean ====
module

public import proofs.«01_k».proof.Proof.Gen.MixerIdeal.Value
public import Idealize.ShloMosaic.Lib.Tactic
public import Idealize.ShloMosaic.Lib.Pointwise

@[expose] public section

/-! What one grid point of the prompt mixer computes, written once for every head group.

The printed body repeats the same text for the four head groups of the state space recurrence, for the four lane
pairs of each, and for the four key-value groups of the attention. The definitions below are that text with the
group `g` and the pair `j` as parameters. -/

noncomputable section

open Idealize.ShloMosaic Idealize.ShloMosaic.TcCoe Idealize.SL.Sem

namespace Cert.MixerIdeal.Body
open Cert.MixerIdeal Cert.MixerIdeal.Gen

variable {F : FTy → Type} [FloatOps F] [Named F]

/-! ### Where a head, a pair and a group lie -/

/-- Head `p` of lane pair `j` of group `g`. -/
abbrev headOf (g j : Fin 4) (p : Fin 2) : Fin 32 := ⟨8 * g + 2 * j + p, by omega⟩

theorem colFits (h : Fin 32) : S128x128.Slices ![0, (h : Nat)] S128x1 :=
  ⟨rfl, fun a => by fin_cases a <;> simp [S128x128, S128x1]; omega⟩
theorem rowFits (h : Fin 32) : S128x128.Slices ![(h : Nat), 0] S1x128 :=
  ⟨rfl, fun a => by fin_cases a <;> simp [S128x128, S1x128]; omega⟩
theorem cellFits (h : Fin 32) : S1x128.Slices ![0, (h : Nat)] S1x1 :=
  ⟨rfl, fun a => by fin_cases a <;> simp [S1x1, S1x128]; omega⟩
theorem pairFits (j : Fin 4) : S128x512.Slices ![0, 128 * (j : Nat)] S128x128 :=
  ⟨rfl, fun a => by fin_cases a <;> simp [S128x128, S128x512]; omega⟩
theorem actPairIn (g j : Fin 4) : ∀ a, (![0, 0, 512 * (g : Nat) + 128 * j] : Fin 3 → Nat) a + S1x128x128.size a ≤ S1x128x3072.size a :=
  fun a => by fin_cases a <;> simp [S1x128x128, S1x128x3072]; omega
theorem actKeyIn (g : Fin 4) : ∀ a, (![0, 0, 2048 + 128 * (g : Nat)] : Fin 3 → Nat) a + S1x128x128.size a ≤ S1x128x3072.size a :=
  fun a => by fin_cases a <;> simp [S1x128x128, S1x128x3072]; omega
theorem actQueryIn (g : Fin 4) : ∀ a, (![0, 0, 2560 + 128 * (g : Nat)] : Fin 3 → Nat) a + S1x128x128.size a ≤ S1x128x3072.size a :=
  fun a => by fin_cases a <;> simp [S1x128x128, S1x128x3072]; omega
theorem actGroupIn (g : Fin 4) : ∀ a, (![0, 0, 512 * (g : Nat)] : Fin 3 → Nat) a + S1x128x512.size a ≤ S1x128x3072.size a :=
  fun a => by fin_cases a <;> simp [S1x128x512, S1x128x3072]; omega
theorem gateGroupIn (g : Fin 4) : ∀ a, (![0, 0, 512 * (g : Nat)] : Fin 3 → Nat) a + S1x128x512.size a ≤ S1x128x2048.size a :=
  fun a => by fin_cases a <;> simp [S1x128x512, S1x128x2048]; omega
theorem rowGroupIn (g : Fin 4) : ∀ a, (![0, 512 * (g : Nat)] : Fin 2 → Nat) a + S1x512.size a ≤ S1x2048.size a :=
  fun a => by fin_cases a <;> simp [S1x512, S1x2048]; omega
theorem stateIn (g : Fin 4) : ∀ a, (![(g : Nat), 0, 0] : Fin 3 → Nat) a + S1x128x512.size a ≤ S4x128x512.size a :=
  fun a => by fin_cases a <;> simp [S1x128x512, S4x128x512]
theorem keyIn (g : Fin 4) : ∀ a, (![0, 0, 128 * (g : Nat)] : Fin 3 → Nat) a + S1x128x128.size a ≤ S1x128x512.size a :=
  fun a => by fin_cases a <;> simp [S1x128x128, S1x128x512]; omega
theorem prevIn (g : Fin 4) : ∀ a, (![0, 128 * (g : Nat)] : Fin 2 → Nat) a + S128x128.size a ≤ S128x512.size a :=
  fun a => by fin_cases a <;> simp [S128x128, S128x512]; omega
theorem queryIn (g : Fin 4) (j : Fin 2) : ∀ a, (![0, 0, 256 * (g : Nat) + 128 * j] : Fin 3 → Nat) a + S1x128x128.size a ≤ S1x128x1024.size a :=
  fun a => by fin_cases a <;> simp [S1x128x128, S1x128x1024]; omega
theorem sinkIn (h : Fin 16) : ∀ a, (![(h : Nat)] : Fin 1 → Nat) a + S1.size a ≤ S16.size a :=
  fun a => by fin_cases a; simp [S1, S16]

/-! ### The state space recurrence -/

/-- The step sizes of the 128 rows. -/
def stepV (x2 : Vec F S1x128x128 .f32) (x9 : Vec F S1x128 .f32) : FVec F S128x128 .f32 :=
  addf
    (maximumf
      (addf (shapeCast S128x128 x2 shapeCasts_S1x128x128_S128x128) (broadcastTo S128x128 x9 broadcasts_S1x128_S128x128))
      (broadcast S128x128 (Scalar.ofBits .f32 0x00000000#32)))
    (log1p (exp (subf (broadcast S128x128 (Scalar.ofBits .f32 0x00000000#32))
      (absf (addf (shapeCast S128x128 x2 shapeCasts_S1x128x128_S128x128) (broadcastTo S128x128 x9 broadcasts_S1x128_S128x128))))))

def rowI : IVec S128x128 32 := iota .tc S128x128 32 [0] iota_S128x128_d0_w32
def colI : IVec S128x128 32 := iota .tc S128x128 32 [1] iota_S128x128_d1_w32
/-- Row at or below column. -/
def causalM : IVec S128x128 1 := cmpi .sge rowI colI
/-- Lane in the first half. -/
def loM : IVec S128x128 1 := cmpi .slt colI (broadcast S128x128 64#32)

/-- The running sums of step size times rate, down the rows. -/
def acumV (dt : FVec F S128x128 .f32) (x10 : Vec F S1x128 .f32) : FVec F S128x128 .f32 :=
  matmul dot_S128x128_S128x128_S128x128_1_0_0_1_n_n (some .fp32)
    (select causalM (broadcast S128x128 (Scalar.ofBits .f32 0x3F800000#32)) (broadcast S128x128 (Scalar.ofBits .f32 0x00000000#32)))
    (mulf dt (broadcastTo S128x128 (subf (broadcast S1x128 (Scalar.ofBits .f32 0x00000000#32)) (exp x10)) broadcasts_S1x128_S128x128))
    (constant S128x128 .f32 0x00000000#32)

def lastRow (ac : FVec F S128x128 .f32) : FVec F S1x128 .f32 := extractStridedSlice S1x128 ![127, 0] ac slices_S128x128_o127_0_S1x128
/-- What a row still weighs at the end of the chunk, times its step size. -/
def tailV (dt ac : FVec F S128x128 .f32) : FVec F S128x128 .f32 :=
  mulf (exp (subf (broadcastTo S128x128 (lastRow ac) broadcasts_S1x128_S128x128) ac)) dt

/-- The decay from row to row of one head, nothing above the diagonal. -/
def decayV (h : Fin 32) (ac : FVec F S128x128 .f32) : FVec F S128x128 .f32 :=
  exp (select causalM
    (subf (broadcastTo S128x128 (extractStridedSlice S128x1 ![0, (h : Nat)] ac (colFits h)) broadcasts_S128x1_S128x128)
      (broadcastTo S128x128 (extractStridedSlice S1x128 ![(h : Nat), 0] (transpose S128x128 [1, 0] ac transposes_S128x128_p1_0_S128x128) (rowFits h)) broadcasts_S1x128_S128x128))
    (broadcast S128x128 (Named.named κ "neg_inf" 0xF149F2CA#32)))

def keyV (g : Fin 4) (x0 : Vec F S1x128x3072 .bf16) : FVec F S128x128 .bf16 :=
  shapeCast S128x128 (View.ld x0 (Rect.unit ![0, 0, 2048 + 128 * (g : Nat)] S1x128x128.size (actKeyIn g))) shapeCasts_S1x128x128_S128x128
def queryV (g : Fin 4) (x0 : Vec F S1x128x3072 .bf16) : FVec F S128x128 .bf16 :=
  shapeCast S128x128 (View.ld x0 (Rect.unit ![0, 0, 2560 + 128 * (g : Nat)] S1x128x128.size (actQueryIn g))) shapeCasts_S1x128x128_S128x128
def pairV (g j : Fin 4) (x0 : Vec F S1x128x3072 .bf16) : FVec F S128x128 .bf16 :=
  shapeCast S128x128 (View.ld x0 (Rect.unit ![0, 0, 512 * (g : Nat) + 128 * j] S1x128x128.size (actPairIn g j))) shapeCasts_S1x128x128_S128x128
def stateV (st : Vec F S1x128x512 .f32) : FVec F S128x512 .f32 := shapeCast S128x512 st shapeCasts_S1x128x512_S128x512

/-- The products of the group's two 128-wide factors, row by row. -/
def crossV (g : Fin 4) (x0 : Vec F S1x128x3072 .bf16) : FVec F S128x128 .f32 :=
  matmul dot_S128x128_S128x128_S128x128_1_1_0_0_n_n none (queryV g x0) (keyV g x0) (constant S128x128 .f32 0x00000000#32)

/-- The matrix one head multiplies its rows by. -/
def headM (g : Fin 4) (h : Fin 32) (x0 : Vec F S1x128x3072 .bf16) (dt ac : FVec F S128x128 .f32) : FVec F S128x128 .bf16 :=
  truncf .bf16 (mulf (mulf (crossV g x0) (decayV h ac))
    (broadcastTo S128x128 (extractStridedSlice S1x128 ![(h : Nat), 0] (transpose S128x128 [1, 0] dt transposes_S128x128_p1_0_S128x128) (rowFits h)) broadcasts_S1x128_S128x128))
    bitsLt_bf16_f32

/-- Column `h` of one array in the low lanes, column `h'` in the high ones. -/
def twoCols (h h' : Fin 32) (a : FVec F S128x128 .f32) : FVec F S128x128 .f32 :=
  select loM
    (broadcastTo S128x128 (shapeCast S128x1 (extractStridedSlice S128x1 ![0, (h : Nat)] a (colFits h)) shapeCasts_S128x1_S128x1) broadcasts_S128x1_S128x128)
    (broadcastTo S128x128 (shapeCast S128x1 (extractStridedSlice S128x1 ![0, (h' : Nat)] a (colFits h')) shapeCasts_S128x1_S128x1) broadcasts_S128x1_S128x128)

def twoCells (h h' : Fin 32) (a : FVec F S1x128 .f32) : FVec F S1x128 .f32 :=
  select (cmpi .slt (iota .tc S1x128 32 [1] iota_S1x128_d1_w32) (broadcast S1x128 64#32))
    (broadcastTo S1x128 (shapeCast S1x1 (extractStridedSlice S1x1 ![0, (h : Nat)] a (cellFits h)) shapeCasts_S1x1_S1x1) broadcasts_S1x1_S1x128)
    (broadcastTo S1x128 (shapeCast S1x1 (extractStridedSlice S1x1 ![0, (h' : Nat)] a (cellFits h')) shapeCasts_S1x1_S1x1) broadcasts_S1x1_S1x128)

/-- The rows of one lane pair: what the chunk itself gives, and what the state gives. -/
def yPair (g j : Fin 4) (x0 : Vec F S1x128x3072 .bf16) (dt ac : FVec F S128x128 .f32) (st : Vec F S1x128x512 .f32) : FVec F S128x128 .f32 :=
  addf
    (select loM
      (extractStridedSlice S128x128 ![0, 0] (matmul dot_S256x128_S128x128_S256x128_1_0_0_1_n_n none
        (concatenate S256x128 0 [⟨S128x128, headM g (headOf g j 0) x0 dt ac⟩, ⟨S128x128, headM g (headOf g j 1) x0 dt ac⟩] concatenates_S128x128_S128x128_S256x128_d0)
        (pairV g j x0) (constant S256x128 .f32 0x00000000#32)) slices_S256x128_o0_0_S128x128)
      (extractStridedSlice S128x128 ![128, 0] (matmul dot_S256x128_S128x128_S256x128_1_0_0_1_n_n none
        (concatenate S256x128 0 [⟨S128x128, headM g (headOf g j 0) x0 dt ac⟩, ⟨S128x128, headM g (headOf g j 1) x0 dt ac⟩] concatenates_S128x128_S128x128_S256x128_d0)
        (pairV g j x0) (constant S256x128 .f32 0x00000000#32)) slices_S256x128_o128_0_S128x128))
    (mulf
      (extractStridedSlice S128x128 ![0, 128 * (j : Nat)] (matmul dot_S128x128_S128x512_S128x512_1_0_0_1_n_n none (queryV g x0)
        (truncf .bf16 (stateV st) bitsLt_bf16_f32) (constant S128x512 .f32 0x00000000#32)) (pairFits j))
      (twoCols (headOf g j 0) (headOf g j 1) (exp ac)))

/-- The rows of one lane pair, weighed for the state. -/
def wPair (g j : Fin 4) (x0 : Vec F S1x128x3072 .bf16) (dt ac : FVec F S128x128 .f32) : FVec F S128x128 .bf16 :=
  truncf .bf16 (mulf (extf .f32 (pairV g j x0) bitsLt_bf16_f32) (twoCols (headOf g j 0) (headOf g j 1) (tailV dt ac))) bitsLt_bf16_f32

/-- The group's state after the chunk. -/
def stateNew (g : Fin 4) (x0 : Vec F S1x128x3072 .bf16) (dt ac : FVec F S128x128 .f32) (st : Vec F S1x128x512 .f32) : FVec F S128x512 .f32 :=
  addf
    (mulf (stateV st) (broadcastTo S128x512
      (concatenate S1x512 1 [⟨S1x128, twoCells (headOf g 0 0) (headOf g 0 1) (exp (lastRow ac))⟩, ⟨S1x128, twoCells (headOf g 1 0) (headOf g 1 1) (exp (lastRow ac))⟩,
        ⟨S1x128, twoCells (headOf g 2 0) (headOf g 2 1) (exp (lastRow ac))⟩, ⟨S1x128, twoCells (headOf g 3 0) (headOf g 3 1) (exp (lastRow ac))⟩]
        concatenates_S1x128_S1x128_S1x128_S1x128_S1x512_d1) broadcasts_S1x512_S128x512))
    (matmul dot_S128x128_S128x512_S128x512_1_0_0_1_n_n none
      (truncf .bf16 (transpose S128x128 [1, 0] (extf .f32 (keyV g x0) bitsLt_bf16_f32) transposes_S128x128_p1_0_S128x128) bitsLt_bf16_f32)
      (concatenate S128x512 1 [⟨S128x128, wPair g 0 x0 dt ac⟩, ⟨S128x128, wPair g 1 x0 dt ac⟩, ⟨S128x128, wPair g 2 x0 dt ac⟩, ⟨S128x128, wPair g 3 x0 dt ac⟩]
        concatenates_S128x128_S128x128_S128x128_S128x128_S128x512_d1)
      (constant S128x512 .f32 0x00000000#32))

/-- The gated rows of a group, from its rows `y`. -/
def gatedV (g : Fin 4) (y : FVec F S128x512 .f32) (x0 : Vec F S1x128x3072 .bf16) (x1 : Vec F S1x128x2048 .bf16) (x11 : Vec F S1x2048 .f32) : FVec F S128x512 .f32 :=
  mulf
    (addf y (mulf (broadcastTo S128x512 (View.ld x11 (Rect.unit ![0, 512 * (g : Nat)] S1x512.size (rowGroupIn g))) broadcasts_S1x512_S128x512)
      (extf .f32 (shapeCast S128x512 (View.ld x0 (Rect.unit ![0, 0, 512 * (g : Nat)] S1x128x512.size (actGroupIn g))) shapeCasts_S1x128x512_S128x512) bitsLt_bf16_f32)))
    (extf .f32 (shapeCast S128x512 (View.ld x1 (Rect.unit ![0, 0, 512 * (g : Nat)] S1x128x512.size (gateGroupIn g))) shapeCasts_S1x128x512_S128x512) bitsLt_bf16_f32)

/-- Its rows over their root mean square, times the gain. -/
def normedV (g : Fin 4) (u : FVec F S128x512 .f32) (x12 : Vec F S1x2048 .f32) : FVec F S128x512 .f32 :=
  mulf
    (mulf u (broadcastTo S128x512
      (rsqrt (addf
        (divf (shapeCast S128x1 (multiReduction .add [1] S128 (mulf u u) 0x00000000#32 reduces_S128x512_S128 (.inl rfl) rfl) shapeCasts_S128_S128x1)
          (broadcast S128x1 (Scalar.ofBits .f32 0x44000000#32)))
        (broadcast S128x1 (Scalar.ofBits .f32 0x358637BD#32)))) broadcasts_S128x1_S128x512))
    (broadcastTo S128x512 (View.ld x12 (Rect.unit ![0, 512 * (g : Nat)] S1x512.size (rowGroupIn g))) broadcasts_S1x512_S128x512)

/-! ### The banded attention -/

/-- The four query heads of a key-value group. -/
abbrev qHead (g : Fin 4) (r : Fin 4) : Fin 16 := ⟨4 * g + r, by omega⟩

/-- The slopes of the sixteen heads. -/
def slopeBits : Fin 16 → BitVec 32 :=
  ![1060439283#32, 1056964608#32, 1052050675#32, 1048576000#32, 1043662067#32, 1040187392#32, 1035273459#32, 1031798784#32,
    1026884851#32, 1023410176#32, 1018496243#32, 1015021568#32, 1010107635#32, 1006632960#32, 1001719027#32, 998244352#32]

/-- Minus the distance to a key of the same chunk, where it may be seen. -/
def nearV : FVec F S128x128 .f32 :=
  select causalM (sitofp .f32 (subi colI rowI)) (broadcast S128x128 (Named.named κ "masked" 0xF49DC5AE#32))

/-- Minus the distance to a key of the chunk before, where it may be seen. -/
def farV (n : BitVec 32) : FVec F S128x128 .f32 :=
  select (cmpi .sge colI (addi rowI (broadcast S128x128 (Scalar.select (Scalar.cmpi .sgt n 0#32) 0#32 128#32))))
    (sitofp .f32 (subi (subi colI rowI) (broadcast S128x128 128#32)))
    (broadcast S128x128 (Named.named κ "masked" 0xF49DC5AE#32))

def biasV (g : Fin 4) (d : FVec F S128x128 .f32) : FVec F S512x128 .f32 :=
  concatenate S512x128 0
    [⟨S128x128, mulf (broadcast S128x128 (Scalar.ofBits .f32 (slopeBits (qHead g 0)))) d⟩, ⟨S128x128, mulf (broadcast S128x128 (Scalar.ofBits .f32 (slopeBits (qHead g 1)))) d⟩,
     ⟨S128x128, mulf (broadcast S128x128 (Scalar.ofBits .f32 (slopeBits (qHead g 2)))) d⟩, ⟨S128x128, mulf (broadcast S128x128 (Scalar.ofBits .f32 (slopeBits (qHead g 3)))) d⟩]
    concatenates_S128x128_S128x128_S128x128_S128x128_S512x128_d0

def sinkAt (h : Fin 16) (x13 : Vec F S16 .f32) : F .f32 :=
  View.ld x13 (Rect.unit ![(h : Nat)] S1.size (sinkIn h)) (Shape.Idx.first (show 0 < S1.numel by decide))

def sinkV (g : Fin 4) (x13 : Vec F S16 .f32) : FVec F S512x1 .f32 :=
  concatenate S512x1 0
    [⟨S128x1, broadcast S128x1 (sinkAt (qHead g 0) x13)⟩, ⟨S128x1, broadcast S128x1 (sinkAt (qHead g 1) x13)⟩,
     ⟨S128x1, broadcast S128x1 (sinkAt (qHead g 2) x13)⟩, ⟨S128x1, broadcast S128x1 (sinkAt (qHead g 3) x13)⟩]
    concatenates_S128x1_S128x1_S128x1_S128x1_S512x1_d0

def keepLo : FVec F S1x128 .bf16 :=
  truncf .bf16 (select (cmpi .slt (iota .tc S1x128 32 [1] iota_S1x128_d1_w32) (broadcast S1x128 64#32))
    (broadcast S1x128 (Scalar.ofBits .f32 0x3F800000#32)) (broadcast S1x128 (Scalar.ofBits .f32 0x00000000#32))) bitsLt_bf16_f32
def keepHi : FVec F S1x128 .bf16 :=
  truncf .bf16 (select (cmpi .slt (iota .tc S1x128 32 [1] iota_S1x128_d1_w32) (broadcast S1x128 64#32))
    (broadcast S1x128 (Scalar.ofBits .f32 0x00000000#32)) (broadcast S1x128 (Scalar.ofBits .f32 0x3F800000#32))) bitsLt_bf16_f32

def qPair (g : Fin 4) (j : Fin 2) (x3 : Vec F S1x128x1024 .bf16) : FVec F S128x128 .bf16 :=
  shapeCast S128x128 (View.ld x3 (Rect.unit ![0, 0, 256 * (g : Nat) + 128 * j] S1x128x128.size (queryIn g j))) shapeCasts_S1x128x128_S128x128

/-- The four heads' queries one under the other, each in its half of the lanes. -/
def qStack (g : Fin 4) (x3 : Vec F S1x128x1024 .bf16) : FVec F S512x128 .bf16 :=
  concatenate S512x128 0
    [⟨S128x128, mulf (qPair g 0 x3) (broadcastTo S128x128 keepLo broadcasts_S1x128_S128x128)⟩, ⟨S128x128, mulf (qPair g 0 x3) (broadcastTo S128x128 keepHi broadcasts_S1x128_S128x128)⟩,
     ⟨S128x128, mulf (qPair g 1 x3) (broadcastTo S128x128 keepLo broadcasts_S1x128_S128x128)⟩, ⟨S128x128, mulf (qPair g 1 x3) (broadcastTo S128x128 keepHi broadcasts_S1x128_S128x128)⟩]
    concatenates_S128x128_S128x128_S128x128_S128x128_S512x128_d0

def curV (g : Fin 4) (x : Vec F S1x128x512 .bf16) : FVec F S128x128 .bf16 :=
  shapeCast S128x128 (View.ld x (Rect.unit ![0, 0, 128 * (g : Nat)] S1x128x128.size (keyIn g))) shapeCasts_S1x128x128_S128x128

def scoreV (qs : FVec F S512x128 .bf16) (k : FVec F S128x128 .bf16) (bias : FVec F S512x128 .f32) : FVec F S512x128 .f32 :=
  addf (matmul dot_S512x128_S128x128_S512x128_1_1_0_0_n_n none qs k (constant S512x128 .f32 0x00000000#32)) bias

/-- The largest score of a row, the sink among them. -/
def topV (sp sc : FVec F S512x128 .f32) (sk : FVec F S512x1 .f32) : FVec F S512x1 .f32 :=
  maximumf (shapeCast S512x1 (multiReduction .maximumf [1] S512 (maximumf sp sc) 0xFF800000#32 reduces_S512x128_S512 (.inl rfl) rfl) shapeCasts_S512_S512x1) sk

def weightV (s : FVec F S512x128 .f32) (m : FVec F S512x1 .f32) : FVec F S512x128 .f32 := exp (subf s (broadcastTo S512x128 m broadcasts_S512x1_S512x128))

def denomV (pp pc : FVec F S512x128 .f32) (sk m : FVec F S512x1 .f32) : FVec F S512x1 .f32 :=
  addf (shapeCast S512x1 (multiReduction .add [1] S512 (addf pp pc) 0x00000000#32 reduces_S512x128_S512 (.inl rfl) rfl) shapeCasts_S512_S512x1) (exp (subf sk m))

def mixV (pp pc : FVec F S512x128 .f32) (vp vc : FVec F S128x128 .bf16) (dn : FVec F S512x1 .f32) : FVec F S512x128 .f32 :=
  divf
    (addf (matmul dot_S512x128_S128x128_S512x128_1_0_0_1_n_n none (truncf .bf16 pp bitsLt_bf16_f32) vp (constant S512x128 .f32 0x00000000#32))
      (matmul dot_S512x128_S128x128_S512x128_1_0_0_1_n_n none (truncf .bf16 pc bitsLt_bf16_f32) vc (constant S512x128 .f32 0x00000000#32)))
    (broadcastTo S512x128 dn broadcasts_S512x1_S512x128)

/-- The scores of a group against the chunk before. -/
def farScore (g : Fin 4) (n : BitVec 32) (x3 : Vec F S1x128x1024 .bf16) (kp : FVec F S128x128 .bf16) : FVec F S512x128 .f32 :=
  scoreV (qStack g x3) kp (biasV g (farV n))
/-- The scores of a group against its own chunk. -/
def nearScore (g : Fin 4) (x3 : Vec F S1x128x1024 .bf16) (x4 : Vec F S1x128x512 .bf16) : FVec F S512x128 .f32 :=
  scoreV (qStack g x3) (curV g x4) (biasV g nearV)

/-- The attention of one group: four heads one under the other. -/
def attV (g : Fin 4) (n : BitVec 32) (x3 : Vec F S1x128x1024 .bf16) (x4 x5 : Vec F S1x128x512 .bf16) (x13 : Vec F S16 .f32)
    (kp vp : FVec F S128x128 .bf16) : FVec F S512x128 .f32 :=
  mixV
    (weightV (farScore g n x3 kp) (topV (farScore g n x3 kp) (nearScore g x3 x4) (sinkV g x13)))
    (weightV (nearScore g x3 x4) (topV (farScore g n x3 kp) (nearScore g x3 x4) (sinkV g x13)))
    vp (curV g x5)
    (denomV (weightV (farScore g n x3 kp) (topV (farScore g n x3 kp) (nearScore g x3 x4) (sinkV g x13)))
      (weightV (nearScore g x3 x4) (topV (farScore g n x3 kp) (nearScore g x3 x4) (sinkV g x13)))
      (sinkV g x13) (topV (farScore g n x3 kp) (nearScore g x3 x4) (sinkV g x13)))

/-- Two heads back in one block of lanes. -/
def attLo (o : FVec F S512x128 .f32) : FVec F S128x128 .f32 :=
  select loM (extractStridedSlice S128x128 ![0, 0] o slices_S512x128_o0_0_S128x128) (extractStridedSlice S128x128 ![128, 0] o slices_S512x128_o128_0_S128x128)
def attHi (o : FVec F S512x128 .f32) : FVec F S128x128 .f32 :=
  select loM (extractStridedSlice S128x128 ![256, 0] o slices_S512x128_o256_0_S128x128) (extractStridedSlice S128x128 ![384, 0] o slices_S512x128_o384_0_S128x128)

/-! ### The two projections -/

/-- The block of the hidden state, from the recurrence's rows `y` and the attention's rows `o`. -/
def hiddenV (y : FVec F S128x2048 .f32) (o : FVec F S128x1024 .f32) (x6 x7 : Vec F S1x128x1024 .bf16) (x8 : Vec F S1x128x1024 .f32)
    (x14 : Vec F S2048x1024 .bf16) (x15 : Vec F S1024x1024 .bf16) : FVec F S128x1024 .f32 :=
  addf (shapeCast S128x1024 x8 shapeCasts_S1x128x1024_S128x1024)
    (matmul dot_S128x1024_S1024x1024_S128x1024_1_0_0_1_n_n none
      (truncf .bf16
        (addf
          (mulf (extf .f32 (shapeCast S128x1024 x6 shapeCasts_S1x128x1024_S128x1024) bitsLt_bf16_f32)
            (matmul dot_S128x2048_S2048x1024_S128x1024_1_0_0_1_n_n none (truncf .bf16 y bitsLt_bf16_f32) x14 (constant S128x1024 .f32 0x00000000#32)))
          (mulf (extf .f32 (shapeCast S128x1024 x7 shapeCasts_S1x128x1024_S128x1024) bitsLt_bf16_f32) o)) bitsLt_bf16_f32)
      x15 (constant S128x1024 .f32 0x00000000#32))

end Cert.MixerIdeal.Body

end
-- ==== Proof.Pieces.lean ====
module

public import proofs.«01_k».proof.Proof.Words
public import Idealize.ShloMosaic.Lib.Pipeline.ReadBack

@[expose] public section

/-! What the two row buffers hold when they are read back.

The recurrence writes its rows lane pair by lane pair, reads a group's four pairs back as one block, and writes the
normed block over them. The attention writes its rows lane pair by lane pair. -/

noncomputable section

open Idealize.ShloMosaic Idealize.ShloMosaic.TcCoe Idealize.SL.Sem

namespace Cert.MixerIdeal.Body
open Cert.MixerIdeal Cert.MixerIdeal.Gen

section Columns
variable {Val : EltTy → Type} [∀ e, Nonempty (Val e)] {e : EltTy} {W w o : Nat}

/-- A store of the columns `[o, o + w)`, read at one of them. -/
theorem canon_col_hit (inb : ∀ a, (![0, o] : Fin 2 → Nat) a + (![128, w] : Fin 2 → Nat) a ≤ (⟨2, ![128, W]⟩ : Shape).size a)
    (v : (⟨2, ![128, w]⟩ : Shape).Idx → Val e) (L : List (View.Piece Val ⟨2, ![128, W]⟩ e)) (y : (⟨2, ![128, W]⟩ : Shape).Idx)
    (lo : o ≤ (y 1).val) (hi : (y 1).val < o + w) :
    View.canon ((⟨Rect.unit (s := ⟨2, ![128, W]⟩) ![0, o] ![128, w] inb, v⟩ : View.Piece Val ⟨2, ![128, W]⟩ e) :: L) y
      = v (ix2 (y 0) ⟨(y 1).val - o, by omega⟩) := by
  have h : y = (Rect.unit (s := ⟨2, ![128, W]⟩) ![0, o] ![128, w] inb).emb (ix2 (y 0) ⟨(y 1).val - o, by omega⟩ : (⟨2, ![128, w]⟩ : Shape).Idx) := by
    funext a
    apply Fin.ext
    rw [Rect.emb_apply]
    match a with
    | ⟨0, _⟩ => show (y 0).val = 0 + 1 * (y 0).val; omega
    | ⟨1, _⟩ => show (y 1).val = o + 1 * ((y 1).val - o); omega
  conv_lhs => rw [h]
  exact View.canon_cons_emb (Rect.unit (s := ⟨2, ![128, W]⟩) ![0, o] ![128, w] inb) v L _

/-- Read at a column it does not hold. -/
theorem canon_col_miss (inb : ∀ a, (![0, o] : Fin 2 → Nat) a + (![128, w] : Fin 2 → Nat) a ≤ (⟨2, ![128, W]⟩ : Shape).size a)
    (v : (⟨2, ![128, w]⟩ : Shape).Idx → Val e) (L : List (View.Piece Val ⟨2, ![128, W]⟩ e)) (y : (⟨2, ![128, W]⟩ : Shape).Idx)
    (h : (y 1).val < o ∨ o + w ≤ (y 1).val) :
    View.canon ((⟨Rect.unit (s := ⟨2, ![128, W]⟩) ![0, o] ![128, w] inb, v⟩ : View.Piece Val ⟨2, ![128, W]⟩ e) :: L) y = View.canon L y := by
  refine View.canon_cons_of_not_mem _ L fun hm => ?_
  have h1 : o ≤ (y 1).val ∧ (y 1).val < o + w := (Rect.mem_set_unit (inb := inb) |>.mp hm) 1
  omega

end Columns

variable {F : FTy → Type} [FloatOps F] [Named F]

theorem pairRowsIn (g j : Fin 4) : ∀ a, (![0, 512 * (g : Nat) + 128 * j] : Fin 2 → Nat) a + S128x128.size a ≤ S128x2048.size a :=
  fun a => by fin_cases a <;> simp [S128x128, S128x2048]; omega
theorem groupRowsIn (g : Fin 4) : ∀ a, (![0, 512 * (g : Nat)] : Fin 2 → Nat) a + S128x512.size a ≤ S128x2048.size a :=
  fun a => by fin_cases a <;> simp [S128x512, S128x2048]; omega
theorem attRowsIn (g : Fin 4) (j : Fin 2) : ∀ a, (![0, 256 * (g : Nat) + 128 * j] : Fin 2 → Nat) a + S128x128.size a ≤ S128x1024.size a :=
  fun a => by fin_cases a <;> simp [S128x128, S128x1024]; omega

abbrev Rows (F : FTy → Type) := List (View.Piece (Elt F) S128x2048 .f32)

/-- The stores of the four lane pairs of a group, the last first, over earlier ones. -/
def yPieces (g : Fin 4) (p : Fin 4 → FVec F S128x128 .f32) (L : Rows F) : Rows F :=
  ⟨Rect.unit (s := S128x2048) ![0, 512 * (g : Nat) + 128 * (3 : Fin 4)] S128x128.size (pairRowsIn g 3), p 3⟩ ::
  ⟨Rect.unit (s := S128x2048) ![0, 512 * (g : Nat) + 128 * (2 : Fin 4)] S128x128.size (pairRowsIn g 2), p 2⟩ ::
  ⟨Rect.unit (s := S128x2048) ![0, 512 * (g : Nat) + 128 * (1 : Fin 4)] S128x128.size (pairRowsIn g 1), p 1⟩ ::
  ⟨Rect.unit (s := S128x2048) ![0, 512 * (g : Nat) + 128 * (0 : Fin 4)] S128x128.size (pairRowsIn g 0), p 0⟩ :: L

/-- The store of the normed rows of a group. -/
def nPiece (g : Fin 4) (w : FVec F S128x512 .f32) (L : Rows F) : Rows F :=
  ⟨Rect.unit (s := S128x2048) ![0, 512 * (g : Nat)] S128x512.size (groupRowsIn g), w⟩ :: L

/-- Four lane pairs side by side. -/
def rowsOf (p : Fin 4 → FVec F S128x128 .f32) : FVec F S128x512 .f32 :=
  fun z => p ⟨(z 1).val / 128, by have := ValueIdx.idx2_lt1 z; omega⟩ (ix2 (z 0) ⟨(z 1).val % 128, by omega⟩)

/-- Four groups side by side. -/
def allRows (w : Fin 4 → FVec F S128x512 .f32) : FVec F S128x2048 .f32 :=
  fun z => w ⟨(z 1).val / 512, by have := ValueIdx.idx2_lt1 z; omega⟩ (ix2 (z 0) ⟨(z 1).val % 512, by omega⟩)

/-- Eight lane pairs side by side. -/
def attRows (q : Fin 4 → Fin 2 → FVec F S128x128 .f32) : FVec F S128x1024 .f32 :=
  fun z => q ⟨(z 1).val / 256, by have := ValueIdx.idx2_lt1 z; omega⟩ ⟨(z 1).val % 256 / 128, by omega⟩ (ix2 (z 0) ⟨(z 1).val % 128, by omega⟩)

theorem yPieces_hit (g : Fin 4) (p : Fin 4 → FVec F S128x128 .f32) (L : Rows F) (y : S128x2048.Idx) (hy : (y 1).val / 512 = g) :
    View.canon (yPieces g p L) y = p ⟨(y 1).val % 512 / 128, by omega⟩ (ix2 (y 0) ⟨(y 1).val % 128, by omega⟩) := by
  have key : ∀ (j : Fin 4) (h : (y 1).val % 512 / 128 = j.val) (o : Nat) (ho : o = 512 * (g : Nat) + 128 * j) (hlt : (y 1).val - o < 128),
      p j (ix2 (y 0) ⟨(y 1).val - o, hlt⟩) = p ⟨(y 1).val % 512 / 128, by omega⟩ (ix2 (y 0) ⟨(y 1).val % 128, by omega⟩) := by
    intro j h o ho hlt
    have h1 : (⟨(y 1).val % 512 / 128, by omega⟩ : Fin 4) = j := Fin.ext h
    rw [h1]
    refine congrArg (p j) (congrArg (ix2 (y 0)) (Fin.ext ?_))
    show (y 1).val - o = (y 1).val % 128
    omega
  have c0 : (((0 : Fin 4) : Nat)) = 0 := rfl
  have c1 : (((1 : Fin 4) : Nat)) = 1 := rfl
  have c2 : (((2 : Fin 4) : Nat)) = 2 := rfl
  have c3 : (((3 : Fin 4) : Nat)) = 3 := rfl
  unfold yPieces
  have hq : (y 1).val % 512 / 128 = 3 ∨ (y 1).val % 512 / 128 = 2 ∨ (y 1).val % 512 / 128 = 1 ∨ (y 1).val % 512 / 128 = 0 := by omega
  rcases hq with h | h | h | h
  · refine (canon_col_hit (Val := Elt F) (e := .f32) (W := 2048) (w := 128) (o := 512 * (g : Nat) + 128 * 3) (pairRowsIn g 3) (p 3) _ y (by omega) (by omega)).trans (key 3 h _ rfl _)
  · refine (canon_col_miss (Val := Elt F) (e := .f32) (W := 2048) (w := 128) (o := 512 * (g : Nat) + 128 * 3) (pairRowsIn g 3) (p 3) _ y (by omega)).trans ?_
    refine (canon_col_hit (Val := Elt F) (e := .f32) (W := 2048) (w := 128) (o := 512 * (g : Nat) + 128 * 2) (pairRowsIn g 2) (p 2) _ y (by omega) (by omega)).trans (key 2 h _ rfl _)
  · refine (canon_col_miss (Val := Elt F) (e := .f32) (W := 2048) (w := 128) (o := 512 * (g : Nat) + 128 * 3) (pairRowsIn g 3) (p 3) _ y (by omega)).trans ?_
    refine (canon_col_miss (Val := Elt F) (e := .f32) (W := 2048) (w := 128) (o := 512 * (g : Nat) + 128 * 2) (pairRowsIn g 2) (p 2) _ y (by omega)).trans ?_
    refine (canon_col_hit (Val := Elt F) (e := .f32) (W := 2048) (w := 128) (o := 512 * (g : Nat) + 128 * 1) (pairRowsIn g 1) (p 1) _ y (by omega) (by omega)).trans (key 1 h _ rfl _)
  · refine (canon_col_miss (Val := Elt F) (e := .f32) (W := 2048) (w := 128) (o := 512 * (g : Nat) + 128 * 3) (pairRowsIn g 3) (p 3) _ y (by omega)).trans ?_
    refine (canon_col_miss (Val := Elt F) (e := .f32) (W := 2048) (w := 128) (o := 512 * (g : Nat) + 128 * 2) (pairRowsIn g 2) (p 2) _ y (by omega)).trans ?_
    refine (canon_col_miss (Val := Elt F) (e := .f32) (W := 2048) (w := 128) (o := 512 * (g : Nat) + 128 * 1) (pairRowsIn g 1) (p 1) _ y (by omega)).trans ?_
    refine (canon_col_hit (Val := Elt F) (e := .f32) (W := 2048) (w := 128) (o := 512 * (g : Nat) + 128 * 0) (pairRowsIn g 0) (p 0) _ y (by omega) (by omega)).trans (key 0 h _ rfl _)

theorem yPieces_miss (g : Fin 4) (p : Fin 4 → FVec F S128x128 .f32) (L : Rows F) (y : S128x2048.Idx) (hy : (y 1).val / 512 ≠ g) :
    View.canon (yPieces g p L) y = View.canon L y := by
  have c0 : (((0 : Fin 4) : Nat)) = 0 := rfl
  have c1 : (((1 : Fin 4) : Nat)) = 1 := rfl
  have c2 : (((2 : Fin 4) : Nat)) = 2 := rfl
  have c3 : (((3 : Fin 4) : Nat)) = 3 := rfl
  unfold yPieces
  refine (canon_col_miss (Val := Elt F) (e := .f32) (W := 2048) (w := 128) (o := 512 * (g : Nat) + 128 * 3) (pairRowsIn g 3) (p 3) _ y (by omega)).trans ?_
  refine (canon_col_miss (Val := Elt F) (e := .f32) (W := 2048) (w := 128) (o := 512 * (g : Nat) + 128 * 2) (pairRowsIn g 2) (p 2) _ y (by omega)).trans ?_
  refine (canon_col_miss (Val := Elt F) (e := .f32) (W := 2048) (w := 128) (o := 512 * (g : Nat) + 128 * 1) (pairRowsIn g 1) (p 1) _ y (by omega)).trans ?_
  exact canon_col_miss (Val := Elt F) (e := .f32) (W := 2048) (w := 128) (o := 512 * (g : Nat) + 128 * 0) (pairRowsIn g 0) (p 0) _ y (by omega)

theorem nPiece_hit (g : Fin 4) (w : Fin 4 → FVec F S128x512 .f32) (L : Rows F) (y : S128x2048.Idx) (hy : (y 1).val / 512 = g) :
    View.canon (nPiece g (w g) L) y = allRows w y := by
  unfold nPiece allRows
  refine (canon_col_hit (Val := Elt F) (e := .f32) (W := 2048) (w := 512) (o := 512 * (g : Nat)) (groupRowsIn g) (w g) _ y (by omega) (by omega)).trans ?_
  have h1 : (⟨(y 1).val / 512, by omega⟩ : Fin 4) = g := Fin.ext hy
  rw [h1]
  refine congrArg (w g) (congrArg (ix2 (y 0)) (Fin.ext ?_))
  show (y 1).val - 512 * (g : Nat) = (y 1).val % 512
  omega

theorem nPiece_miss (g : Fin 4) (w : FVec F S128x512 .f32) (L : Rows F) (y : S128x2048.Idx) (hy : (y 1).val / 512 ≠ g) :
    View.canon (nPiece g w L) y = View.canon L y :=
  canon_col_miss (Val := Elt F) (e := .f32) (W := 2048) (w := 512) (o := 512 * (g : Nat)) (groupRowsIn g) w _ y (by omega)

/-- The four lane pairs read back as one block. -/
theorem read_group {sig : RefSig} {κ : Kind} {sp : Space} (v : View sig κ sp S128x2048 .f32) (g : Fin 4) (p : Fin 4 → FVec F S128x128 .f32) (L : Rows F) :
    v.readCov (yPieces g p L) (Rect.unit (s := S128x2048) ![0, 512 * (g : Nat)] S128x512.size (groupRowsIn g)).toLoadRect = rowsOf p := by
  rw [View.readCov_eq_canon']
  funext j
  have e0 : ((Rect.unit (s := S128x2048) ![0, 512 * (g : Nat)] S128x512.size (groupRowsIn g)).toLoadRect.idx j 0).val = (j 0).val := by
    show 0 + 1 * (j 0).val = (j 0).val; omega
  have e1 : ((Rect.unit (s := S128x2048) ![0, 512 * (g : Nat)] S128x512.size (groupRowsIn g)).toLoadRect.idx j 1).val = 512 * (g : Nat) + (j 1).val := by
    show 512 * (g : Nat) + 1 * (j 1).val = _; omega
  have hj : (j 1).val < 512 := (j 1).isLt
  rw [yPieces_hit g p L _ (by rw [e1]; omega)]
  unfold rowsOf
  have h1 : (⟨((Rect.unit (s := S128x2048) ![0, 512 * (g : Nat)] S128x512.size (groupRowsIn g)).toLoadRect.idx j 1).val % 512 / 128, by omega⟩ : Fin 4)
      = ⟨(j 1).val / 128, by omega⟩ := Fin.ext (by simp only [e1]; omega)
  rw [h1]
  refine congrArg _ (congrArg₂ ix2 (Fin.ext e0) (Fin.ext ?_))
  simp only [e1]; omega

/-- All the rows, read after the last group. -/
theorem read_all {sig : RefSig} {κ : Kind} {sp : Space} (v : View sig κ sp S128x2048 .f32) (w : Fin 4 → FVec F S128x512 .f32) (p : Fin 4 → Fin 4 → FVec F S128x128 .f32) :
    v.readCov (nPiece 3 (w 3) (yPieces 3 (p 3) (nPiece 2 (w 2) (yPieces 2 (p 2) (nPiece 1 (w 1) (yPieces 1 (p 1) (nPiece 0 (w 0) (yPieces 0 (p 0) []))))))))
      (Rect.unit (s := S128x2048) ![0, 0] S128x2048.size inb_S128x2048_S128x2048_0_0).toLoadRect = allRows w := by
  rw [View.readCov_eq_canon']
  funext j
  have e : (Rect.unit (s := S128x2048) ![0, 0] S128x2048.size inb_S128x2048_S128x2048_0_0).toLoadRect.idx j = j := by
    funext a
    apply Fin.ext
    match a with
    | ⟨0, _⟩ => show 0 + 1 * (j 0).val = (j 0).val; omega
    | ⟨1, _⟩ => show 0 + 1 * (j 1).val = (j 1).val; omega
  rw [e]
  have hj : (j 1).val < 2048 := (j 1).isLt
  have c0 : (((0 : Fin 4) : Nat)) = 0 := rfl
  have c1 : (((1 : Fin 4) : Nat)) = 1 := rfl
  have c2 : (((2 : Fin 4) : Nat)) = 2 := rfl
  have c3 : (((3 : Fin 4) : Nat)) = 3 := rfl
  by_cases h3 : (j 1).val / 512 = 3
  · exact nPiece_hit 3 w _ j h3
  rw [nPiece_miss 3 _ _ j h3, yPieces_miss 3 _ _ j h3]
  by_cases h2 : (j 1).val / 512 = 2
  · exact nPiece_hit 2 w _ j h2
  rw [nPiece_miss 2 _ _ j h2, yPieces_miss 2 _ _ j h2]
  by_cases h1 : (j 1).val / 512 = 1
  · exact nPiece_hit 1 w _ j h1
  rw [nPiece_miss 1 _ _ j h1, yPieces_miss 1 _ _ j h1]
  exact nPiece_hit 0 w _ j (by omega)

/-- The stores of the two lane pairs of a key-value group. -/
def aPieces (g : Fin 4) (q : Fin 2 → FVec F S128x128 .f32) (L : List (View.Piece (Elt F) S128x1024 .f32)) : List (View.Piece (Elt F) S128x1024 .f32) :=
  ⟨Rect.unit (s := S128x1024) ![0, 256 * (g : Nat) + 128 * (1 : Fin 2)] S128x128.size (attRowsIn g 1), q 1⟩ ::
  ⟨Rect.unit (s := S128x1024) ![0, 256 * (g : Nat) + 128 * (0 : Fin 2)] S128x128.size (attRowsIn g 0), q 0⟩ :: L

theorem aPieces_hit (g : Fin 4) (q : Fin 4 → Fin 2 → FVec F S128x128 .f32) (L : List (View.Piece (Elt F) S128x1024 .f32)) (y : S128x1024.Idx)
    (hy : (y 1).val / 256 = g) : View.canon (aPieces g (q g) L) y = attRows q y := by
  have key : ∀ (j : Fin 2) (h : (y 1).val % 256 / 128 = j.val) (o : Nat) (ho : o = 256 * (g : Nat) + 128 * j) (hlt : (y 1).val - o < 128),
      q g j (ix2 (y 0) ⟨(y 1).val - o, hlt⟩) = attRows q y := by
    intro j h o ho hlt
    unfold attRows
    have h1 : (⟨(y 1).val / 256, by omega⟩ : Fin 4) = g := Fin.ext hy
    have h2 : (⟨(y 1).val % 256 / 128, by omega⟩ : Fin 2) = j := Fin.ext h
    rw [h1, h2]
    refine congrArg (q g j) (congrArg (ix2 (y 0)) (Fin.ext ?_))
    show (y 1).val - o = (y 1).val % 128
    omega
  have c0 : (((0 : Fin 2) : Nat)) = 0 := rfl
  have c1 : (((1 : Fin 2) : Nat)) = 1 := rfl
  unfold aPieces
  have hq : (y 1).val % 256 / 128 = 1 ∨ (y 1).val % 256 / 128 = 0 := by omega
  rcases hq with h | h
  · refine (canon_col_hit (Val := Elt F) (e := .f32) (W := 1024) (w := 128) (o := 256 * (g : Nat) + 128 * 1) (attRowsIn g 1) (q g 1) _ y (by omega) (by omega)).trans (key 1 h _ rfl _)
  · refine (canon_col_miss (Val := Elt F) (e := .f32) (W := 1024) (w := 128) (o := 256 * (g : Nat) + 128 * 1) (attRowsIn g 1) (q g 1) _ y (by omega)).trans ?_
    refine (canon_col_hit (Val := Elt F) (e := .f32) (W := 1024) (w := 128) (o := 256 * (g : Nat) + 128 * 0) (attRowsIn g 0) (q g 0) _ y (by omega) (by omega)).trans (key 0 h _ rfl _)

theorem aPieces_miss (g : Fin 4) (q : Fin 2 → FVec F S128x128 .f32) (L : List (View.Piece (Elt F) S128x1024 .f32)) (y : S128x1024.Idx)
    (hy : (y 1).val / 256 ≠ g) : View.canon (aPieces g q L) y = View.canon L y := by
  have c0 : (((0 : Fin 2) : Nat)) = 0 := rfl
  have c1 : (((1 : Fin 2) : Nat)) = 1 := rfl
  unfold aPieces
  refine (canon_col_miss (Val := Elt F) (e := .f32) (W := 1024) (w := 128) (o := 256 * (g : Nat) + 128 * 1) (attRowsIn g 1) (q 1) _ y (by omega)).trans ?_
  exact canon_col_miss (Val := Elt F) (e := .f32) (W := 1024) (w := 128) (o := 256 * (g : Nat) + 128 * 0) (attRowsIn g 0) (q 0) _ y (by omega)

/-- All the attention's rows. -/
theorem read_att {sig : RefSig} {κ : Kind} {sp : Space} (v : View sig κ sp S128x1024 .f32) (q : Fin 4 → Fin 2 → FVec F S128x128 .f32) :
    v.readCov (aPieces 3 (q 3) (aPieces 2 (q 2) (aPieces 1 (q 1) (aPieces 0 (q 0) []))))
      (Rect.unit (s := S128x1024) ![0, 0] S128x1024.size inb_S128x1024_S128x1024_0_0).toLoadRect = attRows q := by
  rw [View.readCov_eq_canon']
  funext j
  have e : (Rect.unit (s := S128x1024) ![0, 0] S128x1024.size inb_S128x1024_S128x1024_0_0).toLoadRect.idx j = j := by
    funext a
    apply Fin.ext
    match a with
    | ⟨0, _⟩ => show 0 + 1 * (j 0).val = (j 0).val; omega
    | ⟨1, _⟩ => show 0 + 1 * (j 1).val = (j 1).val; omega
  rw [e]
  have hj : (j 1).val < 1024 := (j 1).isLt
  have c0 : (((0 : Fin 4) : Nat)) = 0 := rfl
  have c1 : (((1 : Fin 4) : Nat)) = 1 := rfl
  have c2 : (((2 : Fin 4) : Nat)) = 2 := rfl
  have c3 : (((3 : Fin 4) : Nat)) = 3 := rfl
  by_cases h3 : (j 1).val / 256 = 3
  · exact aPieces_hit 3 q _ j h3
  rw [aPieces_miss 3 _ _ j h3]
  by_cases h2 : (j 1).val / 256 = 2
  · exact aPieces_hit 2 q _ j h2
  rw [aPieces_miss 2 _ _ j h2]
  by_cases h1 : (j 1).val / 256 = 1
  · exact aPieces_hit 1 q _ j h1
  rw [aPieces_miss 1 _ _ j h1]
  exact aPieces_hit 0 q _ j (by omega)

/-- The states of the four groups after a chunk, from those before it. -/
def statesNew (x0 : Vec F S1x128x3072 .bf16) (dt ac : FVec F S128x128 .f32) (st : Fin 4 → Vec F S1x128x512 .f32) : Vec F S4x128x512 .f32 :=
  fun y => stateNew (y 0) x0 dt ac (st (y 0)) (ix2 (y 1) (y 2))

end Cert.MixerIdeal.Body

end
-- ==== Proof.Blocks.lean ====
module

public import proofs.«01_k».proof.Proof.Pieces
public import Idealize.ShloMosaic.Lib.ValueLayout

@[expose] public section

/-! The stores of one point as lists built group by group, and what they leave. -/

noncomputable section

open Idealize.ShloMosaic Idealize.ShloMosaic.TcCoe Idealize.SL.Sem

namespace Cert.MixerIdeal.Body
open Cert.MixerIdeal Cert.MixerIdeal.Gen

variable {F : FTy → Type} [FloatOps F] [Named F]

/-- One group of the recurrence: its four lane pairs `p`, then the normed rows `n` of what they made. -/
def rowStep {sig : RefSig} {κ : Kind} {sp : Space} (v : View sig κ sp S128x2048 .f32) (p : Fin 4 → Fin 4 → FVec F S128x128 .f32)
    (n : Fin 4 → FVec F S128x512 .f32 → FVec F S128x512 .f32) (g : Fin 4) (L : Rows F) : Rows F :=
  nPiece g (n g (v.readCov (yPieces g (p g) L) (Rect.unit (s := S128x2048) ![0, 512 * (g : Nat)] S128x512.size (groupRowsIn g)).toLoadRect)) (yPieces g (p g) L)

def rowsChain {sig : RefSig} {κ : Kind} {sp : Space} (v : View sig κ sp S128x2048 .f32) (p : Fin 4 → Fin 4 → FVec F S128x128 .f32)
    (n : Fin 4 → FVec F S128x512 .f32 → FVec F S128x512 .f32) : Rows F :=
  rowStep v p n 3 (rowStep v p n 2 (rowStep v p n 1 (rowStep v p n 0 [])))

theorem rowStep_eq {sig : RefSig} {κ : Kind} {sp : Space} (v : View sig κ sp S128x2048 .f32) (p : Fin 4 → Fin 4 → FVec F S128x128 .f32)
    (n : Fin 4 → FVec F S128x512 .f32 → FVec F S128x512 .f32) (g : Fin 4) (L : Rows F) :
    rowStep v p n g L = nPiece g ((fun g => n g (rowsOf (p g))) g) (yPieces g (p g) L) := by
  unfold rowStep
  rw [read_group]

theorem read_rows {sig : RefSig} {κ : Kind} {sp : Space} (v : View sig κ sp S128x2048 .f32) (p : Fin 4 → Fin 4 → FVec F S128x128 .f32)
    (n : Fin 4 → FVec F S128x512 .f32 → FVec F S128x512 .f32) :
    v.readCov (rowsChain v p n) (Rect.unit (s := S128x2048) ![0, 0] S128x2048.size inb_S128x2048_S128x2048_0_0).toLoadRect
      = allRows fun g => n g (rowsOf (p g)) := by
  refine Eq.trans ?_ (read_all v (fun g => n g (rowsOf (p g))) p)
  refine congrArg (fun L => v.readCov L (Rect.unit (s := S128x2048) ![0, 0] S128x2048.size inb_S128x2048_S128x2048_0_0).toLoadRect) ?_
  unfold rowsChain
  rw [rowStep_eq, rowStep_eq, rowStep_eq, rowStep_eq]

/-- The stores of the four groups' states, the last first. -/
def statesList (s : Fin 4 → Vec F S1x128x512 .f32) (L : List (View.Piece (Elt F) S4x128x512 .f32)) : List (View.Piece (Elt F) S4x128x512 .f32) :=
  ⟨Rect.unit (s := S4x128x512) ![3, 0, 0] S1x128x512.size inb_S4x128x512_S1x128x512_3_0_0, s 3⟩ ::
  ⟨Rect.unit (s := S4x128x512) ![2, 0, 0] S1x128x512.size inb_S4x128x512_S1x128x512_2_0_0, s 2⟩ ::
  ⟨Rect.unit (s := S4x128x512) ![1, 0, 0] S1x128x512.size inb_S4x128x512_S1x128x512_1_0_0, s 1⟩ ::
  ⟨Rect.unit (s := S4x128x512) ![0, 0, 0] S1x128x512.size inb_S4x128x512_S1x128x512_0_0_0, s 0⟩ :: L

theorem canon_state_hit (k : Nat) (inb : ∀ a, (![k, 0, 0] : Fin 3 → Nat) a + S1x128x512.size a ≤ S4x128x512.size a)
    (v : Vec F S1x128x512 .f32) (L : List (View.Piece (Elt F) S4x128x512 .f32)) (y : S4x128x512.Idx) (h : (y 0).val = k) :
    View.canon ((⟨Rect.unit (s := S4x128x512) ![k, 0, 0] S1x128x512.size inb, v⟩ : View.Piece (Elt F) S4x128x512 .f32) :: L) y
      = v (ValueIdx.ix3 0 (y 1) (y 2)) := by
  have e : y = (Rect.unit (s := S4x128x512) ![k, 0, 0] S1x128x512.size inb).emb (ValueIdx.ix3 0 (y 1) (y 2) : S1x128x512.Idx) := by
    funext a
    apply Fin.ext
    rw [Rect.emb_apply]
    match a with
    | ⟨0, _⟩ => show (y 0).val = k + 1 * 0; omega
    | ⟨1, _⟩ => show (y 1).val = 0 + 1 * (y 1).val; omega
    | ⟨2, _⟩ => show (y 2).val = 0 + 1 * (y 2).val; omega
  conv_lhs => rw [e]
  exact View.canon_cons_emb (Rect.unit (s := S4x128x512) ![k, 0, 0] S1x128x512.size inb) v L _

theorem canon_state_miss (k : Nat) (inb : ∀ a, (![k, 0, 0] : Fin 3 → Nat) a + S1x128x512.size a ≤ S4x128x512.size a)
    (v : Vec F S1x128x512 .f32) (L : List (View.Piece (Elt F) S4x128x512 .f32)) (y : S4x128x512.Idx) (h : (y 0).val ≠ k) :
    View.canon ((⟨Rect.unit (s := S4x128x512) ![k, 0, 0] S1x128x512.size inb, v⟩ : View.Piece (Elt F) S4x128x512 .f32) :: L) y = View.canon L y := by
  refine View.canon_cons_of_not_mem _ L fun hm => ?_
  have h1 : k ≤ (y 0).val ∧ (y 0).val < k + 1 := (Rect.mem_set_unit (inb := inb) |>.mp hm) 0
  omega

/-- The four states, read where a state holds. -/
theorem canon_states (s : Fin 4 → Vec F S1x128x512 .f32) (L : List (View.Piece (Elt F) S4x128x512 .f32)) (y : S4x128x512.Idx) :
    View.canon (statesList s L) y = s (y 0) (ValueIdx.ix3 0 (y 1) (y 2)) := by
  have key : ∀ g : Fin 4, (y 0).val = g.val → s g (ValueIdx.ix3 0 (y 1) (y 2)) = s (y 0) (ValueIdx.ix3 0 (y 1) (y 2)) := fun g h => by
    have : y 0 = g := Fin.ext h
    rw [this]
  have hy : (y 0).val < 4 := (y 0).isLt
  unfold statesList
  by_cases h3 : (y 0).val = 3
  · exact (canon_state_hit 3 _ (s 3) _ y h3).trans (key 3 h3)
  rw [canon_state_miss 3 _ (s 3) _ y h3]
  by_cases h2 : (y 0).val = 2
  · exact (canon_state_hit 2 _ (s 2) _ y h2).trans (key 2 h2)
  rw [canon_state_miss 2 _ (s 2) _ y h2]
  by_cases h1 : (y 0).val = 1
  · exact (canon_state_hit 1 _ (s 1) _ y h1).trans (key 1 h1)
  rw [canon_state_miss 1 _ (s 1) _ y h1]
  have h0 : (y 0).val = 0 := by omega
  exact (canon_state_hit 0 _ (s 0) _ y h0).trans (key 0 h0)

/-- A group's state read back. -/
theorem read_state {sig : RefSig} {κ : Kind} {sp : Space} (v : View sig κ sp S4x128x512 .f32) (s : Fin 4 → Vec F S1x128x512 .f32)
    (L : List (View.Piece (Elt F) S4x128x512 .f32)) (g : Fin 4) :
    v.readCov (statesList s L) (Rect.unit (s := S4x128x512) ![(g : Nat), 0, 0] S1x128x512.size (stateIn g)).toLoadRect = s g := by
  rw [View.readCov_eq_canon']
  funext j
  rw [canon_states]
  have e0 : (Rect.unit (s := S4x128x512) ![(g : Nat), 0, 0] S1x128x512.size (stateIn g)).toLoadRect.idx j 0 = g := Fin.ext (by
    show (g : Nat) + 1 * (j 0).val = g; have : (j 0).val < 1 := (j 0).isLt; omega)
  rw [e0]
  refine congrArg (s g) ?_
  funext a
  apply Fin.ext
  match a with
  | ⟨0, _⟩ => show 0 = (j 0).val; have : (j 0).val < 1 := (j 0).isLt; omega
  | ⟨1, _⟩ => show 0 + 1 * (j 1).val = (j 1).val; omega
  | ⟨2, _⟩ => show 0 + 1 * (j 2).val = (j 2).val; omega

/-! What a point leaves, of its blocks and of what the last point left. -/

/-- The recurrence's rows of a chunk. -/
def mixRows (x0 : Vec F S1x128x3072 .bf16) (x1 : Vec F S1x128x2048 .bf16) (x11 x12 : Vec F S1x2048 .f32) (dt ac : FVec F S128x128 .f32)
    (st : Fin 4 → Vec F S1x128x512 .f32) : FVec F S128x2048 .f32 :=
  allRows fun g => normedV g (gatedV g (rowsOf fun j => yPair g j x0 dt ac (st g)) x0 x1 x11) x12

/-- The attention's rows of a chunk. -/
def mixAtt (n : BitVec 32) (x3 : Vec F S1x128x1024 .bf16) (x4 x5 : Vec F S1x128x512 .bf16) (x13 : Vec F S16 .f32)
    (kp vp : Fin 4 → FVec F S128x128 .bf16) : FVec F S128x1024 .f32 :=
  attRows fun g => ![attLo (attV g n x3 x4 x5 x13 (kp g) (vp g)), attHi (attV g n x3 x4 x5 x13 (kp g) (vp g))]

/-- A group's lanes of the previous chunk's keys or values. -/
def prevSlice (xs : Vec F S128x512 .bf16) (g : Fin 4) : FVec F S128x128 .bf16 :=
  View.ld xs (Rect.unit (s := S128x512) ![0, 128 * (g : Nat)] S128x128.size (prevIn g))

/-- A group's state of the four. -/
def stateSlice (xs : Vec F S4x128x512 .f32) (g : Fin 4) : Vec F S1x128x512 .f32 :=
  View.ld xs (Rect.unit (s := S4x128x512) ![(g : Nat), 0, 0] S1x128x512.size (stateIn g))

/-- The hidden state of a chunk. -/
def hiddenOf (n : BitVec 32) (x0 : Vec F S1x128x3072 .bf16) (x1 : Vec F S1x128x2048 .bf16) (x2 : Vec F S1x128x128 .f32)
    (x3 : Vec F S1x128x1024 .bf16) (x4 x5 : Vec F S1x128x512 .bf16) (x6 x7 : Vec F S1x128x1024 .bf16) (x8 : Vec F S1x128x1024 .f32)
    (x9 x10 : Vec F S1x128 .f32) (x11 x12 : Vec F S1x2048 .f32) (x13 : Vec F S16 .f32) (x14 : Vec F S2048x1024 .bf16) (x15 : Vec F S1024x1024 .bf16)
    (kp vp : Vec F S128x512 .bf16) (st : Vec F S4x128x512 .f32) : Vec F S1x128x1024 .f32 :=
  shapeCast S1x128x1024
    (hiddenV (mixRows x0 x1 x11 x12 (stepV x2 x9) (acumV (stepV x2 x9) x10) (stateSlice st))
      (mixAtt n x3 x4 x5 x13 (prevSlice kp) (prevSlice vp)) x6 x7 x8 x14 x15) shapeCasts_S128x1024_S1x128x1024

/-- The states after a chunk. -/
def stateOf (x0 : Vec F S1x128x3072 .bf16) (x2 : Vec F S1x128x128 .f32) (x9 x10 : Vec F S1x128 .f32) (st : Vec F S4x128x512 .f32) : Vec F S4x128x512 .f32 :=
  statesNew x0 (stepV x2 x9) (acumV (stepV x2 x9) x10) (stateSlice st)

/-- What the first chunk of a row starts from. -/
def zeroState : Vec F S4x128x512 .f32 := constant S4x128x512 .f32 0x00000000#32
def zeroKeys : Vec F S128x512 .bf16 := constant S128x512 .bf16 0x0000#16

theorem hz2 : (![0, 0] : Fin 2 → Nat) = fun _ => 0 := funext fun a => by fin_cases a <;> rfl
theorem hz3 : (![0, 0, 0] : Fin 3 → Nat) = fun _ => 0 := funext fun a => by fin_cases a <;> rfl

/-- The block of keys or values kept for the next chunk. -/
def kept (x : Vec F S1x128x512 .bf16) : Vec F S128x512 .bf16 := shapeCast S128x512 x shapeCasts_S1x128x512_S128x512

/-- The last block of keys or values, widened. -/
def widened (x : Vec F S1x128x512 .bf16) : Vec F S1x128x512 .f32 :=
  shapeCast S1x128x512 (extf .f32 (shapeCast S128x512 x shapeCasts_S1x128x512_S128x512) bitsLt_bf16_f32) shapeCasts_S128x512_S1x128x512

theorem hz2' : ∀ a, (![0, 0] : Fin 2 → Nat) a = 0 := fun a => by fin_cases a <;> rfl
theorem hz3' : ∀ a, (![0, 0, 0] : Fin 3 → Nat) a = 0 := fun a => by fin_cases a <;> rfl

/-- A group's state with its two axes exchanged. -/
def turned (s : Vec F S1x128x512 .f32) : Vec F S1x1x512x128 .f32 :=
  shapeCast S1x1x512x128 (transpose S512x128 [1, 0] (shapeCast S128x512 s shapeCasts_S1x128x512_S128x512) transposes_S128x512_p1_0_S512x128) shapeCasts_S512x128_S1x1x512x128

/-- The stores of the four, the last first. -/
def turnedList (s : Fin 4 → Vec F S1x1x512x128 .f32) : List (View.Piece (Elt F) S1x4x512x128 .f32) :=
  [⟨Rect.unit (s := S1x4x512x128) ![0, 3, 0, 0] S1x1x512x128.size inb_S1x4x512x128_S1x1x512x128_0_3_0_0, s 3⟩,
   ⟨Rect.unit (s := S1x4x512x128) ![0, 2, 0, 0] S1x1x512x128.size inb_S1x4x512x128_S1x1x512x128_0_2_0_0, s 2⟩,
   ⟨Rect.unit (s := S1x4x512x128) ![0, 1, 0, 0] S1x1x512x128.size inb_S1x4x512x128_S1x1x512x128_0_1_0_0, s 1⟩,
   ⟨Rect.unit (s := S1x4x512x128) ![0, 0, 0, 0] S1x1x512x128.size inb_S1x4x512x128_S1x1x512x128_0_0_0_0, s 0⟩]

/-- The four states as the result holds them. -/
def turnedAll (st : Vec F S4x128x512 .f32) : Vec F S1x4x512x128 .f32 := fun y => st (ValueIdx.ix3 (y 1) (y 3) (y 2))

theorem turned_apply (s : FVec F S128x512 .f32) (y : S1x1x512x128.Idx) :
    turned (shapeCast S1x128x512 s shapeCasts_S128x512_S1x128x512) y = s (ValueIdx.ix2 (y 3) (y 2)) := by
  unfold turned
  rw [shapeCast_shapeCast]
  refine (shapeCast_apply _ _ y (ValueIdx.ix2 (y 2) (y 3)) ?_).trans ?_
  · rw [Shape.rowMajor_val_four, Shape.rowMajor_val_two]
    have h0 : (y 0).val < 1 := (y 0).isLt
    have h1 : (y 1).val < 1 := (y 1).isLt
    show (y 2).val * 128 + (y 3).val = (((y 0).val * 1 + (y 1).val) * 512 + (y 2).val) * 128 + (y 3).val
    omega
  · exact ValueIdx.transpose_ix2_apply _ _ _ _

theorem canon_turned (s : Fin 4 → FVec F S128x512 .f32) (y : S1x4x512x128.Idx) :
    View.canon (turnedList fun g => turned (shapeCast S1x128x512 (s g) shapeCasts_S128x512_S1x128x512)) y
      = s (y 1) (ValueIdx.ix2 (y 3) (y 2)) := by
  have key : ∀ (k : Nat) (inb : ∀ a, (![0, k, 0, 0] : Fin 4 → Nat) a + S1x1x512x128.size a ≤ S1x4x512x128.size a)
      (g : Fin 4) (L : List (View.Piece (Elt F) S1x4x512x128 .f32)), g.val = k →
      View.canon ((⟨Rect.unit (s := S1x4x512x128) ![0, k, 0, 0] S1x1x512x128.size inb, turned (shapeCast S1x128x512 (s g) shapeCasts_S128x512_S1x128x512)⟩ :
        View.Piece (Elt F) S1x4x512x128 .f32) :: L) y = if (y 1).val = k then s (y 1) (ValueIdx.ix2 (y 3) (y 2)) else View.canon L y := by
    intro k inb g L hg
    have h0 : (y 0).val < 1 := (y 0).isLt
    split_ifs with h
    · have e : y = (Rect.unit (s := S1x4x512x128) ![0, k, 0, 0] S1x1x512x128.size inb).emb (ValueIdx.ix4 0 0 (y 2) (y 3) : S1x1x512x128.Idx) := by
        funext a
        apply Fin.ext
        rw [Rect.emb_apply]
        match a with
        | ⟨0, _⟩ => show (y 0).val = 0 + 1 * 0; omega
        | ⟨1, _⟩ => show (y 1).val = k + 1 * 0; omega
        | ⟨2, _⟩ => show (y 2).val = 0 + 1 * (y 2).val; omega
        | ⟨3, _⟩ => show (y 3).val = 0 + 1 * (y 3).val; omega
      have e1 : y 1 = g := Fin.ext (h.trans hg.symm)
      rw [e1]
      refine Eq.trans ?_ (turned_apply (s g) (ValueIdx.ix4 0 0 (y 2) (y 3) : S1x1x512x128.Idx))
      conv_lhs => rw [e]
      exact View.canon_cons_emb (Rect.unit (s := S1x4x512x128) ![0, k, 0, 0] S1x1x512x128.size inb) _ L _
    · refine View.canon_cons_of_not_mem _ L fun hm => ?_
      have h1 : k ≤ (y 1).val ∧ (y 1).val < k + 1 := (Rect.mem_set_unit (inb := inb) |>.mp hm) 1
      omega
  have hy : (y 1).val < 4 := (y 1).isLt
  unfold turnedList
  rw [key 3 _ 3 _ rfl]
  split_ifs with h3
  · rfl
  rw [key 2 _ 2 _ rfl]
  split_ifs with h2
  · rfl
  rw [key 1 _ 1 _ rfl]
  split_ifs with h1
  · rfl
  rw [key 0 _ 0 _ rfl]
  split_ifs with h
  · rfl
  · omega

/-- Reading one group's state past the store of another's. -/
theorem skip_state {sig : RefSig} {κ : Kind} {sp : Space} (v : View sig κ sp S4x128x512 .f32) (k k' : Nat) (hne : k' ≠ k)
    (inb : ∀ a, (![k, 0, 0] : Fin 3 → Nat) a + S1x128x512.size a ≤ S4x128x512.size a)
    (inb' : ∀ a, (![k', 0, 0] : Fin 3 → Nat) a + S1x128x512.size a ≤ S4x128x512.size a)
    (w : Vec F S1x128x512 .f32) (L : List (View.Piece (Elt F) S4x128x512 .f32)) :
    v.readCov ((⟨Rect.unit (s := S4x128x512) ![k, 0, 0] S1x128x512.size inb, w⟩ : View.Piece (Elt F) S4x128x512 .f32) :: L)
        (Rect.unit (s := S4x128x512) ![k', 0, 0] S1x128x512.size inb').toLoadRect
      = v.readCov L (Rect.unit (s := S4x128x512) ![k', 0, 0] S1x128x512.size inb').toLoadRect := by
  rw [View.readCov_eq_canon', View.readCov_eq_canon']
  funext j
  refine canon_state_miss k inb w L _ ?_
  have hj : (j 0).val < 1 := (j 0).isLt
  show k' + 1 * (j 0).val ≠ k
  omega

/-- A group's state read from the zeros the first chunk stores. -/
theorem read_zeroState {sig : RefSig} {κ : Kind} {sp : Space} (v : View sig κ sp S4x128x512 .f32) (g : Fin 4) :
    v.readCov [(⟨Rect.unit (s := S4x128x512) ![0, 0, 0] S4x128x512.size inb_S4x128x512_S4x128x512_0_0_0, zeroState (F := F)⟩ : View.Piece (Elt F) S4x128x512 .f32)]
        (Rect.unit (s := S4x128x512) ![(g : Nat), 0, 0] S1x128x512.size (stateIn g)).toLoadRect = stateSlice (zeroState (F := F)) g :=
  View.readCov_fill (s := S4x128x512) v inb_S4x128x512_S4x128x512_0_0_0 (zeroState (F := F)) [] _ hz3'

/-- A group's keys or values read from those zeros. -/
theorem read_zeroKeys {sig : RefSig} {κ : Kind} {sp : Space} (v : View sig κ sp S128x512 .bf16) (g : Fin 4) :
    v.readCov [(⟨Rect.unit (s := S128x512) ![0, 0] S128x512.size inb_S128x512_S128x512_0_0, zeroKeys (F := F)⟩ : View.Piece (Elt F) S128x512 .bf16)]
        (Rect.unit (s := S128x512) ![0, 128 * (g : Nat)] S128x128.size (prevIn g)).toLoadRect = prevSlice (zeroKeys (F := F)) g :=
  View.readCov_fill (s := S128x512) v inb_S128x512_S128x512_0_0 (zeroKeys (F := F)) [] _ hz2'

end Cert.MixerIdeal.Body

end
-- ==== Proof.OpenA.lean ====
module

public import proofs.«01_k».proof.Proof.Blocks
public import Idealize.ShloMosaic.Lib.Pipeline.ReadBack

@[expose] public section

/-! What a point of case A leaves. -/

noncomputable section

open Idealize.ShloMosaic Idealize.ShloMosaic.TcCoe Idealize.SL.Sem

namespace Cert.MixerIdeal.Body
open Cert.MixerIdeal Cert.MixerIdeal.Gen
variable {F : FTy → Type} [FloatOps F] [Named F]

variable (c : Dev nD) (i : grid0.Coords) (arg2 : Memref sig .tc .vmem S1x128x3072 .bf16) (harg2 : arg2.IsWhole) (arg3 : Memref sig .tc .vmem S1x128x2048 .bf16) (harg3 : arg3.IsWhole) (arg4 : Memref sig .tc .vmem S1x128x128 .f32) (harg4 : arg4.IsWhole) (arg5 : Memref sig .tc .vmem S1x128x1024 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x1024 .bf16) (harg8 : arg8.IsWhole) (arg9 : Memref sig .tc .vmem S1x128x1024 .bf16) (harg9 : arg9.IsWhole) (arg10 : Memref sig .tc .vmem S1x128x1024 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .smem S16 .f32) (harg15 : arg15.IsWhole) (arg16 : Memref sig .tc .vmem S2048x1024 .bf16) (harg16 : arg16.IsWhole) (arg17 : Memref sig .tc .vmem S1024x1024 .bf16) (harg17 : arg17.IsWhole) (arg18 : Memref sig .tc .vmem S1x128x1024 .f32) (harg18 : arg18.IsWhole) (arg19 : Memref sig .tc .vmem S1x4x512x128 .f32) (harg19 : arg19.IsWhole) (arg20 : Memref sig .tc .vmem S1x128x512 .f32) (harg20 : arg20.IsWhole) (arg21 : Memref sig .tc .vmem S1x128x512 .f32) (harg21 : arg21.IsWhole) (arg22 : Memref sig .tc .vmem S128x2048 .f32) (harg22 : arg22.IsWhole) (arg23 : Memref sig .tc .vmem S128x1024 .f32) (harg23 : arg23.IsWhole) (arg24 : Memref sig .tc .vmem S128x512 .bf16) (harg24 : arg24.IsWhole) (arg25 : Memref sig .tc .vmem S128x512 .bf16) (harg25 : arg25.IsWhole) (arg26 : Memref sig .tc .vmem S4x128x512 .f32) (harg26 : arg26.IsWhole) (x0 : Vec F S1x128x3072 .bf16) (x1 : Vec F S1x128x2048 .bf16) (x2 : Vec F S1x128x128 .f32) (x3 : Vec F S1x128x1024 .bf16) (x4 : Vec F S1x128x512 .bf16) (x5 : Vec F S1x128x512 .bf16) (x6 : Vec F S1x128x1024 .bf16) (x7 : Vec F S1x128x1024 .bf16) (x8 : Vec F S1x128x1024 .f32) (x9 : Vec F S1x128 .f32) (x10 : Vec F S1x128 .f32) (x11 : Vec F S1x2048 .f32) (x12 : Vec F S1x2048 .f32) (x13 : Vec F S16 .f32) (x14 : Vec F S2048x1024 .bf16) (x15 : Vec F S1024x1024 .bf16)

theorem A_dt : (kernelRun0_A.sl.v15 c arg4 harg4 arg11 harg11 x2 x9) = stepV (View.ld (View.read (Elt F) arg4.view (harg4.unread x2)) (Rect.unit (s := S1x128x128) ![0, 0, 0] S1x128x128.size inb_S1x128x128_S1x128x128_0_0_0)) (View.ld (View.read (Elt F) arg11.view (harg11.unread x9)) (Rect.unit (s := S1x128) ![0, 0] S1x128.size inb_S1x128_S1x128_0_0)) := rfl

theorem A_ac : (kernelRun0_A.sl.v28 c arg4 harg4 arg11 harg11 arg12 harg12 x2 x9 x10) = acumV (kernelRun0_A.sl.v15 c arg4 harg4 arg11 harg11 x2 x9) (View.ld (View.read (Elt F) arg12.view (harg12.unread x10)) (Rect.unit (s := S1x128) ![0, 0] S1x128.size inb_S1x128_S1x128_0_0)) := rfl

set_option maxHeartbeats 2000000 in
theorem A_rows : (kernelRun0_A.sl.HS0_20 c arg2 harg2 arg3 harg3 arg4 harg4 arg11 harg11 arg12 harg12 arg13 harg13 arg14 harg14 arg22 arg26 x0 x1 x2 x9 x10 x11 x12) = rowsChain arg22.view
    (fun g j => shapeCast S128x128 (yPair g j (View.read (Elt F) arg2.view (harg2.unread x0)) (kernelRun0_A.sl.v15 c arg4 harg4 arg11 harg11 x2 x9) (kernelRun0_A.sl.v28 c arg4 harg4 arg11 harg11 arg12 harg12 x2 x9 x10) ((![(kernelRun0_A.sl.v72 c arg26), (kernelRun0_A.sl.v462 c arg2 harg2 arg4 harg4 arg11 harg11 arg12 harg12 arg26 x0 x2 x9 x10), (kernelRun0_A.sl.v852 c arg2 harg2 arg4 harg4 arg11 harg11 arg12 harg12 arg26 x0 x2 x9 x10), (kernelRun0_A.sl.v1242 c arg2 harg2 arg4 harg4 arg11 harg11 arg12 harg12 arg26 x0 x2 x9 x10)] : Fin 4 → Vec F S1x128x512 .f32) g)) shapeCasts_S128x128_S128x128)
    (fun g y => shapeCast S128x512 (normedV g (gatedV g y (View.read (Elt F) arg2.view (harg2.unread x0)) (View.read (Elt F) arg3.view (harg3.unread x1)) (View.read (Elt F) arg13.view (harg13.unread x11))) (View.read (Elt F) arg14.view (harg14.unread x12))) shapeCasts_S128x512_S128x512) := rfl

/-- A key-value group's two lane pairs. -/
def A_q (g : Fin 4) : Fin 2 → FVec F S128x128 .f32 :=
  ![shapeCast S128x128 (attLo (attV g (BitVec.ofNat 32 (i 1 : Nat)) (View.read (Elt F) arg5.view (harg5.unread x3)) (View.read (Elt F) arg6.view (harg6.unread x4)) (View.read (Elt F) arg7.view (harg7.unread x5)) (View.read (Elt F) arg15.view (harg15.unread x13)) ((![(kernelRun0_A.sl.v368 c arg24), (kernelRun0_A.sl.v758 c arg24), (kernelRun0_A.sl.v1148 c arg24), (kernelRun0_A.sl.v1538 c arg24)] : Fin 4 → FVec F S128x128 .bf16) g) ((![(kernelRun0_A.sl.v371 c arg25), (kernelRun0_A.sl.v761 c arg25), (kernelRun0_A.sl.v1151 c arg25), (kernelRun0_A.sl.v1541 c arg25)] : Fin 4 → FVec F S128x128 .bf16) g))) shapeCasts_S128x128_S128x128,
    shapeCast S128x128 (attHi (attV g (BitVec.ofNat 32 (i 1 : Nat)) (View.read (Elt F) arg5.view (harg5.unread x3)) (View.read (Elt F) arg6.view (harg6.unread x4)) (View.read (Elt F) arg7.view (harg7.unread x5)) (View.read (Elt F) arg15.view (harg15.unread x13)) ((![(kernelRun0_A.sl.v368 c arg24), (kernelRun0_A.sl.v758 c arg24), (kernelRun0_A.sl.v1148 c arg24), (kernelRun0_A.sl.v1538 c arg24)] : Fin 4 → FVec F S128x128 .bf16) g) ((![(kernelRun0_A.sl.v371 c arg25), (kernelRun0_A.sl.v761 c arg25), (kernelRun0_A.sl.v1151 c arg25), (kernelRun0_A.sl.v1541 c arg25)] : Fin 4 → FVec F S128x128 .bf16) g))) shapeCasts_S128x128_S128x128]

set_option maxHeartbeats 2000000 in
theorem A_att : (kernelRun0_A.sl.HS1_8 c i arg5 harg5 arg6 harg6 arg7 harg7 arg15 harg15 arg24 arg25 x3 x4 x5 x13) = aPieces 3 ((A_q c i arg5 harg5 arg6 harg6 arg7 harg7 arg15 harg15 arg24 arg25 x3 x4 x5 x13) 3) (aPieces 2 ((A_q c i arg5 harg5 arg6 harg6 arg7 harg7 arg15 harg15 arg24 arg25 x3 x4 x5 x13) 2) (aPieces 1 ((A_q c i arg5 harg5 arg6 harg6 arg7 harg7 arg15 harg15 arg24 arg25 x3 x4 x5 x13) 1) (aPieces 0 ((A_q c i arg5 harg5 arg6 harg6 arg7 harg7 arg15 harg15 arg24 arg25 x3 x4 x5 x13) 0) []))) := rfl

theorem A_hidden : (kernelRun0_A.sl.r_89 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 arg23 arg24 arg25 arg26 x0 x1 x2 x3 x4 x5 x6 x7 x8 x9 x10 x11 x12 x13 x14 x15) = hiddenV
    (arg22.view.readCov (kernelRun0_A.sl.HS0_20 c arg2 harg2 arg3 harg3 arg4 harg4 arg11 harg11 arg12 harg12 arg13 harg13 arg14 harg14 arg22 arg26 x0 x1 x2 x9 x10 x11 x12) (Rect.unit (s := S128x2048) ![0, 0] S128x2048.size inb_S128x2048_S128x2048_0_0).toLoadRect)
    (arg23.view.readCov (kernelRun0_A.sl.HS1_8 c i arg5 harg5 arg6 harg6 arg7 harg7 arg15 harg15 arg24 arg25 x3 x4 x5 x13) (Rect.unit (s := S128x1024) ![0, 0] S128x1024.size inb_S128x1024_S128x1024_0_0).toLoadRect)
    (View.ld (View.read (Elt F) arg8.view (harg8.unread x6)) (Rect.unit (s := S1x128x1024) ![0, 0, 0] S1x128x1024.size inb_S1x128x1024_S1x128x1024_0_0_0)) (View.ld (View.read (Elt F) arg9.view (harg9.unread x7)) (Rect.unit (s := S1x128x1024) ![0, 0, 0] S1x128x1024.size inb_S1x128x1024_S1x128x1024_0_0_0)) (View.ld (View.read (Elt F) arg10.view (harg10.unread x8)) (Rect.unit (s := S1x128x1024) ![0, 0, 0] S1x128x1024.size inb_S1x128x1024_S1x128x1024_0_0_0)) (View.ld (View.read (Elt F) arg16.view (harg16.unread x14)) (Rect.unit (s := S2048x1024) ![0, 0] S2048x1024.size inb_S2048x1024_S2048x1024_0_0)) (View.ld (View.read (Elt F) arg17.view (harg17.unread x15)) (Rect.unit (s := S1024x1024) ![0, 0] S1024x1024.size inb_S1024x1024_S1024x1024_0_0)) := rfl

/-- The four states a point of this case stores. -/
def A_s (g : Fin 4) : Vec F S1x128x512 .f32 :=
  shapeCast S1x128x512 (stateNew g (View.read (Elt F) arg2.view (harg2.unread x0)) (kernelRun0_A.sl.v15 c arg4 harg4 arg11 harg11 x2 x9) (kernelRun0_A.sl.v28 c arg4 harg4 arg11 harg11 arg12 harg12 x2 x9 x10) ((![(kernelRun0_A.sl.v72 c arg26), (kernelRun0_A.sl.v462 c arg2 harg2 arg4 harg4 arg11 harg11 arg12 harg12 arg26 x0 x2 x9 x10), (kernelRun0_A.sl.v852 c arg2 harg2 arg4 harg4 arg11 harg11 arg12 harg12 arg26 x0 x2 x9 x10), (kernelRun0_A.sl.v1242 c arg2 harg2 arg4 harg4 arg11 harg11 arg12 harg12 arg26 x0 x2 x9 x10)] : Fin 4 → Vec F S1x128x512 .f32) g)) shapeCasts_S128x512_S1x128x512

theorem A_states : (⟨Rect.unit (s := S4x128x512) ![3, 0, 0] S1x128x512.size inb_S4x128x512_S1x128x512_3_0_0, (kernelRun0_A.sl.v1509 c arg2 harg2 arg4 harg4 arg11 harg11 arg12 harg12 arg26 x0 x2 x9 x10)⟩ :: (kernelRun0_A.sl.HS4_4 c arg2 harg2 arg4 harg4 arg11 harg11 arg12 harg12 arg26 x0 x2 x9 x10) : List (View.Piece (Elt F) S4x128x512 .f32)) = statesList (A_s c arg2 harg2 arg4 harg4 arg11 harg11 arg12 harg12 arg26 x0 x2 x9 x10) kernelRun0_A.sl.HS4_1 := rfl

theorem A_kept4 : (kernelRun0_A.sl.v1631 c arg6 harg6 x4) = shapeCast S128x512 (kept (View.ld (View.read (Elt F) arg6.view (harg6.unread x4)) (Rect.unit (s := S1x128x512) ![0, 0, 0] S1x128x512.size inb_S1x128x512_S1x128x512_0_0_0))) shapeCasts_S128x512_S128x512 := rfl

theorem A_kept5 : (kernelRun0_A.sl.v1636 c arg7 harg7 x5) = shapeCast S128x512 (kept (View.ld (View.read (Elt F) arg7.view (harg7.unread x5)) (Rect.unit (s := S1x128x512) ![0, 0, 0] S1x128x512.size inb_S1x128x512_S1x128x512_0_0_0))) shapeCasts_S128x512_S128x512 := rfl

theorem A_st0 : (![(kernelRun0_A.sl.v72 c arg26), (kernelRun0_A.sl.v462 c arg2 harg2 arg4 harg4 arg11 harg11 arg12 harg12 arg26 x0 x2 x9 x10), (kernelRun0_A.sl.v852 c arg2 harg2 arg4 harg4 arg11 harg11 arg12 harg12 arg26 x0 x2 x9 x10), (kernelRun0_A.sl.v1242 c arg2 harg2 arg4 harg4 arg11 harg11 arg12 harg12 arg26 x0 x2 x9 x10)] : Fin 4 → Vec F S1x128x512 .f32) = stateSlice (zeroState (F := F)) := by
  funext g
  match g with
  | 0 => exact read_zeroState arg26.view 0
  | 1 => exact (skip_state arg26.view 0 1 (by decide) _ (stateIn 1) _ _).trans (read_zeroState arg26.view 1)
  | 2 => exact (skip_state arg26.view 1 2 (by decide) _ (stateIn 2) _ _).trans ((skip_state arg26.view 0 2 (by decide) _ (stateIn 2) _ _).trans
      (read_zeroState arg26.view 2))
  | 3 => exact (skip_state arg26.view 2 3 (by decide) _ (stateIn 3) _ _).trans ((skip_state arg26.view 1 3 (by decide) _ (stateIn 3) _ _).trans
      ((skip_state arg26.view 0 3 (by decide) _ (stateIn 3) _ _).trans (read_zeroState arg26.view 3)))

theorem A_kp0 : (![(kernelRun0_A.sl.v368 c arg24), (kernelRun0_A.sl.v758 c arg24), (kernelRun0_A.sl.v1148 c arg24), (kernelRun0_A.sl.v1538 c arg24)] : Fin 4 → FVec F S128x128 .bf16) = prevSlice (zeroKeys (F := F)) := by
  funext g
  match g with
  | 0 => exact read_zeroKeys arg24.view 0
  | 1 => exact read_zeroKeys arg24.view 1
  | 2 => exact read_zeroKeys arg24.view 2
  | 3 => exact read_zeroKeys arg24.view 3

theorem A_vp0 : (![(kernelRun0_A.sl.v371 c arg25), (kernelRun0_A.sl.v761 c arg25), (kernelRun0_A.sl.v1151 c arg25), (kernelRun0_A.sl.v1541 c arg25)] : Fin 4 → FVec F S128x128 .bf16) = prevSlice (zeroKeys (F := F)) := by
  funext g
  match g with
  | 0 => exact read_zeroKeys arg25.view 0
  | 1 => exact read_zeroKeys arg25.view 1
  | 2 => exact read_zeroKeys arg25.view 2
  | 3 => exact read_zeroKeys arg25.view 3

/-- The hidden state a point of this case stores. -/
theorem A_out16 (hc0 : cond0_0 i) (hc1 : ¬cond0_1 i)
    : (out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15) = hiddenOf (BitVec.ofNat 32 (i 1 : Nat)) x0 x1 x2 x3 x4 x5 x6 x7 x8 x9 x10 x11 x12 x13 x14 x15 (zeroKeys (F := F)) (zeroKeys (F := F)) (zeroState (F := F)) := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15)]
  unfold kernelRun0_A
  dsimp only
  refine (View.canon_unit_zero (S := S1x128x1024) hz3 _ _).trans ?_
  unfold hiddenOf mixRows mixAtt
  refine congrArg (fun u => shapeCast S1x128x1024 u shapeCasts_S128x1024_S1x128x1024) ?_
  rw [A_hidden, A_rows, read_rows, A_att, read_att]
  unfold A_q
  simp only [A_dt, A_ac, A_st0, A_kp0, A_vp0, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x128x128) hz3, View.ld_unit_zero (S := S1x128) hz2, View.ld_unit_zero (S := S1x128x1024) hz3, View.ld_unit_zero (S := S1x128x512) hz3, View.ld_unit_zero (S := S2048x1024) hz2, View.ld_unit_zero (S := S1024x1024) hz2, shapeCast_id]

theorem A_prev2 (hc0 : cond0_0 i) (hc1 : ¬cond0_1 i)
    : (sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15) = kept x4 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15)]
  unfold kernelRun0_A
  dsimp only
  refine (View.canon_cons_unit_zero (S := S128x512) hz2 _ _ _).trans ?_
  rw [A_kept4]
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x128x128) hz3, View.ld_unit_zero (S := S1x128) hz2, View.ld_unit_zero (S := S1x128x1024) hz3, View.ld_unit_zero (S := S1x128x512) hz3, View.ld_unit_zero (S := S2048x1024) hz2, View.ld_unit_zero (S := S1024x1024) hz2, shapeCast_id]

theorem A_prev3 (hc0 : cond0_0 i) (hc1 : ¬cond0_1 i)
    : (sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15) = kept x5 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15)]
  unfold kernelRun0_A
  dsimp only
  refine (View.canon_cons_unit_zero (S := S128x512) hz2 _ _ _).trans ?_
  rw [A_kept5]
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x128x128) hz3, View.ld_unit_zero (S := S1x128) hz2, View.ld_unit_zero (S := S1x128x1024) hz3, View.ld_unit_zero (S := S1x128x512) hz3, View.ld_unit_zero (S := S2048x1024) hz2, View.ld_unit_zero (S := S1024x1024) hz2, shapeCast_id]

theorem A_state (hc0 : cond0_0 i) (hc1 : ¬cond0_1 i)
    : (sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15) = stateOf x0 x2 x9 x10 (zeroState (F := F)) := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15)]
  unfold kernelRun0_A
  dsimp only
  funext y
  refine (congrFun (congrArg View.canon (A_states c arg2 harg2 arg4 harg4 arg11 harg11 arg12 harg12 arg26 x0 x2 x9 x10)) y).trans ?_
  rw [canon_states]
  unfold A_s stateOf statesNew
  simp only [A_dt, A_ac, A_st0, A_kp0, A_vp0, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1x128x128) hz3, View.ld_unit_zero (S := S1x128) hz2, View.ld_unit_zero (S := S1x128x1024) hz3, View.ld_unit_zero (S := S1x128x512) hz3, View.ld_unit_zero (S := S2048x1024) hz2, View.ld_unit_zero (S := S1024x1024) hz2]
  exact ValueIdx.shapeCast_ab_1ab_apply _ _ _ _ _

end Cert.MixerIdeal.Body

end
-- ==== Proof.OpenB.lean ====
module

public import proofs.«01_k».proof.Proof.Blocks
public import Idealize.ShloMosaic.Lib.Pipeline.ReadBack

@[expose] public section

/-! What a point of case B leaves. -/

noncomputable section

open Idealize.ShloMosaic Idealize.ShloMosaic.TcCoe Idealize.SL.Sem

namespace Cert.MixerIdeal.Body
open Cert.MixerIdeal Cert.MixerIdeal.Gen
variable {F : FTy → Type} [FloatOps F] [Named F]

variable (c : Dev nD) (i : grid0.Coords) (arg2 : Memref sig .tc .vmem S1x128x3072 .bf16) (harg2 : arg2.IsWhole) (arg3 : Memref sig .tc .vmem S1x128x2048 .bf16) (harg3 : arg3.IsWhole) (arg4 : Memref sig .tc .vmem S1x128x128 .f32) (harg4 : arg4.IsWhole) (arg5 : Memref sig .tc .vmem S1x128x1024 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x1024 .bf16) (harg8 : arg8.IsWhole) (arg9 : Memref sig .tc .vmem S1x128x1024 .bf16) (harg9 : arg9.IsWhole) (arg10 : Memref sig .tc .vmem S1x128x1024 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .smem S16 .f32) (harg15 : arg15.IsWhole) (arg16 : Memref sig .tc .vmem S2048x1024 .bf16) (harg16 : arg16.IsWhole) (arg17 : Memref sig .tc .vmem S1024x1024 .bf16) (harg17 : arg17.IsWhole) (arg18 : Memref sig .tc .vmem S1x128x1024 .f32) (harg18 : arg18.IsWhole) (arg19 : Memref sig .tc .vmem S1x4x512x128 .f32) (harg19 : arg19.IsWhole) (arg20 : Memref sig .tc .vmem S1x128x512 .f32) (harg20 : arg20.IsWhole) (arg21 : Memref sig .tc .vmem S1x128x512 .f32) (harg21 : arg21.IsWhole) (arg22 : Memref sig .tc .vmem S128x2048 .f32) (harg22 : arg22.IsWhole) (arg23 : Memref sig .tc .vmem S128x1024 .f32) (harg23 : arg23.IsWhole) (arg24 : Memref sig .tc .vmem S128x512 .bf16) (harg24 : arg24.IsWhole) (arg25 : Memref sig .tc .vmem S128x512 .bf16) (harg25 : arg25.IsWhole) (arg26 : Memref sig .tc .vmem S4x128x512 .f32) (harg26 : arg26.IsWhole) (x0 : Vec F S1x128x3072 .bf16) (x1 : Vec F S1x128x2048 .bf16) (x2 : Vec F S1x128x128 .f32) (x3 : Vec F S1x128x1024 .bf16) (x4 : Vec F S1x128x512 .bf16) (x5 : Vec F S1x128x512 .bf16) (x6 : Vec F S1x128x1024 .bf16) (x7 : Vec F S1x128x1024 .bf16) (x8 : Vec F S1x128x1024 .f32) (x9 : Vec F S1x128 .f32) (x10 : Vec F S1x128 .f32) (x11 : Vec F S1x2048 .f32) (x12 : Vec F S1x2048 .f32) (x13 : Vec F S16 .f32) (x14 : Vec F S2048x1024 .bf16) (x15 : Vec F S1024x1024 .bf16) (xs2 : Vec F S128x512 .bf16) (xs3 : Vec F S128x512 .bf16) (xs4 : Vec F S4x128x512 .f32)

theorem B_dt : (kernelRun0_B.sl.v15 c arg4 harg4 arg11 harg11 x2 x9) = stepV (View.ld (View.read (Elt F) arg4.view (harg4.unread x2)) (Rect.unit (s := S1x128x128) ![0, 0, 0] S1x128x128.size inb_S1x128x128_S1x128x128_0_0_0)) (View.ld (View.read (Elt F) arg11.view (harg11.unread x9)) (Rect.unit (s := S1x128) ![0, 0] S1x128.size inb_S1x128_S1x128_0_0)) := rfl

theorem B_ac : (kernelRun0_B.sl.v28 c arg4 harg4 arg11 harg11 arg12 harg12 x2 x9 x10) = acumV (kernelRun0_B.sl.v15 c arg4 harg4 arg11 harg11 x2 x9) (View.ld (View.read (Elt F) arg12.view (harg12.unread x10)) (Rect.unit (s := S1x128) ![0, 0] S1x128.size inb_S1x128_S1x128_0_0)) := rfl

set_option maxHeartbeats 2000000 in
theorem B_rows : (kernelRun0_B.sl.HS0_20 c arg2 harg2 arg3 harg3 arg4 harg4 arg11 harg11 arg12 harg12 arg13 harg13 arg14 harg14 arg22 arg26 harg26 x0 x1 x2 x9 x10 x11 x12 xs4) = rowsChain arg22.view
    (fun g j => shapeCast S128x128 (yPair g j (View.read (Elt F) arg2.view (harg2.unread x0)) (kernelRun0_B.sl.v15 c arg4 harg4 arg11 harg11 x2 x9) (kernelRun0_B.sl.v28 c arg4 harg4 arg11 harg11 arg12 harg12 x2 x9 x10) ((stateSlice (View.read (Elt F) arg26.view (harg26.unread xs4))) g)) shapeCasts_S128x128_S128x128)
    (fun g y => shapeCast S128x512 (normedV g (gatedV g y (View.read (Elt F) arg2.view (harg2.unread x0)) (View.read (Elt F) arg3.view (harg3.unread x1)) (View.read (Elt F) arg13.view (harg13.unread x11))) (View.read (Elt F) arg14.view (harg14.unread x12))) shapeCasts_S128x512_S128x512) := rfl

/-- A key-value group's two lane pairs. -/
def B_q (g : Fin 4) : Fin 2 → FVec F S128x128 .f32 :=
  ![shapeCast S128x128 (attLo (attV g (BitVec.ofNat 32 (i 1 : Nat)) (View.read (Elt F) arg5.view (harg5.unread x3)) (View.read (Elt F) arg6.view (harg6.unread x4)) (View.read (Elt F) arg7.view (harg7.unread x5)) (View.read (Elt F) arg15.view (harg15.unread x13)) ((prevSlice (View.read (Elt F) arg24.view (harg24.unread xs2))) g) ((prevSlice (View.read (Elt F) arg25.view (harg25.unread xs3))) g))) shapeCasts_S128x128_S128x128,
    shapeCast S128x128 (attHi (attV g (BitVec.ofNat 32 (i 1 : Nat)) (View.read (Elt F) arg5.view (harg5.unread x3)) (View.read (Elt F) arg6.view (harg6.unread x4)) (View.read (Elt F) arg7.view (harg7.unread x5)) (View.read (Elt F) arg15.view (harg15.unread x13)) ((prevSlice (View.read (Elt F) arg24.view (harg24.unread xs2))) g) ((prevSlice (View.read (Elt F) arg25.view (harg25.unread xs3))) g))) shapeCasts_S128x128_S128x128]

set_option maxHeartbeats 2000000 in
theorem B_att : (kernelRun0_B.sl.HS1_8 c i arg5 harg5 arg6 harg6 arg7 harg7 arg15 harg15 arg24 harg24 arg25 harg25 x3 x4 x5 x13 xs2 xs3) = aPieces 3 ((B_q i arg5 harg5 arg6 harg6 arg7 harg7 arg15 harg15 arg24 harg24 arg25 harg25 x3 x4 x5 x13 xs2 xs3) 3) (aPieces 2 ((B_q i arg5 harg5 arg6 harg6 arg7 harg7 arg15 harg15 arg24 harg24 arg25 harg25 x3 x4 x5 x13 xs2 xs3) 2) (aPieces 1 ((B_q i arg5 harg5 arg6 harg6 arg7 harg7 arg15 harg15 arg24 harg24 arg25 harg25 x3 x4 x5 x13 xs2 xs3) 1) (aPieces 0 ((B_q i arg5 harg5 arg6 harg6 arg7 harg7 arg15 harg15 arg24 harg24 arg25 harg25 x3 x4 x5 x13 xs2 xs3) 0) []))) := rfl

theorem B_hidden : (kernelRun0_B.sl.r_96 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 arg23 arg24 harg24 arg25 harg25 arg26 harg26 x0 x1 x2 x3 x4 x5 x6 x7 x8 x9 x10 x11 x12 x13 x14 x15 xs2 xs3 xs4) = hiddenV
    (arg22.view.readCov (kernelRun0_B.sl.HS0_20 c arg2 harg2 arg3 harg3 arg4 harg4 arg11 harg11 arg12 harg12 arg13 harg13 arg14 harg14 arg22 arg26 harg26 x0 x1 x2 x9 x10 x11 x12 xs4) (Rect.unit (s := S128x2048) ![0, 0] S128x2048.size inb_S128x2048_S128x2048_0_0).toLoadRect)
    (arg23.view.readCov (kernelRun0_B.sl.HS1_8 c i arg5 harg5 arg6 harg6 arg7 harg7 arg15 harg15 arg24 harg24 arg25 harg25 x3 x4 x5 x13 xs2 xs3) (Rect.unit (s := S128x1024) ![0, 0] S128x1024.size inb_S128x1024_S128x1024_0_0).toLoadRect)
    (View.ld (View.read (Elt F) arg8.view (harg8.unread x6)) (Rect.unit (s := S1x128x1024) ![0, 0, 0] S1x128x1024.size inb_S1x128x1024_S1x128x1024_0_0_0)) (View.ld (View.read (Elt F) arg9.view (harg9.unread x7)) (Rect.unit (s := S1x128x1024) ![0, 0, 0] S1x128x1024.size inb_S1x128x1024_S1x128x1024_0_0_0)) (View.ld (View.read (Elt F) arg10.view (harg10.unread x8)) (Rect.unit (s := S1x128x1024) ![0, 0, 0] S1x128x1024.size inb_S1x128x1024_S1x128x1024_0_0_0)) (View.ld (View.read (Elt F) arg16.view (harg16.unread x14)) (Rect.unit (s := S2048x1024) ![0, 0] S2048x1024.size inb_S2048x1024_S2048x1024_0_0)) (View.ld (View.read (Elt F) arg17.view (harg17.unread x15)) (Rect.unit (s := S1024x1024) ![0, 0] S1024x1024.size inb_S1024x1024_S1024x1024_0_0)) := rfl

/-- The four states a point of this case stores. -/
def B_s (g : Fin 4) : Vec F S1x128x512 .f32 :=
  shapeCast S1x128x512 (stateNew g (View.read (Elt F) arg2.view (harg2.unread x0)) (kernelRun0_B.sl.v15 c arg4 harg4 arg11 harg11 x2 x9) (kernelRun0_B.sl.v28 c arg4 harg4 arg11 harg11 arg12 harg12 x2 x9 x10) ((stateSlice (View.read (Elt F) arg26.view (harg26.unread xs4))) g)) shapeCasts_S128x512_S1x128x512

theorem B_states : ([⟨Rect.unit (s := S4x128x512) ![3, 0, 0] S1x128x512.size inb_S4x128x512_S1x128x512_3_0_0, (kernelRun0_B.sl.v1509 c arg2 harg2 arg4 harg4 arg11 harg11 arg12 harg12 arg26 harg26 x0 x2 x9 x10 xs4)⟩, ⟨Rect.unit (s := S4x128x512) ![2, 0, 0] S1x128x512.size inb_S4x128x512_S1x128x512_2_0_0, (kernelRun0_B.sl.v1119 c arg2 harg2 arg4 harg4 arg11 harg11 arg12 harg12 arg26 harg26 x0 x2 x9 x10 xs4)⟩, ⟨Rect.unit (s := S4x128x512) ![1, 0, 0] S1x128x512.size inb_S4x128x512_S1x128x512_1_0_0, (kernelRun0_B.sl.v729 c arg2 harg2 arg4 harg4 arg11 harg11 arg12 harg12 arg26 harg26 x0 x2 x9 x10 xs4)⟩, ⟨Rect.unit (s := S4x128x512) ![0, 0, 0] S1x128x512.size inb_S4x128x512_S1x128x512_0_0_0, (kernelRun0_B.sl.v339 c arg2 harg2 arg4 harg4 arg11 harg11 arg12 harg12 arg26 harg26 x0 x2 x9 x10 xs4)⟩] : List (View.Piece (Elt F) S4x128x512 .f32)) = statesList (B_s c arg2 harg2 arg4 harg4 arg11 harg11 arg12 harg12 arg26 harg26 x0 x2 x9 x10 xs4) [] := rfl

theorem B_kept4 : (kernelRun0_B.sl.v1631 c arg6 harg6 x4) = shapeCast S128x512 (kept (View.ld (View.read (Elt F) arg6.view (harg6.unread x4)) (Rect.unit (s := S1x128x512) ![0, 0, 0] S1x128x512.size inb_S1x128x512_S1x128x512_0_0_0))) shapeCasts_S128x512_S128x512 := rfl

theorem B_kept5 : (kernelRun0_B.sl.v1636 c arg7 harg7 x5) = shapeCast S128x512 (kept (View.ld (View.read (Elt F) arg7.view (harg7.unread x5)) (Rect.unit (s := S1x128x512) ![0, 0, 0] S1x128x512.size inb_S1x128x512_S1x128x512_0_0_0))) shapeCasts_S128x512_S128x512 := rfl

/-- The hidden state a point of this case stores. -/
theorem B_out16 (hc0 : ¬cond0_0 i) (hc1 : ¬cond0_1 i)
    : (out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4) = hiddenOf (BitVec.ofNat 32 (i 1 : Nat)) x0 x1 x2 x3 x4 x5 x6 x7 x8 x9 x10 x11 x12 x13 x14 x15 xs2 xs3 xs4 := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4)]
  unfold kernelRun0_B
  dsimp only
  refine (View.canon_unit_zero (S := S1x128x1024) hz3 _ _).trans ?_
  unfold hiddenOf mixRows mixAtt
  refine congrArg (fun u => shapeCast S1x128x1024 u shapeCasts_S128x1024_S1x128x1024) ?_
  rw [B_hidden, B_rows, read_rows, B_att, read_att]
  unfold B_q
  simp only [B_dt, B_ac, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg24.read_unread, harg25.read_unread, harg26.read_unread, View.ld_unit_zero (S := S1x128x128) hz3, View.ld_unit_zero (S := S1x128) hz2, View.ld_unit_zero (S := S1x128x1024) hz3, View.ld_unit_zero (S := S1x128x512) hz3, View.ld_unit_zero (S := S2048x1024) hz2, View.ld_unit_zero (S := S1024x1024) hz2, shapeCast_id]

theorem B_prev2 (hc0 : ¬cond0_0 i) (hc1 : ¬cond0_1 i)
    : (sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4) = kept x4 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4)]
  unfold kernelRun0_B
  dsimp only
  refine (View.canon_unit_zero (S := S128x512) hz2 _ _ ).trans ?_
  rw [B_kept4]
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg24.read_unread, harg25.read_unread, harg26.read_unread, View.ld_unit_zero (S := S1x128x128) hz3, View.ld_unit_zero (S := S1x128) hz2, View.ld_unit_zero (S := S1x128x1024) hz3, View.ld_unit_zero (S := S1x128x512) hz3, View.ld_unit_zero (S := S2048x1024) hz2, View.ld_unit_zero (S := S1024x1024) hz2, shapeCast_id]

theorem B_prev3 (hc0 : ¬cond0_0 i) (hc1 : ¬cond0_1 i)
    : (sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4) = kept x5 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4)]
  unfold kernelRun0_B
  dsimp only
  refine (View.canon_unit_zero (S := S128x512) hz2 _ _ ).trans ?_
  rw [B_kept5]
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg24.read_unread, harg25.read_unread, harg26.read_unread, View.ld_unit_zero (S := S1x128x128) hz3, View.ld_unit_zero (S := S1x128) hz2, View.ld_unit_zero (S := S1x128x1024) hz3, View.ld_unit_zero (S := S1x128x512) hz3, View.ld_unit_zero (S := S2048x1024) hz2, View.ld_unit_zero (S := S1024x1024) hz2, shapeCast_id]

theorem B_state (hc0 : ¬cond0_0 i) (hc1 : ¬cond0_1 i)
    : (sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4) = stateOf x0 x2 x9 x10 xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4)]
  unfold kernelRun0_B
  dsimp only
  funext y
  refine (congrFun (congrArg View.canon (B_states c arg2 harg2 arg4 harg4 arg11 harg11 arg12 harg12 arg26 harg26 x0 x2 x9 x10 xs4)) y).trans ?_
  rw [canon_states]
  unfold B_s stateOf statesNew
  simp only [B_dt, B_ac, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg24.read_unread, harg25.read_unread, harg26.read_unread, View.ld_unit_zero (S := S1x128x128) hz3, View.ld_unit_zero (S := S1x128) hz2, View.ld_unit_zero (S := S1x128x1024) hz3, View.ld_unit_zero (S := S1x128x512) hz3, View.ld_unit_zero (S := S2048x1024) hz2, View.ld_unit_zero (S := S1024x1024) hz2]
  exact ValueIdx.shapeCast_ab_1ab_apply _ _ _ _ _

end Cert.MixerIdeal.Body

end
-- ==== Proof.OpenC.lean ====
module

public import proofs.«01_k».proof.Proof.Blocks
public import Idealize.ShloMosaic.Lib.Pipeline.ReadBack

@[expose] public section

/-! What a point of case C leaves. -/

noncomputable section

open Idealize.ShloMosaic Idealize.ShloMosaic.TcCoe Idealize.SL.Sem

namespace Cert.MixerIdeal.Body
open Cert.MixerIdeal Cert.MixerIdeal.Gen
variable {F : FTy → Type} [FloatOps F] [Named F]

variable (c : Dev nD) (i : grid0.Coords) (arg2 : Memref sig .tc .vmem S1x128x3072 .bf16) (harg2 : arg2.IsWhole) (arg3 : Memref sig .tc .vmem S1x128x2048 .bf16) (harg3 : arg3.IsWhole) (arg4 : Memref sig .tc .vmem S1x128x128 .f32) (harg4 : arg4.IsWhole) (arg5 : Memref sig .tc .vmem S1x128x1024 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x1024 .bf16) (harg8 : arg8.IsWhole) (arg9 : Memref sig .tc .vmem S1x128x1024 .bf16) (harg9 : arg9.IsWhole) (arg10 : Memref sig .tc .vmem S1x128x1024 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .smem S16 .f32) (harg15 : arg15.IsWhole) (arg16 : Memref sig .tc .vmem S2048x1024 .bf16) (harg16 : arg16.IsWhole) (arg17 : Memref sig .tc .vmem S1024x1024 .bf16) (harg17 : arg17.IsWhole) (arg18 : Memref sig .tc .vmem S1x128x1024 .f32) (harg18 : arg18.IsWhole) (arg19 : Memref sig .tc .vmem S1x4x512x128 .f32) (harg19 : arg19.IsWhole) (arg20 : Memref sig .tc .vmem S1x128x512 .f32) (harg20 : arg20.IsWhole) (arg21 : Memref sig .tc .vmem S1x128x512 .f32) (harg21 : arg21.IsWhole) (arg22 : Memref sig .tc .vmem S128x2048 .f32) (harg22 : arg22.IsWhole) (arg23 : Memref sig .tc .vmem S128x1024 .f32) (harg23 : arg23.IsWhole) (arg24 : Memref sig .tc .vmem S128x512 .bf16) (harg24 : arg24.IsWhole) (arg25 : Memref sig .tc .vmem S128x512 .bf16) (harg25 : arg25.IsWhole) (arg26 : Memref sig .tc .vmem S4x128x512 .f32) (harg26 : arg26.IsWhole) (x0 : Vec F S1x128x3072 .bf16) (x1 : Vec F S1x128x2048 .bf16) (x2 : Vec F S1x128x128 .f32) (x3 : Vec F S1x128x1024 .bf16) (x4 : Vec F S1x128x512 .bf16) (x5 : Vec F S1x128x512 .bf16) (x6 : Vec F S1x128x1024 .bf16) (x7 : Vec F S1x128x1024 .bf16) (x8 : Vec F S1x128x1024 .f32) (x9 : Vec F S1x128 .f32) (x10 : Vec F S1x128 .f32) (x11 : Vec F S1x2048 .f32) (x12 : Vec F S1x2048 .f32) (x13 : Vec F S16 .f32) (x14 : Vec F S2048x1024 .bf16) (x15 : Vec F S1024x1024 .bf16) (xs2 : Vec F S128x512 .bf16) (xs3 : Vec F S128x512 .bf16) (xs4 : Vec F S4x128x512 .f32)

theorem C_dt : (kernelRun0_C.sl.v15 c arg4 harg4 arg11 harg11 x2 x9) = stepV (View.ld (View.read (Elt F) arg4.view (harg4.unread x2)) (Rect.unit (s := S1x128x128) ![0, 0, 0] S1x128x128.size inb_S1x128x128_S1x128x128_0_0_0)) (View.ld (View.read (Elt F) arg11.view (harg11.unread x9)) (Rect.unit (s := S1x128) ![0, 0] S1x128.size inb_S1x128_S1x128_0_0)) := rfl

theorem C_ac : (kernelRun0_C.sl.v28 c arg4 harg4 arg11 harg11 arg12 harg12 x2 x9 x10) = acumV (kernelRun0_C.sl.v15 c arg4 harg4 arg11 harg11 x2 x9) (View.ld (View.read (Elt F) arg12.view (harg12.unread x10)) (Rect.unit (s := S1x128) ![0, 0] S1x128.size inb_S1x128_S1x128_0_0)) := rfl

set_option maxHeartbeats 2000000 in
theorem C_rows : (kernelRun0_C.sl.HS0_20 c arg2 harg2 arg3 harg3 arg4 harg4 arg11 harg11 arg12 harg12 arg13 harg13 arg14 harg14 arg22 arg26 harg26 x0 x1 x2 x9 x10 x11 x12 xs4) = rowsChain arg22.view
    (fun g j => shapeCast S128x128 (yPair g j (View.read (Elt F) arg2.view (harg2.unread x0)) (kernelRun0_C.sl.v15 c arg4 harg4 arg11 harg11 x2 x9) (kernelRun0_C.sl.v28 c arg4 harg4 arg11 harg11 arg12 harg12 x2 x9 x10) ((stateSlice (View.read (Elt F) arg26.view (harg26.unread xs4))) g)) shapeCasts_S128x128_S128x128)
    (fun g y => shapeCast S128x512 (normedV g (gatedV g y (View.read (Elt F) arg2.view (harg2.unread x0)) (View.read (Elt F) arg3.view (harg3.unread x1)) (View.read (Elt F) arg13.view (harg13.unread x11))) (View.read (Elt F) arg14.view (harg14.unread x12))) shapeCasts_S128x512_S128x512) := rfl

/-- A key-value group's two lane pairs. -/
def C_q (g : Fin 4) : Fin 2 → FVec F S128x128 .f32 :=
  ![shapeCast S128x128 (attLo (attV g (BitVec.ofNat 32 (i 1 : Nat)) (View.read (Elt F) arg5.view (harg5.unread x3)) (View.read (Elt F) arg6.view (harg6.unread x4)) (View.read (Elt F) arg7.view (harg7.unread x5)) (View.read (Elt F) arg15.view (harg15.unread x13)) ((prevSlice (View.read (Elt F) arg24.view (harg24.unread xs2))) g) ((prevSlice (View.read (Elt F) arg25.view (harg25.unread xs3))) g))) shapeCasts_S128x128_S128x128,
    shapeCast S128x128 (attHi (attV g (BitVec.ofNat 32 (i 1 : Nat)) (View.read (Elt F) arg5.view (harg5.unread x3)) (View.read (Elt F) arg6.view (harg6.unread x4)) (View.read (Elt F) arg7.view (harg7.unread x5)) (View.read (Elt F) arg15.view (harg15.unread x13)) ((prevSlice (View.read (Elt F) arg24.view (harg24.unread xs2))) g) ((prevSlice (View.read (Elt F) arg25.view (harg25.unread xs3))) g))) shapeCasts_S128x128_S128x128]

set_option maxHeartbeats 2000000 in
theorem C_att : (kernelRun0_C.sl.HS1_8 c i arg5 harg5 arg6 harg6 arg7 harg7 arg15 harg15 arg24 harg24 arg25 harg25 x3 x4 x5 x13 xs2 xs3) = aPieces 3 ((C_q i arg5 harg5 arg6 harg6 arg7 harg7 arg15 harg15 arg24 harg24 arg25 harg25 x3 x4 x5 x13 xs2 xs3) 3) (aPieces 2 ((C_q i arg5 harg5 arg6 harg6 arg7 harg7 arg15 harg15 arg24 harg24 arg25 harg25 x3 x4 x5 x13 xs2 xs3) 2) (aPieces 1 ((C_q i arg5 harg5 arg6 harg6 arg7 harg7 arg15 harg15 arg24 harg24 arg25 harg25 x3 x4 x5 x13 xs2 xs3) 1) (aPieces 0 ((C_q i arg5 harg5 arg6 harg6 arg7 harg7 arg15 harg15 arg24 harg24 arg25 harg25 x3 x4 x5 x13 xs2 xs3) 0) []))) := rfl

theorem C_hidden : (kernelRun0_C.sl.r_96 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 arg23 arg24 harg24 arg25 harg25 arg26 harg26 x0 x1 x2 x3 x4 x5 x6 x7 x8 x9 x10 x11 x12 x13 x14 x15 xs2 xs3 xs4) = hiddenV
    (arg22.view.readCov (kernelRun0_C.sl.HS0_20 c arg2 harg2 arg3 harg3 arg4 harg4 arg11 harg11 arg12 harg12 arg13 harg13 arg14 harg14 arg22 arg26 harg26 x0 x1 x2 x9 x10 x11 x12 xs4) (Rect.unit (s := S128x2048) ![0, 0] S128x2048.size inb_S128x2048_S128x2048_0_0).toLoadRect)
    (arg23.view.readCov (kernelRun0_C.sl.HS1_8 c i arg5 harg5 arg6 harg6 arg7 harg7 arg15 harg15 arg24 harg24 arg25 harg25 x3 x4 x5 x13 xs2 xs3) (Rect.unit (s := S128x1024) ![0, 0] S128x1024.size inb_S128x1024_S128x1024_0_0).toLoadRect)
    (View.ld (View.read (Elt F) arg8.view (harg8.unread x6)) (Rect.unit (s := S1x128x1024) ![0, 0, 0] S1x128x1024.size inb_S1x128x1024_S1x128x1024_0_0_0)) (View.ld (View.read (Elt F) arg9.view (harg9.unread x7)) (Rect.unit (s := S1x128x1024) ![0, 0, 0] S1x128x1024.size inb_S1x128x1024_S1x128x1024_0_0_0)) (View.ld (View.read (Elt F) arg10.view (harg10.unread x8)) (Rect.unit (s := S1x128x1024) ![0, 0, 0] S1x128x1024.size inb_S1x128x1024_S1x128x1024_0_0_0)) (View.ld (View.read (Elt F) arg16.view (harg16.unread x14)) (Rect.unit (s := S2048x1024) ![0, 0] S2048x1024.size inb_S2048x1024_S2048x1024_0_0)) (View.ld (View.read (Elt F) arg17.view (harg17.unread x15)) (Rect.unit (s := S1024x1024) ![0, 0] S1024x1024.size inb_S1024x1024_S1024x1024_0_0)) := rfl

/-- The four states a point of this case stores. -/
def C_s (g : Fin 4) : Vec F S1x128x512 .f32 :=
  shapeCast S1x128x512 (stateNew g (View.read (Elt F) arg2.view (harg2.unread x0)) (kernelRun0_C.sl.v15 c arg4 harg4 arg11 harg11 x2 x9) (kernelRun0_C.sl.v28 c arg4 harg4 arg11 harg11 arg12 harg12 x2 x9 x10) ((stateSlice (View.read (Elt F) arg26.view (harg26.unread xs4))) g)) shapeCasts_S128x512_S1x128x512

theorem C_states : (kernelRun0_C.sl.HS4_4 c arg2 harg2 arg4 harg4 arg11 harg11 arg12 harg12 arg26 harg26 x0 x2 x9 x10 xs4) = statesList (C_s c arg2 harg2 arg4 harg4 arg11 harg11 arg12 harg12 arg26 harg26 x0 x2 x9 x10 xs4) [] := rfl

theorem C_kept4 : (kernelRun0_C.sl.v1631 c arg6 harg6 x4) = shapeCast S128x512 (kept (View.ld (View.read (Elt F) arg6.view (harg6.unread x4)) (Rect.unit (s := S1x128x512) ![0, 0, 0] S1x128x512.size inb_S1x128x512_S1x128x512_0_0_0))) shapeCasts_S128x512_S128x512 := rfl

theorem C_kept5 : (kernelRun0_C.sl.v1636 c arg7 harg7 x5) = shapeCast S128x512 (kept (View.ld (View.read (Elt F) arg7.view (harg7.unread x5)) (Rect.unit (s := S1x128x512) ![0, 0, 0] S1x128x512.size inb_S1x128x512_S1x128x512_0_0_0))) shapeCasts_S128x512_S128x512 := rfl

/-- The hidden state a point of this case stores. -/
theorem C_out16 (hc0 : ¬cond0_0 i) (hc1 : cond0_1 i)
    : (out0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4) = hiddenOf (BitVec.ofNat 32 (i 1 : Nat)) x0 x1 x2 x3 x4 x5 x6 x7 x8 x9 x10 x11 x12 x13 x14 x15 xs2 xs3 xs4 := by
  unfold out0_C_16
  rw [View.read_writes_eq_canon _ _ _ (cover0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4)]
  unfold kernelRun0_C
  dsimp only
  refine (View.canon_unit_zero (S := S1x128x1024) hz3 _ _).trans ?_
  unfold hiddenOf mixRows mixAtt
  refine congrArg (fun u => shapeCast S1x128x1024 u shapeCasts_S128x1024_S1x128x1024) ?_
  rw [C_hidden, C_rows, read_rows, C_att, read_att]
  unfold C_q
  simp only [C_dt, C_ac, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg24.read_unread, harg25.read_unread, harg26.read_unread, View.ld_unit_zero (S := S1x128x128) hz3, View.ld_unit_zero (S := S1x128) hz2, View.ld_unit_zero (S := S1x128x1024) hz3, View.ld_unit_zero (S := S1x128x512) hz3, View.ld_unit_zero (S := S2048x1024) hz2, View.ld_unit_zero (S := S1024x1024) hz2, shapeCast_id]

theorem C_prev2 (hc0 : ¬cond0_0 i) (hc1 : cond0_1 i)
    : (sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4) = kept x4 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4)]
  unfold kernelRun0_C
  dsimp only
  refine (View.canon_unit_zero (S := S128x512) hz2 _ _ ).trans ?_
  rw [C_kept4]
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg24.read_unread, harg25.read_unread, harg26.read_unread, View.ld_unit_zero (S := S1x128x128) hz3, View.ld_unit_zero (S := S1x128) hz2, View.ld_unit_zero (S := S1x128x1024) hz3, View.ld_unit_zero (S := S1x128x512) hz3, View.ld_unit_zero (S := S2048x1024) hz2, View.ld_unit_zero (S := S1024x1024) hz2, shapeCast_id]

theorem C_prev3 (hc0 : ¬cond0_0 i) (hc1 : cond0_1 i)
    : (sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4) = kept x5 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4)]
  unfold kernelRun0_C
  dsimp only
  refine (View.canon_unit_zero (S := S128x512) hz2 _ _ ).trans ?_
  rw [C_kept5]
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg24.read_unread, harg25.read_unread, harg26.read_unread, View.ld_unit_zero (S := S1x128x128) hz3, View.ld_unit_zero (S := S1x128) hz2, View.ld_unit_zero (S := S1x128x1024) hz3, View.ld_unit_zero (S := S1x128x512) hz3, View.ld_unit_zero (S := S2048x1024) hz2, View.ld_unit_zero (S := S1024x1024) hz2, shapeCast_id]

theorem C_state (hc0 : ¬cond0_0 i) (hc1 : cond0_1 i)
    : (sout0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4) = stateOf x0 x2 x9 x10 xs4 := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4)]
  unfold kernelRun0_C
  dsimp only
  funext y
  refine (congrFun (congrArg View.canon (C_states c arg2 harg2 arg4 harg4 arg11 harg11 arg12 harg12 arg26 harg26 x0 x2 x9 x10 xs4)) y).trans ?_
  rw [canon_states]
  unfold C_s stateOf statesNew
  simp only [C_dt, C_ac, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg24.read_unread, harg25.read_unread, harg26.read_unread, View.ld_unit_zero (S := S1x128x128) hz3, View.ld_unit_zero (S := S1x128) hz2, View.ld_unit_zero (S := S1x128x1024) hz3, View.ld_unit_zero (S := S1x128x512) hz3, View.ld_unit_zero (S := S2048x1024) hz2, View.ld_unit_zero (S := S1024x1024) hz2]
  exact ValueIdx.shapeCast_ab_1ab_apply _ _ _ _ _

/-- The states the last chunk leaves, turned to the result's layout. -/
theorem C_out17 (hc0 : ¬cond0_0 i) (hc1 : cond0_1 i)
    : (out0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4) = turnedAll (stateOf x0 x2 x9 x10 xs4) := by
  unfold out0_C_17
  rw [View.read_writes_eq_canon _ _ _ (cover0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4)]
  unfold kernelRun0_C
  dsimp only
  refine (show _ = View.canon (turnedList fun g => turned (arg26.view.readCov (kernelRun0_C.sl.HS4_4 c arg2 harg2 arg4 harg4 arg11 harg11 arg12 harg12 arg26 harg26 x0 x2 x9 x10 xs4) (Rect.unit (s := S4x128x512) ![(g : Nat), 0, 0] S1x128x512.size (stateIn g)).toLoadRect)) from rfl).trans ?_
  rw [C_states]
  funext y
  refine (congrFun (congrArg View.canon (congrArg turnedList (funext fun g => congrArg turned (read_state arg26.view (C_s c arg2 harg2 arg4 harg4 arg11 harg11 arg12 harg12 arg26 harg26 x0 x2 x9 x10 xs4) [] g)))) y).trans ?_
  refine (show _ = _ from canon_turned (fun g => stateNew g (View.read (Elt F) arg2.view (harg2.unread x0)) (kernelRun0_C.sl.v15 c arg4 harg4 arg11 harg11 x2 x9) (kernelRun0_C.sl.v28 c arg4 harg4 arg11 harg11 arg12 harg12 x2 x9 x10) ((stateSlice (View.read (Elt F) arg26.view (harg26.unread xs4))) g)) y).trans ?_
  unfold turnedAll stateOf statesNew
  simp only [C_dt, C_ac, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg24.read_unread, harg25.read_unread, harg26.read_unread, View.ld_unit_zero (S := S1x128x128) hz3, View.ld_unit_zero (S := S1x128) hz2, View.ld_unit_zero (S := S1x128x1024) hz3, View.ld_unit_zero (S := S1x128x512) hz3, View.ld_unit_zero (S := S2048x1024) hz2, View.ld_unit_zero (S := S1024x1024) hz2]
  rfl

theorem C_out18 (hc0 : ¬cond0_0 i) (hc1 : cond0_1 i)
    : (out0_C_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4) = widened x4 := by
  unfold out0_C_18
  rw [View.read_writes_eq_canon _ _ _ (cover0_C_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4)]
  unfold kernelRun0_C
  dsimp only
  refine (View.canon_unit_zero (S := S1x128x512) hz3 _ _).trans ?_
  refine (show _ = widened (View.ld (View.read (Elt F) arg6.view (harg6.unread x4)) (Rect.unit (s := S1x128x512) ![0, 0, 0] S1x128x512.size inb_S1x128x512_S1x128x512_0_0_0)) from rfl).trans ?_
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg24.read_unread, harg25.read_unread, harg26.read_unread, View.ld_unit_zero (S := S1x128x128) hz3, View.ld_unit_zero (S := S1x128) hz2, View.ld_unit_zero (S := S1x128x1024) hz3, View.ld_unit_zero (S := S1x128x512) hz3, View.ld_unit_zero (S := S2048x1024) hz2, View.ld_unit_zero (S := S1024x1024) hz2]

theorem C_out19 (hc0 : ¬cond0_0 i) (hc1 : cond0_1 i)
    : (out0_C_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4) = widened x5 := by
  unfold out0_C_19
  rw [View.read_writes_eq_canon _ _ _ (cover0_C_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs2 xs3 xs4)]
  unfold kernelRun0_C
  dsimp only
  refine (View.canon_unit_zero (S := S1x128x512) hz3 _ _).trans ?_
  refine (show _ = widened (View.ld (View.read (Elt F) arg7.view (harg7.unread x5)) (Rect.unit (s := S1x128x512) ![0, 0, 0] S1x128x512.size inb_S1x128x512_S1x128x512_0_0_0)) from rfl).trans ?_
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg24.read_unread, harg25.read_unread, harg26.read_unread, View.ld_unit_zero (S := S1x128x128) hz3, View.ld_unit_zero (S := S1x128) hz2, View.ld_unit_zero (S := S1x128x1024) hz3, View.ld_unit_zero (S := S1x128x512) hz3, View.ld_unit_zero (S := S2048x1024) hz2, View.ld_unit_zero (S := S1024x1024) hz2]

end Cert.MixerIdeal.Body

end
-- ==== Proof.Chunks.lean ====
module

public import proofs.«01_k».proof.Proof.OpenA
public import proofs.«01_k».proof.Proof.OpenB
public import proofs.«01_k».proof.Proof.OpenC

@[expose] public section

/-! What the points leave, one chunk from the chunk before. -/

noncomputable section

open Idealize.ShloMosaic Idealize.ShloMosaic.TcCoe Idealize.SL.Sem

namespace Cert.MixerIdeal.Body
open Cert.MixerIdeal Cert.MixerIdeal.Gen Cert.MixerIdeal.Value

variable {F : FTy → Type} [FloatOps F] [Named F]
variable (m : (ℓ : Loc nD τ sig) → Buf (Elt F) ℓ) (c : Dev nD) (t : Fin cfg0.N)

/-- The first chunk of a row starts from nothing. -/
theorem first_hidden (h0 : t.val % 64 = 0) : (outsAt0 m c t.val t.isLt).1 = hiddenOf (BitVec.ofNat 32 (grid0.coords t 1 : Nat)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (zeroKeys (F := F)) (zeroKeys (F := F)) (zeroState (F := F)) := by
  rw [outsAt0_A m c t h0 (by omega)]
  dsimp only
  exact A_out16 (F := F) ..
theorem first_keys (h0 : t.val % 64 = 0) : (outsAt0 m c t.val t.isLt).2.2.2.2.1 = kept (iblk m c 4 t) := by
  rw [outsAt0_A m c t h0 (by omega)]
  dsimp only
  exact A_prev2 (F := F) ..
theorem first_values (h0 : t.val % 64 = 0) : (outsAt0 m c t.val t.isLt).2.2.2.2.2.1 = kept (iblk m c 5 t) := by
  rw [outsAt0_A m c t h0 (by omega)]
  dsimp only
  exact A_prev3 (F := F) ..
theorem first_state (h0 : t.val % 64 = 0) : (outsAt0 m c t.val t.isLt).2.2.2.2.2.2 = stateOf (iblk m c 0 t) (iblk m c 2 t) (iblk m c 9 t) (iblk m c 10 t) (zeroState (F := F)) := by
  rw [outsAt0_A m c t h0 (by omega)]
  dsimp only
  exact A_state (F := F) ..

/-- A later one from what the chunk before left. -/
theorem later_hidden (h0 : ¬t.val % 64 = 0) : (outsAt0 m c t.val t.isLt).1 = hiddenOf (BitVec.ofNat 32 (grid0.coords t 1 : Nat)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  by_cases h1 : t.val % 64 = 63
  · rw [outsAt0_C m c t h0 h1]
    dsimp only
    exact C_out16 (F := F) ..
  · rw [outsAt0_B m c t h0 h1]
    dsimp only
    exact B_out16 (F := F) ..
theorem later_keys (h0 : ¬t.val % 64 = 0) : (outsAt0 m c t.val t.isLt).2.2.2.2.1 = kept (iblk m c 4 t) := by
  by_cases h1 : t.val % 64 = 63
  · rw [outsAt0_C m c t h0 h1]
    dsimp only
    exact C_prev2 (F := F) ..
  · rw [outsAt0_B m c t h0 h1]
    dsimp only
    exact B_prev2 (F := F) ..
theorem later_values (h0 : ¬t.val % 64 = 0) : (outsAt0 m c t.val t.isLt).2.2.2.2.2.1 = kept (iblk m c 5 t) := by
  by_cases h1 : t.val % 64 = 63
  · rw [outsAt0_C m c t h0 h1]
    dsimp only
    exact C_prev3 (F := F) ..
  · rw [outsAt0_B m c t h0 h1]
    dsimp only
    exact B_prev3 (F := F) ..
theorem later_state (h0 : ¬t.val % 64 = 0) : (outsAt0 m c t.val t.isLt).2.2.2.2.2.2 = stateOf (iblk m c 0 t) (iblk m c 2 t) (iblk m c 9 t) (iblk m c 10 t) (outsAt0 m c (t.val - 1) (Nat.lt_of_le_of_lt (Nat.sub_le _ _) t.isLt)).2.2.2.2.2.2 := by
  by_cases h1 : t.val % 64 = 63
  · rw [outsAt0_C m c t h0 h1]
    dsimp only
    exact C_state (F := F) ..
  · rw [outsAt0_B m c t h0 h1]
    dsimp only
    exact B_state (F := F) ..

theorem keys_kept : (outsAt0 m c t.val t.isLt).2.2.2.2.1 = kept (iblk m c 4 t) := by
  by_cases h0 : t.val % 64 = 0
  · exact first_keys m c t h0
  · exact later_keys m c t h0
theorem values_kept : (outsAt0 m c t.val t.isLt).2.2.2.2.2.1 = kept (iblk m c 5 t) := by
  by_cases h0 : t.val % 64 = 0
  · exact first_values m c t h0
  · exact later_values m c t h0

/-- The last chunk of a row writes the state and its own keys and values. -/
theorem last_state (h1 : t.val % 64 = 63) : (outsAt0 m c t.val t.isLt).2.1 = turnedAll (outsAt0 m c t.val t.isLt).2.2.2.2.2.2 := by
  rw [later_state m c t (by omega), outsAt0_C m c t (by omega) h1]
  dsimp only
  exact C_out17 (F := F) ..
theorem last_keys (h1 : t.val % 64 = 63) : (outsAt0 m c t.val t.isLt).2.2.1 = widened (iblk m c 4 t) := by
  rw [outsAt0_C m c t (by omega) h1]
  dsimp only
  exact C_out18 (F := F) ..
theorem last_values (h1 : t.val % 64 = 63) : (outsAt0 m c t.val t.isLt).2.2.2.1 = widened (iblk m c 5 t) := by
  rw [outsAt0_C m c t (by omega) h1]
  dsimp only
  exact C_out19 (F := F) ..

end Cert.MixerIdeal.Body

end
-- ==== Proof.Arrays.lean ====
module

public import proofs.«01_k».proof.Proof.Chunks

@[expose] public section

/-! The blocks a grid point reads, at an index of the arrays: chunk `t % 64` of row `t / 64`, and the small arrays whole. -/

noncomputable section

open Idealize.ShloMosaic Idealize.ShloMosaic.TcCoe Idealize.SL.Sem

namespace Cert.MixerIdeal.Body
open Cert.MixerIdeal Cert.MixerIdeal.Gen Cert.MixerIdeal.Value

variable {F : FTy → Type} [FloatOps F] [Named F]
variable (m : (ℓ : Loc nD τ sig) → Buf (Elt F) ℓ) (c : Dev nD) (t : Fin cfg0.N)

theorem point_lt : t.val < 256 := lt_of_lt_of_eq t.isLt N_0
/-- The batch row of a point, and its chunk of that row. -/
def rowOf (t : Fin cfg0.N) : Fin 4 := ⟨t.val / 64, by have := point_lt t; omega⟩
def chunkOf (t : Fin cfg0.N) : Fin 64 := ⟨t.val % 64, by omega⟩
/-- The place of row `l` of the chunk in the whole sequence. -/
def placeOf (t : Fin cfg0.N) (l : Fin 128) : Fin 8192 := ⟨t.val % 64 * 128 + l.val, by omega⟩

theorem coords_1 : (grid0.coords t 1 : ℕ) = t.val % 64 := (by decide +kernel : ∀ t : Fin grid0.N, (grid0.coords t 1 : ℕ) = t.val % 64) t

/-- The rows the streamed windows take. -/
theorem index_streamed : ∀ t : Fin cfg0.N,
    (win0_0.index t = ![t.val / 64, t.val % 64, 0] ∧ win0_1.index t = ![t.val / 64, t.val % 64, 0] ∧ win0_2.index t = ![t.val / 64, t.val % 64, 0])
    ∧ (win0_3.index t = ![t.val / 64, t.val % 64, 0] ∧ win0_4.index t = ![t.val / 64, t.val % 64, 0] ∧ win0_5.index t = ![t.val / 64, t.val % 64, 0])
    ∧ (win0_6.index t = ![t.val / 64, t.val % 64, 0] ∧ win0_7.index t = ![t.val / 64, t.val % 64, 0] ∧ win0_8.index t = ![t.val / 64, t.val % 64, 0]) :=
  (by decide +kernel : ∀ t : Fin grid0.N, _)
/-- The small arrays are taken whole. -/
theorem index_whole : ∀ t : Fin cfg0.N,
    (win0_9.index t = ![0, 0] ∧ win0_10.index t = ![0, 0] ∧ win0_11.index t = ![0, 0] ∧ win0_12.index t = ![0, 0])
    ∧ (win0_13.index t = ![0] ∧ win0_14.index t = ![0, 0] ∧ win0_15.index t = ![0, 0]) :=
  (by decide +kernel : ∀ t : Fin grid0.N, _)

/-- Where an element of a streamed block lies in its array. -/
theorem streamed_at {w : ℕ} (idx : Fin 3 → ℕ) (e : idx = ![t.val / 64, t.val % 64, 0]) (z : Fin 1) (l : Fin 128) (k : Fin w)
    (i : (⟨3, ![4, 8192, w]⟩ : Shape).Idx) (h0 : (i 0).val = idx 0 * 1 + 1 * z.val) (h1 : (i 1).val = idx 1 * 128 + 1 * l.val) (h2 : (i 2).val = idx 2 * w + 1 * k.val) :
    i = ix3 (rowOf t) (placeOf t l) k := by
  subst e
  refine funext fun a => Fin.ext ?_
  match a with
  | ⟨0, _⟩ => refine h0.trans ?_; show t.val / 64 * 1 + 1 * z.val = t.val / 64; omega
  | ⟨1, _⟩ => refine h1.trans ?_; show t.val % 64 * 128 + 1 * l.val = t.val % 64 * 128 + l.val; omega
  | ⟨2, _⟩ => refine h2.trans ?_; show 0 * w + 1 * k.val = k.val; omega
/-- Where an element of a whole array lies. -/
theorem whole_at {u w : ℕ} (idx : Fin 2 → ℕ) (e : idx = ![0, 0]) (l : Fin u) (k : Fin w)
    (i : (⟨2, ![u, w]⟩ : Shape).Idx) (h0 : (i 0).val = idx 0 * u + 1 * l.val) (h1 : (i 1).val = idx 1 * w + 1 * k.val) : i = ix2 l k := by
  subst e
  refine funext fun a => Fin.ext ?_
  match a with
  | ⟨0, _⟩ => refine h0.trans ?_; show 0 * u + 1 * l.val = l.val; omega
  | ⟨1, _⟩ => refine h1.trans ?_; show 0 * w + 1 * k.val = k.val; omega

theorem block_0 (z : Fin 1) (l : Fin 128) (k : Fin 3072) :
    iblk m c 0 t (ix3 z l k) = m ((c : Thread nD τ).loc main_arg2) (ix3 (rowOf t) (placeOf t l) k) :=
  congrArg (m ((c : Thread nD τ).loc main_arg2)) (streamed_at t _ (index_streamed t).1.1 z l k (((cfg0.win 0).blk t).view.emb (ix3 z l k)) rfl rfl rfl)
theorem block_1 (z : Fin 1) (l : Fin 128) (k : Fin 2048) :
    iblk m c 1 t (ix3 z l k) = m ((c : Thread nD τ).loc main_arg1) (ix3 (rowOf t) (placeOf t l) k) :=
  congrArg (m ((c : Thread nD τ).loc main_arg1)) (streamed_at t _ (index_streamed t).1.2.1 z l k (((cfg0.win 1).blk t).view.emb (ix3 z l k)) rfl rfl rfl)
theorem block_2 (z : Fin 1) (l : Fin 128) (k : Fin 128) :
    iblk m c 2 t (ix3 z l k) = m ((c : Thread nD τ).loc main_arg8) (ix3 (rowOf t) (placeOf t l) k) :=
  congrArg (m ((c : Thread nD τ).loc main_arg8)) (streamed_at t _ (index_streamed t).1.2.2 z l k (((cfg0.win 2).blk t).view.emb (ix3 z l k)) rfl rfl rfl)
theorem block_3 (z : Fin 1) (l : Fin 128) (k : Fin 1024) :
    iblk m c 3 t (ix3 z l k) = m ((c : Thread nD τ).loc main_arg3) (ix3 (rowOf t) (placeOf t l) k) :=
  congrArg (m ((c : Thread nD τ).loc main_arg3)) (streamed_at t _ (index_streamed t).2.1.1 z l k (((cfg0.win 3).blk t).view.emb (ix3 z l k)) rfl rfl rfl)
theorem block_4 (z : Fin 1) (l : Fin 128) (k : Fin 512) :
    iblk m c 4 t (ix3 z l k) = m ((c : Thread nD τ).loc main_arg4) (ix3 (rowOf t) (placeOf t l) k) :=
  congrArg (m ((c : Thread nD τ).loc main_arg4)) (streamed_at t _ (index_streamed t).2.1.2.1 z l k (((cfg0.win 4).blk t).view.emb (ix3 z l k)) rfl rfl rfl)
theorem block_5 (z : Fin 1) (l : Fin 128) (k : Fin 512) :
    iblk m c 5 t (ix3 z l k) = m ((c : Thread nD τ).loc main_arg5) (ix3 (rowOf t) (placeOf t l) k) :=
  congrArg (m ((c : Thread nD τ).loc main_arg5)) (streamed_at t _ (index_streamed t).2.1.2.2 z l k (((cfg0.win 5).blk t).view.emb (ix3 z l k)) rfl rfl rfl)
theorem block_6 (z : Fin 1) (l : Fin 128) (k : Fin 1024) :
    iblk m c 6 t (ix3 z l k) = m ((c : Thread nD τ).loc main_arg6) (ix3 (rowOf t) (placeOf t l) k) :=
  congrArg (m ((c : Thread nD τ).loc main_arg6)) (streamed_at t _ (index_streamed t).2.2.1 z l k (((cfg0.win 6).blk t).view.emb (ix3 z l k)) rfl rfl rfl)
theorem block_7 (z : Fin 1) (l : Fin 128) (k : Fin 1024) :
    iblk m c 7 t (ix3 z l k) = m ((c : Thread nD τ).loc main_arg7) (ix3 (rowOf t) (placeOf t l) k) :=
  congrArg (m ((c : Thread nD τ).loc main_arg7)) (streamed_at t _ (index_streamed t).2.2.2.1 z l k (((cfg0.win 7).blk t).view.emb (ix3 z l k)) rfl rfl rfl)
theorem block_8 (z : Fin 1) (l : Fin 128) (k : Fin 1024) :
    iblk m c 8 t (ix3 z l k) = m ((c : Thread nD τ).loc main_arg0) (ix3 (rowOf t) (placeOf t l) k) :=
  congrArg (m ((c : Thread nD τ).loc main_arg0)) (streamed_at t _ (index_streamed t).2.2.2.2 z l k (((cfg0.win 8).blk t).view.emb (ix3 z l k)) rfl rfl rfl)
theorem block_9 (l : Fin 1) (k : Fin 128) : iblk m c 9 t (ix2 l k) = m ((c : Thread nD τ).loc main_arg9) (ix2 l k) :=
  congrArg (m ((c : Thread nD τ).loc main_arg9)) (whole_at _ (index_whole t).1.1 l k (((cfg0.win 9).blk t).view.emb (ix2 l k)) rfl rfl)
theorem block_10 (l : Fin 1) (k : Fin 128) : iblk m c 10 t (ix2 l k) = m ((c : Thread nD τ).loc main_arg10) (ix2 l k) :=
  congrArg (m ((c : Thread nD τ).loc main_arg10)) (whole_at _ (index_whole t).1.2.1 l k (((cfg0.win 10).blk t).view.emb (ix2 l k)) rfl rfl)
theorem block_11 (l : Fin 1) (k : Fin 2048) : iblk m c 11 t (ix2 l k) = m ((c : Thread nD τ).loc main_arg11) (ix2 l k) :=
  congrArg (m ((c : Thread nD τ).loc main_arg11)) (whole_at _ (index_whole t).1.2.2.1 l k (((cfg0.win 11).blk t).view.emb (ix2 l k)) rfl rfl)
theorem block_12 (l : Fin 1) (k : Fin 2048) : iblk m c 12 t (ix2 l k) = m ((c : Thread nD τ).loc main_arg12) (ix2 l k) :=
  congrArg (m ((c : Thread nD τ).loc main_arg12)) (whole_at _ (index_whole t).1.2.2.2 l k (((cfg0.win 12).blk t).view.emb (ix2 l k)) rfl rfl)
theorem block_14 (l : Fin 2048) (k : Fin 1024) : iblk m c 14 t (ix2 l k) = m ((c : Thread nD τ).loc main_arg14) (ix2 l k) :=
  congrArg (m ((c : Thread nD τ).loc main_arg14)) (whole_at _ (index_whole t).2.2.1 l k (((cfg0.win 14).blk t).view.emb (ix2 l k)) rfl rfl)
theorem block_15 (l : Fin 1024) (k : Fin 1024) : iblk m c 15 t (ix2 l k) = m ((c : Thread nD τ).loc main_arg15) (ix2 l k) :=
  congrArg (m ((c : Thread nD τ).loc main_arg15)) (whole_at _ (index_whole t).2.2.2 l k (((cfg0.win 15).blk t).view.emb (ix2 l k)) rfl rfl)
theorem block_13 (k : Fin 16) : iblk m c 13 t (ix1 k) = m ((c : Thread nD τ).loc main_arg13) (ix1 k) := by
  refine congrArg (m ((c : Thread nD τ).loc main_arg13)) (funext fun a => Fin.ext ?_)
  match a with
  | ⟨0, _⟩ => show win0_13.index t (0 : Fin 1) * 16 + 1 * k.val = k.val; rw [(index_whole t).2.1]; show 0 * 16 + 1 * k.val = k.val; omega

/-! ### What the four results hold -/

theorem hidden_at (b : Fin 4) (i : Fin 8192) (k : Fin 1024) :
    G16 m c (ix3 b i k) = (outsAt0 m c (64 * b.val + i.val / 128) (by rw [show cfg0.N = 256 from N_0]; omega)).1 (ix3 0 ⟨i.val % 128, by omega⟩ k) := by
  have hp : pt16Of (ix3 b i k) = 64 * b.val + i.val / 128 := by
    show 64 * (b.val / 1 - 0) + 1 * (i.val / 128 - 0) + 1 * (k.val / 1024 - 0) = _; omega
  have hl : loc16Of (ix3 b i k) = ix3 0 ⟨i.val % 128, by omega⟩ k := by
    refine funext fun a => Fin.ext ?_
    match a with
    | ⟨0, _⟩ => show b.val % 1 = 0; omega
    | ⟨1, _⟩ => rfl
    | ⟨2, _⟩ => show k.val % 1024 = k.val; omega
  unfold G16
  rw [outsAt0_sweep, hl, dif_pos (by rw [hp, show cfg0.N = 256 from N_0]; omega), fold0_congr m c _ _ _ _ hp]
theorem state_at (b : Fin 4) (g : Fin 4) (k : Fin 512) (n : Fin 128) :
    G17 m c (ix4 b g k n) = (outsAt0 m c (64 * b.val + 63) (by rw [show cfg0.N = 256 from N_0]; omega)).2.1 (ix4 0 g k n) := by
  have hp : pt17Of (ix4 b g k n) = 64 * b.val + 63 := by
    show 64 * (1 * (b.val / 1 - 0) + 1 * (g.val / 4 - 0) + 1 * (k.val / 512 - 0) + 1 * (n.val / 128 - 0)) + 63 = _; omega
  have hl : loc17Of (ix4 b g k n) = ix4 0 g k n := by
    refine funext fun a => Fin.ext ?_
    match a with
    | ⟨0, _⟩ => show b.val % 1 = 0; omega
    | ⟨1, _⟩ => show g.val % 4 = g.val; omega
    | ⟨2, _⟩ => show k.val % 512 = k.val; omega
    | ⟨3, _⟩ => show n.val % 128 = n.val; omega
  unfold G17
  rw [outsAt0_sweep, hl, dif_pos (by rw [hp, show cfg0.N = 256 from N_0]; omega), fold0_congr m c _ _ _ _ hp]
theorem keys_at (b : Fin 4) (i : Fin 128) (k : Fin 512) :
    G18 m c (ix3 b i k) = (outsAt0 m c (64 * b.val + 63) (by rw [show cfg0.N = 256 from N_0]; omega)).2.2.1 (ix3 0 i k) := by
  have hp : pt18Of (ix3 b i k) = 64 * b.val + 63 := by
    show 64 * (1 * (b.val / 1 - 0) + 1 * (i.val / 128 - 0) + 1 * (k.val / 512 - 0)) + 63 = _; omega
  have hl : loc18Of (ix3 b i k) = ix3 0 i k := by
    refine funext fun a => Fin.ext ?_
    match a with
    | ⟨0, _⟩ => show b.val % 1 = 0; omega
    | ⟨1, _⟩ => show i.val % 128 = i.val; omega
    | ⟨2, _⟩ => show k.val % 512 = k.val; omega
  unfold G18
  rw [outsAt0_sweep, hl, dif_pos (by rw [hp, show cfg0.N = 256 from N_0]; omega), fold0_congr m c _ _ _ _ hp]
theorem values_at (b : Fin 4) (i : Fin 128) (k : Fin 512) :
    G19 m c (ix3 b i k) = (outsAt0 m c (64 * b.val + 63) (by rw [show cfg0.N = 256 from N_0]; omega)).2.2.2.1 (ix3 0 i k) := by
  have hp : pt19Of (ix3 b i k) = 64 * b.val + 63 := by
    show 64 * (1 * (b.val / 1 - 0) + 1 * (i.val / 128 - 0) + 1 * (k.val / 512 - 0)) + 63 = _; omega
  have hl : loc19Of (ix3 b i k) = ix3 0 i k := by
    refine funext fun a => Fin.ext ?_
    match a with
    | ⟨0, _⟩ => show b.val % 1 = 0; omega
    | ⟨1, _⟩ => show i.val % 128 = i.val; omega
    | ⟨2, _⟩ => show k.val % 512 = k.val; omega
  unfold G19
  rw [outsAt0_sweep, hl, dif_pos (by rw [hp, show cfg0.N = 256 from N_0]; omega), fold0_congr m c _ _ _ _ hp]

end Cert.MixerIdeal.Body

end
-- ==== Proof.Picks.lean ====
module

public import Idealize.ShloMosaic.Lib.Pointwise
public import Idealize.ShloMosaic.Lib.WordCmp

@[expose] public section

/-! Small facts about words, slices and running sums that both programs' readings use. -/

noncomputable section

open Idealize.ShloMosaic Idealize.ShloMosaic.TcCoe

namespace Cert.Picks

/-- A choice by comparing two small numbers. -/
theorem pick_ge {α : Type} {a b : ℕ} (ha : a < 2 ^ 31) (hb : b < 2 ^ 31) (x y : α) :
    Scalar.select (IntOp.cmpi CmpIPredicate.sge (BitVec.ofNat 32 a) (BitVec.ofNat 32 b)) x y = if b ≤ a then x else y := by
  rw [WordCmp.cmpi_sge_ofNat ha hb, WordCmp.select_ofBool]
  simp
theorem pick_lt {α : Type} {a b : ℕ} (ha : a < 2 ^ 31) (hb : b < 2 ^ 31) (x y : α) :
    Scalar.select (IntOp.cmpi CmpIPredicate.slt (BitVec.ofNat 32 a) (BitVec.ofNat 32 b)) x y = if a < b then x else y := by
  rw [WordCmp.cmpi_slt_ofNat ha hb, WordCmp.select_ofBool]
  simp

/-- A dynamic slice whose start is inside the array. -/
theorem slice_at {s t : Shape} {α : Type} (x : s.Idx → α) (start : Fin s.rank → Int) (h : s.Slices (fun _ => 0) t) (y : t.Idx) (k : s.Idx)
    (hs : ∀ a, ∃ n : ℕ, start a = n ∧ n + t.size (a.cast h.1.symm) ≤ s.size a ∧ (k a).val = n + (y (a.cast h.1.symm)).val) :
    Host.dynamicSlice t x start h y = x k := by
  rw [Host.dynamicSlice_apply]
  refine congrArg x (funext fun a => Fin.ext ?_)
  obtain ⟨n, h1, h2, h3⟩ := hs a
  rw [h3, ← Host.clampedStart_of_le h.1 start a n h1 h2]
  rfl

theorem start_toInt {j : ℕ} (hj : j < 64) : (BitVec.ofNat 32 j).toInt = (j : Int) := by
  exact (by decide : ∀ j : Fin 64, (BitVec.ofNat 32 j.val).toInt = (j.val : Int)) ⟨j, hj⟩

theorem fold_add {α : Type} (f : α → EReal) (L : List α) (a : EReal) : L.foldl (fun r n => r + f n) a = a + (L.map f).sum := by
  induction L generalizing a with
  | nil => simp
  | cons y L ih => simp [ih, add_assoc]

/-- A window of 128 places padded with 127 zeros in front: the sum of a place and the places before it. -/
theorem window_sum (l : Fin 128) (f : Fin 128 → EReal) :
    (∑ k : Fin 128, if h : 127 ≤ l.val + k.val ∧ l.val + k.val - 127 < 128 then f ⟨l.val + k.val - 127, h.2⟩ else 0) = ∑ s : Fin 128, if s ≤ l then f s else 0 := by
  rw [← Finset.sum_filter, Finset.sum_congr rfl (g := fun k : Fin 128 => if 127 ≤ l.val + k.val then f ⟨l.val + k.val - 127, by omega⟩ else 0)
    (fun k _ => by
      by_cases h : 127 ≤ l.val + k.val
      · rw [dif_pos ⟨h, by omega⟩, if_pos h]
      · rw [dif_neg (fun h' => h h'.1), if_neg h]), ← Finset.sum_filter]
  refine Finset.sum_nbij' (fun k => ⟨l.val + k.val - 127, by omega⟩) (fun s => ⟨(s.val + 127 - l.val) % 128, by omega⟩) ?_ ?_ ?_ ?_ ?_
  · intro k hk
    simp only [Finset.mem_filter, Finset.mem_univ, true_and] at hk ⊢
    show l.val + k.val - 127 ≤ l.val
    omega
  · intro s hs
    simp only [Finset.mem_filter, Finset.mem_univ, true_and] at hs ⊢
    have : s.val ≤ l.val := hs
    omega
  · intro k hk
    simp only [Finset.mem_filter, Finset.mem_univ, true_and] at hk
    refine Fin.ext ?_
    show (l.val + k.val - 127 + 127 - l.val) % 128 = k.val
    omega
  · intro s hs
    simp only [Finset.mem_filter, Finset.mem_univ, true_and] at hs
    have : s.val ≤ l.val := hs
    refine Fin.ext ?_
    show l.val + (s.val + 127 - l.val) % 128 - 127 = s.val
    omega
  · intro k _
    rfl

/-- The only places of a window that spans one axis. -/
def windowPlace : Fin 128 ≃ (⟨4, ![1, 128, 1, 1]⟩ : Shape).Idx where
  toFun k := ix4 0 k 0 0
  invFun w := w 1
  left_inv _ := rfl
  right_inv w := by
    refine funext fun a => Fin.ext ?_
    match a with
    | ⟨0, _⟩ => have := (w 0).isLt; show 0 = (w 0).val; change (w 0).val < 1 at this; omega
    | ⟨1, _⟩ => rfl
    | ⟨2, _⟩ => have := (w 2).isLt; show 0 = (w 2).val; change (w 2).val < 1 at this; omega
    | ⟨3, _⟩ => have := (w 3).isLt; show 0 = (w 3).val; change (w 3).val < 1 at this; omega

theorem choose_pos {p : Prop} {i : Decidable p} {α : Type} {f : p → α} {e : ¬p → α} (h : p) : @dite α p i f e = f h := dif_pos h
theorem choose_neg {p : Prop} {i : Decidable p} {α : Type} {f : p → α} {e : ¬p → α} (h : ¬p) : @dite α p i f e = e h := dif_neg h

/-- The running sum along the second of four axes. -/
theorem running_sum {u v w : ℕ} (x : FVec Ideal ⟨4, ![u, 128, v, w]⟩ .f32) (z : (⟨0, ![]⟩ : Shape).Idx → EReal)
    (h : (⟨4, ![u, 128, v, w]⟩ : Shape).ReduceWindows ![1, 128, 1, 1] ![1, 1, 1, 1] ![0, 127, 0, 0] ![0, 0, 0, 0] ⟨4, ![u, 128, v, w]⟩) (hu : 0 < (⟨0, ![]⟩ : Shape).numel)
    (hz : z (Shape.Idx.first hu) = 0)
    (b : Fin u) (l : Fin 128) (g : Fin v) (r : Fin w) :
    Host.reduceWindowAdd ![1, 128, 1, 1] ![1, 1, 1, 1] ![0, 127, 0, 0] ![0, 0, 0, 0] x z h hu (ix4 b l g r)
      = ∑ s : Fin 128, if s ≤ l then x (ix4 b s g r) else 0 := by
  show Ideal.hostReduceWindowAdd ![1, 128, 1, 1] ![1, 1, 1, 1] ![0, 127, 0, 0] ![0, 0, 0, 0] h x (z (Shape.Idx.first hu)) (ix4 b l g r) = _
  rw [hz]
  unfold Ideal.hostReduceWindowAdd Host.reduceWindow
  refine (fold_add _ _ _).trans ?_
  rw [zero_add, ← Fin.sum_univ_def]
  refine (Equiv.sum_comp (M := EReal) (Shape.rowMajor ⟨4, ![1, 128, 1, 1]⟩).symm (fun p => @dite EReal (∀ a : Fin 4, (![0, 127, 0, 0] : Fin 4 → ℕ) a ≤ (ix4 b l g r a).val * (![1, 1, 1, 1] : Fin 4 → ℕ) a + (p a).val ∧
      (ix4 b l g r a).val * (![1, 1, 1, 1] : Fin 4 → ℕ) a + (p a).val - (![0, 127, 0, 0] : Fin 4 → ℕ) a < (⟨4, ![u, 128, v, w]⟩ : Shape).size a) (Nat.decidableForallFin _)
      (fun hin => x (fun a => ⟨_, (hin a).2⟩)) (fun _ => 0))).trans ?_
  refine (Equiv.sum_comp (M := EReal) windowPlace _).symm.trans ?_
  rw [← window_sum l (fun s => x (ix4 b s g r))]
  refine Finset.sum_congr rfl fun k _ => ?_
  by_cases hk : 127 ≤ l.val + k.val ∧ l.val + k.val - 127 < 128
  · rw [dif_pos hk]
    refine (choose_pos fun a => ?_).trans (congrArg x (funext fun a => Fin.ext ?_))
    · match a with
      | ⟨0, _⟩ => show 0 ≤ b.val * 1 + 0 ∧ b.val * 1 + 0 - 0 < u; omega
      | ⟨1, _⟩ => show 127 ≤ l.val * 1 + k.val ∧ l.val * 1 + k.val - 127 < 128; omega
      | ⟨2, _⟩ => show 0 ≤ g.val * 1 + 0 ∧ g.val * 1 + 0 - 0 < v; omega
      | ⟨3, _⟩ => show 0 ≤ r.val * 1 + 0 ∧ r.val * 1 + 0 - 0 < w; omega
    · match a with
      | ⟨0, _⟩ => show b.val * 1 + 0 - 0 = b.val; omega
      | ⟨1, _⟩ => show l.val * 1 + k.val - 127 = l.val + k.val - 127; omega
      | ⟨2, _⟩ => show g.val * 1 + 0 - 0 = g.val; omega
      | ⟨3, _⟩ => show r.val * 1 + 0 - 0 = r.val; omega
  · rw [dif_neg hk]
    refine choose_neg fun hin => ?_
    have h1 : 127 ≤ l.val * 1 + k.val ∧ l.val * 1 + k.val - 127 < 128 := hin 1
    exact hk (by omega)

end Cert.Picks

end
-- ==== Proof.KernelScan.lean ====
module

public import proofs.«01_k».proof.Proof.Blocks
public import proofs.«01_k».proof.Proof.Picks

@[expose] public section

/-! The recurrence's vocabulary, one element at a time, over the extended reals. -/

noncomputable section

open Idealize.ShloMosaic Idealize.ShloMosaic.TcCoe Idealize.SL.Sem Cert.Picks

namespace Cert.MixerIdeal.Body
open Cert.MixerIdeal Cert.MixerIdeal.Gen

/-- Lane `p` of the lane pair `j`. -/
abbrev laneOf (j : Fin 4) (p : Fin 128) : Fin 512 := ⟨128 * j + p, by omega⟩
/-- Lane `q` of the half `e`. -/
abbrev halfOf (e : Fin 2) (q : Fin 64) : Fin 128 := ⟨64 * e + q, by omega⟩
/-- A head's column. -/
abbrev colOf (h : Fin 32) : Fin 128 := ⟨h, by omega⟩

theorem pickLanes (a : Fin 4 → FVec Ideal S128x128 .bf16) (l : Fin 128) (j : Fin 4) (p : Fin 128) :
    concatenate S128x512 1 [⟨S128x128, a 0⟩, ⟨S128x128, a 1⟩, ⟨S128x128, a 2⟩, ⟨S128x128, a 3⟩]
        concatenates_S128x128_S128x128_S128x128_S128x128_S128x512_d1 (ix2 l (laneOf j p)) = a j (ix2 l p) := by
  fin_cases j <;> pointwise []
  · rw [dif_neg (by omega), dif_neg (by omega), dif_pos (by omega)]
    congr 2; exact Fin.ext (by show 256 + p.val - 128 - 128 = p.val; omega)
  · rw [dif_neg (by omega), dif_neg (by omega), dif_neg (by omega)]
    congr 2; exact Fin.ext (by show 384 + p.val - 128 - 128 - 128 = p.val; omega)
theorem pickCells (a : Fin 4 → FVec Ideal S1x128 .f32) (j : Fin 4) (p : Fin 128) :
    concatenate S1x512 1 [⟨S1x128, a 0⟩, ⟨S1x128, a 1⟩, ⟨S1x128, a 2⟩, ⟨S1x128, a 3⟩]
        concatenates_S1x128_S1x128_S1x128_S1x128_S1x512_d1 (ix2 0 (laneOf j p)) = a j (ix2 0 p) := by
  fin_cases j <;> pointwise []
  · rw [dif_neg (by omega), dif_neg (by omega), dif_pos (by omega)]
    congr 2; exact Fin.ext (by show 256 + p.val - 128 - 128 = p.val; omega)
  · rw [dif_neg (by omega), dif_neg (by omega), dif_neg (by omega)]
    congr 2; exact Fin.ext (by show 384 + p.val - 128 - 128 - 128 = p.val; omega)
theorem two_halves {α : Type} (f : Fin 2 → α) (e : Fin 2) (q : Fin 64) :
    Scalar.select (IntOp.cmpi CmpIPredicate.slt (BitVec.ofNat 32 (halfOf e q).val) 64#32) (f 0) (f 1) = f e := by
  refine (pick_lt (by omega) (by decide) _ _).trans ?_
  have hq := q.isLt
  fin_cases e
  · exact if_pos (by show 64 * 0 + q.val < 64; omega)
  · exact if_neg (by show ¬ 64 * 1 + q.val < 64; omega)
theorem twoCols_apply (g j : Fin 4) (a : FVec Ideal S128x128 .f32) (l : Fin 128) (e : Fin 2) (q : Fin 64) :
    twoCols (headOf g j 0) (headOf g j 1) a (ix2 l (halfOf e q)) = a (ix2 l (colOf (headOf g j e))) := by
  refine Eq.trans ?_ (two_halves (fun e => a (ix2 l (colOf (headOf g j e)))) e q)
  generalize halfOf e q = p
  pointwise [twoCols, loM, colI]
  rfl
theorem twoCells_apply (g j : Fin 4) (a : FVec Ideal S1x128 .f32) (e : Fin 2) (q : Fin 64) :
    twoCells (headOf g j 0) (headOf g j 1) a (ix2 0 (halfOf e q)) = a (ix2 0 (colOf (headOf g j e))) := by
  refine Eq.trans ?_ (two_halves (fun e => a (ix2 0 (colOf (headOf g j e)))) e q)
  generalize halfOf e q = p
  pointwise [twoCells]
  rfl
theorem stepV_apply (x2 : Vec Ideal S1x128x128 .f32) (x9 : Vec Ideal S1x128 .f32) (l h : Fin 128) :
    stepV x2 x9 (ix2 l h) = max (x2 (ix3 0 l h) + x9 (ix2 0 h)) 0 + Ideal.log1p (Ideal.exp (0 - FloatOps.absf (F := Ideal) (φ := .f32) (x2 (ix3 0 l h) + x9 (ix2 0 h)))) := by
  pointwise [stepV]
theorem acumV_apply (dt : FVec Ideal S128x128 .f32) (x10 : Vec Ideal S1x128 .f32) (l h : Fin 128) :
    acumV dt x10 (ix2 l h) = ∑ x : Fin 128, if x ≤ l then dt (ix2 x h) * (0 - Ideal.exp (x10 (ix2 0 h))) else 0 := by
  pointwise [acumV, causalM, rowI, colI]
  refine Finset.sum_congr rfl fun x _ => ?_
  exact (pick_ge (by omega) (by omega) _ _).trans rfl
theorem tailV_apply (dt ac : FVec Ideal S128x128 .f32) (l h : Fin 128) :
    tailV dt ac (ix2 l h) = Ideal.exp (ac (ix2 127 h) - ac (ix2 l h)) * dt (ix2 l h) := by
  pointwise [tailV, lastRow]
theorem keyV_apply (g : Fin 4) (x0 : Vec Ideal S1x128x3072 .bf16) (l n : Fin 128) :
    keyV g x0 (ix2 l n) = x0 (ix3 0 l ⟨2048 + 128 * g + n, by omega⟩) := by
  unfold keyV
  refine (ValueIdx.shapeCast_1ab_ab_apply _ _ _ _).trans ?_
  refine congrArg x0 (funext fun a => Fin.ext ?_)
  fin_cases a
  · rfl
  · show 0 + 1 * l.val = l.val; omega
  · show 2048 + 128 * g.val + 1 * n.val = 2048 + 128 * g.val + n.val; omega
theorem queryV_apply (g : Fin 4) (x0 : Vec Ideal S1x128x3072 .bf16) (l n : Fin 128) :
    queryV g x0 (ix2 l n) = x0 (ix3 0 l ⟨2560 + 128 * g + n, by omega⟩) := by
  unfold queryV
  refine (ValueIdx.shapeCast_1ab_ab_apply _ _ _ _).trans ?_
  refine congrArg x0 (funext fun a => Fin.ext ?_)
  fin_cases a
  · rfl
  · show 0 + 1 * l.val = l.val; omega
  · show 2560 + 128 * g.val + 1 * n.val = 2560 + 128 * g.val + n.val; omega
theorem pairV_apply (g j : Fin 4) (x0 : Vec Ideal S1x128x3072 .bf16) (l p : Fin 128) :
    pairV g j x0 (ix2 l p) = x0 (ix3 0 l ⟨512 * g + 128 * j + p, by omega⟩) := by
  unfold pairV
  refine (ValueIdx.shapeCast_1ab_ab_apply _ _ _ _).trans ?_
  refine congrArg x0 (funext fun a => Fin.ext ?_)
  fin_cases a
  · rfl
  · show 0 + 1 * l.val = l.val; omega
  · show 512 * g.val + 128 * j.val + 1 * p.val = 512 * g.val + 128 * j.val + p.val; omega
theorem masked_neg_inf : Named.named (F := Ideal) κ "neg_inf" (φ := .f32) 0xF149F2CA#32 = (⊥ : EReal) :=
  IdealRules.named_const.ideal_named_scalar _ _ _ _ rfl
theorem decayV_apply (h : Fin 32) (ac : FVec Ideal S128x128 .f32) (l s : Fin 128) :
    decayV h ac (ix2 l s) = Ideal.exp (if s ≤ l then ac (ix2 l (colOf h)) - ac (ix2 s (colOf h)) else ⊥) := by
  pointwise [decayV, causalM, rowI, colI]
  refine congrArg Ideal.exp ((pick_ge (by omega) (by omega) _ _).trans ?_)
  rw [masked_neg_inf]
  rfl
theorem crossV_apply (g : Fin 4) (x0 : Vec Ideal S1x128x3072 .bf16) (l s : Fin 128) :
    crossV g x0 (ix2 l s) = ∑ n : Fin 128, queryV g x0 (ix2 l n) * keyV g x0 (ix2 s n) := by
  pointwise [crossV]
theorem headM_apply (g : Fin 4) (h : Fin 32) (x0 : Vec Ideal S1x128x3072 .bf16) (dt ac : FVec Ideal S128x128 .f32) (l s : Fin 128) :
    headM g h x0 dt ac (ix2 l s) = crossV g x0 (ix2 l s) * decayV h ac (ix2 l s) * dt (ix2 s (colOf h)) := by
  pointwise [headM]
theorem wPair_apply (g j : Fin 4) (x0 : Vec Ideal S1x128x3072 .bf16) (dt ac : FVec Ideal S128x128 .f32) (l p : Fin 128) :
    wPair g j x0 dt ac (ix2 l p) = pairV g j x0 (ix2 l p) * twoCols (headOf g j 0) (headOf g j 1) (tailV dt ac) (ix2 l p) := by
  pointwise [wPair]
/-- The state after the chunk. -/
theorem stateNew_apply (g j : Fin 4) (x0 : Vec Ideal S1x128x3072 .bf16) (dt ac : FVec Ideal S128x128 .f32) (st : Vec Ideal S1x128x512 .f32)
    (n : Fin 128) (e : Fin 2) (q : Fin 64) :
    stateNew g x0 dt ac st (ix2 n (laneOf j (halfOf e q))) = st (ix3 0 n (laneOf j (halfOf e q))) * Ideal.exp (ac (ix2 127 (colOf (headOf g j e))))
      + ∑ x : Fin 128, keyV g x0 (ix2 x n) * (pairV g j x0 (ix2 x (halfOf e q)) * tailV dt ac (ix2 x (colOf (headOf g j e)))) := by
  have hw := fun x : Fin 128 => (pickLanes (fun j => wPair g j x0 dt ac) x j (halfOf e q)).trans
    ((wPair_apply g j x0 dt ac x (halfOf e q)).trans (congrArg (pairV g j x0 (ix2 x (halfOf e q)) * ·) (twoCols_apply g j (tailV dt ac) x e q)))
  have hc := (pickCells (fun j => twoCells (headOf g j 0) (headOf g j 1) (exp (lastRow ac))) j (halfOf e q)).trans (twoCells_apply g j (exp (lastRow ac)) e q)
  have hl : exp (lastRow ac) (ix2 0 (colOf (headOf g j e))) = Ideal.exp (ac (ix2 127 (colOf (headOf g j e)))) := by
    pointwise [lastRow]
  rw [hl] at hc
  unfold stateNew
  generalize concatenate S128x512 1 _ _ = W at hw ⊢
  generalize concatenate S1x512 1 _ _ = C at hc ⊢
  pointwise [stateV]
  refine congrArg₂ _ (congrArg (st _ * ·) hc) (Finset.sum_congr rfl fun x _ => congrArg (keyV g x0 (ix2 x n) * ·) (hw x))
/-- The rows of the recurrence. -/
theorem yPair_apply (g j : Fin 4) (x0 : Vec Ideal S1x128x3072 .bf16) (dt ac : FVec Ideal S128x128 .f32) (st : Vec Ideal S1x128x512 .f32)
    (l : Fin 128) (e : Fin 2) (q : Fin 64) :
    yPair g j x0 dt ac st (ix2 l (halfOf e q)) = (∑ x : Fin 128, headM g (headOf g j e) x0 dt ac (ix2 l x) * pairV g j x0 (ix2 x (halfOf e q)))
      + (∑ n : Fin 128, queryV g x0 (ix2 l n) * st (ix3 0 n (laneOf j (halfOf e q)))) * Ideal.exp (ac (ix2 l (colOf (headOf g j e)))) := by
  have h2 := twoCols_apply g j (exp ac) l e q
  have hs := two_halves (fun e' => ∑ x : Fin 128, headM g (headOf g j e') x0 dt ac (ix2 l x) * pairV g j x0 (ix2 x (halfOf e q))) e q
  generalize halfOf e q = p at h2 hs ⊢
  unfold yPair
  generalize twoCols _ _ _ = T at h2 ⊢
  pointwise [loM, stateV, colI]
  exact congrArg₂ _ hs (congrArg (_ * ·) h2)

end Cert.MixerIdeal.Body

end
-- ==== Proof.RefScan.lean ====
module

public import proofs.«01_k».proof.Proof.Gen.RefIdeal.Step
public import proofs.«01_k».proof.Proof.Picks

@[expose] public section

/-! The reference's loop body, one element at a time, over the extended reals. A trip reads its chunk of every
streamed array; the recurrence and the attention of the chunk follow. -/

noncomputable section

open Idealize.ShloMosaic Idealize.ShloMosaic.TcCoe Idealize.SL.Sem Cert.Picks

namespace Cert.RefIdeal.Read
open Cert.RefIdeal Cert.RefIdeal.Gen Cert.RefIdeal.Step

variable (j : ℕ) (s : State Ideal)

/-! ### The chunk's slices -/

theorem b6_apply (hj : j < 64) (b : Fin 4) (l : Fin 128) (g : Fin 4) (r : Fin 8) (p : Fin 64) :
    b6 j s (ix5 b l g r p) = s.main_v67_0 (ix6 ⟨j, hj⟩ b l g r p) := by
  pointwise [b6]
  refine slice_at _ _ _ _ _ fun a => ?_
  fin_cases a
  · exact ⟨j, start_toInt hj, by show j + 1 ≤ 64; omega, rfl⟩
  all_goals exact ⟨0, rfl, by decide, (Nat.zero_add _).symm⟩
theorem b12_apply (hj : j < 64) (b : Fin 4) (l : Fin 128) (g : Fin 4) (r : Fin 8) :
    b12 j s (ix4 b l g r) = s.main_v67_1 (ix5 ⟨j, hj⟩ b l g r) := by
  pointwise [b12]
  refine slice_at _ _ _ _ _ fun a => ?_
  fin_cases a
  · exact ⟨j, start_toInt hj, by show j + 1 ≤ 64; omega, rfl⟩
  all_goals exact ⟨0, rfl, by decide, (Nat.zero_add _).symm⟩
theorem b18_apply (hj : j < 64) (b : Fin 4) (l : Fin 128) (g : Fin 4) (n : Fin 128) :
    b18 j s (ix4 b l g n) = s.main_v67_2 (ix5 ⟨j, hj⟩ b l g n) := by
  pointwise [b18]
  refine slice_at _ _ _ _ _ fun a => ?_
  fin_cases a
  · exact ⟨j, start_toInt hj, by show j + 1 ≤ 64; omega, rfl⟩
  all_goals exact ⟨0, rfl, by decide, (Nat.zero_add _).symm⟩
theorem b24_apply (hj : j < 64) (b : Fin 4) (l : Fin 128) (g : Fin 4) (n : Fin 128) :
    b24 j s (ix4 b l g n) = s.main_v67_3 (ix5 ⟨j, hj⟩ b l g n) := by
  pointwise [b24]
  refine slice_at _ _ _ _ _ fun a => ?_
  fin_cases a
  · exact ⟨j, start_toInt hj, by show j + 1 ≤ 64; omega, rfl⟩
  all_goals exact ⟨0, rfl, by decide, (Nat.zero_add _).symm⟩
theorem b32_apply (hj : j < 64) (b : Fin 4) (l : Fin 128) (g : Fin 4) (i e : Fin 2) (d : Fin 64) :
    b32 j s (ix6 b l g i e d) = s.main_v67_4 (ix7 ⟨j, hj⟩ b l g i e d) := by
  pointwise [b32]
  refine slice_at _ _ _ _ _ fun a => ?_
  fin_cases a
  · exact ⟨j, start_toInt hj, by show j + 1 ≤ 64; omega, rfl⟩
  all_goals exact ⟨0, rfl, by decide, (Nat.zero_add _).symm⟩
theorem b39_apply (hj : j < 64) (b : Fin 4) (l : Fin 256) (g : Fin 4) (e : Fin 2) (d : Fin 64) :
    b39 j s (ix5 b l g e d) = s.main_v67_5 (ix6 ⟨j, hj⟩ b l g e d) := by
  pointwise [b39]
  refine slice_at _ _ _ _ _ fun a => ?_
  fin_cases a
  · exact ⟨j, start_toInt hj, by show j + 1 ≤ 64; omega, rfl⟩
  all_goals exact ⟨0, rfl, by decide, (Nat.zero_add _).symm⟩
theorem b46_apply (hj : j < 64) (b : Fin 4) (l : Fin 256) (g : Fin 4) (e : Fin 2) (d : Fin 64) :
    b46 j s (ix5 b l g e d) = s.main_v67_6 (ix6 ⟨j, hj⟩ b l g e d) := by
  pointwise [b46]
  refine slice_at _ _ _ _ _ fun a => ?_
  fin_cases a
  · exact ⟨j, start_toInt hj, by show j + 1 ≤ 64; omega, rfl⟩
  all_goals exact ⟨0, rfl, by decide, (Nat.zero_add _).symm⟩
theorem b49_apply (hj : j < 64) (l : Fin 256) :
    b49 j s (ix1 l) = K_main_v44 (F := Ideal) (ix2 ⟨j, hj⟩ l) := by
  pointwise [b49]
  refine slice_at _ _ _ _ _ fun a => ?_
  fin_cases a
  · exact ⟨j, start_toInt hj, by show j + 1 ≤ 64; omega, rfl⟩
  all_goals exact ⟨0, rfl, by decide, (Nat.zero_add _).symm⟩

/-! ### The recurrence -/

/-- The word of minus infinity is the bottom of the extended reals. -/
theorem top_bits : Ideal.ofBits .f32 4286578688#32 = (⊥ : EReal) := by
  simp [Ideal.ofBits, Ideal.ieee]
theorem same_bit (c : BitVec 1) : Scalar.select c (1#1) (0#1) = c := by
  revert c; decide

theorem b52_apply (b : Fin 4) (l : Fin 128) (g : Fin 4) (r : Fin 8) :
    b52 j s (ix4 b l g r) = b12 j s (ix4 b l g r) * s.main_v67_8 (ix2 g r) := by
  pointwise [b52, b51, b50]
theorem b55_apply (b : Fin 4) (l : Fin 128) (g : Fin 4) (r : Fin 8) :
    b55 j s (ix4 b l g r) = ∑ k : Fin 128, if k ≤ l then b12 j s (ix4 b k g r) * s.main_v67_8 (ix2 g r) else 0 := by
  have h := running_sum (b52 j s) (b54 j s) reduceWindows_S4x128x4x8_S4x128x4x8_w1s1p0_0_w128s1p127_0_w1s1p0_0_w1s1p0_0 h_S_ (by
    show Ideal.ofBits .f32 0x00000000#32 = 0
    exact Ideal.ofBits_zero_f32) b l g r
  refine (show b55 j s (ix4 b l g r) = _ from h).trans ?_
  simp only [b52_apply]
theorem b66_apply (b : Fin 4) (l k : Fin 128) (g : Fin 4) (r : Fin 8) :
    b66 j s (ix5 b l k g r) = Ideal.exp (if k ≤ l then b55 j s (ix4 b l g r) - b55 j s (ix4 b k g r) else ⊥) := by
  pointwise [b66, b65, b64, b63, b62, b61, b60, b59, b58, b57, b56, K_main_v48, K_main_v47, K_main_call1_v4, K_main_v46, K_main_call1_v5, K_main_call1_v2, K_main_call1_v3, K_main_call1_v0, K_main_call1_v1, K_main_c_1, K_main_call1_c_0, K_main_call1_c]
  rw [top_bits, show IntOp.addi (BitVec.ofNat 32 l.val) 0#32 = BitVec.ofNat 32 l.val from BitVec.add_zero _, same_bit, pick_ge (by omega) (by omega)]
  rfl
theorem b67_apply (b : Fin 4) (l k : Fin 128) (g : Fin 4) :
    b67 j s (ix4 b g k l) = ∑ n : Fin 128, b18 j s (ix4 b k g n) * b24 j s (ix4 b l g n) := by
  pointwise [b67]
theorem b74_apply (b : Fin 4) (l k : Fin 128) (g : Fin 4) (r : Fin 8) :
    b74 j s (ix5 b l k g r) = b67 j s (ix4 b g k l) * b66 j s (ix5 b l k g r) * b12 j s (ix4 b k g r) := by
  pointwise [b74, b73, b72, b71, b70, b69, b68]
/-- The recurrence's rows of the chunk. -/
theorem b83_apply (b : Fin 4) (l : Fin 128) (g : Fin 4) (r : Fin 8) (p : Fin 64) :
    b83 j s (ix5 b l g r p) = (∑ k : Fin 128, b6 j s (ix5 b k g r p) * b74 j s (ix5 b l k g r))
      + (∑ n : Fin 128, s.main_v67_12 (ix5 b g r p n) * b24 j s (ix4 b l g n)) * Ideal.exp (b55 j s (ix4 b l g r)) := by
  pointwise [b83, b82, b81, b80, b79, b78, b77, b76, b75]
/-- The state after the chunk. -/
theorem b99_apply (b : Fin 4) (g : Fin 4) (r : Fin 8) (p : Fin 64) (n : Fin 128) :
    b99 j s (ix5 b g r p n) = s.main_v67_12 (ix5 b g r p n) * Ideal.exp (b55 j s (ix4 b 127 g r))
      + ∑ l : Fin 128, Ideal.exp (b55 j s (ix4 b 127 g r) - b55 j s (ix4 b l g r)) * b12 j s (ix4 b l g r) * b6 j s (ix5 b l g r p) * b18 j s (ix4 b l g n) := by
  pointwise [b99, b98, b97, b96, b95, b94, b93, b92, b91, b90, b89, b88, b87, b86, b85, b84]

end Cert.RefIdeal.Read

end
-- ==== Proof.RefEntry.lean ====
module

public import proofs.«01_k».proof.Proof.RefScan

@[expose] public section

/-! What the reference's loop starts from, one element at a time, and the fields a trip leaves alone. -/

noncomputable section

open Idealize.ShloMosaic Idealize.ShloMosaic.TcCoe Idealize.SL.Sem Cert.Picks

namespace Cert.RefIdeal.Read
open Cert.RefIdeal Cert.RefIdeal.Gen Cert.RefIdeal.Step

/-- The loop's state after `n` trips from `s`. -/
def iter (s : State Ideal) : ℕ → State Ideal
  | 0 => s
  | n + 1 => step n (iter s n)

section Kept
variable (s : State Ideal) (n : ℕ)
theorem iter_0 : (iter s n).main_v67_0 = s.main_v67_0 := by
  induction n with | zero => rfl | succ n ih => exact ih
theorem iter_1 : (iter s n).main_v67_1 = s.main_v67_1 := by
  induction n with | zero => rfl | succ n ih => exact ih
theorem iter_2 : (iter s n).main_v67_2 = s.main_v67_2 := by
  induction n with | zero => rfl | succ n ih => exact ih
theorem iter_3 : (iter s n).main_v67_3 = s.main_v67_3 := by
  induction n with | zero => rfl | succ n ih => exact ih
theorem iter_4 : (iter s n).main_v67_4 = s.main_v67_4 := by
  induction n with | zero => rfl | succ n ih => exact ih
theorem iter_5 : (iter s n).main_v67_5 = s.main_v67_5 := by
  induction n with | zero => rfl | succ n ih => exact ih
theorem iter_6 : (iter s n).main_v67_6 = s.main_v67_6 := by
  induction n with | zero => rfl | succ n ih => exact ih
theorem iter_8 : (iter s n).main_v67_8 = s.main_v67_8 := by
  induction n with | zero => rfl | succ n ih => exact ih
theorem iter_10 : (iter s n).main_v67_10 = s.main_v67_10 := by
  induction n with | zero => rfl | succ n ih => exact ih
end Kept

variable (a2 : (⟨S4x8192x3072, .bf16⟩ : BufTy).Contents (Elt Ideal)) (a3 : (⟨S4x8192x1024, .bf16⟩ : BufTy).Contents (Elt Ideal))
  (a4 a5 : (⟨S4x8192x512, .bf16⟩ : BufTy).Contents (Elt Ideal)) (a8 : (⟨S4x8192x128, .f32⟩ : BufTy).Contents (Elt Ideal))
  (a9 a10 : (⟨S1x128, .f32⟩ : BufTy).Contents (Elt Ideal))

/-- Row `l` of chunk `n`. -/
abbrev place (n : Fin 64) (l : Fin 128) : Fin 8192 := ⟨n * 128 + l, by omega⟩

theorem start_0 (b g : Fin 4) (r : Fin 8) (p : Fin 64) (n : Fin 128) : K_main_v17 (F := Ideal) (ix5 b g r p n) = (0 : EReal) := by
  pointwise [K_main_v17, K_main_cst]
theorem xs_apply (n : Fin 64) (b : Fin 4) (l : Fin 128) (g : Fin 4) (r : Fin 8) (p : Fin 64) :
    A_main_v23 a2 a3 a4 a5 a8 a9 a10 (ix6 n b l g r p) = a2 (ix3 b (place n l) ⟨g * 512 + r * 64 + p, by omega⟩) := by
  pointwise [A_main_v23, A_main_v22, A_main_v21, A_main_v1, A_main_v0]
theorem keys_apply (n : Fin 64) (b : Fin 4) (l : Fin 128) (g : Fin 4) (k : Fin 128) :
    A_main_v28 a2 a3 a4 a5 a8 a9 a10 (ix5 n b l g k) = a2 (ix3 b (place n l) ⟨2048 + (g * 128 + k), by omega⟩) := by
  pointwise [A_main_v28, A_main_v27, A_main_v15, A_main_v2, A_main_v0]
theorem queries_apply (n : Fin 64) (b : Fin 4) (l : Fin 128) (g : Fin 4) (k : Fin 128) :
    A_main_v30 a2 a3 a4 a5 a8 a9 a10 (ix5 n b l g k) = a2 (ix3 b (place n l) ⟨2560 + (g * 128 + k), by omega⟩) := by
  pointwise [A_main_v30, A_main_v29, A_main_v16, A_main_v3, A_main_v0]
theorem rate_apply (g : Fin 4) (r : Fin 8) :
    A_main_v45 a2 a3 a4 a5 a8 a9 a10 (ix2 g r) = -Ideal.exp (a10 (ix2 0 ⟨g * 8 + r, by omega⟩)) := by
  pointwise [A_main_v45, A_main_v14, A_main_v13, A_main_v12, A_main_v11]
/-- The step size of a row. -/
def stepOf (z : EReal) : EReal := max z 0 + Ideal.log1p (Ideal.exp (-FloatOps.absf (F := Ideal) (φ := .f32) z))
theorem dt_apply (n : Fin 64) (b : Fin 4) (l : Fin 128) (g : Fin 4) (r : Fin 8) :
    A_main_v26 a2 a3 a4 a5 a8 a9 a10 (ix5 n b l g r) = stepOf (a8 (ix3 b (place n l) ⟨g * 8 + r, by omega⟩) + a9 (ix2 0 ⟨g * 8 + r, by omega⟩)) := by
  pointwise [A_main_v26, A_main_v25, A_main_v24, A_main_v10, A_main_call0_v4, A_main_call0_v6, A_main_call0_v11, A_main_call0_v3, A_main_call0_v1, A_main_call0_v10, A_main_call0_v9, A_main_call0_v8, A_main_call0_v7, A_main_v9, A_main_v8, A_main_v7, A_main_v6, A_main_v5, A_main_v4, K_main_call0_v0, K_main_call0_v2, K_main_call0_v5, K_main_call0_cst]
  exact if_neg fun h => h rfl
theorem heads_apply (n : Fin 64) (b : Fin 4) (l : Fin 128) (g : Fin 4) (i e : Fin 2) (d : Fin 64) :
    A_main_v33 a2 a3 a4 a5 a8 a9 a10 (ix7 n b l g i e d) = a3 (ix3 b (place n l) ⟨g * 256 + i * 128 + e * 64 + d, by omega⟩) := by
  pointwise [A_main_v33, A_main_v32, A_main_v31, A_main_v18]
theorem keyBand_apply (n : Fin 64) (b : Fin 4) (l : Fin 256) (g : Fin 4) (e : Fin 2) (d : Fin 64) :
    A_main_v56 a2 a3 a4 a5 a8 a9 a10 (ix6 n b l g e d) = if h : l.val < 128 then (if h' : n.val < 1 then (0 : EReal) else a4 (ix3 b ⟨(n - 1) * 128 + l, by omega⟩ ⟨g * 128 + e * 64 + d, by omega⟩)) else a4 (ix3 b ⟨n * 128 + (l - 128), by omega⟩ ⟨g * 128 + e * 64 + d, by omega⟩) := by
  pointwise [A_main_v56, A_main_v55, A_main_v54, A_main_v51, A_main_v50, A_main_v49, A_main_v19, K_main_v53, K_main_cst_2]
theorem valueBand_apply (n : Fin 64) (b : Fin 4) (l : Fin 256) (g : Fin 4) (e : Fin 2) (d : Fin 64) :
    A_main_v64 a2 a3 a4 a5 a8 a9 a10 (ix6 n b l g e d) = if h : l.val < 128 then (if h' : n.val < 1 then (0 : EReal) else a5 (ix3 b ⟨(n - 1) * 128 + l, by omega⟩ ⟨g * 128 + e * 64 + d, by omega⟩)) else a5 (ix3 b ⟨n * 128 + (l - 128), by omega⟩ ⟨g * 128 + e * 64 + d, by omega⟩) := by
  pointwise [A_main_v64, A_main_v63, A_main_v62, A_main_v59, A_main_v58, A_main_v57, A_main_v20, K_main_v61, K_main_cst_3]
theorem valid_apply (n : Fin 64) (l : Fin 256) :
    K_main_v44 (F := Ideal) (ix2 n l) = IntOp.ori (IntOp.cmpi CmpIPredicate.sgt (BitVec.ofNat 32 n) 0#32) (IntOp.cmpi CmpIPredicate.sge (BitVec.ofNat 32 l) 128#32) := by
  pointwise [K_main_v44, K_main_v43, K_main_v42, K_main_v41, K_main_v40, K_main_v39, K_main_v38, K_main_v37, K_main_v36, K_main_v35, K_main_v34, K_main_c, K_main_c_0]

end Cert.RefIdeal.Read

end
-- ==== Proof.ScanEq.lean ====
module

public import proofs.«01_k».proof.Proof.KernelScan
public import proofs.«01_k».proof.Proof.RefEntry

@[expose] public section

/-! The recurrence of a chunk: what the kernel computes of its blocks is what the reference computes of its arrays, when
the blocks are the arrays' rows of the chunk and both start from the same state. -/

noncomputable section

open Idealize.ShloMosaic Idealize.ShloMosaic.TcCoe Idealize.SL.Sem Cert.Picks

namespace Cert.Same
open Cert.MixerIdeal.Body Cert.RefIdeal.Read Cert.RefIdeal.Step

/-- The reference's number of a head inside its group. -/
abbrev headIn (i : Fin 4) (e : Fin 2) : Fin 8 := ⟨2 * i + e, by omega⟩

variable {a13 : FVec Ideal Cert.RefIdeal.S16 .f32} {a2 : FVec Ideal Cert.RefIdeal.S4x8192x3072 .bf16} {a3 : FVec Ideal Cert.RefIdeal.S4x8192x1024 .bf16}
  {a4 a5 : FVec Ideal Cert.RefIdeal.S4x8192x512 .bf16} {a8 : FVec Ideal Cert.RefIdeal.S4x8192x128 .f32} {a9 a10 : FVec Ideal Cert.RefIdeal.S1x128 .f32}
  {x0 : Vec Ideal Cert.MixerIdeal.S1x128x3072 .bf16} {x2 : Vec Ideal Cert.MixerIdeal.S1x128x128 .f32} {x9 x10 : Vec Ideal Cert.MixerIdeal.S1x128 .f32}
  (b : Fin 4) (j : Fin 64)

/-- The loop's state before trip `j`. -/
abbrev before (a13 : FVec Ideal Cert.RefIdeal.S16 .f32) (a2 : FVec Ideal Cert.RefIdeal.S4x8192x3072 .bf16) (a3 : FVec Ideal Cert.RefIdeal.S4x8192x1024 .bf16)
    (a4 a5 : FVec Ideal Cert.RefIdeal.S4x8192x512 .bf16) (a8 : FVec Ideal Cert.RefIdeal.S4x8192x128 .f32) (a9 a10 : FVec Ideal Cert.RefIdeal.S1x128 .f32) (j : ℕ) : State Ideal :=
  iter (init a13 a2 a3 a4 a5 a8 a9 a10) j

theorem step_same (h2 : ∀ l k, x2 (ix3 0 l k) = a8 (ix3 b (place j l) k)) (h9 : ∀ k, x9 (ix2 0 k) = a9 (ix2 0 k)) (l : Fin 128) (g i : Fin 4) (e : Fin 2) :
    stepV x2 x9 (ix2 l (colOf (headOf g i e))) = b12 j (before a13 a2 a3 a4 a5 a8 a9 a10 j) (ix4 b l g (headIn i e)) := by
  have hc : colOf (headOf g i e) = ⟨g * 8 + headIn i e, by omega⟩ := Fin.ext (by show 8 * g.val + 2 * i.val + e.val = g.val * 8 + (2 * i.val + e.val); omega)
  rw [stepV_apply, b12_apply _ _ j.isLt, iter_1]
  refine Eq.trans ?_ (dt_apply a2 a3 a4 a5 a8 a9 a10 j b l g (headIn i e)).symm
  rw [h2, h9, hc, zero_sub]
  rfl

theorem pair_same (h0 : ∀ l k, x0 (ix3 0 l k) = a2 (ix3 b (place j l) k)) (l : Fin 128) (g i : Fin 4) (e : Fin 2) (q : Fin 64) :
    pairV g i x0 (ix2 l (halfOf e q)) = b6 j (before a13 a2 a3 a4 a5 a8 a9 a10 j) (ix5 b l g (headIn i e) q) := by
  rw [pairV_apply, b6_apply _ _ j.isLt, iter_0]
  refine Eq.trans ?_ (xs_apply a2 a3 a4 a5 a8 a9 a10 j b l g (headIn i e) q).symm
  rw [h0]
  exact congrArg (fun k => a2 (ix3 b (place j l) k)) (Fin.ext (by show 512 * g.val + 128 * i.val + (64 * e.val + q.val) = g.val * 512 + (2 * i.val + e.val) * 64 + q.val; omega))
theorem key_same (h0 : ∀ l k, x0 (ix3 0 l k) = a2 (ix3 b (place j l) k)) (l n : Fin 128) (g : Fin 4) :
    keyV g x0 (ix2 l n) = b18 j (before a13 a2 a3 a4 a5 a8 a9 a10 j) (ix4 b l g n) := by
  rw [keyV_apply, b18_apply _ _ j.isLt, iter_2]
  refine Eq.trans ?_ (keys_apply a2 a3 a4 a5 a8 a9 a10 j b l g n).symm
  rw [h0]
  exact congrArg (fun k => a2 (ix3 b (place j l) k)) (Fin.ext (by show 2048 + 128 * g.val + n.val = 2048 + (g.val * 128 + n.val); omega))
theorem query_same (h0 : ∀ l k, x0 (ix3 0 l k) = a2 (ix3 b (place j l) k)) (l n : Fin 128) (g : Fin 4) :
    queryV g x0 (ix2 l n) = b24 j (before a13 a2 a3 a4 a5 a8 a9 a10 j) (ix4 b l g n) := by
  rw [queryV_apply, b24_apply _ _ j.isLt, iter_3]
  refine Eq.trans ?_ (queries_apply a2 a3 a4 a5 a8 a9 a10 j b l g n).symm
  rw [h0]
  exact congrArg (fun k => a2 (ix3 b (place j l) k)) (Fin.ext (by show 2560 + 128 * g.val + n.val = 2560 + (g.val * 128 + n.val); omega))

theorem acum_same (h2 : ∀ l k, x2 (ix3 0 l k) = a8 (ix3 b (place j l) k)) (h9 : ∀ k, x9 (ix2 0 k) = a9 (ix2 0 k)) (h10 : ∀ k, x10 (ix2 0 k) = a10 (ix2 0 k))
    (l : Fin 128) (g i : Fin 4) (e : Fin 2) :
    acumV (stepV x2 x9) x10 (ix2 l (colOf (headOf g i e))) = b55 j (before a13 a2 a3 a4 a5 a8 a9 a10 j) (ix4 b l g (headIn i e)) := by
  have hc : colOf (headOf g i e) = ⟨g * 8 + headIn i e, by omega⟩ := Fin.ext (by show 8 * g.val + 2 * i.val + e.val = g.val * 8 + (2 * i.val + e.val); omega)
  have hr : (before a13 a2 a3 a4 a5 a8 a9 a10 j).main_v67_8 (ix2 g (headIn i e)) = 0 - Ideal.exp (x10 (ix2 0 (colOf (headOf g i e)))) := by
    rw [iter_8, h10, hc, zero_sub]
    exact rate_apply a2 a3 a4 a5 a8 a9 a10 g (headIn i e)
  rw [acumV_apply, b55_apply, hr]
  refine Finset.sum_congr rfl fun x _ => ?_
  rw [step_same (a13 := a13) (a2 := a2) (a3 := a3) (a4 := a4) (a5 := a5) (a10 := a10) b j h2 h9]

/-- Both states agree. -/
def SameState (st : Vec Ideal Cert.MixerIdeal.S4x128x512 .f32) (s : State Ideal) : Prop :=
  ∀ (g i : Fin 4) (e : Fin 2) (q : Fin 64) (n : Fin 128), st (ix3 g n (laneOf i (halfOf e q))) = s.main_v67_12 (ix5 b g (headIn i e) q n)

theorem stateSlice_apply (st : Vec Ideal Cert.MixerIdeal.S4x128x512 .f32) (g : Fin 4) (n : Fin 128) (k : Fin 512) :
    stateSlice st g (ix3 0 n k) = st (ix3 g n k) := by
  refine congrArg st (funext fun a => Fin.ext ?_)
  fin_cases a
  · show g.val + 1 * 0 = g.val; omega
  · show 0 + 1 * n.val = n.val; omega
  · show 0 + 1 * k.val = k.val; omega

/-- The states agree after the chunk when they agree before. -/
theorem state_same (h0 : ∀ l k, x0 (ix3 0 l k) = a2 (ix3 b (place j l) k)) (h2 : ∀ l k, x2 (ix3 0 l k) = a8 (ix3 b (place j l) k))
    (h9 : ∀ k, x9 (ix2 0 k) = a9 (ix2 0 k)) (h10 : ∀ k, x10 (ix2 0 k) = a10 (ix2 0 k)) (st : Vec Ideal Cert.MixerIdeal.S4x128x512 .f32)
    (hst : SameState b st (before a13 a2 a3 a4 a5 a8 a9 a10 j)) :
    SameState b (stateOf x0 x2 x9 x10 st) (before a13 a2 a3 a4 a5 a8 a9 a10 (j + 1)) := by
  intro g i e q n
  refine (stateNew_apply g i x0 (stepV x2 x9) (acumV (stepV x2 x9) x10) (stateSlice st g) n e q).trans ?_
  refine Eq.trans ?_ ((congrFun (step_main_v67_12 j.val (before a13 a2 a3 a4 a5 a8 a9 a10 j)) _).trans (b99_apply _ _ b g (headIn i e) q n)).symm
  rw [stateSlice_apply, hst, acum_same (a13 := a13) (a2 := a2) (a3 := a3) (a4 := a4) (a5 := a5) b j h2 h9 h10]
  refine congrArg (_ + ·) (Finset.sum_congr rfl fun x _ => ?_)
  rw [tailV_apply, key_same (a13 := a13) (a3 := a3) (a4 := a4) (a5 := a5) (a8 := a8) (a9 := a9) (a10 := a10) b j h0,
    pair_same (a13 := a13) (a3 := a3) (a4 := a4) (a5 := a5) (a8 := a8) (a9 := a9) (a10 := a10) b j h0,
    acum_same (a13 := a13) (a2 := a2) (a3 := a3) (a4 := a4) (a5 := a5) b j h2 h9 h10, acum_same (a13 := a13) (a2 := a2) (a3 := a3) (a4 := a4) (a5 := a5) b j h2 h9 h10,
    step_same (a13 := a13) (a2 := a2) (a3 := a3) (a4 := a4) (a5 := a5) (a10 := a10) b j h2 h9]
  rw [mul_comm, mul_comm (b6 _ _ _)]

/-- The rows of the recurrence agree. -/
theorem rows_same (h0 : ∀ l k, x0 (ix3 0 l k) = a2 (ix3 b (place j l) k)) (h2 : ∀ l k, x2 (ix3 0 l k) = a8 (ix3 b (place j l) k))
    (h9 : ∀ k, x9 (ix2 0 k) = a9 (ix2 0 k)) (h10 : ∀ k, x10 (ix2 0 k) = a10 (ix2 0 k)) (st : Vec Ideal Cert.MixerIdeal.S4x128x512 .f32)
    (hst : SameState b st (before a13 a2 a3 a4 a5 a8 a9 a10 j)) (l : Fin 128) (g i : Fin 4) (e : Fin 2) (q : Fin 64) :
    yPair g i x0 (stepV x2 x9) (acumV (stepV x2 x9) x10) (stateSlice st g) (ix2 l (halfOf e q))
      = b83 j (before a13 a2 a3 a4 a5 a8 a9 a10 j) (ix5 b l g (headIn i e) q) := by
  rw [yPair_apply, b83_apply, acum_same (a13 := a13) (a2 := a2) (a3 := a3) (a4 := a4) (a5 := a5) b j h2 h9 h10]
  refine congrArg₂ _ (Finset.sum_congr rfl fun x _ => ?_) (congrArg (· * _) (Finset.sum_congr rfl fun n _ => ?_))
  · rw [headM_apply, crossV_apply, decayV_apply, b74_apply, b67_apply, b66_apply,
      pair_same (a13 := a13) (a3 := a3) (a4 := a4) (a5 := a5) (a8 := a8) (a9 := a9) (a10 := a10) b j h0,
      acum_same (a13 := a13) (a2 := a2) (a3 := a3) (a4 := a4) (a5 := a5) b j h2 h9 h10, acum_same (a13 := a13) (a2 := a2) (a3 := a3) (a4 := a4) (a5 := a5) b j h2 h9 h10,
      step_same (a13 := a13) (a2 := a2) (a3 := a3) (a4 := a4) (a5 := a5) (a10 := a10) b j h2 h9, mul_comm]
    refine congrArg (fun z => b6 _ _ _ * (z * _ * _)) (Finset.sum_congr rfl fun n _ => ?_)
    rw [key_same (a13 := a13) (a3 := a3) (a4 := a4) (a5 := a5) (a8 := a8) (a9 := a9) (a10 := a10) b j h0,
      query_same (a13 := a13) (a3 := a3) (a4 := a4) (a5 := a5) (a8 := a8) (a9 := a9) (a10 := a10) b j h0, mul_comm]
  · rw [query_same (a13 := a13) (a3 := a3) (a4 := a4) (a5 := a5) (a8 := a8) (a9 := a9) (a10 := a10) b j h0, stateSlice_apply, hst, mul_comm]

end Cert.Same

end
-- ==== Proof.StateRun.lean ====
module

public import proofs.«01_k».proof.Proof.Arrays
public import proofs.«01_k».proof.Proof.ScanEq

@[expose] public section

/-! The state carried from chunk to chunk is the reference's, and with it three of the four results. -/

noncomputable section

open Idealize.ShloMosaic Idealize.ShloMosaic.TcCoe Idealize.SL.Sem

namespace Cert.Same
open Cert.MixerIdeal Cert.MixerIdeal.Gen Cert.MixerIdeal.Value Cert.MixerIdeal.Body Cert.RefIdeal.Read Cert.RefIdeal.Step

variable (m : (ℓ : Loc nD τ sig) → Buf (Elt Ideal) ℓ) (c : Dev nD)

/-- The reference's state before trip `n`, from the kernel's arguments. -/
abbrev ref (n : ℕ) : State Ideal :=
  before (m ((c.tc : Thread nD τ).loc main_arg13)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg8)) (m ((c.tc : Thread nD τ).loc main_arg9)) (m ((c.tc : Thread nD τ).loc main_arg10)) n

theorem row_place (t : Fin cfg0.N) (l : Fin 128) : placeOf t l = place (chunkOf t) l := rfl

/-- One chunk's step of both states. -/
theorem state_step (t : Fin cfg0.N) (st : Vec Ideal S4x128x512 .f32) (hst : SameState (rowOf t) st (ref m c (chunkOf t))) :
    SameState (rowOf t) (stateOf (iblk m c 0 t) (iblk m c 2 t) (iblk m c 9 t) (iblk m c 10 t) st) (ref m c (chunkOf t + 1)) :=
  state_same (rowOf t) (chunkOf t) (fun l k => block_0 m c t 0 l k) (fun l k => block_2 m c t 0 l k) (fun k => block_9 m c t 0 k) (fun k => block_10 m c t 0 k) st hst

theorem state_zero (b : Fin 4) : SameState b (zeroState (F := Ideal)) (ref m c 0) := by
  intro g i e q n
  refine Eq.trans ?_ (start_0 b g (headIn i e) q n).symm
  show Ideal.ofBits .f32 0x00000000#32 = 0
  exact Ideal.ofBits_zero_f32

theorem in_grid (b : Fin 4) {j : ℕ} (hj : j < 64) : 64 * b.val + j < cfg0.N := by
  rw [show cfg0.N = 256 from N_0]; omega

/-- The state after point `64 * b + j`. -/
theorem state_after (b : Fin 4) : (j : ℕ) → (hj : j < 64) →
    SameState b (outsAt0 m c (64 * b + j) (in_grid b hj)).2.2.2.2.2.2 (ref m c (j + 1))
  | 0, hj => by
    have hr : rowOf ⟨64 * b + 0, in_grid b hj⟩ = b := Fin.ext (by show (64 * b.val + 0) / 64 = b.val; omega)
    have hc : (chunkOf ⟨64 * b + 0, in_grid b hj⟩).val = 0 := by show (64 * b.val + 0) % 64 = 0; omega
    have h := state_step m c ⟨64 * b + 0, in_grid b hj⟩ zeroState
    rw [hr, hc] at h
    rw [first_state m c ⟨64 * b + 0, in_grid b hj⟩ (by show (64 * b.val + 0) % 64 = 0; omega)]
    exact h (state_zero m c b)
  | j + 1, hj => by
    have hr : rowOf ⟨64 * b + (j + 1), in_grid b hj⟩ = b := Fin.ext (by show (64 * b.val + (j + 1)) / 64 = b.val; omega)
    have hc : (chunkOf ⟨64 * b + (j + 1), in_grid b hj⟩).val = j + 1 := by show (64 * b.val + (j + 1)) % 64 = j + 1; omega
    have h := state_step m c ⟨64 * b + (j + 1), in_grid b hj⟩ (outsAt0 m c (64 * b + j) (in_grid b (by omega))).2.2.2.2.2.2
    rw [hr, hc] at h
    rw [later_state m c ⟨64 * b + (j + 1), in_grid b hj⟩ (by show ¬(64 * b.val + (j + 1)) % 64 = 0; omega)]
    exact h (state_after b j (by omega))

/-- The state result. -/
theorem state_result : G17 m c = R_main_v107 (ref m c 64) := by
  funext y
  obtain ⟨b, g, k, n, rfl⟩ : ∃ b g k n, y = ix4 b g k n := ⟨y 0, y 1, y 2, y 3, funext fun a => by fin_cases a <;> rfl⟩
  have hk : k = laneOf ⟨k / 128, by omega⟩ (halfOf ⟨k % 128 / 64, by omega⟩ ⟨k % 64, by omega⟩) :=
    Fin.ext (by show k.val = 128 * (k.val / 128) + (64 * (k.val % 128 / 64) + k.val % 64); omega)
  have hr : R_main_v107 (ref m c 64) (ix4 b g k n)
      = (ref m c 64).main_v67_12 (ix5 b g (headIn ⟨k / 128, by omega⟩ ⟨k % 128 / 64, by omega⟩) ⟨k % 64, by omega⟩ n) := by
    pointwise [R_main_v107]
    exact congrArg (fun r => (ref m c 64).main_v67_12 (ix5 b g r ⟨k % 64, by omega⟩ n)) (Fin.ext (by show k.val / 64 = 2 * (k.val / 128) + k.val % 128 / 64; omega))
  rw [state_at, hr]
  refine (congrFun (last_state m c ⟨64 * b + 63, in_grid b (by omega)⟩ (by show (64 * b.val + 63) % 64 = 63; omega)) _).trans ?_
  refine Eq.trans ?_ (state_after m c b 63 (by omega) g ⟨k / 128, by omega⟩ ⟨k % 128 / 64, by omega⟩ ⟨k % 64, by omega⟩ n)
  rw [← hk]
  rfl

/-- The two results that hold the last keys and values. -/
theorem keys_result (s : State Ideal) : G18 m c = R_main_v109 s (m ((c.tc : Thread nD τ).loc main_arg4)) := by
  funext y
  obtain ⟨b, i, k, rfl⟩ : ∃ b i k, y = ix3 b i k := ⟨y 0, y 1, y 2, funext fun a => by fin_cases a <;> rfl⟩
  have hr : R_main_v109 s (m ((c.tc : Thread nD τ).loc main_arg4)) (ix3 b i k) = m ((c.tc : Thread nD τ).loc main_arg4) (ix3 b ⟨8064 + i, by omega⟩ k) := by
    pointwise [R_main_v109]
  have hw : widened (iblk m c 4 ⟨64 * b + 63, in_grid b (by omega)⟩) (ix3 0 i k) = iblk m c 4 ⟨64 * b + 63, in_grid b (by omega)⟩ (ix3 0 i k) := by
    generalize iblk m c 4 ⟨64 * b + 63, in_grid b (by omega)⟩ = x
    pointwise [widened]
  rw [keys_at, hr]
  refine (congrFun (last_keys m c ⟨64 * b + 63, in_grid b (by omega)⟩ (by show (64 * b.val + 63) % 64 = 63; omega)) _).trans (hw.trans ((block_4 m c _ 0 i k).trans ?_))
  exact congrArg₂ (fun u v => m ((c.tc : Thread nD τ).loc main_arg4) (ix3 u v k)) (Fin.ext (by show (64 * b.val + 63) / 64 = b.val; omega))
    (Fin.ext (by show (64 * b.val + 63) % 64 * 128 + i.val = 8064 + i.val; omega))
theorem values_result (s : State Ideal) : G19 m c = R_main_v111 s (m ((c.tc : Thread nD τ).loc main_arg5)) := by
  funext y
  obtain ⟨b, i, k, rfl⟩ : ∃ b i k, y = ix3 b i k := ⟨y 0, y 1, y 2, funext fun a => by fin_cases a <;> rfl⟩
  have hr : R_main_v111 s (m ((c.tc : Thread nD τ).loc main_arg5)) (ix3 b i k) = m ((c.tc : Thread nD τ).loc main_arg5) (ix3 b ⟨8064 + i, by omega⟩ k) := by
    pointwise [R_main_v111]
  have hw : widened (iblk m c 5 ⟨64 * b + 63, in_grid b (by omega)⟩) (ix3 0 i k) = iblk m c 5 ⟨64 * b + 63, in_grid b (by omega)⟩ (ix3 0 i k) := by
    generalize iblk m c 5 ⟨64 * b + 63, in_grid b (by omega)⟩ = x
    pointwise [widened]
  rw [values_at, hr]
  refine (congrFun (last_values m c ⟨64 * b + 63, in_grid b (by omega)⟩ (by show (64 * b.val + 63) % 64 = 63; omega)) _).trans (hw.trans ((block_5 m c _ 0 i k).trans ?_))
  exact congrArg₂ (fun u v => m ((c.tc : Thread nD τ).loc main_arg5) (ix3 u v k)) (Fin.ext (by show (64 * b.val + 63) / 64 = b.val; omega))
    (Fin.ext (by show (64 * b.val + 63) % 64 * 128 + i.val = 8064 + i.val; omega))

end Cert.Same

end
-- ==== Proof.Softmax.lean ====
module

public import proofs.«01_k».proof.Proof.Picks
public import Idealize.ShloMosaic.Lib.IdealHost

@[expose] public section

/-! Facts about weighted averages over the extended reals: a softmax over two halves of a band, normalised before or after
the weighted sum. -/

noncomputable section

open Idealize.ShloMosaic

namespace Cert.Picks

/-- Place `k` of the band's first half. -/
abbrev lo (k : Fin 128) : Fin 256 := ⟨k, by omega⟩
/-- Place `k` of the band's second half. -/
abbrev hi (k : Fin 128) : Fin 256 := ⟨128 + k, by omega⟩

theorem sum_band (f : Fin 256 → EReal) : ∑ k, f k = (∑ k, f (lo k)) + ∑ k, f (hi k) :=
  Fin.sum_univ_add (a := 128) (b := 128) f

theorem sum_halves (f : Fin 128 → EReal) : ∑ k, f k = (∑ d : Fin 64, f ⟨d, by omega⟩) + ∑ d : Fin 64, f ⟨64 + d, by omega⟩ :=
  Fin.sum_univ_add (a := 64) (b := 64) f

/-- The largest of a band is the largest of its two halves. -/
theorem max_band (f : Fin 256 → EReal) :
    (Finset.univ : Finset (Fin 256)).fold max ⊥ f = (Finset.univ : Finset (Fin 128)).fold max ⊥ fun k => max (f (lo k)) (f (hi k)) := by
  refine le_antisymm (Finset.fold_max_le _ |>.mpr ⟨bot_le, fun k _ => ?_⟩) (Finset.fold_max_le _ |>.mpr ⟨bot_le, fun k _ => ?_⟩)
  · by_cases hk : k.val < 128
    · exact (Finset.le_fold_max _).mpr (Or.inr ⟨⟨k, hk⟩, Finset.mem_univ _, le_max_of_le_left (le_of_eq (congrArg f (Fin.ext rfl)))⟩)
    · exact (Finset.le_fold_max _).mpr (Or.inr ⟨⟨k - 128, by omega⟩, Finset.mem_univ _,
        le_max_of_le_right (le_of_eq (congrArg f (Fin.ext (by show k.val = 128 + (k.val - 128); omega))))⟩)
  · exact max_le ((Finset.le_fold_max _).mpr (Or.inr ⟨lo k, Finset.mem_univ _, le_rfl⟩)) ((Finset.le_fold_max _).mpr (Or.inr ⟨hi k, Finset.mem_univ _, le_rfl⟩))

theorem fold_max_lt_top {n : ℕ} (f : Fin n → EReal) (h : ∀ k, f k ≠ ⊤) : (Finset.univ : Finset (Fin n)).fold max ⊥ f < ⊤ :=
  (Finset.fold_max_lt _).mpr ⟨bot_lt_top, fun k _ => lt_top_iff_ne_top.mpr (h k)⟩

theorem exp_nonneg (x : EReal) : 0 ≤ Ideal.exp x := by
  induction x using EReal.rec with
  | bot => exact le_rfl
  | top => exact le_top
  | coe r => exact EReal.coe_nonneg.mpr (Real.exp_pos r).le

theorem exp_pos_of_real (r : ℝ) : 0 < Ideal.exp (r : EReal) := EReal.coe_pos.mpr (Real.exp_pos r)

theorem sum_mul {ι : Type} (s : Finset ι) (f : ι → EReal) {x : EReal} (h0 : 0 ≤ x) (h1 : x ≠ ⊤) : (∑ k ∈ s, f k) * x = ∑ k ∈ s, f k * x := by
  classical
  induction s using Finset.induction_on with
  | empty => simp
  | insert a s ha ih => rw [Finset.sum_insert ha, Finset.sum_insert ha, EReal.right_distrib_of_nonneg_of_ne_top h0 h1, ih]

/-- Normalising before the weighted sum is normalising after it. -/
theorem average {n : ℕ} (p v : Fin n → EReal) (d : EReal) (h : 0 < d) :
    Ideal.div (∑ k, p k * v k) d = ∑ k, v k * Ideal.div (p k) d := by
  unfold Ideal.div
  rw [if_neg h.ne', sum_mul _ _ (EReal.inv_nonneg_of_nonneg h.le) (EReal.inv_lt_top d).ne]
  refine Finset.sum_congr rfl fun k _ => ?_
  rw [if_neg h.ne', mul_comm (p k), mul_assoc]

/-- One row of the attention over a band: the kernel's order of work on the left, the plain one on the right. -/
theorem attend (s v : Fin 256 → EReal) (sink : ℝ) (hs : ∀ k, s k ≠ ⊤) (m : EReal)
    (hm : m = max ((Finset.univ : Finset (Fin 256)).fold max ⊥ s) (sink : EReal)) :
    Ideal.div ((∑ k, Ideal.exp (s (lo k) - m) * v (lo k)) + ∑ k, Ideal.exp (s (hi k) - m) * v (hi k))
        ((∑ k, (Ideal.exp (s (lo k) - m) + Ideal.exp (s (hi k) - m))) + Ideal.exp ((sink : EReal) - m))
      = ∑ k, v k * Ideal.div (Ideal.exp (s k - m)) ((∑ k, Ideal.exp (s k - m)) + Ideal.exp ((sink : EReal) - m)) := by
  have hb : m ≠ ⊥ := by
    rw [hm]; exact ne_of_gt (lt_of_lt_of_le (EReal.bot_lt_coe sink) (le_max_right _ _))
  have ht : m ≠ ⊤ := by
    rw [hm]; exact ne_of_lt (max_lt (fold_max_lt_top s hs) (EReal.coe_lt_top sink))
  have hd : 0 < (∑ k, Ideal.exp (s k - m)) + Ideal.exp ((sink : EReal) - m) := by
    refine lt_of_lt_of_le ?_ (le_add_of_nonneg_left (Finset.sum_nonneg fun k _ => exp_nonneg _))
    rw [← EReal.coe_toReal ht hb, ← EReal.coe_sub]
    exact exp_pos_of_real _
  rw [← average (fun k => Ideal.exp (s k - m)) v _ hd, sum_band (fun k => Ideal.exp (s k - m) * v k), sum_band (fun k => Ideal.exp (s k - m)), Finset.sum_add_distrib]

/-- A positive word of the single format is a positive real. -/
theorem word_pos (b : BitVec 32) (h0 : (b.extractLsb' 31 1 == 1#1) = false) (h1 : (b.extractLsb' 23 8).toNat ≠ 255) (h2 : (b.extractLsb' 23 8).toNat ≠ 0) :
    ∃ r : ℝ, 0 < r ∧ Ideal.ofBits .f32 b = (r : EReal) := by
  refine ⟨(2 ^ 23 + (b.extractLsb' 0 23).toNat : Nat) * (2 : ℝ) ^ (((b.extractLsb' 23 8).toNat : Int) - (2 ^ (8 - 1) - 1) - 23), ?_, ?_⟩
  · have : 0 < 2 ^ 23 + (b.extractLsb' 0 23).toNat := by omega
    positivity
  · show Ideal.ieee 8 23 b = _
    unfold Ideal.ieee
    simp only [h0]
    rw [if_neg (show ¬ _ = 2 ^ 8 - 1 from h1), if_neg h2]
    refine congrArg _ ?_
    rw [if_neg (by decide), one_mul]
    rfl

/-- The difference of two small words, as an integer. -/
theorem sub_toInt {a b : ℕ} (ha : a < 2 ^ 20) (hb : b < 2 ^ 20) : (BitVec.ofNat 32 a - BitVec.ofNat 32 b).toInt = (a : Int) - b := by
  rw [BitVec.toInt_sub, WordCmp.toInt_ofNat_of_lt (by omega), WordCmp.toInt_ofNat_of_lt (by omega), Int.bmod_def]
  norm_num
  omega

end Cert.Picks

end
-- ==== Proof.KernelAtt.lean ====
module

public import proofs.«01_k».proof.Proof.KernelScan
public import proofs.«01_k».proof.Proof.Softmax

@[expose] public section

/-! The attention's vocabulary, one element at a time, over the extended reals. -/

noncomputable section

open Idealize.ShloMosaic Idealize.ShloMosaic.TcCoe Idealize.SL.Sem Cert.Picks

namespace Cert.MixerIdeal.Body
open Cert.MixerIdeal Cert.MixerIdeal.Gen

/-- Row `l` of the head `r` of a group's four. -/
abbrev rowIn (r : Fin 4) (l : Fin 128) : Fin 512 := ⟨128 * r + l, by omega⟩
/-- Head `e` of pair `i`. -/
abbrev fourth (i e : Fin 2) : Fin 4 := ⟨2 * i + e, by omega⟩

theorem pickRows (a : Fin 4 → FVec Ideal S128x128 .f32) (r : Fin 4) (l p : Fin 128) :
    concatenate S512x128 0 [⟨S128x128, a 0⟩, ⟨S128x128, a 1⟩, ⟨S128x128, a 2⟩, ⟨S128x128, a 3⟩]
        concatenates_S128x128_S128x128_S128x128_S128x128_S512x128_d0 (ix2 (rowIn r l) p) = a r (ix2 l p) := by
  fin_cases r <;> pointwise []
  · rw [dif_neg (by omega), dif_neg (by omega), dif_pos (by omega)]
    congr 2; exact Fin.ext (by show 256 + l.val - 128 - 128 = l.val; omega)
  · rw [dif_neg (by omega), dif_neg (by omega), dif_neg (by omega)]
    congr 2; exact Fin.ext (by show 384 + l.val - 128 - 128 - 128 = l.val; omega)
theorem pickSinks (a : Fin 4 → FVec Ideal S128x1 .f32) (r : Fin 4) (l : Fin 128) :
    concatenate S512x1 0 [⟨S128x1, a 0⟩, ⟨S128x1, a 1⟩, ⟨S128x1, a 2⟩, ⟨S128x1, a 3⟩]
        concatenates_S128x1_S128x1_S128x1_S128x1_S512x1_d0 (ix2 (rowIn r l) 0) = a r (ix2 l 0) := by
  fin_cases r <;> pointwise []
  · rw [dif_neg (by omega), dif_neg (by omega), dif_pos (by omega)]
    congr 2; exact Fin.ext (by show 256 + l.val - 128 - 128 = l.val; omega)
  · rw [dif_neg (by omega), dif_neg (by omega), dif_neg (by omega)]
    congr 2; exact Fin.ext (by show 384 + l.val - 128 - 128 - 128 = l.val; omega)

theorem masked_bottom : Named.named (F := Ideal) κ "masked" (φ := .f32) 0xF49DC5AE#32 = (⊥ : EReal) :=
  IdealRules.named_const.ideal_named_scalar _ _ _ _ rfl

/-- One in the half `e` of the lanes, zero in the other. -/
theorem keep_apply (e e' : Fin 2) (d : Fin 64) :
    (![keepLo (F := Ideal), keepHi] e) (ix2 0 (halfOf e' d)) = if e' = e then (1 : EReal) else 0 := by
  refine Eq.trans ?_ (two_halves (fun e' => if e' = e then (1 : EReal) else 0) e' d)
  generalize halfOf e' d = p
  fin_cases e
  · show keepLo (F := Ideal) (ix2 0 p) = Scalar.select _ (1 : EReal) 0
    pointwise [keepLo]
  · show keepHi (F := Ideal) (ix2 0 p) = Scalar.select _ (0 : EReal) 1
    pointwise [keepHi]

theorem qPair_apply (g : Fin 4) (i : Fin 2) (x3 : Vec Ideal S1x128x1024 .bf16) (l p : Fin 128) :
    qPair g i x3 (ix2 l p) = x3 (ix3 0 l ⟨256 * g + 128 * i + p, by omega⟩) := by
  unfold qPair
  refine (ValueIdx.shapeCast_1ab_ab_apply _ _ _ _).trans ?_
  refine congrArg x3 (funext fun a => Fin.ext ?_)
  fin_cases a
  · rfl
  · show 0 + 1 * l.val = l.val; omega
  · show 256 * g.val + 128 * i.val + 1 * p.val = 256 * g.val + 128 * i.val + p.val; omega
theorem curV_apply (g : Fin 4) (x : Vec Ideal S1x128x512 .bf16) (l p : Fin 128) :
    curV g x (ix2 l p) = x (ix3 0 l ⟨128 * g + p, by omega⟩) := by
  unfold curV
  refine (ValueIdx.shapeCast_1ab_ab_apply _ _ _ _).trans ?_
  refine congrArg x (funext fun a => Fin.ext ?_)
  fin_cases a
  · rfl
  · show 0 + 1 * l.val = l.val; omega
  · show 128 * g.val + 1 * p.val = 128 * g.val + p.val; omega
theorem prevSlice_apply (x : Vec Ideal S128x512 .bf16) (g : Fin 4) (l p : Fin 128) :
    prevSlice x g (ix2 l p) = x (ix2 l ⟨128 * g + p, by omega⟩) := by
  refine congrArg x (funext fun a => Fin.ext ?_)
  fin_cases a
  · show 0 + 1 * l.val = l.val; omega
  · show 128 * g.val + 1 * p.val = 128 * g.val + p.val; omega

theorem masked_apply (q : FVec Ideal S128x128 .bf16) (w : FVec Ideal S1x128 .bf16) (l p : Fin 128) :
    mulf q (broadcastTo S128x128 w broadcasts_S1x128_S128x128) (ix2 l p) = q (ix2 l p) * w (ix2 0 p) := by
  pointwise []
theorem pickQueries (a : Fin 4 → FVec Ideal S128x128 .bf16) (r : Fin 4) (l p : Fin 128) :
    concatenate S512x128 0 [⟨S128x128, a 0⟩, ⟨S128x128, a 1⟩, ⟨S128x128, a 2⟩, ⟨S128x128, a 3⟩]
        concatenates_S128x128_S128x128_S128x128_S128x128_S512x128_d0 (ix2 (rowIn r l) p) = a r (ix2 l p) :=
  pickRows a r l p
theorem qStack_apply (g : Fin 4) (i e : Fin 2) (x3 : Vec Ideal S1x128x1024 .bf16) (l p : Fin 128) :
    qStack g x3 (ix2 (rowIn (fourth i e) l) p) = qPair g i x3 (ix2 l p) * (![keepLo (F := Ideal), keepHi] e) (ix2 0 p) := by
  refine Eq.trans ?_ (masked_apply (qPair g i x3) (![keepLo (F := Ideal), keepHi] e) l p)
  refine (pickQueries ![mulf (qPair g 0 x3) (broadcastTo S128x128 keepLo broadcasts_S1x128_S128x128), mulf (qPair g 0 x3) (broadcastTo S128x128 keepHi broadcasts_S1x128_S128x128),
    mulf (qPair g 1 x3) (broadcastTo S128x128 keepLo broadcasts_S1x128_S128x128), mulf (qPair g 1 x3) (broadcastTo S128x128 keepHi broadcasts_S1x128_S128x128)] (fourth i e) l p).trans ?_
  fin_cases i <;> fin_cases e <;> rfl

theorem bias_apply (g : Fin 4) (i e : Fin 2) (d : FVec Ideal S128x128 .f32) (l k : Fin 128) :
    biasV g d (ix2 (rowIn (fourth i e) l) k) = Ideal.ofBits .f32 (slopeBits (qHead g (fourth i e))) * d (ix2 l k) :=
  pickRows (fun r => mulf (broadcast S128x128 (Scalar.ofBits .f32 (slopeBits (qHead g r)))) d) (fourth i e) l k

theorem sinkAt_apply (h : Fin 16) (x13 : Vec Ideal S16 .f32) : sinkAt h x13 = x13 (ix1 h) := by
  refine congrArg x13 (funext fun a => Fin.ext ?_)
  fin_cases a
  show h.val + 1 * 0 = h.val; omega
theorem sinkV_apply (g : Fin 4) (i e : Fin 2) (x13 : Vec Ideal S16 .f32) (l : Fin 128) :
    sinkV g x13 (ix2 (rowIn (fourth i e) l) 0) = x13 (ix1 (qHead g (fourth i e))) :=
  (pickSinks (fun r => broadcast S128x1 (sinkAt (qHead g r) x13)) (fourth i e) l).trans (sinkAt_apply _ _)

/-- Minus the distance inside a chunk. -/
theorem nearV_apply (l k : Fin 128) : nearV (F := Ideal) (ix2 l k) = if k ≤ l then (((k.val : ℝ) - l.val : ℝ) : EReal) else ⊥ := by
  unfold nearV causalM rowI colI
  pointwise []
  rw [masked_bottom]
  refine (pick_ge (by omega) (by omega) _ _).trans (if_congr Iff.rfl ?_ rfl)
  show (((BitVec.ofNat 32 k.val - BitVec.ofNat 32 l.val).toInt : ℝ) : EReal) = _
  rw [sub_toInt (by omega) (by omega)]
  push_cast
  rfl

/-- Minus the distance to the chunk before. -/
theorem farV_apply {n : ℕ} (hn : n < 64) (l k : Fin 128) :
    farV (F := Ideal) (BitVec.ofNat 32 n) (ix2 l k) = if 0 < n ∧ l ≤ k then (((k.val : ℝ) - (l.val + 128) : ℝ) : EReal) else ⊥ := by
  unfold farV rowI colI
  pointwise []
  rw [masked_bottom]
  have hg : IntOp.cmpi CmpIPredicate.sgt (BitVec.ofNat 32 n) 0#32 = BitVec.ofBool (decide (0 < n)) :=
    WordCmp.cmpi_sgt_ofNat (b := 0) (by omega) (by omega)
  have hv : (BitVec.ofNat 32 k.val - BitVec.ofNat 32 l.val - 128#32).toInt = (k.val : Int) - (l.val + 128) := by
    rw [BitVec.toInt_sub, sub_toInt (by omega) (by omega), show (128#32 : BitVec 32).toInt = 128 from rfl, Int.bmod_def]
    norm_num
    omega
  have hsel : (BitVec.ofNat 32 l.val + Scalar.select (BitVec.ofBool (decide (0 < n))) 0#32 128#32 : BitVec 32) = BitVec.ofNat 32 (l.val + if 0 < n then 0 else 128) := by
    rw [WordCmp.select_ofBool, BitVec.ofNat_add]
    by_cases h : 0 < n <;> simp [h]
  show Scalar.select (IntOp.cmpi CmpIPredicate.sge (BitVec.ofNat 32 k.val) (BitVec.ofNat 32 l.val + Scalar.select (IntOp.cmpi CmpIPredicate.sgt (BitVec.ofNat 32 n) 0#32) 0#32 128#32))
    ((((BitVec.ofNat 32 k.val - BitVec.ofNat 32 l.val - 128#32).toInt : ℝ) : EReal)) (⊥ : EReal) = _
  rw [hg, hsel, hv]
  refine (pick_ge (by omega) (by split_ifs <;> omega) _ _).trans (if_congr ?_ (by push_cast; rfl) rfl)
  by_cases h : 0 < n
  · rw [if_pos h]; exact ⟨fun h' => ⟨h, h'⟩, fun h' => h'.2⟩
  · rw [if_neg h]; exact ⟨fun h' => absurd h' (by omega), fun h' => absurd h'.1 h⟩

theorem scoreV_apply (qs : FVec Ideal S512x128 .bf16) (k : FVec Ideal S128x128 .bf16) (bias : FVec Ideal S512x128 .f32) (r : Fin 512) (c : Fin 128) :
    scoreV qs k bias (ix2 r c) = (∑ p : Fin 128, qs (ix2 r p) * k (ix2 c p)) + bias (ix2 r c) := by
  pointwise [scoreV]
theorem topV_apply (sp sc : FVec Ideal S512x128 .f32) (sk : FVec Ideal S512x1 .f32) (r : Fin 512) :
    topV sp sc sk (ix2 r 0) = max ((Finset.univ : Finset (Fin 128)).fold max ⊥ fun k => max (sp (ix2 r k)) (sc (ix2 r k))) (sk (ix2 r 0)) := by
  pointwise [topV]
  rw [show Ideal.ofBits .f32 4286578688#32 = (⊥ : EReal) by simp [Ideal.ofBits, Ideal.ieee]]
theorem weightV_apply (s : FVec Ideal S512x128 .f32) (m : FVec Ideal S512x1 .f32) (r : Fin 512) (k : Fin 128) :
    weightV s m (ix2 r k) = Ideal.exp (s (ix2 r k) - m (ix2 r 0)) := by
  pointwise [weightV]
theorem denomV_apply (pp pc : FVec Ideal S512x128 .f32) (sk m : FVec Ideal S512x1 .f32) (r : Fin 512) :
    denomV pp pc sk m (ix2 r 0) = (∑ k : Fin 128, (pp (ix2 r k) + pc (ix2 r k))) + Ideal.exp (sk (ix2 r 0) - m (ix2 r 0)) := by
  pointwise [denomV]
theorem mixV_apply (pp pc : FVec Ideal S512x128 .f32) (vp vc : FVec Ideal S128x128 .bf16) (dn : FVec Ideal S512x1 .f32) (r : Fin 512) (p : Fin 128) :
    mixV pp pc vp vc dn (ix2 r p) = Ideal.div ((∑ k : Fin 128, pp (ix2 r k) * vp (ix2 k p)) + ∑ k : Fin 128, pc (ix2 r k) * vc (ix2 k p)) (dn (ix2 r 0)) := by
  pointwise [mixV]

/-- A head's products with a chunk's keys: the other half of the lanes counts nothing. -/
theorem products_apply (g : Fin 4) (i e : Fin 2) (x3 : Vec Ideal S1x128x1024 .bf16) (k : FVec Ideal S128x128 .bf16) (l c : Fin 128) :
    (∑ p : Fin 128, qStack g x3 (ix2 (rowIn (fourth i e) l) p) * k (ix2 c p))
      = ∑ d : Fin 64, x3 (ix3 0 l ⟨256 * g + 128 * i + (64 * e + d), by omega⟩) * k (ix2 c (halfOf e d)) := by
  have h : ∀ (e' : Fin 2) (d : Fin 64), qStack g x3 (ix2 (rowIn (fourth i e) l) (halfOf e' d)) * k (ix2 c (halfOf e' d))
      = if e' = e then x3 (ix3 0 l ⟨256 * g + 128 * i + (64 * e' + d), by omega⟩) * k (ix2 c (halfOf e' d)) else 0 := fun e' d => by
    rw [qStack_apply, keep_apply, qPair_apply]
    by_cases he : e' = e
    · rw [if_pos he, if_pos he, mul_one]
    · rw [if_neg he, if_neg he, mul_zero, zero_mul]
  have h0 : ∀ d : Fin 64, (⟨d, by omega⟩ : Fin 128) = halfOf 0 d := fun d => Fin.ext (by show d.val = 64 * 0 + d.val; omega)
  have h1 : ∀ d : Fin 64, (⟨64 + d, by omega⟩ : Fin 128) = halfOf 1 d := fun d => Fin.ext (by show 64 + d.val = 64 * 1 + d.val; omega)
  rw [sum_halves]
  simp only [h0, h1, h]
  fin_cases e
  · simp
  · simp

/-- Two heads in one block of lanes. -/
theorem attPair_apply (o : FVec Ideal S512x128 .f32) (i e : Fin 2) (l : Fin 128) (d : Fin 64) :
    (![attLo o, attHi o] i) (ix2 l (halfOf e d)) = o (ix2 (rowIn (fourth i e) l) (halfOf e d)) := by
  refine Eq.trans ?_ (two_halves (fun e' => o (ix2 (rowIn (fourth i e') l) (halfOf e d))) e d)
  generalize halfOf e d = p
  fin_cases i
  · show attLo o (ix2 l p) = _
    pointwise [attLo, loM, colI]
    exact congrArg₂ (Scalar.select _) (congrArg (fun r => o (ix2 r p)) (Fin.ext (by show l.val = 128 * (2 * 0 + 0) + l.val; omega)))
      (congrArg (fun r => o (ix2 r p)) (Fin.ext (by show 128 + l.val = 128 * (2 * 0 + 1) + l.val; omega)))
  · show attHi o (ix2 l p) = _
    pointwise [attHi, loM, colI]
    exact congrArg₂ (Scalar.select _) (congrArg (fun r => o (ix2 r p)) (Fin.ext (by show 256 + l.val = 128 * (2 * 1 + 0) + l.val; omega)))
      (congrArg (fun r => o (ix2 r p)) (Fin.ext (by show 384 + l.val = 128 * (2 * 1 + 1) + l.val; omega)))

end Cert.MixerIdeal.Body

end
-- ==== Proof.RefAtt.lean ====
module

public import proofs.«01_k».proof.Proof.RefScan
public import proofs.«01_k».proof.Proof.Softmax

@[expose] public section

/-! The reference's attention of a chunk, one element at a time. -/

noncomputable section

open Idealize.ShloMosaic Idealize.ShloMosaic.TcCoe Idealize.SL.Sem Cert.Picks

namespace Cert.RefIdeal.Read
open Cert.RefIdeal Cert.RefIdeal.Gen Cert.RefIdeal.Step

/-! ### Reducing the last of six axes -/

theorem drop_last (b g : Fin 4) (i e : Fin 2) (l : Fin 128) (y : S4x4x2x2x128x256.Idx) :
    reducesTo_S4x4x2x2x128x256_S4x4x2x2x128_d5.drop y = ix5 b g i e l ↔ ∃ k : Fin 256, ix6 b g i e l k = y := by
  constructor
  · intro h
    refine ⟨y 5, ?_⟩
    funext a; apply Fin.ext
    match a with
    | ⟨0, _⟩ => exact (congrArg Fin.val (congrFun h (0 : Fin 5))).symm
    | ⟨1, _⟩ => exact (congrArg Fin.val (congrFun h (1 : Fin 5))).symm
    | ⟨2, _⟩ => exact (congrArg Fin.val (congrFun h (2 : Fin 5))).symm
    | ⟨3, _⟩ => exact (congrArg Fin.val (congrFun h (3 : Fin 5))).symm
    | ⟨4, _⟩ => exact (congrArg Fin.val (congrFun h (4 : Fin 5))).symm
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

theorem sum_last (x : S4x4x2x2x128x256.Idx → EReal) (z : EReal) (b g : Fin 4) (i e : Fin 2) (l : Fin 128) :
    Ideal.hostReduceAdd reducesTo_S4x4x2x2x128x256_S4x4x2x2x128_d5 x z (ix5 b g i e l) = z + ∑ k : Fin 256, x (ix6 b g i e l k) :=
  congrArg (z + ·) (Finset.sum_filter_eq_sum_of_fiber _ (fun k : Fin 256 => ix6 b g i e l k) (fun _ _ h => congrFun h 5) (drop_last b g i e l) x)

theorem max_last (x : S4x4x2x2x128x256.Idx → EReal) (z : EReal) (b g : Fin 4) (i e : Fin 2) (l : Fin 128) :
    (Finset.univ.filter (fun y => reducesTo_S4x4x2x2x128x256_S4x4x2x2x128_d5.drop y = ix5 b g i e l)).fold max z x
      = (Finset.univ : Finset (Fin 256)).fold max z fun k => x (ix6 b g i e l k) :=
  Finset.fold_filter_eq_fold_of_fiber max _ (fun k : Fin 256 => ix6 b g i e l k) (fun _ _ h => congrFun h 5) (drop_last b g i e l) z x

theorem reduce_max (x : FVec Ideal S4x4x2x2x128x256 .f32) (b g : Fin 4) (i e : Fin 2) (l : Fin 128) :
    Host.reduce (FloatOps.maximumf (F := Ideal) (φ := .f32)) x (constant (F := Ideal) S_ .f32 0xFF800000#32) reducesTo_S4x4x2x2x128x256_S4x4x2x2x128_d5 h_S_ (ix5 b g i e l)
      = (Finset.univ : Finset (Fin 256)).fold max ⊥ fun k => x (ix6 b g i e l k) := by
  pointwise []
  rw [top_bits]
  exact max_last x ⊥ b g i e l

variable (j : ℕ) (s : State Ideal)

/-! ### The scores -/

/-- Query head `e` of pair `i` of group `g`. -/
abbrev headAt (g : Fin 4) (i e : Fin 2) : Fin 16 := ⟨g * 4 + i * 2 + e, by omega⟩

theorem b155_apply (b : Fin 4) (g : Fin 4) (i e : Fin 2) (l : Fin 128) (k : Fin 256) :
    b155 j s (ix6 b g i e l k) = ∑ d : Fin 64, b39 j s (ix5 b k g e d) * b32 j s (ix6 b l g i e d) := by
  pointwise [b155, b154]
set_option maxRecDepth 4000 in
theorem b109_apply (l : Fin 128) (k : Fin 256) :
    b109 j s (ix2 l k) = BitVec.ofNat 32 l + 128#32 - BitVec.ofNat 32 k := by
  pointwise [b109, b108, b107, b106, b105, b104, b103, b102, b101, b100]
  rfl
theorem b153_apply (l : Fin 128) (k : Fin 256) :
    b153 j s (ix2 l k) = IntOp.andi (IntOp.andi (IntOp.cmpi CmpIPredicate.sge (b109 j s (ix2 l k)) 0#32) (IntOp.cmpi CmpIPredicate.sle (b109 j s (ix2 l k)) 128#32)) (b49 j s (ix1 k)) := by
  pointwise [b153, b152, b151, b150, b149, b148, b147, b146, b145, b144]
theorem b168_apply (b : Fin 4) (g : Fin 4) (i e : Fin 2) (l : Fin 128) (k : Fin 256) :
    b168 j s (ix6 b g i e l k) = Scalar.select (b153 j s (ix2 l k)) (b155 j s (ix6 b g i e l k) - b142 j s (ix1 (headAt g i e)) * FloatOps.sitofp (F := Ideal) .f32 (b109 j s (ix2 l k))) ⊥ := by
  pointwise [b168, b167, b166, b165, b164, b163, b162, b161, b160, b159, b158, b157, b156, b143]
  rw [top_bits]

/-! ### The weights -/

theorem b171_apply (b : Fin 4) (g : Fin 4) (i e : Fin 2) (l : Fin 128) :
    b171 j s (ix5 b g i e l) = (Finset.univ : Finset (Fin 256)).fold max ⊥ fun k => b168 j s (ix6 b g i e l k) := by
  unfold b171 b170
  generalize b168 j s = x
  exact reduce_max x b g i e l
theorem b175_apply (b : Fin 4) (g : Fin 4) (i e : Fin 2) (l : Fin 128) :
    b175 j s (ix6 b g i e l 0) = max ((Finset.univ : Finset (Fin 256)).fold max ⊥ fun k => b168 j s (ix6 b g i e l k)) (s.main_v67_10 (ix1 (headAt g i e))) := by
  rw [← b171_apply]
  unfold b175 b174 b173 b172 b169
  generalize b171 j s = x
  pointwise []
theorem b178_apply (b : Fin 4) (g : Fin 4) (i e : Fin 2) (l : Fin 128) (k : Fin 256) :
    b178 j s (ix6 b g i e l k) = Ideal.exp (b168 j s (ix6 b g i e l k) - b175 j s (ix6 b g i e l 0)) := by
  unfold b178 b177 b176
  generalize b168 j s = x
  generalize b175 j s = y
  pointwise []
theorem b180_apply (b : Fin 4) (g : Fin 4) (i e : Fin 2) (l : Fin 128) :
    b180 j s (ix5 b g i e l) = ∑ k : Fin 256, b178 j s (ix6 b g i e l k) := by
  unfold b180 b179
  generalize b178 j s = x
  pointwise []
  exact (sum_last x 0 b g i e l).trans (zero_add _)
theorem b186_apply (b : Fin 4) (g : Fin 4) (i e : Fin 2) (l : Fin 128) :
    b186 j s (ix6 b g i e l 0) = (∑ k : Fin 256, b178 j s (ix6 b g i e l k)) + Ideal.exp (s.main_v67_10 (ix1 (headAt g i e)) - b175 j s (ix6 b g i e l 0)) := by
  rw [← b180_apply]
  unfold b186 b185 b184 b183 b182 b181 b169
  generalize b180 j s = x
  generalize b175 j s = y
  pointwise []
/-- The attention's rows of the chunk. -/
theorem b189_apply (b : Fin 4) (g : Fin 4) (i e : Fin 2) (l : Fin 128) (d : Fin 64) :
    b189 j s (ix6 b g e d i l) = ∑ k : Fin 256, b46 j s (ix5 b k g e d) * Ideal.div (b178 j s (ix6 b g i e l k)) (b186 j s (ix6 b g i e l 0)) := by
  unfold b189 b188 b187
  generalize b178 j s = x
  generalize b186 j s = y
  pointwise []

end Cert.RefIdeal.Read

end
-- ==== Proof.AttEq.lean ====
module

public import proofs.«01_k».proof.Proof.KernelAtt
public import proofs.«01_k».proof.Proof.RefAtt
public import proofs.«01_k».proof.Proof.ScanEq

@[expose] public section

/-! The attention of a chunk: what the kernel computes of its blocks is what the reference computes of its arrays, when
queries, keys and sinks are finite. -/

noncomputable section

open Idealize.ShloMosaic Idealize.ShloMosaic.TcCoe Idealize.SL.Sem Cert.Picks

namespace Cert.Same
open Cert.MixerIdeal.Body Cert.RefIdeal.Read Cert.RefIdeal.Step

variable {a13 : FVec Ideal Cert.RefIdeal.S16 .f32} {a2 : FVec Ideal Cert.RefIdeal.S4x8192x3072 .bf16} {a3 : FVec Ideal Cert.RefIdeal.S4x8192x1024 .bf16}
  {a4 a5 : FVec Ideal Cert.RefIdeal.S4x8192x512 .bf16} {a8 : FVec Ideal Cert.RefIdeal.S4x8192x128 .f32} {a9 a10 : FVec Ideal Cert.RefIdeal.S1x128 .f32}
  {x3 : Vec Ideal Cert.MixerIdeal.S1x128x1024 .bf16} {x4 x5 : Vec Ideal Cert.MixerIdeal.S1x128x512 .bf16} {x13 : Vec Ideal Cert.MixerIdeal.S16 .f32}
  {kp vp : Vec Ideal Cert.MixerIdeal.S128x512 .bf16}
  (b : Fin 4) (j : Fin 64)

/-- The rows kept from the chunk before, zeros where there is none. -/
def SamePrev (xs : Vec Ideal Cert.MixerIdeal.S128x512 .bf16) (a : FVec Ideal Cert.RefIdeal.S4x8192x512 .bf16) : Prop :=
  ∀ (l : Fin 128) (k : Fin 512), xs (ix2 l k) = if h : j.val < 1 then (0 : EReal) else a (ix3 b ⟨(j - 1) * 128 + l, by omega⟩ k)

/-- Every element is a real number. -/
def Finite {s : Shape} (a : s.Idx → EReal) : Prop := ∀ y, ∃ r : ℝ, a y = (r : EReal)

theorem sum_real {n : ℕ} (f g : Fin n → EReal) (hf : ∀ k, ∃ r : ℝ, f k = (r : EReal)) (hg : ∀ k, ∃ r : ℝ, g k = (r : EReal)) :
    ∃ r : ℝ, ∑ k, f k * g k = (r : EReal) := by
  choose u hu using hf
  choose v hv using hg
  refine ⟨∑ k, u k * v k, ?_⟩
  have h : ∀ t : Finset (Fin n), ∑ k ∈ t, f k * g k = ((∑ k ∈ t, u k * v k : ℝ) : EReal) := fun t => by
    induction t using Finset.induction_on with
    | empty => simp
    | insert k t hk ih => rw [Finset.sum_insert hk, Finset.sum_insert hk, ih, hu, hv, EReal.coe_add, EReal.coe_mul]
  exact h _

/-! ### The blocks -/

theorem query_at (h3 : ∀ l k, x3 (ix3 0 l k) = a3 (ix3 b (place j l) k)) (l : Fin 128) (g : Fin 4) (i e : Fin 2) (d : Fin 64) :
    x3 (ix3 0 l ⟨256 * g + 128 * i + (64 * e + d), by omega⟩) = b32 j (before a13 a2 a3 a4 a5 a8 a9 a10 j) (ix6 b l g i e d) := by
  rw [b32_apply _ _ j.isLt, iter_4]
  refine Eq.trans ?_ (heads_apply a2 a3 a4 a5 a8 a9 a10 j b l g i e d).symm
  rw [h3]
  exact congrArg (fun k => a3 (ix3 b (place j l) k)) (Fin.ext (by show 256 * g.val + 128 * i.val + (64 * e.val + d.val) = g.val * 256 + i.val * 128 + e.val * 64 + d.val; omega))

theorem lane_eq (g : Fin 4) (e : Fin 2) (d : Fin 64) : (⟨128 * g + halfOf e d, by have := (halfOf e d).isLt; omega⟩ : Fin 512) = ⟨g * 128 + e * 64 + d, by omega⟩ :=
  Fin.ext (by show 128 * g.val + (64 * e.val + d.val) = g.val * 128 + e.val * 64 + d.val; omega)

theorem key_far (hk : SamePrev b j kp a4) (k : Fin 128) (g : Fin 4) (e : Fin 2) (d : Fin 64) :
    prevSlice kp g (ix2 k (halfOf e d)) = b39 j (before a13 a2 a3 a4 a5 a8 a9 a10 j) (ix5 b (lo k) g e d) := by
  rw [b39_apply _ _ j.isLt, iter_5]
  refine Eq.trans ?_ (keyBand_apply a2 a3 a4 a5 a8 a9 a10 j b (lo k) g e d).symm
  rw [dif_pos k.isLt, prevSlice_apply, hk, lane_eq]
theorem key_near (h4 : ∀ l k, x4 (ix3 0 l k) = a4 (ix3 b (place j l) k)) (k : Fin 128) (g : Fin 4) (e : Fin 2) (d : Fin 64) :
    curV g x4 (ix2 k (halfOf e d)) = b39 j (before a13 a2 a3 a4 a5 a8 a9 a10 j) (ix5 b (hi k) g e d) := by
  rw [b39_apply _ _ j.isLt, iter_5]
  refine Eq.trans ?_ (keyBand_apply a2 a3 a4 a5 a8 a9 a10 j b (hi k) g e d).symm
  rw [dif_neg (by show ¬ 128 + k.val < 128; omega), curV_apply, h4, lane_eq]
  exact congrArg (fun r => a4 (ix3 b r _)) (Fin.ext (by show j.val * 128 + k.val = j.val * 128 + (128 + k.val - 128); omega))
theorem value_far (hv : SamePrev b j vp a5) (k : Fin 128) (g : Fin 4) (e : Fin 2) (d : Fin 64) :
    prevSlice vp g (ix2 k (halfOf e d)) = b46 j (before a13 a2 a3 a4 a5 a8 a9 a10 j) (ix5 b (lo k) g e d) := by
  rw [b46_apply _ _ j.isLt, iter_6]
  refine Eq.trans ?_ (valueBand_apply a2 a3 a4 a5 a8 a9 a10 j b (lo k) g e d).symm
  rw [dif_pos k.isLt, prevSlice_apply, hv, lane_eq]
theorem value_near (h5 : ∀ l k, x5 (ix3 0 l k) = a5 (ix3 b (place j l) k)) (k : Fin 128) (g : Fin 4) (e : Fin 2) (d : Fin 64) :
    curV g x5 (ix2 k (halfOf e d)) = b46 j (before a13 a2 a3 a4 a5 a8 a9 a10 j) (ix5 b (hi k) g e d) := by
  rw [b46_apply _ _ j.isLt, iter_6]
  refine Eq.trans ?_ (valueBand_apply a2 a3 a4 a5 a8 a9 a10 j b (hi k) g e d).symm
  rw [dif_neg (by show ¬ 128 + k.val < 128; omega), curV_apply, h5, lane_eq]
  exact congrArg (fun r => a5 (ix3 b r _)) (Fin.ext (by show j.val * 128 + k.val = j.val * 128 + (128 + k.val - 128); omega))

/-! ### The scores -/

theorem slope_apply (s : State Ideal) (h : Fin 16) : b142 j s (ix1 h) = Ideal.ofBits .f32 (slopeBits h) := by
  fin_cases h <;> rfl

theorem slope_pos (h : Fin 16) : ∃ r : ℝ, 0 < r ∧ Ideal.ofBits .f32 (slopeBits h) = (r : EReal) :=
  word_pos _ ((by decide : ∀ h, ((slopeBits h).extractLsb' 31 1 == 1#1) = false) h)
    ((by decide : ∀ h, ((slopeBits h).extractLsb' 23 8).toNat ≠ 255) h) ((by decide : ∀ h, ((slopeBits h).extractLsb' 23 8).toNat ≠ 0) h)

theorem gap_toInt (s : State Ideal) (l : Fin 128) (k : Fin 256) : (b109 j s (ix2 l k)).toInt = (l.val : Int) + 128 - k.val := by
  rw [b109_apply, show BitVec.ofNat 32 l.val + 128#32 = BitVec.ofNat 32 (l.val + 128) from (BitVec.ofNat_add _ _).symm, sub_toInt (by omega) (by omega)]
  push_cast
  rfl

theorem both (p q : Bool) : IntOp.andi (BitVec.ofBool p) (BitVec.ofBool q) = BitVec.ofBool (p && q) := by
  cases p <;> cases q <;> rfl
theorem either (p q : Bool) : IntOp.ori (BitVec.ofBool p) (BitVec.ofBool q) = BitVec.ofBool (p || q) := by
  cases p <;> cases q <;> rfl

/-- Which keys of the band a row sees. -/
theorem seen (s : State Ideal) (l : Fin 128) (k : Fin 256) (x y : EReal) :
    Scalar.select (b153 j s (ix2 l k)) x y = if k.val ≤ l.val + 128 ∧ l.val ≤ k.val ∧ (0 < j.val ∨ 128 ≤ k.val) then x else y := by
  rw [b153_apply, b49_apply _ _ j.isLt, valid_apply, WordCmp.cmpi_sgt_ofNat (b := 0) (by omega) (by omega), WordCmp.cmpi_sge_ofNat (b := 128) (by omega) (by omega),
    WordCmp.cmpi_sge_eq, WordCmp.cmpi_sle_eq, gap_toInt, either, both, both, WordCmp.select_ofBool]
  refine if_congr ?_ rfl rfl
  have h0 : (0#32 : BitVec 32).toInt = 0 := rfl
  have h1 : (128#32 : BitVec 32).toInt = 128 := rfl
  simp only [h0, h1, Bool.and_eq_true, Bool.or_eq_true, decide_eq_true_eq]
  constructor
  · rintro ⟨⟨h, h'⟩, h''⟩
    exact ⟨by omega, by omega, h''⟩
  · rintro ⟨h, h', h''⟩
    exact ⟨⟨by omega, by omega⟩, h''⟩

/-- A score of the band. -/
theorem score_apply (s : State Ideal) (g : Fin 4) (i e : Fin 2) (l : Fin 128) (k : Fin 256) :
    b168 j s (ix6 b g i e l k) = if k.val ≤ l.val + 128 ∧ l.val ≤ k.val ∧ (0 < j.val ∨ 128 ≤ k.val) then
      b155 j s (ix6 b g i e l k) - Ideal.ofBits .f32 (slopeBits (headAt g i e)) * (((l.val : ℝ) + 128 - k.val : ℝ) : EReal) else ⊥ := by
  rw [b168_apply, seen, slope_apply]
  refine if_congr Iff.rfl (congrArg (fun z : EReal => b155 j s (ix6 b g i e l k) - Ideal.ofBits .f32 (slopeBits (headAt g i e)) * z) ?_) rfl
  show (((b109 j s (ix2 l k)).toInt : ℝ) : EReal) = _
  rw [gap_toInt]
  push_cast
  rfl

theorem bias_real {h : Fin 16} {p : Prop} [Decidable p] (x : EReal) {u v : ℝ} (huv : u = -v) :
    x + Ideal.ofBits .f32 (slopeBits h) * (if p then (u : EReal) else ⊥) = if p then x - Ideal.ofBits .f32 (slopeBits h) * (v : EReal) else ⊥ := by
  obtain ⟨r, hr, e⟩ := slope_pos h
  rw [e, huv]
  split_ifs
  · rw [sub_eq_add_neg, ← EReal.coe_mul, ← EReal.coe_mul, ← EReal.coe_neg, mul_neg]
  · rw [EReal.coe_mul_bot_of_pos hr, EReal.add_bot]

theorem head_eq (g : Fin 4) (i e : Fin 2) : qHead g (fourth i e) = headAt g i e :=
  Fin.ext (by show 4 * g.val + (2 * i.val + e.val) = g.val * 4 + i.val * 2 + e.val; omega)

theorem far_same (h3 : ∀ l k, x3 (ix3 0 l k) = a3 (ix3 b (place j l) k)) (hk : SamePrev b j kp a4) (g : Fin 4) (i e : Fin 2) (l k : Fin 128) :
    farScore g (BitVec.ofNat 32 j) x3 (prevSlice kp g) (ix2 (rowIn (fourth i e) l) k)
      = b168 j (before a13 a2 a3 a4 a5 a8 a9 a10 j) (ix6 b g i e l (lo k)) := by
  unfold farScore
  rw [scoreV_apply, products_apply, bias_apply, farV_apply j.isLt, score_apply, head_eq, b155_apply,
    bias_real (v := (l.val : ℝ) + 128 - ((lo k).val : ℝ)) _ (by ring)]
  refine if_congr ⟨fun h => ⟨by show k.val ≤ _; omega, h.2, .inl h.1⟩, fun h => ⟨h.2.2.resolve_right (by show ¬ 128 ≤ k.val; omega), h.2.1⟩⟩ ?_ rfl
  refine congrArg (· - _) (Finset.sum_congr rfl fun d _ => ?_)
  rw [query_at (a13 := a13) (a2 := a2) (a4 := a4) (a5 := a5) (a8 := a8) (a9 := a9) (a10 := a10) b j h3,
    key_far (a13 := a13) (a2 := a2) (a3 := a3) (a5 := a5) (a8 := a8) (a9 := a9) (a10 := a10) b j hk, mul_comm]

theorem near_same (h3 : ∀ l k, x3 (ix3 0 l k) = a3 (ix3 b (place j l) k)) (h4 : ∀ l k, x4 (ix3 0 l k) = a4 (ix3 b (place j l) k)) (g : Fin 4) (i e : Fin 2) (l k : Fin 128) :
    nearScore g x3 x4 (ix2 (rowIn (fourth i e) l) k)
      = b168 j (before a13 a2 a3 a4 a5 a8 a9 a10 j) (ix6 b g i e l (hi k)) := by
  unfold nearScore
  have hc : ((hi k).val : ℝ) = 128 + (k.val : ℝ) := by show ((128 + k.val : ℕ) : ℝ) = _; push_cast; rfl
  rw [scoreV_apply, products_apply, bias_apply, nearV_apply, score_apply, head_eq, b155_apply,
    bias_real (v := (l.val : ℝ) + 128 - ((hi k).val : ℝ)) _ (by rw [hc]; ring)]
  refine if_congr ⟨fun h => ⟨by show 128 + k.val ≤ l.val + 128; have : k.val ≤ l.val := h; omega, by show l.val ≤ 128 + k.val; omega, .inr (by show 128 ≤ 128 + k.val; omega)⟩,
    fun h => by have : 128 + k.val ≤ l.val + 128 := h.1; show k.val ≤ l.val; omega⟩ ?_ rfl
  refine congrArg (· - _) (Finset.sum_congr rfl fun d _ => ?_)
  rw [query_at (a13 := a13) (a2 := a2) (a4 := a4) (a5 := a5) (a8 := a8) (a9 := a9) (a10 := a10) b j h3,
    key_near (a13 := a13) (a2 := a2) (a3 := a3) (a5 := a5) (a8 := a8) (a9 := a9) (a10 := a10) b j h4, mul_comm]

/-! ### The rows -/

theorem score_finite (hq : Finite a3) (hk : Finite a4) (g : Fin 4) (i e : Fin 2) (l : Fin 128) (k : Fin 256) :
    b168 j (before a13 a2 a3 a4 a5 a8 a9 a10 j) (ix6 b g i e l k) ≠ ⊤ := by
  rw [score_apply]
  split_ifs
  · obtain ⟨u, hu⟩ : ∃ r : ℝ, b155 j (before a13 a2 a3 a4 a5 a8 a9 a10 j) (ix6 b g i e l k) = (r : EReal) := by
      rw [b155_apply]
      refine sum_real _ _ (fun d => ?_) fun d => ?_
      · rw [b39_apply _ _ j.isLt, iter_5]
        obtain h := keyBand_apply a2 a3 a4 a5 a8 a9 a10 j b k g e d
        by_cases h1 : k.val < 128
        · by_cases h2 : j.val < 1
          · rw [dif_pos h1, dif_pos h2] at h; exact ⟨0, h⟩
          · rw [dif_pos h1, dif_neg h2] at h; exact (hk _).imp fun r hr => h.trans hr
        · rw [dif_neg h1] at h; exact (hk _).imp fun r hr => h.trans hr
      · rw [b32_apply _ _ j.isLt, iter_4]
        exact (hq _).imp fun r hr => (heads_apply a2 a3 a4 a5 a8 a9 a10 j b l g i e d).trans hr
    obtain ⟨r, -, hr⟩ := slope_pos (headAt g i e)
    rw [hu, hr, ← EReal.coe_mul, ← EReal.coe_sub]
    exact EReal.coe_ne_top _
  · exact bot_ne_top

/-- The attention's rows agree. -/
theorem att_same (hq : Finite a3) (hf : Finite a4) (hs : Finite a13)
    (h3 : ∀ l k, x3 (ix3 0 l k) = a3 (ix3 b (place j l) k)) (h4 : ∀ l k, x4 (ix3 0 l k) = a4 (ix3 b (place j l) k))
    (h5 : ∀ l k, x5 (ix3 0 l k) = a5 (ix3 b (place j l) k)) (h13 : ∀ k, x13 (ix1 k) = a13 (ix1 k))
    (hk : SamePrev b j kp a4) (hv : SamePrev b j vp a5) (g : Fin 4) (i e : Fin 2) (l : Fin 128) (d : Fin 64) :
    attV g (BitVec.ofNat 32 j) x3 x4 x5 x13 (prevSlice kp g) (prevSlice vp g) (ix2 (rowIn (fourth i e) l) (halfOf e d))
      = b189 j (before a13 a2 a3 a4 a5 a8 a9 a10 j) (ix6 b g e d i l) := by
  obtain ⟨sink, hsink⟩ := hs (ix1 (headAt g i e))
  have far := far_same (a13 := a13) (a2 := a2) (a5 := a5) (a8 := a8) (a9 := a9) (a10 := a10) b j h3 hk g i e l
  have near := near_same (a13 := a13) (a2 := a2) (a5 := a5) (a8 := a8) (a9 := a9) (a10 := a10) b j h3 h4 g i e l
  have hsk : sinkV g x13 (ix2 (rowIn (fourth i e) l) 0) = (sink : EReal) := by rw [sinkV_apply, h13, head_eq, hsink]
  have hm : b175 j (before a13 a2 a3 a4 a5 a8 a9 a10 j) (ix6 b g i e l 0)
      = max ((Finset.univ : Finset (Fin 256)).fold max ⊥ fun k => b168 j (before a13 a2 a3 a4 a5 a8 a9 a10 j) (ix6 b g i e l k)) (sink : EReal) := by
    rw [b175_apply, iter_10]
    exact congrArg (max _) hsink
  have top : topV (farScore g (BitVec.ofNat 32 j) x3 (prevSlice kp g)) (nearScore g x3 x4) (sinkV g x13) (ix2 (rowIn (fourth i e) l) 0)
      = b175 j (before a13 a2 a3 a4 a5 a8 a9 a10 j) (ix6 b g i e l 0) := by
    rw [topV_apply, hm, hsk, max_band]
    simp only [far, near]
  unfold attV
  rw [mixV_apply, denomV_apply, b189_apply, b186_apply]
  simp only [weightV_apply, b178_apply, far, near, top, hsk, value_far (a13 := a13) (a2 := a2) (a3 := a3) (a4 := a4) (a8 := a8) (a9 := a9) (a10 := a10) b j hv,
    value_near (a13 := a13) (a2 := a2) (a3 := a3) (a4 := a4) (a8 := a8) (a9 := a9) (a10 := a10) b j h5]
  have hsink' : (before a13 a2 a3 a4 a5 a8 a9 a10 j).main_v67_10 (ix1 (headAt g i e)) = (sink : EReal) := by
    rw [iter_10]; exact hsink
  rw [hsink']
  exact attend (fun k => b168 j (before a13 a2 a3 a4 a5 a8 a9 a10 j) (ix6 b g i e l k)) (fun k => b46 j (before a13 a2 a3 a4 a5 a8 a9 a10 j) (ix5 b k g e d)) sink
    (fun k => score_finite (a13 := a13) (a2 := a2) (a5 := a5) (a8 := a8) (a9 := a9) (a10 := a10) b j hq hf g i e l k) _ hm

end Cert.Same

end
-- ==== Proof.KernelOut.lean ====
module

public import proofs.«01_k».proof.Proof.KernelAtt
public import proofs.«01_k».proof.Proof.Blocks

@[expose] public section

/-! The kernel's gating, normalisation and projections, one element at a time, over the extended reals. -/

noncomputable section

open Idealize.ShloMosaic Idealize.ShloMosaic.TcCoe Idealize.SL.Sem Cert.Picks

namespace Cert.MixerIdeal.Body
open Cert.MixerIdeal Cert.MixerIdeal.Gen

/-- Lane `k` of a group of 512. -/
abbrev wide (g : Fin 4) (k : Fin 512) : Fin 2048 := ⟨512 * g + k, by omega⟩

theorem groupRow_apply (g : Fin 4) (x : Vec Ideal S1x2048 .f32) (k : Fin 512) :
    View.ld x (Rect.unit ![0, 512 * (g : Nat)] S1x512.size (rowGroupIn g)) (ix2 0 k) = x (ix2 0 (wide g k)) := by
  refine congrArg x (funext fun a => Fin.ext ?_)
  fin_cases a
  · rfl
  · show 512 * g.val + 1 * k.val = 512 * g.val + k.val; omega
theorem groupAct_apply (g : Fin 4) (x : Vec Ideal S1x128x3072 .bf16) (l : Fin 128) (k : Fin 512) :
    View.ld x (Rect.unit ![0, 0, 512 * (g : Nat)] S1x128x512.size (actGroupIn g)) (ix3 0 l k) = x (ix3 0 l ⟨512 * g + k, by omega⟩) := by
  refine congrArg x (funext fun a => Fin.ext ?_)
  fin_cases a
  · rfl
  · show 0 + 1 * l.val = l.val; omega
  · show 512 * g.val + 1 * k.val = 512 * g.val + k.val; omega
theorem groupGate_apply (g : Fin 4) (x : Vec Ideal S1x128x2048 .bf16) (l : Fin 128) (k : Fin 512) :
    View.ld x (Rect.unit ![0, 0, 512 * (g : Nat)] S1x128x512.size (gateGroupIn g)) (ix3 0 l k) = x (ix3 0 l (wide g k)) := by
  refine congrArg x (funext fun a => Fin.ext ?_)
  fin_cases a
  · rfl
  · show 0 + 1 * l.val = l.val; omega
  · show 512 * g.val + 1 * k.val = 512 * g.val + k.val; omega

theorem gate_read (y : FVec Ideal S128x512 .f32) (r : Vec Ideal S1x512 .f32) (a z : Vec Ideal S1x128x512 .bf16) (l : Fin 128) (k : Fin 512) :
    mulf (addf y (mulf (broadcastTo S128x512 r broadcasts_S1x512_S128x512) (extf .f32 (shapeCast S128x512 a shapeCasts_S1x128x512_S128x512) bitsLt_bf16_f32)))
        (extf .f32 (shapeCast S128x512 z shapeCasts_S1x128x512_S128x512) bitsLt_bf16_f32) (ix2 l k)
      = (y (ix2 l k) + r (ix2 0 k) * a (ix3 0 l k)) * z (ix3 0 l k) := by
  pointwise []
theorem gatedV_apply (g : Fin 4) (y : FVec Ideal S128x512 .f32) (x0 : Vec Ideal S1x128x3072 .bf16) (x1 : Vec Ideal S1x128x2048 .bf16) (x11 : Vec Ideal S1x2048 .f32) (l : Fin 128) (k : Fin 512) :
    gatedV g y x0 x1 x11 (ix2 l k) = (y (ix2 l k) + x11 (ix2 0 (wide g k)) * x0 (ix3 0 l ⟨512 * g + k, by omega⟩)) * x1 (ix3 0 l (wide g k)) := by
  unfold gatedV
  refine (gate_read ..).trans ?_
  rw [groupRow_apply, groupAct_apply, groupGate_apply]

theorem norm_read (u : FVec Ideal S128x512 .f32) (r : Vec Ideal S1x512 .f32) (l : Fin 128) (k : Fin 512) :
    mulf
      (mulf u (broadcastTo S128x512
        (rsqrt (addf
          (divf (shapeCast S128x1 (multiReduction .add [1] S128 (mulf u u) 0x00000000#32 reduces_S128x512_S128 (.inl rfl) rfl) shapeCasts_S128_S128x1)
            (broadcast S128x1 (Scalar.ofBits .f32 0x44000000#32)))
          (broadcast S128x1 (Scalar.ofBits .f32 0x358637BD#32)))) broadcasts_S128x1_S128x512))
      (broadcastTo S128x512 r broadcasts_S1x512_S128x512) (ix2 l k)
      = u (ix2 l k) * Ideal.rsqrt (Ideal.div (∑ v : Fin 512, u (ix2 l v) * u (ix2 l v)) (Ideal.ofBits .f32 0x44000000#32) + Ideal.ofBits .f32 0x358637BD#32) * r (ix2 0 k) := by
  pointwise []
theorem normedV_apply (g : Fin 4) (u : FVec Ideal S128x512 .f32) (x12 : Vec Ideal S1x2048 .f32) (l : Fin 128) (k : Fin 512) :
    normedV g u x12 (ix2 l k)
      = u (ix2 l k) * Ideal.rsqrt (Ideal.div (∑ v : Fin 512, u (ix2 l v) * u (ix2 l v)) (Ideal.ofBits .f32 0x44000000#32) + Ideal.ofBits .f32 0x358637BD#32) * x12 (ix2 0 (wide g k)) := by
  unfold normedV
  refine (norm_read ..).trans ?_
  rw [groupRow_apply]

theorem rowsOf_apply (p : Fin 4 → FVec Ideal S128x128 .f32) (l : Fin 128) (i : Fin 4) (e : Fin 2) (q : Fin 64) :
    rowsOf p (ix2 l (laneOf i (halfOf e q))) = p i (ix2 l (halfOf e q)) := by
  have h1 : (⟨(laneOf i (halfOf e q)).val / 128, by omega⟩ : Fin 4) = i := Fin.ext (by show (128 * i.val + (64 * e.val + q.val)) / 128 = i.val; omega)
  have h2 : (⟨(laneOf i (halfOf e q)).val % 128, by omega⟩ : Fin 128) = halfOf e q := Fin.ext (by show (128 * i.val + (64 * e.val + q.val)) % 128 = 64 * e.val + q.val; omega)
  show p ⟨(laneOf i (halfOf e q)).val / 128, _⟩ (ix2 l ⟨(laneOf i (halfOf e q)).val % 128, _⟩) = _
  rw [h1, h2]
theorem allRows_apply (w : Fin 4 → FVec Ideal S128x512 .f32) (l : Fin 128) (g : Fin 4) (k : Fin 512) : allRows w (ix2 l (wide g k)) = w g (ix2 l k) := by
  have h1 : (⟨(wide g k).val / 512, by omega⟩ : Fin 4) = g := Fin.ext (by show (512 * g.val + k.val) / 512 = g.val; omega)
  have h2 : (⟨(wide g k).val % 512, by omega⟩ : Fin 512) = k := Fin.ext (by show (512 * g.val + k.val) % 512 = k.val; omega)
  show w ⟨(wide g k).val / 512, _⟩ (ix2 l ⟨(wide g k).val % 512, _⟩) = _
  rw [h1, h2]
/-- Lane of query head `e` of pair `i` of a group. -/
abbrev lane16 (g : Fin 4) (i e : Fin 2) (d : Fin 64) : Fin 1024 := ⟨g * 256 + i * 128 + e * 64 + d, by omega⟩
theorem attRows_apply (q : Fin 4 → Fin 2 → FVec Ideal S128x128 .f32) (l : Fin 128) (g : Fin 4) (i e : Fin 2) (d : Fin 64) :
    attRows q (ix2 l (lane16 g i e d)) = q g i (ix2 l (halfOf e d)) := by
  have h1 : (⟨(lane16 g i e d).val / 256, by omega⟩ : Fin 4) = g := Fin.ext (by show (g.val * 256 + i.val * 128 + e.val * 64 + d.val) / 256 = g.val; omega)
  have h2 : (⟨(lane16 g i e d).val % 256 / 128, by omega⟩ : Fin 2) = i := Fin.ext (by show (g.val * 256 + i.val * 128 + e.val * 64 + d.val) % 256 / 128 = i.val; omega)
  have h3 : (⟨(lane16 g i e d).val % 128, by omega⟩ : Fin 128) = halfOf e d := Fin.ext (by show (g.val * 256 + i.val * 128 + e.val * 64 + d.val) % 128 = 64 * e.val + d.val; omega)
  show q ⟨(lane16 g i e d).val / 256, _⟩ ⟨(lane16 g i e d).val % 256 / 128, _⟩ (ix2 l ⟨(lane16 g i e d).val % 128, _⟩) = _
  rw [h1, h2, h3]

theorem hiddenV_apply (y : FVec Ideal S128x2048 .f32) (o : FVec Ideal S128x1024 .f32) (x6 x7 : Vec Ideal S1x128x1024 .bf16) (x8 : Vec Ideal S1x128x1024 .f32)
    (x14 : Vec Ideal S2048x1024 .bf16) (x15 : Vec Ideal S1024x1024 .bf16) (l : Fin 128) (k : Fin 1024) :
    hiddenV y o x6 x7 x8 x14 x15 (ix2 l k)
      = x8 (ix3 0 l k) + ∑ w : Fin 1024, (x6 (ix3 0 l w) * (∑ v : Fin 2048, y (ix2 l v) * x14 (ix2 v w)) + x7 (ix3 0 l w) * o (ix2 l w)) * x15 (ix2 w k) := by
  pointwise [hiddenV]

end Cert.MixerIdeal.Body

end
-- ==== Proof.RefOut.lean ====
module

public import proofs.«01_k».proof.Proof.RefAtt
public import proofs.«01_k».proof.Proof.RefEntry

@[expose] public section

/-! What the reference's loop has gathered after its trips, and what the operations after it make of that. -/

noncomputable section

open Idealize.ShloMosaic Idealize.ShloMosaic.TcCoe Idealize.SL.Sem Cert.Picks

namespace Cert.RefIdeal.Read
open Cert.RefIdeal Cert.RefIdeal.Gen Cert.RefIdeal.Step

/-! ### Updating a slice -/

theorem update_in {s u : Shape} {α : Type} (x : s.Idx → α) (upd : u.Idx → α) (start : Fin s.rank → Int) (h : s.Slices (fun _ => 0) u) (y : s.Idx) (k : u.Idx)
    (hs : ∀ a, ∃ n : ℕ, start a = n ∧ n + u.size (a.cast h.1.symm) ≤ s.size a ∧ (y a).val = n + (k (a.cast h.1.symm)).val) :
    Host.dynamicUpdateSlice x upd start h y = upd k := by
  choose n h1 h2 h3 using hs
  have hc : ∀ a, Host.clampedStart s u h.1 start a = n a := fun a => Host.clampedStart_of_le h.1 start a (n a) (h1 a) (h2 a)
  rw [Host.dynamicUpdateSlice_apply, dif_pos fun a => by
    have := (k (a.cast h.1.symm)).isLt
    rw [hc, h3]
    omega]
  refine congrArg upd (funext fun a => Fin.ext ?_)
  show (y (a.cast h.1)).val - Host.clampedStart s u h.1 start (a.cast h.1) = (k a).val
  rw [hc, h3]
  exact Nat.add_sub_cancel_left ..

theorem update_out {s u : Shape} {α : Type} (x : s.Idx → α) (upd : u.Idx → α) (start : Fin s.rank → Int) (h : s.Slices (fun _ => 0) u) (y : s.Idx) (a : Fin s.rank) (n : ℕ)
    (h1 : start a = n) (h2 : n + u.size (a.cast h.1.symm) ≤ s.size a) (h3 : (y a).val < n ∨ n + u.size (a.cast h.1.symm) ≤ (y a).val) :
    Host.dynamicUpdateSlice x upd start h y = x y := by
  have hc : Host.clampedStart s u h.1 start a = n := Host.clampedStart_of_le h.1 start a n h1 h2
  rw [Host.dynamicUpdateSlice_apply, dif_neg fun hin => by
    have := hin a
    rw [hc] at this
    omega]

/-! ### The rows gathered -/

theorem gather_13 (s0 : State Ideal) : ∀ n ≤ 64, ∀ (i : Fin 64), i.val < n → ∀ (b : Fin 4) (l : Fin 128) (g : Fin 4) (r : Fin 8) (p : Fin 64),
    (iter s0 n).main_v67_13 (ix6 i b l g r p) = b83 i (iter s0 i) (ix5 b l g r p)
  | 0, _, i, hi, _, _, _, _, _ => absurd hi (Nat.not_lt_zero _)
  | n + 1, hn, i, hi, b, l, g, r, p => by
    refine (congrFun (step_main_v67_13 n (iter s0 n)) _).trans ?_
    unfold b196
    by_cases h : i.val = n
    · refine (update_in _ _ _ _ _ (ix6 0 b l g r p) fun a => ?_).trans ?_
      · fin_cases a
        · exact ⟨n, start_toInt (by omega), by show n + 1 ≤ 64; omega, h⟩
        all_goals exact ⟨0, rfl, by decide, (Nat.zero_add _).symm⟩
      · rw [h]
        pointwise [b190]
    · refine (update_out _ _ _ _ _ 0 n (start_toInt (by omega)) (by show n + 1 ≤ 64; omega) (.inl (by show i.val < n; omega))).trans ?_
      exact gather_13 s0 n (by omega) i (by omega) b l g r p

theorem gather_14 (s0 : State Ideal) : ∀ n ≤ 64, ∀ (i : Fin 64), i.val < n → ∀ (b g : Fin 4) (e : Fin 2) (d : Fin 64) (j : Fin 2) (l : Fin 128),
    (iter s0 n).main_v67_14 (ix7 i b g e d j l) = b189 i (iter s0 i) (ix6 b g e d j l)
  | 0, _, i, hi, _, _, _, _, _, _ => absurd hi (Nat.not_lt_zero _)
  | n + 1, hn, i, hi, b, g, e, d, j, l => by
    refine (congrFun (step_main_v67_14 n (iter s0 n)) _).trans ?_
    unfold b204
    by_cases h : i.val = n
    · refine (update_in _ _ _ _ _ (ix7 0 b g e d j l) fun a => ?_).trans ?_
      · fin_cases a
        · exact ⟨n, start_toInt (by omega), by show n + 1 ≤ 64; omega, h⟩
        all_goals exact ⟨0, rfl, by decide, (Nat.zero_add _).symm⟩
      · rw [h]
        unfold b197
        generalize b189 n (iter s0 n) = x
        pointwise []
    · refine (update_out _ _ _ _ _ 0 n (start_toInt (by omega)) (by show n + 1 ≤ 64; omega) (.inl (by show i.val < n; omega))).trans ?_
      exact gather_14 s0 n (by omega) i (by omega) b g e d j l

/-! ### After the loop -/

/-- The gated rows. -/
def gatedR (y : FVec Ideal S64x4x128x4x8x64 .f32) (a1 : FVec Ideal S4x8192x2048 .bf16) (a2 : FVec Ideal S4x8192x3072 .bf16) (a11 : FVec Ideal S1x2048 .f32) : FVec Ideal S4x8192x2048 .f32 :=
  mulf
    (addf (shapeCast _ (transpose S4x64x128x4x8x64 [1, 0, 2, 3, 4, 5] y transposes_S64x4x128x4x8x64_S4x64x128x4x8x64_1_0_2_3_4_5) shapeCasts_S4x64x128x4x8x64_S4x8192x2048)
      (mulf (broadcastInDim S4x8192x2048 ![0, 1, 2] bcast_S1x1x2048_S4x8192x2048_0_1_2 (broadcastInDim S1x1x2048 ![2] bcast_S2048_S1x1x2048_2 (shapeCast _ a11 shapeCasts_S1x2048_S2048)))
        (extf .f32 (extractStridedSlice S4x8192x2048 ![0, 0, 0] a2 slices_S4x8192x3072_S4x8192x2048_0_0_0) bitsLt_bf16_f32)))
    (extf .f32 a1 bitsLt_bf16_f32)

/-- The gated rows over their root mean square by group, times the gain. -/
def normedR (u : FVec Ideal S4x8192x2048 .f32) (a12 : FVec Ideal S1x2048 .f32) : FVec Ideal S4x8192x2048 .f32 :=
  shapeCast _
    (mulf
      (mulf (shapeCast _ u shapeCasts_S4x8192x2048_S4x8192x4x512)
        (broadcastInDim S4x8192x4x512 ![0, 1, 2, 3] bcast_S4x8192x4x1_S4x8192x4x512_0_1_2_3
          (Host.rsqrt (addf
            (Host.divf (broadcastInDim S4x8192x4x1 ![0, 1, 2] bcast_S4x8192x4_S4x8192x4x1_0_1_2
                (Host.reduceAdd (mulf (shapeCast _ u shapeCasts_S4x8192x2048_S4x8192x4x512) (shapeCast _ u shapeCasts_S4x8192x2048_S4x8192x4x512))
                  (constant S_ .f32 0x00000000#32) reducesTo_S4x8192x4x512_S4x8192x4_d3 h_S_))
              (broadcastInDim S4x8192x4x1 ![] bcast_S_S4x8192x4x1 (constant S_ .f32 0x44000000#32)))
            (broadcastInDim S4x8192x4x1 ![] bcast_S_S4x8192x4x1 (constant S_ .f32 0x358637BD#32))))))
      (broadcastInDim S4x8192x4x512 ![0, 1, 2, 3] bcast_S1x1x4x512_S4x8192x4x512_0_1_2_3
        (broadcastInDim S1x1x4x512 ![2, 3] bcast_S4x512_S1x1x4x512_2_3 (shapeCast _ a12 shapeCasts_S1x2048_S4x512))))
    shapeCasts_S4x8192x4x512_S4x8192x2048

/-- The attention's rows. -/
def attR (o : FVec Ideal S64x4x4x2x64x2x128 .f32) : FVec Ideal S4x8192x1024 .f32 :=
  shapeCast _ (transpose S4x64x128x4x2x2x64 [1, 0, 6, 2, 5, 3, 4] o transposes_S64x4x4x2x64x2x128_S4x64x128x4x2x2x64_1_0_6_2_5_3_4) shapeCasts_S4x64x128x4x2x2x64_S4x8192x1024

/-- The hidden state. -/
def hiddenR (y : FVec Ideal S4x8192x2048 .f32) (o : FVec Ideal S4x8192x1024 .f32) (a0 : FVec Ideal S4x8192x1024 .f32) (a6 a7 : FVec Ideal S4x8192x1024 .bf16)
    (a14 : FVec Ideal S2048x1024 .bf16) (a15 : FVec Ideal S1024x1024 .bf16) : FVec Ideal S4x8192x1024 .f32 :=
  addf a0 (Host.dotGeneral dot_S4x8192x1024_S1024x1024_S4x8192x1024_2_0_01_1_n_n none
    (addf (mulf (extf .f32 a6 bitsLt_bf16_f32) (Host.dotGeneral dot_S4x8192x2048_S2048x1024_S4x8192x1024_2_0_01_1_n_n none y (extf .f32 a14 bitsLt_bf16_f32)))
      (mulf (extf .f32 a7 bitsLt_bf16_f32) o)) (extf .f32 a15 bitsLt_bf16_f32))

theorem result_parts (s : State Ideal) (a0 : FVec Ideal S4x8192x1024 .f32) (a1 : FVec Ideal S4x8192x2048 .bf16) (a2 : FVec Ideal S4x8192x3072 .bf16) (a6 a7 : FVec Ideal S4x8192x1024 .bf16)
    (a11 a12 : FVec Ideal S1x2048 .f32) (a14 : FVec Ideal S2048x1024 .bf16) (a15 : FVec Ideal S1024x1024 .bf16) :
    R_main_v106 s a0 a1 a2 a6 a7 a11 a12 a14 a15 = hiddenR (normedR (gatedR s.main_v67_13 a1 a2 a11) a12) (attR s.main_v67_14) a0 a6 a7 a14 a15 := rfl

theorem row_chunk (n : Fin 64) (l : Fin 128) : (⟨(n.val * 128 + l.val) / 128, by omega⟩ : Fin 64) = n := Fin.ext (by show (n.val * 128 + l.val) / 128 = n.val; omega)
theorem row_in (n : Fin 64) (l : Fin 128) : (⟨(n.val * 128 + l.val) % 128, by omega⟩ : Fin 128) = l := Fin.ext (by show (n.val * 128 + l.val) % 128 = l.val; omega)

theorem gatedR_apply (y : FVec Ideal S64x4x128x4x8x64 .f32) (a1 : FVec Ideal S4x8192x2048 .bf16) (a2 : FVec Ideal S4x8192x3072 .bf16) (a11 : FVec Ideal S1x2048 .f32)
    (b : Fin 4) (n : Fin 64) (l : Fin 128) (g : Fin 4) (r : Fin 8) (p : Fin 64) :
    gatedR y a1 a2 a11 (ix3 b (place n l) ⟨g * 512 + r * 64 + p, by omega⟩)
      = (y (ix6 n b l g r p) + a11 (ix2 0 ⟨g * 512 + r * 64 + p, by omega⟩) * a2 (ix3 b (place n l) ⟨g * 512 + r * 64 + p, by omega⟩)) * a1 (ix3 b (place n l) ⟨g * 512 + r * 64 + p, by omega⟩) := by
  pointwise [gatedR]
  rw [row_chunk n l, row_in n l]

theorem drop_group (b : Fin 4) (i : Fin 8192) (g : Fin 4) (y : S4x8192x4x512.Idx) :
    reducesTo_S4x8192x4x512_S4x8192x4_d3.drop y = ix3 b i g ↔ ∃ k : Fin 512, ix4 b i g k = y := by
  constructor
  · intro h
    refine ⟨y 3, ?_⟩
    funext a; apply Fin.ext
    match a with
    | ⟨0, _⟩ => exact (congrArg Fin.val (congrFun h (0 : Fin 3))).symm
    | ⟨1, _⟩ => exact (congrArg Fin.val (congrFun h (1 : Fin 3))).symm
    | ⟨2, _⟩ => exact (congrArg Fin.val (congrFun h (2 : Fin 3))).symm
    | ⟨3, _⟩ => rfl
  · rintro ⟨k, rfl⟩
    funext a; apply Fin.ext
    match a with
    | ⟨0, _⟩ => rfl
    | ⟨1, _⟩ => rfl
    | ⟨2, _⟩ => rfl

theorem sum_group (x : S4x8192x4x512.Idx → EReal) (z : EReal) (b : Fin 4) (i : Fin 8192) (g : Fin 4) :
    Ideal.hostReduceAdd reducesTo_S4x8192x4x512_S4x8192x4_d3 x z (ix3 b i g) = z + ∑ k : Fin 512, x (ix4 b i g k) :=
  congrArg (z + ·) (Finset.sum_filter_eq_sum_of_fiber _ (fun k : Fin 512 => ix4 b i g k) (fun _ _ h => congrFun h 3) (drop_group b i g) x)

theorem normedR_apply (u : FVec Ideal S4x8192x2048 .f32) (a12 : FVec Ideal S1x2048 .f32) (b : Fin 4) (i : Fin 8192) (g : Fin 4) (k : Fin 512) :
    normedR u a12 (ix3 b i ⟨g * 512 + k, by omega⟩)
      = u (ix3 b i ⟨g * 512 + k, by omega⟩) * Ideal.rsqrt (Ideal.div (∑ k : Fin 512, u (ix3 b i ⟨g * 512 + k, by omega⟩) * u (ix3 b i ⟨g * 512 + k, by omega⟩)) (Ideal.ofBits .f32 0x44000000#32) + Ideal.ofBits .f32 0x358637BD#32)
        * a12 (ix2 0 ⟨g * 512 + k, by omega⟩) := by
  pointwise [normedR]

theorem attR_apply (o : FVec Ideal S64x4x4x2x64x2x128 .f32) (b : Fin 4) (n : Fin 64) (l : Fin 128) (g : Fin 4) (i e : Fin 2) (d : Fin 64) :
    attR o (ix3 b (place n l) ⟨g * 256 + i * 128 + e * 64 + d, by omega⟩) = o (ix7 n b g e d i l) := by
  pointwise [attR]
  rw [row_chunk n l, row_in n l]

theorem hiddenR_apply (y : FVec Ideal S4x8192x2048 .f32) (o : FVec Ideal S4x8192x1024 .f32) (a0 : FVec Ideal S4x8192x1024 .f32) (a6 a7 : FVec Ideal S4x8192x1024 .bf16)
    (a14 : FVec Ideal S2048x1024 .bf16) (a15 : FVec Ideal S1024x1024 .bf16) (b : Fin 4) (i : Fin 8192) (k : Fin 1024) :
    hiddenR y o a0 a6 a7 a14 a15 (ix3 b i k)
      = a0 (ix3 b i k) + ∑ w : Fin 1024, (a6 (ix3 b i w) * (∑ v : Fin 2048, y (ix3 b i v) * a14 (ix2 v w)) + a7 (ix3 b i w) * o (ix3 b i w)) * a15 (ix2 w k) := by
  pointwise [hiddenR]

end Cert.RefIdeal.Read

end
-- ==== Proof.HiddenRun.lean ====
module

public import proofs.«01_k».proof.Proof.StateRun
public import proofs.«01_k».proof.Proof.AttEq
public import proofs.«01_k».proof.Proof.KernelOut
public import proofs.«01_k».proof.Proof.RefOut

@[expose] public section

/-! The hidden state is the reference's, when queries, keys and sinks are finite. -/

noncomputable section

open Idealize.ShloMosaic Idealize.ShloMosaic.TcCoe Idealize.SL.Sem Cert.Picks

namespace Cert.Same
open Cert.MixerIdeal Cert.MixerIdeal.Gen Cert.MixerIdeal.Value Cert.MixerIdeal.Body Cert.RefIdeal.Read Cert.RefIdeal.Step

variable (m : (ℓ : Loc nD τ sig) → Buf (Elt Ideal) ℓ) (c : Dev nD) (t : Fin cfg0.N)

/-- The reference's gated rows, its normed rows and its attention, from the kernel's arguments. -/
abbrev gatedAll : FVec Ideal Cert.RefIdeal.S4x8192x2048 .f32 :=
  gatedR (ref m c 64).main_v67_13 (m ((c.tc : Thread nD τ).loc main_arg1)) (m ((c.tc : Thread nD τ).loc main_arg2)) (m ((c.tc : Thread nD τ).loc main_arg11))
abbrev normedAll : FVec Ideal Cert.RefIdeal.S4x8192x2048 .f32 := normedR (gatedAll m c) (m ((c.tc : Thread nD τ).loc main_arg12))
abbrev attAll : FVec Ideal Cert.RefIdeal.S4x8192x1024 .f32 := attR (ref m c 64).main_v67_14

/-- The kernel's rows of a group before the gating. -/
abbrev plainRows (st : Vec Ideal S4x128x512 .f32) (g : Fin 4) : FVec Ideal S128x512 .f32 :=
  rowsOf fun i => yPair g i (iblk m c 0 t) (stepV (iblk m c 2 t) (iblk m c 9 t)) (acumV (stepV (iblk m c 2 t) (iblk m c 9 t)) (iblk m c 10 t)) (stateSlice st g)

theorem gated_same (st : Vec Ideal S4x128x512 .f32) (hst : SameState (rowOf t) st (ref m c (chunkOf t))) (g : Fin 4) (l : Fin 128) (k : Fin 512) :
    gatedV g (plainRows m c t st g) (iblk m c 0 t) (iblk m c 1 t) (iblk m c 11 t) (ix2 l k)
      = gatedAll m c (ix3 (rowOf t) (place (chunkOf t) l) (wide g k)) := by
  obtain ⟨i, e, q, rfl⟩ : ∃ i e q, k = laneOf i (halfOf e q) :=
    ⟨⟨k / 128, by omega⟩, ⟨k % 128 / 64, by omega⟩, ⟨k % 64, by omega⟩, Fin.ext (by show k.val = 128 * (k.val / 128) + (64 * (k.val % 128 / 64) + k.val % 64); omega)⟩
  have hw : wide g (laneOf i (halfOf e q)) = ⟨g * 512 + headIn i e * 64 + q, by omega⟩ :=
    Fin.ext (by show 512 * g.val + (128 * i.val + (64 * e.val + q.val)) = g.val * 512 + (2 * i.val + e.val) * 64 + q.val; omega)
  have hw' : (⟨512 * g + laneOf i (halfOf e q), by omega⟩ : Fin 3072) = ⟨g * 512 + headIn i e * 64 + q, by omega⟩ := Fin.ext (congrArg (Fin.val (n := 2048)) hw)
  have hrow := rows_same (rowOf t) (chunkOf t) (fun l k => block_0 m c t 0 l k) (fun l k => block_2 m c t 0 l k) (fun k => block_9 m c t 0 k) (fun k => block_10 m c t 0 k) st hst l g i e q
  unfold plainRows
  rw [gatedV_apply, rowsOf_apply, hrow, block_11, block_0, block_1, hw, hw']
  refine Eq.trans ?_ (gatedR_apply _ _ _ _ (rowOf t) (chunkOf t) l g (headIn i e) q).symm
  rw [gather_13 _ 64 le_rfl (chunkOf t) (chunkOf t).isLt]
  rfl

theorem normed_same (st : Vec Ideal S4x128x512 .f32) (hst : SameState (rowOf t) st (ref m c (chunkOf t))) (l : Fin 128) (k : Fin 2048) :
    mixRows (iblk m c 0 t) (iblk m c 1 t) (iblk m c 11 t) (iblk m c 12 t) (stepV (iblk m c 2 t) (iblk m c 9 t)) (acumV (stepV (iblk m c 2 t) (iblk m c 9 t)) (iblk m c 10 t)) (stateSlice st) (ix2 l k)
      = normedAll m c (ix3 (rowOf t) (place (chunkOf t) l) k) := by
  obtain ⟨g, k, rfl⟩ : ∃ g k', k = wide g k' :=
    ⟨⟨k / 512, by omega⟩, ⟨k % 512, by omega⟩, Fin.ext (by show k.val = 512 * (k.val / 512) + k.val % 512; omega)⟩
  have hw : ∀ k : Fin 512, wide g k = ⟨g * 512 + k, by omega⟩ := fun k => Fin.ext (by show 512 * g.val + k.val = g.val * 512 + k.val; omega)
  unfold mixRows
  rw [allRows_apply, normedV_apply]
  simp only [gated_same m c t st hst]
  rw [block_12]
  simp only [hw]
  exact (normedR_apply _ _ (rowOf t) (place (chunkOf t) l) g k).symm

theorem attended_same (hq : Finite (m ((c.tc : Thread nD τ).loc main_arg3))) (hf : Finite (m ((c.tc : Thread nD τ).loc main_arg4))) (hs : Finite (m ((c.tc : Thread nD τ).loc main_arg13)))
    (kp vp : Vec Ideal S128x512 .bf16) (hk : SamePrev (rowOf t) (chunkOf t) kp (m ((c.tc : Thread nD τ).loc main_arg4)))
    (hv : SamePrev (rowOf t) (chunkOf t) vp (m ((c.tc : Thread nD τ).loc main_arg5))) (l : Fin 128) (k : Fin 1024) :
    mixAtt (BitVec.ofNat 32 (chunkOf t).val) (iblk m c 3 t) (iblk m c 4 t) (iblk m c 5 t) (iblk m c 13 t) (prevSlice kp) (prevSlice vp) (ix2 l k)
      = attAll m c (ix3 (rowOf t) (place (chunkOf t) l) k) := by
  obtain ⟨g, i, e, d, rfl⟩ : ∃ g i e d, k = lane16 g i e d :=
    ⟨⟨k / 256, by omega⟩, ⟨k % 256 / 128, by omega⟩, ⟨k % 128 / 64, by omega⟩, ⟨k % 64, by omega⟩,
      Fin.ext (by show k.val = k.val / 256 * 256 + k.val % 256 / 128 * 128 + k.val % 128 / 64 * 64 + k.val % 64; omega)⟩
  have h := att_same (a2 := m ((c.tc : Thread nD τ).loc main_arg2)) (a8 := m ((c.tc : Thread nD τ).loc main_arg8)) (a9 := m ((c.tc : Thread nD τ).loc main_arg9)) (a10 := m ((c.tc : Thread nD τ).loc main_arg10))
    (rowOf t) (chunkOf t) hq hf hs (fun l k => block_3 m c t 0 l k) (fun l k => block_4 m c t 0 l k) (fun l k => block_5 m c t 0 l k) (fun k => block_13 m c t k) hk hv g i e l d
  unfold mixAtt
  rw [attRows_apply, attPair_apply, h]
  refine Eq.trans ?_ (attR_apply _ (rowOf t) (chunkOf t) l g i e d).symm
  exact (gather_14 _ 64 le_rfl (chunkOf t) (chunkOf t).isLt (rowOf t) g e d i l).symm

theorem hiddenOf_apply (y : FVec Ideal S128x1024 .f32) (l : Fin 128) (k : Fin 1024) :
    shapeCast S1x128x1024 y shapeCasts_S128x1024_S1x128x1024 (ix3 0 l k) = y (ix2 l k) := by
  pointwise []

/-- The reference's hidden state. -/
abbrev hiddenAll : FVec Ideal Cert.RefIdeal.S4x8192x1024 .f32 :=
  R_main_v106 (ref m c 64) (m ((c.tc : Thread nD τ).loc main_arg0)) (m ((c.tc : Thread nD τ).loc main_arg1)) (m ((c.tc : Thread nD τ).loc main_arg2)) (m ((c.tc : Thread nD τ).loc main_arg6))
    (m ((c.tc : Thread nD τ).loc main_arg7)) (m ((c.tc : Thread nD τ).loc main_arg11)) (m ((c.tc : Thread nD τ).loc main_arg12)) (m ((c.tc : Thread nD τ).loc main_arg14)) (m ((c.tc : Thread nD τ).loc main_arg15))

/-- The hidden state of a chunk, from what the chunk before left. -/
theorem hidden_point (hq : Finite (m ((c.tc : Thread nD τ).loc main_arg3))) (hf : Finite (m ((c.tc : Thread nD τ).loc main_arg4))) (hs : Finite (m ((c.tc : Thread nD τ).loc main_arg13)))
    (kp vp : Vec Ideal S128x512 .bf16) (st : Vec Ideal S4x128x512 .f32) (hk : SamePrev (rowOf t) (chunkOf t) kp (m ((c.tc : Thread nD τ).loc main_arg4)))
    (hv : SamePrev (rowOf t) (chunkOf t) vp (m ((c.tc : Thread nD τ).loc main_arg5))) (hst : SameState (rowOf t) st (ref m c (chunkOf t))) (l : Fin 128) (k : Fin 1024) :
    hiddenOf (BitVec.ofNat 32 (grid0.coords t 1 : Nat)) (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 12 t) (iblk m c 13 t) (iblk m c 14 t) (iblk m c 15 t) kp vp st (ix3 0 l k)
      = hiddenAll m c (ix3 (rowOf t) (place (chunkOf t) l) k) := by
  rw [coords_1]
  unfold hiddenOf
  rw [hiddenOf_apply, hiddenV_apply]
  have hy := normed_same m c t st hst l
  have ho := attended_same m c t hq hf hs kp vp hk hv l
  simp only [hy]
  have ho' : ∀ k, mixAtt (BitVec.ofNat 32 (t.val % 64)) (iblk m c 3 t) (iblk m c 4 t) (iblk m c 5 t) (iblk m c 13 t) (prevSlice kp) (prevSlice vp) (ix2 l k)
      = attAll m c (ix3 (rowOf t) (place (chunkOf t) l) k) := ho
  simp only [ho', block_6, block_7, block_8, block_14, block_15]
  rw [show hiddenAll m c = hiddenR (normedAll m c) (attAll m c) _ _ _ _ _ from result_parts ..]
  exact (hiddenR_apply _ _ _ _ _ _ _ (rowOf t) (place (chunkOf t) l) k).symm

theorem prev_zero (b : Fin 4) (j : Fin 64) (hj : j.val = 0) (a : FVec Ideal Cert.RefIdeal.S4x8192x512 .bf16) : SamePrev b j (zeroKeys (F := Ideal)) a := by
  intro l k
  rw [dif_pos (by omega)]
  show Ideal.ofBits .bf16 0x0000#16 = 0
  simp [Ideal.ofBits, Ideal.ieee]

theorem kept_apply (x : Vec Ideal S1x128x512 .bf16) (l : Fin 128) (k : Fin 512) : kept x (ix2 l k) = x (ix3 0 l k) := by
  pointwise [kept]

theorem prev_later (x : Vec Ideal S1x128x512 .bf16) (a : FVec Ideal Cert.RefIdeal.S4x8192x512 .bf16) (b : Fin 4) (j : Fin 64) (hj : j.val ≠ 0) (r : Fin 4) (i : Fin 64) (hr : r = b) (hi : i.val = j.val - 1)
    (h : ∀ l k, x (ix3 0 l k) = a (ix3 r (place i l) k)) : SamePrev b j (kept x) a := by
  intro l k
  rw [dif_neg (by omega), kept_apply, h, hr]
  exact congrArg (fun p => a (ix3 b p k)) (Fin.ext (by show i.val * 128 + l.val = (j.val - 1) * 128 + l.val; rw [hi]))

/-- The hidden state result. -/
theorem hidden_result (hq : Finite (m ((c.tc : Thread nD τ).loc main_arg3))) (hf : Finite (m ((c.tc : Thread nD τ).loc main_arg4))) (hs : Finite (m ((c.tc : Thread nD τ).loc main_arg13))) :
    G16 m c = hiddenAll m c := by
  funext y
  obtain ⟨b, i, k, rfl⟩ : ∃ b i k, y = ix3 b i k := ⟨y 0, y 1, y 2, funext fun a => by fin_cases a <;> rfl⟩
  obtain ⟨n, l, rfl⟩ : ∃ n l, i = place n l := ⟨⟨i / 128, by omega⟩, ⟨i % 128, by omega⟩, Fin.ext (by show i.val = i.val / 128 * 128 + i.val % 128; omega)⟩
  have hi : 64 * b.val + (place n l).val / 128 = 64 * b.val + n.val := by show 64 * b.val + (n.val * 128 + l.val) / 128 = _; omega
  have hl : (⟨(place n l).val % 128, by omega⟩ : Fin 128) = l := Fin.ext (by show (n.val * 128 + l.val) % 128 = l.val; omega)
  have hr : rowOf ⟨64 * b + n, in_grid b n.isLt⟩ = b := Fin.ext (by show (64 * b.val + n.val) / 64 = b.val; omega)
  have hc : chunkOf ⟨64 * b + n, in_grid b n.isLt⟩ = n := Fin.ext (by show (64 * b.val + n.val) % 64 = n.val; omega)
  rw [hidden_at, hl]
  simp only [hi]
  by_cases h0 : n.val = 0
  · refine (congrFun (first_hidden m c ⟨64 * b + n, in_grid b n.isLt⟩ (by show (64 * b.val + n.val) % 64 = 0; omega)) _).trans ?_
    refine (hidden_point m c _ hq hf hs zeroKeys zeroKeys zeroState (prev_zero _ _ (by rw [hc]; exact h0) _) (prev_zero _ _ (by rw [hc]; exact h0) _) ?_ l k).trans ?_
    · rw [hr, hc, h0]; exact state_zero m c _
    · rw [hr, hc]
  · refine (congrFun (later_hidden m c ⟨64 * b + n, in_grid b n.isLt⟩ (by show ¬(64 * b.val + n.val) % 64 = 0; omega)) _).trans ?_
    have hp : 64 * b.val + n.val - 1 < cfg0.N := lt_of_le_of_lt (Nat.sub_le _ _) (in_grid b n.isLt)
    have hr' : rowOf ⟨64 * b + n - 1, hp⟩ = rowOf ⟨64 * b + n, in_grid b n.isLt⟩ := Fin.ext (by show (64 * b.val + n.val - 1) / 64 = (64 * b.val + n.val) / 64; omega)
    have hc' : (chunkOf ⟨64 * b + n - 1, hp⟩).val = (chunkOf ⟨64 * b + n, in_grid b n.isLt⟩).val - 1 := by
      show (64 * b.val + n.val - 1) % 64 = (64 * b.val + n.val) % 64 - 1; omega
    have hn : (chunkOf ⟨64 * b + n, in_grid b n.isLt⟩).val ≠ 0 := by rw [hc]; exact h0
    refine (hidden_point m c ⟨64 * b + n, in_grid b n.isLt⟩ hq hf hs _ _ _ ?_ ?_ ?_ l k).trans ?_
    · rw [show (outsAt0 m c (64 * b.val + n.val - 1) hp).2.2.2.2.1 = kept (iblk m c 4 ⟨64 * b + n - 1, hp⟩) from keys_kept m c ⟨64 * b + n - 1, hp⟩]
      exact prev_later _ _ _ _ hn _ _ hr' hc' fun l k => block_4 m c ⟨64 * b + n - 1, hp⟩ 0 l k
    · rw [show (outsAt0 m c (64 * b.val + n.val - 1) hp).2.2.2.2.2.1 = kept (iblk m c 5 ⟨64 * b + n - 1, hp⟩) from values_kept m c ⟨64 * b + n - 1, hp⟩]
      exact prev_later _ _ _ _ hn _ _ hr' hc' fun l k => block_5 m c ⟨64 * b + n - 1, hp⟩ 0 l k
    · rw [hr, hc]
      have h := state_after m c b (n.val - 1) (by omega)
      have e1 : n.val - 1 + 1 = n.val := by omega
      have e2 : 64 * b.val + (n.val - 1) = 64 * b.val + n.val - 1 := by omega
      rw [e1] at h
      simp only [e2] at h
      exact h
    · rw [hr, hc]

end Cert.Same

end
-- ==== Proof.InSpec.lean ====
module

public import proofs.«01_k».proof.Proof.Softmax

@[expose] public section

/-! The layer's input projection in plain formulas over the extended reals, and the two spellings of the logistic function. -/

noncomputable section

open Idealize.ShloMosaic Idealize.ShloMosaic.TcCoe Idealize.SL.Sem

namespace Cert.InSame

/-- The logistic function by the hyperbolic tangent of half the argument. -/
def sigT (x : EReal) : EReal :=
  Ideal.ofBits .f32 0x3F000000#32 * Ideal.tanh (Ideal.ofBits .f32 0x3F000000#32 * x) + Ideal.ofBits .f32 0x3F000000#32
/-- The logistic function by the exponential. -/
def sigE (x : EReal) : EReal :=
  Ideal.div (Ideal.ofBits .f32 0x3F800000#32) (Ideal.ofBits .f32 0x3F800000#32 + Ideal.exp (-x))

theorem half_eq : Ideal.ofBits .f32 0x3F000000#32 = (((1 : ℝ) / 2 : ℝ) : EReal) := by
  simp [Ideal.ofBits, Ideal.ieee]
  norm_cast
  norm_num

theorem tanh_half (x : ℝ) : 1 / 2 * Real.tanh (1 / 2 * x) + 1 / 2 = 1 / (1 + Real.exp (-x)) := by
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  rw [Real.tanh_eq_sinh_div_cosh, Real.sinh_eq, Real.cosh_eq, h1]
  have pa := Real.exp_pos (1 / 2 * x)
  have pb := Real.exp_pos (-(1 / 2 * x))
  generalize Real.exp (1 / 2 * x) = a at *
  generalize Real.exp (-(1 / 2 * x)) = b at *
  have hs : a + b ≠ 0 := by positivity
  have ht : 1 + b * b ≠ 0 := by positivity
  field_simp
  nlinarith

theorem sig_same (x : EReal) : sigT x = sigE x := by
  unfold sigT sigE
  rw [half_eq, Ideal.ofBits_one_f32]
  induction x using EReal.rec with
  | bot =>
    rw [EReal.coe_mul_bot_of_pos (by norm_num), Ideal.tanh_bot, EReal.neg_bot, Ideal.exp_top, EReal.add_top_of_ne_bot (by decide)]
    rw [show (-1 : EReal) = ((-1 : ℝ) : EReal) from rfl, ← EReal.coe_mul, ← EReal.coe_add]
    norm_num [Ideal.div]
  | top =>
    rw [EReal.coe_mul_top_of_pos (by norm_num), Ideal.tanh_top, EReal.neg_top, Ideal.exp_bot, add_zero]
    rw [show (1 : EReal) = ((1 : ℝ) : EReal) from rfl, Ideal.div_coe one_ne_zero, ← EReal.coe_mul, ← EReal.coe_add, ← EReal.coe_mul]
    norm_num
  | coe x =>
    rw [← EReal.coe_mul, Ideal.tanh_coe, ← EReal.coe_neg, Ideal.exp_coe]
    have hp : (1 + Real.exp (-x)) ≠ 0 := by have := Real.exp_pos (-x); positivity
    rw [show (1 : EReal) = ((1 : ℝ) : EReal) from rfl, ← EReal.coe_add, Ideal.div_coe hp, ← EReal.coe_mul, ← EReal.coe_add, ← EReal.coe_mul, one_mul, tanh_half]

/-- A row normed by its root mean square, with its weights. -/
def nrm {n : ℕ} (X : FVec Ideal ⟨2, ![n, 1024]⟩ .f32) (g : FVec Ideal ⟨2, ![1, 1024]⟩ .f32) (r : Fin n) (k : Fin 1024) : EReal :=
  X (ix2 r k) * Ideal.rsqrt (Ideal.div (∑ v : Fin 1024, X (ix2 r v) * X (ix2 r v)) (Ideal.ofBits .f32 0x44800000#32) + Ideal.ofBits .f32 0x358637BD#32) * g (ix2 0 k)

/-- The projection of a normed row. -/
def proj {n : ℕ} (X : FVec Ideal ⟨2, ![n, 1024]⟩ .f32) (g : FVec Ideal ⟨2, ![1, 1024]⟩ .f32) (w : FVec Ideal ⟨2, ![1024, 9472]⟩ .bf16)
    (r : Fin n) (col : Fin 9472) : EReal :=
  ∑ k : Fin 1024, nrm X g r k * w (ix2 k col)

/-- The row `j` places before place `s` of a sequence in the convolution's columns, zero before the sequence begins. -/
def tap (X : FVec Ideal ⟨2, ![32768, 1024]⟩ .f32) (g : FVec Ideal ⟨2, ![1, 1024]⟩ .f32) (w : FVec Ideal ⟨2, ![1024, 9472]⟩ .bf16)
    (b : Fin 4) (s : Fin 8192) (j : ℕ) (col : Fin 3072) : EReal :=
  if j ≤ s.val then proj X g w ⟨b.val * 8192 + (s.val - j), by omega⟩ ⟨2048 + col.val, by omega⟩ else 0

/-- The causal convolution of width four. -/
def conv (X : FVec Ideal ⟨2, ![32768, 1024]⟩ .f32) (g : FVec Ideal ⟨2, ![1, 1024]⟩ .f32) (w : FVec Ideal ⟨2, ![1024, 9472]⟩ .bf16)
    (cw : FVec Ideal ⟨2, ![4, 3072]⟩ .f32) (cb : FVec Ideal ⟨2, ![1, 3072]⟩ .f32) (b : Fin 4) (s : Fin 8192) (col : Fin 3072) : EReal :=
  cb (ix2 0 col) + cw (ix2 3 col) * tap X g w b s 0 col + cw (ix2 2 col) * tap X g w b s 1 col
    + cw (ix2 1 col) * tap X g w b s 2 col + cw (ix2 0 col) * tap X g w b s 3 col

end Cert.InSame

end
-- ==== Proof.InPieces.lean ====
module

public import proofs.«01_k».proof.Proof.InSpec
public import Idealize.ShloMosaic.Lib.Pipeline.Value

@[expose] public section

/-! Blocks of 512 columns stored side by side, and rows stored under one another, read back. -/

noncomputable section

open Idealize.ShloMosaic Idealize.ShloMosaic.TcCoe Idealize.SL.Sem

namespace Cert.InSame
variable {Val : EltTy → Type} [∀ e, Nonempty (Val e)] {e : EltTy}

theorem colsIn (W n : ℕ) (h : 512 * (n + 1) ≤ W) : ∀ a, (![0, 512 * n] : Fin 2 → Nat) a + (![512, 512] : Fin 2 → Nat) a ≤ (⟨2, ![512, W]⟩ : Shape).size a :=
  fun a => by fin_cases a <;> simp; omega
/-- The stores of `n` blocks of columns, the last first. -/
def cols {W : ℕ} : (n : ℕ) → 512 * n ≤ W → (Fin n → (⟨2, ![512, 512]⟩ : Shape).Idx → Val e) → List (View.Piece Val ⟨2, ![512, W]⟩ e)
  | 0, _, _ => []
  | n + 1, h, P => ⟨Rect.unit (s := ⟨2, ![512, W]⟩) ![0, 512 * n] ![512, 512] (colsIn W n h), P (Fin.last n)⟩ :: cols n (by omega) fun j => P j.castSucc

theorem canon_cols {W : ℕ} : ∀ (n : ℕ) (h : 512 * n ≤ W) (P : Fin n → (⟨2, ![512, 512]⟩ : Shape).Idx → Val e) (l : Fin 512) (j : Fin n) (k : Fin 512) (hk : 512 * j.val + k.val < W),
    View.canon (cols n h P) (ix2 l ⟨512 * j.val + k.val, hk⟩) = P j (ix2 l k)
  | 0, _, _, _, j, _, _ => j.elim0
  | n + 1, h, P, l, j, k, hk => by
    by_cases hj : j.val = n
    · obtain rfl : j = Fin.last n := Fin.ext hj
      have hy : (ix2 l ⟨512 * (Fin.last n).val + k.val, hk⟩ : (⟨2, ![512, W]⟩ : Shape).Idx)
          = (Rect.unit (s := ⟨2, ![512, W]⟩) ![0, 512 * n] ![512, 512] (colsIn W n h)).emb (ix2 l k : (⟨2, ![512, 512]⟩ : Shape).Idx) := by
        funext a
        apply Fin.ext
        rw [Rect.emb_apply]
        match a with
        | ⟨0, _⟩ => show l.val = 0 + 1 * l.val; omega
        | ⟨1, _⟩ => show 512 * n + k.val = 512 * n + 1 * k.val; omega
      rw [hy]
      exact View.canon_cons_emb (Rect.unit (s := ⟨2, ![512, W]⟩) ![0, 512 * n] ![512, 512] (colsIn W n h)) (P (Fin.last n)) _ _
    · have hlt : j.val < n := by have := j.isLt; omega
      refine Eq.trans (View.canon_cons_of_not_mem _ _ fun hm => ?_) (canon_cols n (by omega) (fun j => P j.castSucc) l ⟨j.val, hlt⟩ k hk)
      have h1 : 512 * n ≤ 512 * j.val + k.val ∧ _ := (Rect.mem_set_unit (inb := colsIn W n h) |>.mp hm) 1
      have := k.isLt
      omega

theorem cols3In (W n : ℕ) (h : 512 * (n + 1) ≤ W) : ∀ a, (![0, 0, 512 * n] : Fin 3 → Nat) a + (![1, 8, 512] : Fin 3 → Nat) a ≤ (⟨3, ![1, 8, W]⟩ : Shape).size a :=
  fun a => by fin_cases a <;> simp; omega
/-- The same for eight rows. -/
def cols3 {W : ℕ} : (n : ℕ) → 512 * n ≤ W → (Fin n → (⟨3, ![1, 8, 512]⟩ : Shape).Idx → Val e) → List (View.Piece Val ⟨3, ![1, 8, W]⟩ e)
  | 0, _, _ => []
  | n + 1, h, P => ⟨Rect.unit (s := ⟨3, ![1, 8, W]⟩) ![0, 0, 512 * n] ![1, 8, 512] (cols3In W n h), P (Fin.last n)⟩ :: cols3 n (by omega) fun j => P j.castSucc

theorem canon_cols3 {W : ℕ} : ∀ (n : ℕ) (h : 512 * n ≤ W) (P : Fin n → (⟨3, ![1, 8, 512]⟩ : Shape).Idx → Val e) (z : Fin 1) (l : Fin 8) (j : Fin n) (k : Fin 512) (hk : 512 * j.val + k.val < W),
    View.canon (cols3 n h P) (ix3 z l ⟨512 * j.val + k.val, hk⟩) = P j (ix3 z l k)
  | 0, _, _, _, _, j, _, _ => j.elim0
  | n + 1, h, P, z, l, j, k, hk => by
    by_cases hj : j.val = n
    · obtain rfl : j = Fin.last n := Fin.ext hj
      have hy : (ix3 z l ⟨512 * (Fin.last n).val + k.val, hk⟩ : (⟨3, ![1, 8, W]⟩ : Shape).Idx)
          = (Rect.unit (s := ⟨3, ![1, 8, W]⟩) ![0, 0, 512 * n] ![1, 8, 512] (cols3In W n h)).emb (ix3 z l k : (⟨3, ![1, 8, 512]⟩ : Shape).Idx) := by
        funext a
        apply Fin.ext
        rw [Rect.emb_apply]
        match a with
        | ⟨0, _⟩ => show z.val = 0 + 1 * z.val; omega
        | ⟨1, _⟩ => show l.val = 0 + 1 * l.val; omega
        | ⟨2, _⟩ => show 512 * n + k.val = 512 * n + 1 * k.val; omega
      rw [hy]
      exact View.canon_cons_emb (Rect.unit (s := ⟨3, ![1, 8, W]⟩) ![0, 0, 512 * n] ![1, 8, 512] (cols3In W n h)) (P (Fin.last n)) _ _
    · have hlt : j.val < n := by have := j.isLt; omega
      refine Eq.trans (View.canon_cons_of_not_mem _ _ fun hm => ?_) (canon_cols3 n (by omega) (fun j => P j.castSucc) z l ⟨j.val, hlt⟩ k hk)
      have h1 : 512 * n ≤ 512 * j.val + k.val ∧ _ := (Rect.mem_set_unit (inb := cols3In W n h) |>.mp hm) 2
      have := k.isLt
      omega

/-- Sixteen rows above 512. -/
def joined (a : (⟨2, ![512, 1024]⟩ : Shape).Idx → Val e) (b : (⟨2, ![16, 1024]⟩ : Shape).Idx → Val e) : (⟨2, ![528, 1024]⟩ : Shape).Idx → Val e :=
  fun z => if h : (z 0).val < 16 then b (ix2 ⟨(z 0).val, h⟩ (z 1)) else a (ix2 ⟨(z 0).val - 16, by have : (z 0).val < 528 := (z 0).isLt; omega⟩ (z 1))

/-- The two stores of rows, read whole. -/
theorem read_joined {sig : RefSig} {κ : Kind} {sp : Space} (v : View sig κ sp ⟨2, ![528, 1024]⟩ e)
    (ia : ∀ a, (![16, 0] : Fin 2 → Nat) a + (![512, 1024] : Fin 2 → Nat) a ≤ (⟨2, ![528, 1024]⟩ : Shape).size a)
    (ib : ∀ a, (![0, 0] : Fin 2 → Nat) a + (![16, 1024] : Fin 2 → Nat) a ≤ (⟨2, ![528, 1024]⟩ : Shape).size a)
    (iw : ∀ a, (![0, 0] : Fin 2 → Nat) a + (![528, 1024] : Fin 2 → Nat) a ≤ (⟨2, ![528, 1024]⟩ : Shape).size a)
    (a : (⟨2, ![512, 1024]⟩ : Shape).Idx → Val e) (b : (⟨2, ![16, 1024]⟩ : Shape).Idx → Val e) :
    v.readCov ((⟨Rect.unit (s := ⟨2, ![528, 1024]⟩) ![16, 0] ![512, 1024] ia, a⟩ : View.Piece Val ⟨2, ![528, 1024]⟩ e) :: (⟨Rect.unit (s := ⟨2, ![528, 1024]⟩) ![0, 0] ![16, 1024] ib, b⟩ : View.Piece Val ⟨2, ![528, 1024]⟩ e) :: [])
        (Rect.unit (s := ⟨2, ![528, 1024]⟩) ![0, 0] ![528, 1024] iw).toLoadRect = joined a b := by
  rw [View.readCov_eq_canon']
  funext z
  have hz : (Rect.unit (s := ⟨2, ![528, 1024]⟩) ![0, 0] ![528, 1024] iw).toLoadRect.idx z = z := by
    funext a
    apply Fin.ext
    match a with
    | ⟨0, _⟩ => show 0 + 1 * (z 0).val = (z 0).val; omega
    | ⟨1, _⟩ => show 0 + 1 * (z 1).val = (z 1).val; omega
  have h528 : (z 0).val < 528 := (z 0).isLt
  rw [hz]
  unfold joined
  by_cases h : (z 0).val < 16
  · rw [dif_pos h]
    refine (View.canon_cons_of_not_mem _ _ fun hm => ?_).trans ?_
    · have h1 : 16 ≤ (z 0).val ∧ _ := (Rect.mem_set_unit (inb := ia) |>.mp hm) 0
      omega
    · have hy : z = (Rect.unit (s := ⟨2, ![528, 1024]⟩) ![0, 0] ![16, 1024] ib).emb (ix2 ⟨(z 0).val, h⟩ (z 1) : (⟨2, ![16, 1024]⟩ : Shape).Idx) := by
        funext a
        apply Fin.ext
        rw [Rect.emb_apply]
        match a with
        | ⟨0, _⟩ => show (z 0).val = 0 + 1 * (z 0).val; omega
        | ⟨1, _⟩ => show (z 1).val = 0 + 1 * (z 1).val; omega
      conv_lhs => rw [hy]
      exact View.canon_cons_emb (Rect.unit (s := ⟨2, ![528, 1024]⟩) ![0, 0] ![16, 1024] ib) b [] _
  · rw [dif_neg h]
    have hy : z = (Rect.unit (s := ⟨2, ![528, 1024]⟩) ![16, 0] ![512, 1024] ia).emb (ix2 ⟨(z 0).val - 16, by omega⟩ (z 1) : (⟨2, ![512, 1024]⟩ : Shape).Idx) := by
      funext a
      apply Fin.ext
      rw [Rect.emb_apply]
      match a with
      | ⟨0, _⟩ => show (z 0).val = 16 + 1 * ((z 0).val - 16); omega
      | ⟨1, _⟩ => show (z 1).val = 0 + 1 * (z 1).val; omega
    conv_lhs => rw [hy]
    exact View.canon_cons_emb (Rect.unit (s := ⟨2, ![528, 1024]⟩) ![16, 0] ![512, 1024] ia) a _ _

/-- A read of a buffer last stored whole. -/
theorem read_head {sig : RefSig} {κ : Kind} {sp : Space} (v : View sig κ sp ⟨2, ![528, 512]⟩ e)
    (iw : ∀ a, (![0, 0] : Fin 2 → Nat) a + (![528, 512] : Fin 2 → Nat) a ≤ (⟨2, ![528, 512]⟩ : Shape).size a)
    (w : (⟨2, ![528, 512]⟩ : Shape).Idx → Val e) (L : List (View.Piece Val ⟨2, ![528, 512]⟩ e)) (r : Rect ⟨2, ![528, 512]⟩) :
    v.readCov ((⟨Rect.unit (s := ⟨2, ![528, 512]⟩) ![0, 0] ![528, 512] iw, w⟩ : View.Piece Val ⟨2, ![528, 512]⟩ e) :: L) r.toLoadRect = View.ld w r := by
  rw [View.readCov_eq_canon']
  have h0 : (![0, 0] : Fin 2 → Nat) = fun _ => 0 := funext fun a => by fin_cases a <;> rfl
  rw [show View.canon ((⟨Rect.unit (s := ⟨2, ![528, 512]⟩) ![0, 0] ![528, 512] iw, w⟩ : View.Piece Val ⟨2, ![528, 512]⟩ e) :: L) = w from
    View.canon_cons_unit_zero (S := ⟨2, ![528, 512]⟩) h0 iw w L]

end Cert.InSame

end
-- ==== Proof.InOpen.lean ====
module

public import proofs.«01_k».proof.Proof.InPieces
public import proofs.«01_k».proof.Proof.Gen.InprojIdeal.Frame
public import Idealize.ShloMosaic.Lib.Pipeline.ReadBack

@[expose] public section

/-! What one point of the projection's grid leaves in its nine outputs, as column blocks. -/

noncomputable section

open Idealize.ShloMosaic Idealize.ShloMosaic.TcCoe Idealize.SL.Sem

namespace Cert.InprojIdeal.Body
open Cert.InprojIdeal Cert.InprojIdeal.Gen Cert.InSame
variable {F : FTy → Type} [FloatOps F]

theorem zero2 : (![0, 0] : Fin 2 → Nat) = fun _ => 0 := funext fun a => by fin_cases a <;> rfl

theorem slabIn (o j : Nat) (h : o + 512 * j + 512 ≤ 9472) : ∀ a, (![0, o + 512 * j] : Fin 2 → Nat) a + S1024x512.size a ≤ S1024x9472.size a :=
  fun a => by fin_cases a <;> simp [S1024x512, S1024x9472]; omega
theorem biasIn (j : Fin 6) : ∀ a, (![0, 512 * (j : Nat)] : Fin 2 → Nat) a + S1x512.size a ≤ S1x3072.size a :=
  fun a => by fin_cases a <;> simp [S1x512, S1x3072]; omega
theorem tapIn (q : Fin 4) (j : Fin 6) : ∀ a, (![(q : Nat), 512 * (j : Nat)] : Fin 2 → Nat) a + S1x512.size a ≤ S4x3072.size a :=
  fun a => by fin_cases a <;> simp [S1x512, S4x3072] <;> omega
theorem rowsIn (o : Nat) (h : o ≤ 16) : ∀ a, (![o, 0] : Fin 2 → Nat) a + S512x512.size a ≤ S528x512.size a :=
  fun a => by fin_cases a <;> simp [S512x512, S528x512]; omega
theorem lastIn : ∀ a, (![520, 0] : Fin 2 → Nat) a + S8x512.size a ≤ S528x512.size a :=
  fun a => by fin_cases a <;> simp [S8x512, S528x512]

/-- Columns `[o + 512 j, o + 512 j + 512)` of the packed weights. -/
def slab (x3 : Vec F S1024x9472 .bf16) (o j : Nat) (h : o + 512 * j + 512 ≤ 9472) : Vec F S1024x512 .bf16 :=
  View.ld x3 (Rect.unit (s := S1024x9472) ![0, o + 512 * j] S1024x512.size (slabIn o j h))
/-- The convolution's rows of a tile, the sixteen before it first, in column block `j`. -/
def cbuf (a0 : BitVec 32) (x0 : Vec F S512x1024 .f32) (x1 : Vec F S16x1024 .f32) (x2 : Vec F S1x1024 .f32) (x3 : Vec F S1024x9472 .bf16) (j : Fin 6) : Vec F S528x512 .f32 :=
  k0_pay21 (joined (k0_pay2 x0 x2) (k0_pay19 a0 x1 x2)) (slab x3 2048 j (by omega))
/-- … read from row `o`. -/
def cread (a0 : BitVec 32) (x0 : Vec F S512x1024 .f32) (x1 : Vec F S16x1024 .f32) (x2 : Vec F S1x1024 .f32) (x3 : Vec F S1024x9472 .bf16) (o : Nat) (h : o ≤ 16) (j : Fin 6) : Vec F S512x512 .f32 :=
  View.ld (cbuf a0 x0 x1 x2 x3 j) (Rect.unit (s := S528x512) ![o, 0] S512x512.size (rowsIn o h))
def clast (a0 : BitVec 32) (x0 : Vec F S512x1024 .f32) (x1 : Vec F S16x1024 .f32) (x2 : Vec F S1x1024 .f32) (x3 : Vec F S1024x9472 .bf16) (j : Fin 6) : Vec F S8x512 .f32 :=
  View.ld (cbuf a0 x0 x1 x2 x3 j) (Rect.unit (s := S528x512) ![520, 0] S8x512.size lastIn)
def biasRow (x5 : Vec F S1x3072 .f32) (j : Fin 6) : Vec F S1x512 .f32 := View.ld x5 (Rect.unit (s := S1x3072) ![0, 512 * (j : Nat)] S1x512.size (biasIn j))
def tapRow (x4 : Vec F S4x3072 .f32) (q : Fin 4) (j : Fin 6) : Vec F S1x512 .f32 := View.ld x4 (Rect.unit (s := S4x3072) ![(q : Nat), 512 * (j : Nat)] S1x512.size (tapIn q j))

variable (c : Dev nD) (i : grid0.Coords) (arg1 : Memref sig .tc .vmem S512x1024 .f32) (harg1 : arg1.IsWhole) (arg2 : Memref sig .tc .vmem S16x1024 .f32) (harg2 : arg2.IsWhole) (arg3 : Memref sig .tc .vmem S1x1024 .f32) (harg3 : arg3.IsWhole) (arg4 : Memref sig .tc .vmem S1024x9472 .bf16) (harg4 : arg4.IsWhole) (arg5 : Memref sig .tc .vmem S4x3072 .f32) (harg5 : arg5.IsWhole) (arg6 : Memref sig .tc .vmem S1x3072 .f32) (harg6 : arg6.IsWhole) (arg7 : Memref sig .tc .vmem S512x2048 .bf16) (harg7 : arg7.IsWhole) (arg8 : Memref sig .tc .vmem S512x3072 .bf16) (harg8 : arg8.IsWhole) (arg9 : Memref sig .tc .vmem S512x1024 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x128 .f32) (harg14 : arg14.IsWhole) (arg15 : Memref sig .tc .vmem S1x8x3072 .f32) (harg15 : arg15.IsWhole) (arg16 : Memref sig .tc .vmem S528x512 .f32) (harg16 : arg16.IsWhole) (arg17 : Memref sig .tc .vmem S528x1024 .bf16) (harg17 : arg17.IsWhole) (x0 : Vec F S512x1024 .f32) (x1 : Vec F S16x1024 .f32) (x2 : Vec F S1x1024 .f32) (x3 : Vec F S1024x9472 .bf16) (x4 : Vec F S4x3072 .f32) (x5 : Vec F S1x3072 .f32)

theorem A_normed : (kernelRun0_A.sl.r c arg1 harg1 arg3 harg3 x0 x2) = k0_pay2 x0 x2 := by
  have h : (kernelRun0_A.sl.r c arg1 harg1 arg3 harg3 x0 x2) = k0_pay2 (View.ld (View.read (Elt F) arg1.view (harg1.unread x0)) (Rect.unit (s := S512x1024) ![0, 0] S512x1024.size inb_S512x1024_S512x1024_0_0)) (View.ld (View.read (Elt F) arg3.view (harg3.unread x2)) (Rect.unit (s := S1x1024) ![0, 0] S1x1024.size inb_S1x1024_S1x1024_0_0)) := rfl
  rw [h, harg1.read_unread, harg3.read_unread, View.ld_unit_zero (S := S512x1024) zero2, View.ld_unit_zero (S := S1x1024) zero2]

theorem A_rows : (kernelRun0_A.sl.v165 c i arg1 harg1 arg2 harg2 arg3 harg3 arg17 x0 x1 x2) = joined (k0_pay2 x0 x2) (k0_pay19 (BitVec.ofNat 32 (i 0 : Nat)) x1 x2) := by
  have h : (kernelRun0_A.sl.v165 c i arg1 harg1 arg2 harg2 arg3 harg3 arg17 x0 x1 x2) = joined (shapeCast S512x1024 (kernelRun0_A.sl.r c arg1 harg1 arg3 harg3 x0 x2) shapeCasts_S512x1024_S512x1024) (k0_pay19 (BitVec.ofNat 32 (i 0 : Nat)) (View.ld (View.read (Elt F) arg2.view (harg2.unread x1)) (Rect.unit (s := S16x1024) ![0, 0] S16x1024.size inb_S16x1024_S16x1024_0_0)) (View.ld (View.read (Elt F) arg3.view (harg3.unread x2)) (Rect.unit (s := S1x1024) ![0, 0] S1x1024.size inb_S1x1024_S1x1024_0_0))) :=
    read_joined (Val := Elt F) arg17.view inb_S528x1024_S512x1024_16_0 inb_S528x1024_S16x1024_0_0 inb_S528x1024_S528x1024_0_0 _ _
  rw [h, A_normed, harg2.read_unread, harg3.read_unread, View.ld_unit_zero (S := S16x1024) zero2, View.ld_unit_zero (S := S1x1024) zero2, shapeCast_id]

/-- The column block's store over its whole buffer. -/
theorem A_store (j : Fin 6) : k0_pay21 (kernelRun0_A.sl.v165 c i arg1 harg1 arg2 harg2 arg3 harg3 arg17 x0 x1 x2) (View.ld (View.read (Elt F) arg4.view (harg4.unread x3)) (Rect.unit (s := S1024x9472) ![0, 2048 + 512 * (j : Nat)] S1024x512.size (slabIn 2048 j (by omega))))
    = cbuf (BitVec.ofNat 32 (i 0 : Nat)) x0 x1 x2 x3 j := by
  rw [A_rows, harg4.read_unread]; rfl

/-- What the convolution's buffer has been stored, after column block `j`. -/
def A_hist : Fin 6 → List (View.Piece (Elt F) S528x512 .f32) := ![(kernelRun0_A.sl.HS0_1 c i arg1 harg1 arg2 harg2 arg3 harg3 arg4 harg4 arg17 x0 x1 x2 x3), (kernelRun0_A.sl.HS0_2 c i arg1 harg1 arg2 harg2 arg3 harg3 arg4 harg4 arg17 x0 x1 x2 x3), (kernelRun0_A.sl.HS0_3 c i arg1 harg1 arg2 harg2 arg3 harg3 arg4 harg4 arg17 x0 x1 x2 x3), (kernelRun0_A.sl.HS0_4 c i arg1 harg1 arg2 harg2 arg3 harg3 arg4 harg4 arg17 x0 x1 x2 x3), (kernelRun0_A.sl.HS0_5 c i arg1 harg1 arg2 harg2 arg3 harg3 arg4 harg4 arg17 x0 x1 x2 x3), (kernelRun0_A.sl.HS0_6 c i arg1 harg1 arg2 harg2 arg3 harg3 arg4 harg4 arg17 x0 x1 x2 x3)]
def A_before : Fin 6 → List (View.Piece (Elt F) S528x512 .f32) := ![[], (kernelRun0_A.sl.HS0_1 c i arg1 harg1 arg2 harg2 arg3 harg3 arg4 harg4 arg17 x0 x1 x2 x3), (kernelRun0_A.sl.HS0_2 c i arg1 harg1 arg2 harg2 arg3 harg3 arg4 harg4 arg17 x0 x1 x2 x3), (kernelRun0_A.sl.HS0_3 c i arg1 harg1 arg2 harg2 arg3 harg3 arg4 harg4 arg17 x0 x1 x2 x3), (kernelRun0_A.sl.HS0_4 c i arg1 harg1 arg2 harg2 arg3 harg3 arg4 harg4 arg17 x0 x1 x2 x3), (kernelRun0_A.sl.HS0_5 c i arg1 harg1 arg2 harg2 arg3 harg3 arg4 harg4 arg17 x0 x1 x2 x3)]

theorem A_hist_eq (j : Fin 6) : A_hist c i arg1 harg1 arg2 harg2 arg3 harg3 arg4 harg4 arg17 x0 x1 x2 x3 j
    = (⟨Rect.unit (s := S528x512) ![0, 0] S528x512.size inb_S528x512_S528x512_0_0, cbuf (BitVec.ofNat 32 (i 0 : Nat)) x0 x1 x2 x3 j⟩ : View.Piece (Elt F) S528x512 .f32)
      :: A_before c i arg1 harg1 arg2 harg2 arg3 harg3 arg4 harg4 arg17 x0 x1 x2 x3 j := by
  rw [← A_store c i arg1 harg1 arg2 harg2 arg3 harg3 arg4 harg4 arg17 x0 x1 x2 x3 j]
  match j with
  | 0 => rfl
  | 1 => rfl
  | 2 => rfl
  | 3 => rfl
  | 4 => rfl
  | 5 => rfl

theorem A_c0 : (![(kernelRun0_A.sl.v173 c i arg1 harg1 arg2 harg2 arg3 harg3 arg4 harg4 arg16 arg17 x0 x1 x2 x3), (kernelRun0_A.sl.v215 c i arg1 harg1 arg2 harg2 arg3 harg3 arg4 harg4 arg16 arg17 x0 x1 x2 x3), (kernelRun0_A.sl.v257 c i arg1 harg1 arg2 harg2 arg3 harg3 arg4 harg4 arg16 arg17 x0 x1 x2 x3), (kernelRun0_A.sl.v299 c i arg1 harg1 arg2 harg2 arg3 harg3 arg4 harg4 arg16 arg17 x0 x1 x2 x3), (kernelRun0_A.sl.v341 c i arg1 harg1 arg2 harg2 arg3 harg3 arg4 harg4 arg16 arg17 x0 x1 x2 x3), (kernelRun0_A.sl.v383 c i arg1 harg1 arg2 harg2 arg3 harg3 arg4 harg4 arg16 arg17 x0 x1 x2 x3)] : Fin 6 → Vec F S512x512 .f32) = (cread (BitVec.ofNat 32 (i 0 : Nat)) x0 x1 x2 x3 16 (by omega)) := by
  funext j
  have h : (![(kernelRun0_A.sl.v173 c i arg1 harg1 arg2 harg2 arg3 harg3 arg4 harg4 arg16 arg17 x0 x1 x2 x3), (kernelRun0_A.sl.v215 c i arg1 harg1 arg2 harg2 arg3 harg3 arg4 harg4 arg16 arg17 x0 x1 x2 x3), (kernelRun0_A.sl.v257 c i arg1 harg1 arg2 harg2 arg3 harg3 arg4 harg4 arg16 arg17 x0 x1 x2 x3), (kernelRun0_A.sl.v299 c i arg1 harg1 arg2 harg2 arg3 harg3 arg4 harg4 arg16 arg17 x0 x1 x2 x3), (kernelRun0_A.sl.v341 c i arg1 harg1 arg2 harg2 arg3 harg3 arg4 harg4 arg16 arg17 x0 x1 x2 x3), (kernelRun0_A.sl.v383 c i arg1 harg1 arg2 harg2 arg3 harg3 arg4 harg4 arg16 arg17 x0 x1 x2 x3)] : Fin 6 → Vec F S512x512 .f32) j = arg16.view.readCov (A_hist c i arg1 harg1 arg2 harg2 arg3 harg3 arg4 harg4 arg17 x0 x1 x2 x3 j) (Rect.unit (s := S528x512) ![16, 0] S512x512.size (rowsIn 16 (by omega))).toLoadRect := by
    match j with
    | 0 => rfl
    | 1 => rfl
    | 2 => rfl
    | 3 => rfl
    | 4 => rfl
    | 5 => rfl
  rw [h, A_hist_eq]
  exact read_head arg16.view _ _ _ _

theorem A_c1 : (![(kernelRun0_A.sl.v179 c i arg1 harg1 arg2 harg2 arg3 harg3 arg4 harg4 arg16 arg17 x0 x1 x2 x3), (kernelRun0_A.sl.v221 c i arg1 harg1 arg2 harg2 arg3 harg3 arg4 harg4 arg16 arg17 x0 x1 x2 x3), (kernelRun0_A.sl.v263 c i arg1 harg1 arg2 harg2 arg3 harg3 arg4 harg4 arg16 arg17 x0 x1 x2 x3), (kernelRun0_A.sl.v305 c i arg1 harg1 arg2 harg2 arg3 harg3 arg4 harg4 arg16 arg17 x0 x1 x2 x3), (kernelRun0_A.sl.v347 c i arg1 harg1 arg2 harg2 arg3 harg3 arg4 harg4 arg16 arg17 x0 x1 x2 x3), (kernelRun0_A.sl.v389 c i arg1 harg1 arg2 harg2 arg3 harg3 arg4 harg4 arg16 arg17 x0 x1 x2 x3)] : Fin 6 → Vec F S512x512 .f32) = (cread (BitVec.ofNat 32 (i 0 : Nat)) x0 x1 x2 x3 15 (by omega)) := by
  funext j
  have h : (![(kernelRun0_A.sl.v179 c i arg1 harg1 arg2 harg2 arg3 harg3 arg4 harg4 arg16 arg17 x0 x1 x2 x3), (kernelRun0_A.sl.v221 c i arg1 harg1 arg2 harg2 arg3 harg3 arg4 harg4 arg16 arg17 x0 x1 x2 x3), (kernelRun0_A.sl.v263 c i arg1 harg1 arg2 harg2 arg3 harg3 arg4 harg4 arg16 arg17 x0 x1 x2 x3), (kernelRun0_A.sl.v305 c i arg1 harg1 arg2 harg2 arg3 harg3 arg4 harg4 arg16 arg17 x0 x1 x2 x3), (kernelRun0_A.sl.v347 c i arg1 harg1 arg2 harg2 arg3 harg3 arg4 harg4 arg16 arg17 x0 x1 x2 x3), (kernelRun0_A.sl.v389 c i arg1 harg1 arg2 harg2 arg3 harg3 arg4 harg4 arg16 arg17 x0 x1 x2 x3)] : Fin 6 → Vec F S512x512 .f32) j = arg16.view.readCov (A_hist c i arg1 harg1 arg2 harg2 arg3 harg3 arg4 harg4 arg17 x0 x1 x2 x3 j) (Rect.unit (s := S528x512) ![15, 0] S512x512.size (rowsIn 15 (by omega))).toLoadRect := by
    match j with
    | 0 => rfl
    | 1 => rfl
    | 2 => rfl
    | 3 => rfl
    | 4 => rfl
    | 5 => rfl
  rw [h, A_hist_eq]
  exact read_head arg16.view _ _ _ _

theorem A_c2 : (![(kernelRun0_A.sl.v184 c i arg1 harg1 arg2 harg2 arg3 harg3 arg4 harg4 arg16 arg17 x0 x1 x2 x3), (kernelRun0_A.sl.v226 c i arg1 harg1 arg2 harg2 arg3 harg3 arg4 harg4 arg16 arg17 x0 x1 x2 x3), (kernelRun0_A.sl.v268 c i arg1 harg1 arg2 harg2 arg3 harg3 arg4 harg4 arg16 arg17 x0 x1 x2 x3), (kernelRun0_A.sl.v310 c i arg1 harg1 arg2 harg2 arg3 harg3 arg4 harg4 arg16 arg17 x0 x1 x2 x3), (kernelRun0_A.sl.v352 c i arg1 harg1 arg2 harg2 arg3 harg3 arg4 harg4 arg16 arg17 x0 x1 x2 x3), (kernelRun0_A.sl.v394 c i arg1 harg1 arg2 harg2 arg3 harg3 arg4 harg4 arg16 arg17 x0 x1 x2 x3)] : Fin 6 → Vec F S512x512 .f32) = (cread (BitVec.ofNat 32 (i 0 : Nat)) x0 x1 x2 x3 14 (by omega)) := by
  funext j
  have h : (![(kernelRun0_A.sl.v184 c i arg1 harg1 arg2 harg2 arg3 harg3 arg4 harg4 arg16 arg17 x0 x1 x2 x3), (kernelRun0_A.sl.v226 c i arg1 harg1 arg2 harg2 arg3 harg3 arg4 harg4 arg16 arg17 x0 x1 x2 x3), (kernelRun0_A.sl.v268 c i arg1 harg1 arg2 harg2 arg3 harg3 arg4 harg4 arg16 arg17 x0 x1 x2 x3), (kernelRun0_A.sl.v310 c i arg1 harg1 arg2 harg2 arg3 harg3 arg4 harg4 arg16 arg17 x0 x1 x2 x3), (kernelRun0_A.sl.v352 c i arg1 harg1 arg2 harg2 arg3 harg3 arg4 harg4 arg16 arg17 x0 x1 x2 x3), (kernelRun0_A.sl.v394 c i arg1 harg1 arg2 harg2 arg3 harg3 arg4 harg4 arg16 arg17 x0 x1 x2 x3)] : Fin 6 → Vec F S512x512 .f32) j = arg16.view.readCov (A_hist c i arg1 harg1 arg2 harg2 arg3 harg3 arg4 harg4 arg17 x0 x1 x2 x3 j) (Rect.unit (s := S528x512) ![14, 0] S512x512.size (rowsIn 14 (by omega))).toLoadRect := by
    match j with
    | 0 => rfl
    | 1 => rfl
    | 2 => rfl
    | 3 => rfl
    | 4 => rfl
    | 5 => rfl
  rw [h, A_hist_eq]
  exact read_head arg16.view _ _ _ _

theorem A_c3 : (![(kernelRun0_A.sl.v189 c i arg1 harg1 arg2 harg2 arg3 harg3 arg4 harg4 arg16 arg17 x0 x1 x2 x3), (kernelRun0_A.sl.v231 c i arg1 harg1 arg2 harg2 arg3 harg3 arg4 harg4 arg16 arg17 x0 x1 x2 x3), (kernelRun0_A.sl.v273 c i arg1 harg1 arg2 harg2 arg3 harg3 arg4 harg4 arg16 arg17 x0 x1 x2 x3), (kernelRun0_A.sl.v315 c i arg1 harg1 arg2 harg2 arg3 harg3 arg4 harg4 arg16 arg17 x0 x1 x2 x3), (kernelRun0_A.sl.v357 c i arg1 harg1 arg2 harg2 arg3 harg3 arg4 harg4 arg16 arg17 x0 x1 x2 x3), (kernelRun0_A.sl.v399 c i arg1 harg1 arg2 harg2 arg3 harg3 arg4 harg4 arg16 arg17 x0 x1 x2 x3)] : Fin 6 → Vec F S512x512 .f32) = (cread (BitVec.ofNat 32 (i 0 : Nat)) x0 x1 x2 x3 13 (by omega)) := by
  funext j
  have h : (![(kernelRun0_A.sl.v189 c i arg1 harg1 arg2 harg2 arg3 harg3 arg4 harg4 arg16 arg17 x0 x1 x2 x3), (kernelRun0_A.sl.v231 c i arg1 harg1 arg2 harg2 arg3 harg3 arg4 harg4 arg16 arg17 x0 x1 x2 x3), (kernelRun0_A.sl.v273 c i arg1 harg1 arg2 harg2 arg3 harg3 arg4 harg4 arg16 arg17 x0 x1 x2 x3), (kernelRun0_A.sl.v315 c i arg1 harg1 arg2 harg2 arg3 harg3 arg4 harg4 arg16 arg17 x0 x1 x2 x3), (kernelRun0_A.sl.v357 c i arg1 harg1 arg2 harg2 arg3 harg3 arg4 harg4 arg16 arg17 x0 x1 x2 x3), (kernelRun0_A.sl.v399 c i arg1 harg1 arg2 harg2 arg3 harg3 arg4 harg4 arg16 arg17 x0 x1 x2 x3)] : Fin 6 → Vec F S512x512 .f32) j = arg16.view.readCov (A_hist c i arg1 harg1 arg2 harg2 arg3 harg3 arg4 harg4 arg17 x0 x1 x2 x3 j) (Rect.unit (s := S528x512) ![13, 0] S512x512.size (rowsIn 13 (by omega))).toLoadRect := by
    match j with
    | 0 => rfl
    | 1 => rfl
    | 2 => rfl
    | 3 => rfl
    | 4 => rfl
    | 5 => rfl
  rw [h, A_hist_eq]
  exact read_head arg16.view _ _ _ _

theorem A_c4 : (![(kernelRun0_A.sl.v203 c i arg1 harg1 arg2 harg2 arg3 harg3 arg4 harg4 arg16 arg17 x0 x1 x2 x3), (kernelRun0_A.sl.v245 c i arg1 harg1 arg2 harg2 arg3 harg3 arg4 harg4 arg16 arg17 x0 x1 x2 x3), (kernelRun0_A.sl.v287 c i arg1 harg1 arg2 harg2 arg3 harg3 arg4 harg4 arg16 arg17 x0 x1 x2 x3), (kernelRun0_A.sl.v329 c i arg1 harg1 arg2 harg2 arg3 harg3 arg4 harg4 arg16 arg17 x0 x1 x2 x3), (kernelRun0_A.sl.v371 c i arg1 harg1 arg2 harg2 arg3 harg3 arg4 harg4 arg16 arg17 x0 x1 x2 x3), (kernelRun0_A.sl.v413 c i arg1 harg1 arg2 harg2 arg3 harg3 arg4 harg4 arg16 arg17 x0 x1 x2 x3)] : Fin 6 → Vec F S8x512 .f32) = (clast (BitVec.ofNat 32 (i 0 : Nat)) x0 x1 x2 x3) := by
  funext j
  have h : (![(kernelRun0_A.sl.v203 c i arg1 harg1 arg2 harg2 arg3 harg3 arg4 harg4 arg16 arg17 x0 x1 x2 x3), (kernelRun0_A.sl.v245 c i arg1 harg1 arg2 harg2 arg3 harg3 arg4 harg4 arg16 arg17 x0 x1 x2 x3), (kernelRun0_A.sl.v287 c i arg1 harg1 arg2 harg2 arg3 harg3 arg4 harg4 arg16 arg17 x0 x1 x2 x3), (kernelRun0_A.sl.v329 c i arg1 harg1 arg2 harg2 arg3 harg3 arg4 harg4 arg16 arg17 x0 x1 x2 x3), (kernelRun0_A.sl.v371 c i arg1 harg1 arg2 harg2 arg3 harg3 arg4 harg4 arg16 arg17 x0 x1 x2 x3), (kernelRun0_A.sl.v413 c i arg1 harg1 arg2 harg2 arg3 harg3 arg4 harg4 arg16 arg17 x0 x1 x2 x3)] : Fin 6 → Vec F S8x512 .f32) j = arg16.view.readCov (A_hist c i arg1 harg1 arg2 harg2 arg3 harg3 arg4 harg4 arg17 x0 x1 x2 x3 j) (Rect.unit (s := S528x512) ![520, 0] S8x512.size lastIn).toLoadRect := by
    match j with
    | 0 => rfl
    | 1 => rfl
    | 2 => rfl
    | 3 => rfl
    | 4 => rfl
    | 5 => rfl
  rw [h, A_hist_eq]
  exact read_head arg16.view _ _ _ _

theorem A_slab (o j : Nat) (h : o + 512 * j + 512 ≤ 9472) : View.ld (View.read (Elt F) arg4.view (harg4.unread x3)) (Rect.unit (s := S1024x9472) ![0, o + 512 * j] S1024x512.size (slabIn o j h)) = slab x3 o j h := by
  rw [harg4.read_unread]; rfl

/-- The gate of the recurrence. -/
theorem A_out6 : out0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 = View.canon (cols 4 (by omega) fun j => k0_pay6 (k0_pay2 x0 x2) (slab x3 0 j (by omega))) := by
  unfold out0_A_6
  refine (View.read_writes_junk_eq_canon ..).trans ?_
  refine (congrArg View.canon (show _ = cols (Val := Elt F) (e := .bf16) (W := 2048) 4 (by omega) fun j => k0_pay6 (kernelRun0_A.sl.r c arg1 harg1 arg3 harg3 x0 x2) (View.ld (View.read (Elt F) arg4.view (harg4.unread x3)) (Rect.unit (s := S1024x9472) ![0, 0 + 512 * (j : Nat)] S1024x512.size (slabIn 0 j (by omega)))) from rfl)).trans ?_
  rw [A_normed, harg4.read_unread]
  rfl

/-- The queries. -/
theorem A_out8 : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 = View.canon (cols 2 (by omega) fun j => k0_pay8 (k0_pay2 x0 x2) (slab x3 5120 j (by omega))) := by
  unfold out0_A_8
  refine (View.read_writes_junk_eq_canon ..).trans ?_
  refine (congrArg View.canon (show _ = cols (Val := Elt F) (e := .bf16) (W := 1024) 2 (by omega) fun j => k0_pay8 (kernelRun0_A.sl.r c arg1 harg1 arg3 harg3 x0 x2) (View.ld (View.read (Elt F) arg4.view (harg4.unread x3)) (Rect.unit (s := S1024x9472) ![0, 5120 + 512 * (j : Nat)] S1024x512.size (slabIn 5120 j (by omega)))) from rfl)).trans ?_
  rw [A_normed, harg4.read_unread]
  rfl

/-- The keys. -/
theorem A_out9 : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 = View.canon (cols 1 (by omega) fun j => k0_pay10 (k0_pay2 x0 x2) (slab x3 6144 j (by omega))) := by
  unfold out0_A_9
  refine (View.read_writes_junk_eq_canon ..).trans ?_
  refine (congrArg View.canon (show _ = cols (Val := Elt F) (e := .bf16) (W := 512) 1 (by omega) fun j => k0_pay10 (kernelRun0_A.sl.r c arg1 harg1 arg3 harg3 x0 x2) (View.ld (View.read (Elt F) arg4.view (harg4.unread x3)) (Rect.unit (s := S1024x9472) ![0, 6144 + 512 * (j : Nat)] S1024x512.size (slabIn 6144 j (by omega)))) from rfl)).trans ?_
  rw [A_normed, harg4.read_unread]
  rfl

/-- The values. -/
theorem A_out10 : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 = View.canon (cols 1 (by omega) fun j => k0_pay11 (k0_pay2 x0 x2) (slab x3 6656 j (by omega))) := by
  unfold out0_A_10
  refine (View.read_writes_junk_eq_canon ..).trans ?_
  refine (congrArg View.canon (show _ = cols (Val := Elt F) (e := .bf16) (W := 512) 1 (by omega) fun j => k0_pay11 (kernelRun0_A.sl.r c arg1 harg1 arg3 harg3 x0 x2) (View.ld (View.read (Elt F) arg4.view (harg4.unread x3)) (Rect.unit (s := S1024x9472) ![0, 6656 + 512 * (j : Nat)] S1024x512.size (slabIn 6656 j (by omega)))) from rfl)).trans ?_
  rw [A_normed, harg4.read_unread]
  rfl

/-- The gate of the recurrence against the attention. -/
theorem A_out11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 = View.canon (cols 2 (by omega) fun j => k0_pay12 (k0_pay2 x0 x2) (slab x3 7168 j (by omega))) := by
  unfold out0_A_11
  refine (View.read_writes_junk_eq_canon ..).trans ?_
  refine (congrArg View.canon (show _ = cols (Val := Elt F) (e := .bf16) (W := 1024) 2 (by omega) fun j => k0_pay12 (kernelRun0_A.sl.r c arg1 harg1 arg3 harg3 x0 x2) (View.ld (View.read (Elt F) arg4.view (harg4.unread x3)) (Rect.unit (s := S1024x9472) ![0, 7168 + 512 * (j : Nat)] S1024x512.size (slabIn 7168 j (by omega)))) from rfl)).trans ?_
  rw [A_normed, harg4.read_unread]
  rfl

/-- The gate of the attention. -/
theorem A_out12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 = View.canon (cols 2 (by omega) fun j => k0_pay12 (k0_pay2 x0 x2) (slab x3 8192 j (by omega))) := by
  unfold out0_A_12
  refine (View.read_writes_junk_eq_canon ..).trans ?_
  refine (congrArg View.canon (show _ = cols (Val := Elt F) (e := .bf16) (W := 1024) 2 (by omega) fun j => k0_pay12 (kernelRun0_A.sl.r c arg1 harg1 arg3 harg3 x0 x2) (View.ld (View.read (Elt F) arg4.view (harg4.unread x3)) (Rect.unit (s := S1024x9472) ![0, 8192 + 512 * (j : Nat)] S1024x512.size (slabIn 8192 j (by omega)))) from rfl)).trans ?_
  rw [A_normed, harg4.read_unread]
  rfl

theorem dtIn : ∀ a, (![0, 9216] : Fin 2 → Nat) a + S1024x128.size a ≤ S1024x9472.size a := fun a => by fin_cases a <;> simp [S1024x128, S1024x9472]
/-- The time steps. -/
theorem A_out13 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 = k0_pay18 (k0_pay2 x0 x2) (View.ld x3 (Rect.unit (s := S1024x9472) ![0, 9216] S1024x128.size dtIn)) := by
  unfold out0_A_13
  refine (View.read_writes_junk_eq_canon ..).trans ?_
  unfold kernelRun0_A
  dsimp only
  refine (View.canon_unit_zero (S := S512x128) zero2 _ _).trans ?_
  refine (show _ = k0_pay18 (kernelRun0_A.sl.r c arg1 harg1 arg3 harg3 x0 x2) (View.ld (View.read (Elt F) arg4.view (harg4.unread x3)) (Rect.unit (s := S1024x9472) ![0, 9216] S1024x128.size dtIn)) from rfl).trans ?_
  rw [A_normed, harg4.read_unread]

/-- The convolution's activations. -/
theorem A_out7 : out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 = View.canon (cols 6 (by omega) fun j => k0_pay31 (biasRow x5 j) (tapRow x4 3 j) ((cread (BitVec.ofNat 32 (i 0 : Nat)) x0 x1 x2 x3 16 (by omega)) j) (tapRow x4 2 j) ((cread (BitVec.ofNat 32 (i 0 : Nat)) x0 x1 x2 x3 15 (by omega)) j) (tapRow x4 1 j) ((cread (BitVec.ofNat 32 (i 0 : Nat)) x0 x1 x2 x3 14 (by omega)) j) (tapRow x4 0 j) ((cread (BitVec.ofNat 32 (i 0 : Nat)) x0 x1 x2 x3 13 (by omega)) j)) := by
  unfold out0_A_7
  refine (View.read_writes_junk_eq_canon ..).trans ?_
  refine (congrArg View.canon (show _ = cols (Val := Elt F) (e := .bf16) (W := 3072) 6 (by omega) fun j => k0_pay31 (View.ld (View.read (Elt F) arg6.view (harg6.unread x5)) (Rect.unit (s := S1x3072) ![0, 512 * (j : Nat)] S1x512.size (biasIn j))) (View.ld (View.read (Elt F) arg5.view (harg5.unread x4)) (Rect.unit (s := S4x3072) ![((3 : Fin 4) : Nat), 512 * (j : Nat)] S1x512.size (tapIn 3 j))) ((![(kernelRun0_A.sl.v173 c i arg1 harg1 arg2 harg2 arg3 harg3 arg4 harg4 arg16 arg17 x0 x1 x2 x3), (kernelRun0_A.sl.v215 c i arg1 harg1 arg2 harg2 arg3 harg3 arg4 harg4 arg16 arg17 x0 x1 x2 x3), (kernelRun0_A.sl.v257 c i arg1 harg1 arg2 harg2 arg3 harg3 arg4 harg4 arg16 arg17 x0 x1 x2 x3), (kernelRun0_A.sl.v299 c i arg1 harg1 arg2 harg2 arg3 harg3 arg4 harg4 arg16 arg17 x0 x1 x2 x3), (kernelRun0_A.sl.v341 c i arg1 harg1 arg2 harg2 arg3 harg3 arg4 harg4 arg16 arg17 x0 x1 x2 x3), (kernelRun0_A.sl.v383 c i arg1 harg1 arg2 harg2 arg3 harg3 arg4 harg4 arg16 arg17 x0 x1 x2 x3)] : Fin 6 → Vec F S512x512 .f32) j) (View.ld (View.read (Elt F) arg5.view (harg5.unread x4)) (Rect.unit (s := S4x3072) ![((2 : Fin 4) : Nat), 512 * (j : Nat)] S1x512.size (tapIn 2 j))) ((![(kernelRun0_A.sl.v179 c i arg1 harg1 arg2 harg2 arg3 harg3 arg4 harg4 arg16 arg17 x0 x1 x2 x3), (kernelRun0_A.sl.v221 c i arg1 harg1 arg2 harg2 arg3 harg3 arg4 harg4 arg16 arg17 x0 x1 x2 x3), (kernelRun0_A.sl.v263 c i arg1 harg1 arg2 harg2 arg3 harg3 arg4 harg4 arg16 arg17 x0 x1 x2 x3), (kernelRun0_A.sl.v305 c i arg1 harg1 arg2 harg2 arg3 harg3 arg4 harg4 arg16 arg17 x0 x1 x2 x3), (kernelRun0_A.sl.v347 c i arg1 harg1 arg2 harg2 arg3 harg3 arg4 harg4 arg16 arg17 x0 x1 x2 x3), (kernelRun0_A.sl.v389 c i arg1 harg1 arg2 harg2 arg3 harg3 arg4 harg4 arg16 arg17 x0 x1 x2 x3)] : Fin 6 → Vec F S512x512 .f32) j) (View.ld (View.read (Elt F) arg5.view (harg5.unread x4)) (Rect.unit (s := S4x3072) ![((1 : Fin 4) : Nat), 512 * (j : Nat)] S1x512.size (tapIn 1 j))) ((![(kernelRun0_A.sl.v184 c i arg1 harg1 arg2 harg2 arg3 harg3 arg4 harg4 arg16 arg17 x0 x1 x2 x3), (kernelRun0_A.sl.v226 c i arg1 harg1 arg2 harg2 arg3 harg3 arg4 harg4 arg16 arg17 x0 x1 x2 x3), (kernelRun0_A.sl.v268 c i arg1 harg1 arg2 harg2 arg3 harg3 arg4 harg4 arg16 arg17 x0 x1 x2 x3), (kernelRun0_A.sl.v310 c i arg1 harg1 arg2 harg2 arg3 harg3 arg4 harg4 arg16 arg17 x0 x1 x2 x3), (kernelRun0_A.sl.v352 c i arg1 harg1 arg2 harg2 arg3 harg3 arg4 harg4 arg16 arg17 x0 x1 x2 x3), (kernelRun0_A.sl.v394 c i arg1 harg1 arg2 harg2 arg3 harg3 arg4 harg4 arg16 arg17 x0 x1 x2 x3)] : Fin 6 → Vec F S512x512 .f32) j) (View.ld (View.read (Elt F) arg5.view (harg5.unread x4)) (Rect.unit (s := S4x3072) ![((0 : Fin 4) : Nat), 512 * (j : Nat)] S1x512.size (tapIn 0 j))) ((![(kernelRun0_A.sl.v189 c i arg1 harg1 arg2 harg2 arg3 harg3 arg4 harg4 arg16 arg17 x0 x1 x2 x3), (kernelRun0_A.sl.v231 c i arg1 harg1 arg2 harg2 arg3 harg3 arg4 harg4 arg16 arg17 x0 x1 x2 x3), (kernelRun0_A.sl.v273 c i arg1 harg1 arg2 harg2 arg3 harg3 arg4 harg4 arg16 arg17 x0 x1 x2 x3), (kernelRun0_A.sl.v315 c i arg1 harg1 arg2 harg2 arg3 harg3 arg4 harg4 arg16 arg17 x0 x1 x2 x3), (kernelRun0_A.sl.v357 c i arg1 harg1 arg2 harg2 arg3 harg3 arg4 harg4 arg16 arg17 x0 x1 x2 x3), (kernelRun0_A.sl.v399 c i arg1 harg1 arg2 harg2 arg3 harg3 arg4 harg4 arg16 arg17 x0 x1 x2 x3)] : Fin 6 → Vec F S512x512 .f32) j) from rfl)).trans ?_
  rw [A_c0, A_c1, A_c2, A_c3, harg5.read_unread, harg6.read_unread]
  rfl

/-- The last eight rows. -/
theorem A_out14 : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 = View.canon (cols3 6 (by omega) fun j => k0_pay1 ((clast (BitVec.ofNat 32 (i 0 : Nat)) x0 x1 x2 x3) j)) := by
  unfold out0_A_14
  refine (View.read_writes_junk_eq_canon ..).trans ?_
  refine (congrArg View.canon (show _ = cols3 (Val := Elt F) (e := .f32) (W := 3072) 6 (by omega) fun j => k0_pay1 ((![(kernelRun0_A.sl.v203 c i arg1 harg1 arg2 harg2 arg3 harg3 arg4 harg4 arg16 arg17 x0 x1 x2 x3), (kernelRun0_A.sl.v245 c i arg1 harg1 arg2 harg2 arg3 harg3 arg4 harg4 arg16 arg17 x0 x1 x2 x3), (kernelRun0_A.sl.v287 c i arg1 harg1 arg2 harg2 arg3 harg3 arg4 harg4 arg16 arg17 x0 x1 x2 x3), (kernelRun0_A.sl.v329 c i arg1 harg1 arg2 harg2 arg3 harg3 arg4 harg4 arg16 arg17 x0 x1 x2 x3), (kernelRun0_A.sl.v371 c i arg1 harg1 arg2 harg2 arg3 harg3 arg4 harg4 arg16 arg17 x0 x1 x2 x3), (kernelRun0_A.sl.v413 c i arg1 harg1 arg2 harg2 arg3 harg3 arg4 harg4 arg16 arg17 x0 x1 x2 x3)] : Fin 6 → Vec F S8x512 .f32) j) from rfl)).trans ?_
  rw [A_c4]

end Cert.InprojIdeal.Body

end
-- ==== Proof.InRead.lean ====
module

public import proofs.«01_k».proof.Proof.InOpen

@[expose] public section

/-! What one point of the projection's grid leaves, one element at a time, over the extended reals. -/

noncomputable section

open Idealize.ShloMosaic Idealize.ShloMosaic.TcCoe Idealize.SL.Sem

namespace Cert.InprojIdeal.Body
open Cert.InprojIdeal Cert.InprojIdeal.Gen Cert.InSame

theorem normed_apply (x0 : Vec Ideal S512x1024 .f32) (x2 : Vec Ideal S1x1024 .f32) (l : Fin 512) (k : Fin 1024) :
    k0_pay2 x0 x2 (ix2 l k) = nrm x0 x2 l k := by
  unfold nrm
  pointwise [k0_pay2]

section Products
variable (A : FVec Ideal S512x1024 .bf16) (B : Vec Ideal S1024x512 .bf16) (l k : Fin 512)
/-- A row times a block of 512 columns. -/
def mm : EReal := ∑ v : Fin 1024, A (ix2 l v) * B (ix2 v k)

theorem silu_pay : k0_pay6 A B (ix2 l k) = mm A B l k * sigT (mm A B l k) := by
  unfold sigT mm
  pointwise [k0_pay6]
theorem scaled_pay : k0_pay8 A B (ix2 l k) = mm A B l k * Ideal.ofBits .f32 0x3E000000#32 := by
  unfold mm
  pointwise [k0_pay8]
theorem plain_pay : k0_pay10 A B (ix2 l k) = mm A B l k := by
  unfold mm
  pointwise [k0_pay10]
theorem plain_pay' : k0_pay11 A B (ix2 l k) = mm A B l k := plain_pay A B l k
theorem sig_pay : k0_pay12 A B (ix2 l k) = sigT (mm A B l k) := by
  unfold sigT mm
  pointwise [k0_pay12]
end Products

theorem time_pay (A : FVec Ideal S512x1024 .bf16) (B : Vec Ideal S1024x128 .bf16) (l : Fin 512) (k : Fin 128) :
    k0_pay18 A B (ix2 l k) = ∑ v : Fin 1024, A (ix2 l v) * B (ix2 v k) := by
  pointwise [k0_pay18]

theorem slab_apply (x3 : Vec Ideal S1024x9472 .bf16) (o j : ℕ) (h : o + 512 * j + 512 ≤ 9472) (v : Fin 1024) (k : Fin 512) :
    slab x3 o j h (ix2 v k) = x3 (ix2 v ⟨o + 512 * j + k.val, by omega⟩) := by
  refine congrArg x3 (funext fun a => Fin.ext ?_)
  fin_cases a
  · show 0 + 1 * v.val = v.val; omega
  · show o + 512 * j + 1 * k.val = o + 512 * j + k.val; omega

theorem mm_slab (x0 : Vec Ideal S512x1024 .f32) (x2 : Vec Ideal S1x1024 .f32) (x3 : Vec Ideal S1024x9472 .bf16) (o j : ℕ) (h : o + 512 * j + 512 ≤ 9472) (l k : Fin 512) :
    mm (k0_pay2 x0 x2) (slab x3 o j h) l k = proj x0 x2 x3 l ⟨o + 512 * j + k.val, by omega⟩ := by
  unfold mm proj
  refine Finset.sum_congr rfl fun v _ => ?_
  rw [normed_apply, slab_apply]

theorem time_slab (x0 : Vec Ideal S512x1024 .f32) (x2 : Vec Ideal S1x1024 .f32) (x3 : Vec Ideal S1024x9472 .bf16) (l : Fin 512) (k : Fin 128) :
    k0_pay18 (k0_pay2 x0 x2) (View.ld x3 (Rect.unit (s := S1024x9472) ![0, 9216] S1024x128.size dtIn)) (ix2 l k) = proj x0 x2 x3 l ⟨9216 + k.val, by omega⟩ := by
  rw [time_pay]
  unfold proj
  refine Finset.sum_congr rfl fun v _ => ?_
  rw [normed_apply]
  refine congrArg (nrm x0 x2 l v * ·) (congrArg x3 (funext fun a => Fin.ext ?_))
  fin_cases a
  · show 0 + 1 * v.val = v.val; omega
  · show 9216 + 1 * k.val = 9216 + k.val; omega

/-! ### The convolution's rows -/

/-- Whether a point is the first of its sequence, as the kernel computes it. -/
def firstBit (a0 : BitVec 32) : BitVec 1 :=
  let v131 : BitVec 32 := Scalar.select (Scalar.cmpi .eq 16#32 0#32) 1#32 16#32
  let v132 : BitVec 32 := Scalar.remsi a0 v131
  Scalar.cmpi .eq (Scalar.select (Scalar.andi (Scalar.xori (Scalar.cmpi .slt v132 0#32) (Scalar.cmpi .slt v131 0#32)) (Scalar.cmpi .ne v132 0#32)) (Scalar.addi v132 v131) v132) 0#32

theorem firstBit_eq : ∀ n : Fin 64, firstBit (BitVec.ofNat 32 n.val) = if n.val % 16 = 0 then 1#1 else 0#1 := by decide +kernel

/-- The rows before a tile, normed and kept or cleared. -/
def haloV (y : Ideal .f32) (x1 : Vec Ideal S16x1024 .f32) (x2 : Vec Ideal S1x1024 .f32) : FVec Ideal S16x1024 .bf16 :=
  shapeCast S16x1024 (truncf .bf16 (mulf (mulf (mulf x1 (broadcastTo S16x1024 (rsqrt (addf (divf (shapeCast S16x1 (multiReduction .add [1] S16 (mulf x1 x1) 0x00000000#32 reduces_S16x1024_S16 (.inl rfl) rfl) shapeCasts_S16_S16x1) (broadcast S16x1 (Scalar.ofBits .f32 0x44800000#32))) (broadcast S16x1 (Scalar.ofBits .f32 0x358637BD#32)))) broadcasts_S16x1_S16x1024)) (broadcastTo S16x1024 x2 broadcasts_S1x1024_S16x1024)) (broadcast S16x1024 y)) bitsLt_bf16_f32) shapeCasts_S16x1024_S16x1024

theorem halo_open (a0 : BitVec 32) (x1 : Vec Ideal S16x1024 .f32) (x2 : Vec Ideal S1x1024 .f32) :
    k0_pay19 a0 x1 x2 = haloV (Scalar.select (firstBit a0) (Scalar.ofBits .f32 0x00000000#32) (Scalar.ofBits .f32 0x3F800000#32)) x1 x2 := rfl

theorem haloV_apply (y : Ideal .f32) (x1 : Vec Ideal S16x1024 .f32) (x2 : Vec Ideal S1x1024 .f32) (e : Fin 16) (k : Fin 1024) :
    haloV y x1 x2 (ix2 e k) = nrm x1 x2 e k * y := by
  unfold nrm
  pointwise [haloV]

theorem halo_apply (n : Fin 64) (x1 : Vec Ideal S16x1024 .f32) (x2 : Vec Ideal S1x1024 .f32) (e : Fin 16) (k : Fin 1024) :
    k0_pay19 (BitVec.ofNat 32 n.val) x1 x2 (ix2 e k) = if n.val % 16 = 0 then 0 else nrm x1 x2 e k := by
  rw [halo_open, haloV_apply, firstBit_eq]
  by_cases h : n.val % 16 = 0
  · rw [if_pos h, if_pos h]
    have : (Scalar.select 1#1 (Scalar.ofBits .f32 0x00000000#32) (Scalar.ofBits .f32 0x3F800000#32) : Ideal .f32) = (0 : EReal) := Ideal.ofBits_zero_f32
    rw [this]
    exact mul_zero _
  · rw [if_neg h, if_neg h]
    have : (Scalar.select 0#1 (Scalar.ofBits .f32 0x00000000#32) (Scalar.ofBits .f32 0x3F800000#32) : Ideal .f32) = (1 : EReal) := Ideal.ofBits_one_f32
    rw [this]
    exact mul_one _

theorem buf_pay (A : FVec Ideal S528x1024 .bf16) (B : Vec Ideal S1024x512 .bf16) (e : Fin 528) (k : Fin 512) :
    k0_pay21 A B (ix2 e k) = ∑ v : Fin 1024, A (ix2 e v) * B (ix2 v k) := by
  pointwise [k0_pay21]

/-- Row `e` of the buffer: a row of the tile, or one of the sixteen before it. -/
theorem cbuf_apply (n : Fin 64) (x0 : Vec Ideal S512x1024 .f32) (x1 : Vec Ideal S16x1024 .f32) (x2 : Vec Ideal S1x1024 .f32) (x3 : Vec Ideal S1024x9472 .bf16)
    (j : Fin 6) (e : Fin 528) (k : Fin 512) :
    cbuf (BitVec.ofNat 32 n.val) x0 x1 x2 x3 j (ix2 e k)
      = if h : e.val < 16 then (if n.val % 16 = 0 then 0 else proj x1 x2 x3 ⟨e.val, h⟩ ⟨2048 + 512 * j.val + k.val, by omega⟩)
        else proj x0 x2 x3 ⟨e.val - 16, by omega⟩ ⟨2048 + 512 * j.val + k.val, by omega⟩ := by
  unfold cbuf
  rw [buf_pay]
  have hj : ∀ v : Fin 1024, joined (Val := Elt Ideal) (e := .bf16) (k0_pay2 x0 x2) (k0_pay19 (BitVec.ofNat 32 n.val) x1 x2) (ix2 e v)
      = if h : e.val < 16 then k0_pay19 (BitVec.ofNat 32 n.val) x1 x2 (ix2 ⟨e.val, h⟩ v) else k0_pay2 x0 x2 (ix2 ⟨e.val - 16, by omega⟩ v) := fun _ => rfl
  by_cases h : e.val < 16
  · rw [dif_pos h]
    by_cases hn : n.val % 16 = 0
    · rw [if_pos hn]
      refine Finset.sum_eq_zero fun v _ => ?_
      rw [hj, dif_pos h, halo_apply, if_pos hn]
      exact zero_mul _
    · rw [if_neg hn]
      unfold proj
      refine Finset.sum_congr rfl fun v _ => ?_
      rw [hj, dif_pos h, halo_apply, if_neg hn, slab_apply]
  · rw [dif_neg h]
    unfold proj
    refine Finset.sum_congr rfl fun v _ => ?_
    rw [hj, dif_neg h, normed_apply, slab_apply]

theorem cread_apply (a0 : BitVec 32) (x0 : Vec Ideal S512x1024 .f32) (x1 : Vec Ideal S16x1024 .f32) (x2 : Vec Ideal S1x1024 .f32) (x3 : Vec Ideal S1024x9472 .bf16)
    (o : ℕ) (h : o ≤ 16) (j : Fin 6) (l k : Fin 512) :
    cread a0 x0 x1 x2 x3 o h j (ix2 l k) = cbuf a0 x0 x1 x2 x3 j (ix2 ⟨o + l.val, by omega⟩ k) := by
  refine congrArg (cbuf a0 x0 x1 x2 x3 j) (funext fun a => Fin.ext ?_)
  fin_cases a
  · show o + 1 * l.val = o + l.val; omega
  · show 0 + 1 * k.val = k.val; omega
theorem clast_apply (a0 : BitVec 32) (x0 : Vec Ideal S512x1024 .f32) (x1 : Vec Ideal S16x1024 .f32) (x2 : Vec Ideal S1x1024 .f32) (x3 : Vec Ideal S1024x9472 .bf16)
    (j : Fin 6) (e : Fin 8) (k : Fin 512) :
    clast a0 x0 x1 x2 x3 j (ix2 e k) = cbuf a0 x0 x1 x2 x3 j (ix2 ⟨520 + e.val, by omega⟩ k) := by
  refine congrArg (cbuf a0 x0 x1 x2 x3 j) (funext fun a => Fin.ext ?_)
  fin_cases a
  · show 520 + 1 * e.val = 520 + e.val; omega
  · show 0 + 1 * k.val = k.val; omega
theorem bias_apply (x5 : Vec Ideal S1x3072 .f32) (j : Fin 6) (k : Fin 512) : biasRow x5 j (ix2 0 k) = x5 (ix2 0 ⟨512 * j.val + k.val, by omega⟩) := by
  refine congrArg x5 (funext fun a => Fin.ext ?_)
  fin_cases a
  · rfl
  · show 512 * j.val + 1 * k.val = 512 * j.val + k.val; omega
theorem tapRow_apply (x4 : Vec Ideal S4x3072 .f32) (q : Fin 4) (j : Fin 6) (k : Fin 512) : tapRow x4 q j (ix2 0 k) = x4 (ix2 q ⟨512 * j.val + k.val, by omega⟩) := by
  refine congrArg x4 (funext fun a => Fin.ext ?_)
  fin_cases a
  · show q.val + 1 * 0 = q.val; omega
  · show 512 * j.val + 1 * k.val = 512 * j.val + k.val; omega

theorem act_pay (b w3 w2 w1 w0 : Vec Ideal S1x512 .f32) (c3 c2 c1 c0 : Vec Ideal S512x512 .f32) (l k : Fin 512) (u : EReal)
    (hu : b (ix2 0 k) + w3 (ix2 0 k) * c3 (ix2 l k) + w2 (ix2 0 k) * c2 (ix2 l k) + w1 (ix2 0 k) * c1 (ix2 l k) + w0 (ix2 0 k) * c0 (ix2 l k) = u) :
    k0_pay31 b w3 c3 w2 c2 w1 c1 w0 c0 (ix2 l k) = u * sigT u := by
  subst hu
  unfold sigT
  pointwise [k0_pay31]

theorem last_pay (x : Vec Ideal S8x512 .f32) (z : Fin 1) (e : Fin 8) (k : Fin 512) : k0_pay1 x (ix3 z e k) = x (ix2 e k) := by
  pointwise [k0_pay1]

end Cert.InprojIdeal.Body

end
-- ==== Proof.InArrays.lean ====
module

public import proofs.«01_k».proof.Proof.InRead
public import proofs.«01_k».proof.Proof.Gen.InprojIdeal.Value

@[expose] public section

/-! The blocks a point of the projection's grid reads, at an index of the arrays, and what the nine results hold, one element at a time. -/

noncomputable section

open Idealize.ShloMosaic Idealize.ShloMosaic.TcCoe Idealize.SL.Sem

namespace Cert.InprojIdeal.Body
open Cert.InprojIdeal Cert.InprojIdeal.Gen Cert.InprojIdeal.Value Cert.InSame

variable (m : (ℓ : Loc nD τ sig) → Buf (Elt Ideal) ℓ) (c : Dev nD) (t : Fin cfg0.N)

theorem point_lt : t.val < 64 := lt_of_lt_of_eq t.isLt N_0
theorem coords_0 : (grid0.coords t 0 : ℕ) = t.val := (by decide +kernel : ∀ t : Fin grid0.N, (grid0.coords t 0 : ℕ) = t.val) t

/-- The tile's rows and the sixteen before them. -/
theorem index_rows : ∀ t : Fin cfg0.N, win0_0.index t = ![t.val, 0] ∧ win0_1.index t = ![32 * t.val - 1, 0] := (by decide +kernel : ∀ t : Fin grid0.N, _)
/-- The weights are taken whole. -/
theorem index_whole : ∀ t : Fin cfg0.N, (win0_2.index t = ![0, 0] ∧ win0_3.index t = ![0, 0]) ∧ (win0_4.index t = ![0, 0] ∧ win0_5.index t = ![0, 0]) :=
  (by decide +kernel : ∀ t : Fin grid0.N, _)
/-- The results' rows. -/
theorem index_out : ∀ t : Fin cfg0.N,
    ((win0_6.index t = ![t.val, 0] ∧ win0_7.index t = ![t.val, 0]) ∧ (win0_8.index t = ![t.val, 0] ∧ win0_9.index t = ![t.val, 0]))
    ∧ ((win0_10.index t = ![t.val, 0] ∧ win0_11.index t = ![t.val, 0]) ∧ (win0_12.index t = ![t.val, 0] ∧ win0_13.index t = ![t.val, 0])) :=
  (by decide +kernel : ∀ t : Fin grid0.N, _)
theorem index_last : ∀ t : Fin cfg0.N, win0_14.index t = ![t.val / 16, 0, 0] := (by decide +kernel : ∀ t : Fin grid0.N, _)

/-- Row `l` of the tile in the whole array. -/
def rowAt (t : Fin cfg0.N) (l : Fin 512) : Fin 32768 := ⟨512 * t.val + l.val, by have := point_lt t; omega⟩

/-- Where an element of a tile lies in its array. -/
theorem tile_at {w : ℕ} (idx : Fin 2 → ℕ) (e : idx = ![t.val, 0]) (l : Fin 512) (k : Fin w)
    (i : (⟨2, ![32768, w]⟩ : Shape).Idx) (h0 : (i 0).val = idx 0 * 512 + 1 * l.val) (h1 : (i 1).val = idx 1 * w + 1 * k.val) : i = ix2 (rowAt t l) k := by
  subst e
  refine funext fun a => Fin.ext ?_
  match a with
  | ⟨0, _⟩ => refine h0.trans ?_; show t.val * 512 + 1 * l.val = 512 * t.val + l.val; omega
  | ⟨1, _⟩ => refine h1.trans ?_; show 0 * w + 1 * k.val = k.val; omega
/-- Where an element of the rows before a tile lies. -/
theorem before_at (ht : 0 < t.val) (idx : Fin 2 → ℕ) (e : idx = ![32 * t.val - 1, 0]) (l : Fin 16) (k : Fin 1024)
    (i : (⟨2, ![32768, 1024]⟩ : Shape).Idx) (h0 : (i 0).val = idx 0 * 16 + 1 * l.val) (h1 : (i 1).val = idx 1 * 1024 + 1 * k.val) :
    i = ix2 ⟨512 * t.val - 16 + l.val, by have := point_lt t; omega⟩ k := by
  subst e
  refine funext fun a => Fin.ext ?_
  match a with
  | ⟨0, _⟩ => refine h0.trans ?_; show (32 * t.val - 1) * 16 + 1 * l.val = 512 * t.val - 16 + l.val; omega
  | ⟨1, _⟩ => refine h1.trans ?_; show 0 * 1024 + 1 * k.val = k.val; omega
/-- Where an element of a whole array lies. -/
theorem whole_at {u w : ℕ} (idx : Fin 2 → ℕ) (e : idx = ![0, 0]) (l : Fin u) (k : Fin w)
    (i : (⟨2, ![u, w]⟩ : Shape).Idx) (h0 : (i 0).val = idx 0 * u + 1 * l.val) (h1 : (i 1).val = idx 1 * w + 1 * k.val) : i = ix2 l k := by
  subst e
  refine funext fun a => Fin.ext ?_
  match a with
  | ⟨0, _⟩ => refine h0.trans ?_; show 0 * u + 1 * l.val = l.val; omega
  | ⟨1, _⟩ => refine h1.trans ?_; show 0 * w + 1 * k.val = k.val; omega

/-- The arguments. -/
abbrev argX : FVec Ideal S32768x1024 .f32 := m ((c : Thread nD τ).loc main_arg0)
abbrev argG : FVec Ideal S1x1024 .f32 := m ((c : Thread nD τ).loc main_arg1)
abbrev argW : FVec Ideal S1024x9472 .bf16 := m ((c : Thread nD τ).loc main_arg2)
abbrev argK : FVec Ideal S4x3072 .f32 := m ((c : Thread nD τ).loc main_arg3)
abbrev argB : FVec Ideal S1x3072 .f32 := m ((c : Thread nD τ).loc main_arg4)

theorem block_0 (l : Fin 512) (k : Fin 1024) : iblk m c 0 t (ix2 l k) = argX m c (ix2 (rowAt t l) k) :=
  congrArg (m ((c : Thread nD τ).loc main_arg0)) (tile_at t _ (index_rows t).1 l k (((cfg0.win 0).blk t).view.emb (ix2 l k)) rfl rfl)
theorem block_1 (ht : 0 < t.val) (l : Fin 16) (k : Fin 1024) :
    iblk m c 1 t (ix2 l k) = argX m c (ix2 ⟨512 * t.val - 16 + l.val, by have := point_lt t; omega⟩ k) :=
  congrArg (m ((c : Thread nD τ).loc main_arg0)) (before_at t ht _ (index_rows t).2 l k (((cfg0.win 1).blk t).view.emb (ix2 l k)) rfl rfl)
theorem block_2 (l : Fin 1) (k : Fin 1024) : iblk m c 2 t (ix2 l k) = argG m c (ix2 l k) :=
  congrArg (m ((c : Thread nD τ).loc main_arg1)) (whole_at _ (index_whole t).1.1 l k (((cfg0.win 2).blk t).view.emb (ix2 l k)) rfl rfl)
theorem block_3 (l : Fin 1024) (k : Fin 9472) : iblk m c 3 t (ix2 l k) = argW m c (ix2 l k) :=
  congrArg (m ((c : Thread nD τ).loc main_arg2)) (whole_at _ (index_whole t).1.2 l k (((cfg0.win 3).blk t).view.emb (ix2 l k)) rfl rfl)
theorem block_4 (l : Fin 4) (k : Fin 3072) : iblk m c 4 t (ix2 l k) = argK m c (ix2 l k) :=
  congrArg (m ((c : Thread nD τ).loc main_arg3)) (whole_at _ (index_whole t).2.1 l k (((cfg0.win 4).blk t).view.emb (ix2 l k)) rfl rfl)
theorem block_5 (l : Fin 1) (k : Fin 3072) : iblk m c 5 t (ix2 l k) = argB m c (ix2 l k) :=
  congrArg (m ((c : Thread nD τ).loc main_arg4)) (whole_at _ (index_whole t).2.2 l k (((cfg0.win 5).blk t).view.emb (ix2 l k)) rfl rfl)

/-- A projected row is the same when the rows and the weights are. -/
theorem proj_same {n n' : ℕ} (X : FVec Ideal ⟨2, ![n, 1024]⟩ .f32) (X' : FVec Ideal ⟨2, ![n', 1024]⟩ .f32) (g g' : FVec Ideal ⟨2, ![1, 1024]⟩ .f32)
    (w w' : FVec Ideal ⟨2, ![1024, 9472]⟩ .bf16) (r : Fin n) (r' : Fin n') (col : Fin 9472) (hX : ∀ k, X (ix2 r k) = X' (ix2 r' k))
    (hg : ∀ k, g (ix2 0 k) = g' (ix2 0 k)) (hw : ∀ k, w (ix2 k col) = w' (ix2 k col)) : proj X g w r col = proj X' g' w' r' col := by
  unfold proj nrm
  simp only [hX, hg, hw]

theorem tile_proj (l : Fin 512) (col : Fin 9472) :
    proj (iblk m c 0 t) (iblk m c 2 t) (iblk m c 3 t) l col = proj (argX m c) (argG m c) (argW m c) (rowAt t l) col :=
  proj_same _ _ _ _ _ _ _ _ _ (fun k => block_0 m c t l k) (fun k => block_2 m c t 0 k) (fun k => block_3 m c t k col)
theorem before_proj (ht : 0 < t.val) (l : Fin 16) (col : Fin 9472) :
    proj (iblk m c 1 t) (iblk m c 2 t) (iblk m c 3 t) l col
      = proj (argX m c) (argG m c) (argW m c) ⟨512 * t.val - 16 + l.val, by have := point_lt t; omega⟩ col :=
  proj_same _ _ _ _ _ _ _ _ _ (fun k => block_1 m c t ht l k) (fun k => block_2 m c t 0 k) (fun k => block_3 m c t k col)

/-! ### The plain columns -/

/-- Every point writes its rows of every tiled result. -/
theorem flush_rows : ∀ t : Fin cfg0.N, (((cfg0.win 6).flush t = true ∧ (cfg0.win 7).flush t = true) ∧ ((cfg0.win 8).flush t = true ∧ (cfg0.win 9).flush t = true))
    ∧ (((cfg0.win 10).flush t = true ∧ (cfg0.win 11).flush t = true) ∧ ((cfg0.win 12).flush t = true ∧ (cfg0.win 13).flush t = true)) :=
  (by decide +kernel : ∀ t : Fin grid0.N, (((win0_6).flush t = true ∧ (win0_7).flush t = true) ∧ ((win0_8).flush t = true ∧ (win0_9).flush t = true))
    ∧ (((win0_10).flush t = true ∧ (win0_11).flush t = true) ∧ ((win0_12).flush t = true ∧ (win0_13).flush t = true)))

theorem rows_6 (l : Fin 512) (k : Fin 2048) : (dats m 0 c).arrAt 6 cfg0.N (ix2 (rowAt t l) k) = (outsAt0 m c t).1 (ix2 l k) :=
  (congrArg ((dats m 0 c).arrAt 6 cfg0.N) (tile_at t _ (index_out t).1.1.1 l k (((cfg0.win 6).blk t).view.emb (ix2 l k)) rfl rfl)).symm.trans
    (congrFun ((blocks6 m c t (flush_rows t).1.1.1).trans (flushed6 m c t)) (ix2 l k))
theorem rows_7 (l : Fin 512) (k : Fin 3072) : (dats m 0 c).arrAt 7 cfg0.N (ix2 (rowAt t l) k) = (outsAt0 m c t).2.1 (ix2 l k) :=
  (congrArg ((dats m 0 c).arrAt 7 cfg0.N) (tile_at t _ (index_out t).1.1.2 l k (((cfg0.win 7).blk t).view.emb (ix2 l k)) rfl rfl)).symm.trans
    (congrFun ((blocks7 m c t (flush_rows t).1.1.2).trans (flushed7 m c t)) (ix2 l k))
theorem rows_8 (l : Fin 512) (k : Fin 1024) : (dats m 0 c).arrAt 8 cfg0.N (ix2 (rowAt t l) k) = (outsAt0 m c t).2.2.1 (ix2 l k) :=
  (congrArg ((dats m 0 c).arrAt 8 cfg0.N) (tile_at t _ (index_out t).1.2.1 l k (((cfg0.win 8).blk t).view.emb (ix2 l k)) rfl rfl)).symm.trans
    (congrFun ((blocks8 m c t (flush_rows t).1.2.1).trans (flushed8 m c t)) (ix2 l k))
theorem rows_9 (l : Fin 512) (k : Fin 512) : (dats m 0 c).arrAt 9 cfg0.N (ix2 (rowAt t l) k) = (outsAt0 m c t).2.2.2.1 (ix2 l k) :=
  (congrArg ((dats m 0 c).arrAt 9 cfg0.N) (tile_at t _ (index_out t).1.2.2 l k (((cfg0.win 9).blk t).view.emb (ix2 l k)) rfl rfl)).symm.trans
    (congrFun ((blocks9 m c t (flush_rows t).1.2.2).trans (flushed9 m c t)) (ix2 l k))
theorem rows_10 (l : Fin 512) (k : Fin 512) : (dats m 0 c).arrAt 10 cfg0.N (ix2 (rowAt t l) k) = (outsAt0 m c t).2.2.2.2.1 (ix2 l k) :=
  (congrArg ((dats m 0 c).arrAt 10 cfg0.N) (tile_at t _ (index_out t).2.1.1 l k (((cfg0.win 10).blk t).view.emb (ix2 l k)) rfl rfl)).symm.trans
    (congrFun ((blocks10 m c t (flush_rows t).2.1.1).trans (flushed10 m c t)) (ix2 l k))
theorem rows_11 (l : Fin 512) (k : Fin 1024) : (dats m 0 c).arrAt 11 cfg0.N (ix2 (rowAt t l) k) = (outsAt0 m c t).2.2.2.2.2.1 (ix2 l k) :=
  (congrArg ((dats m 0 c).arrAt 11 cfg0.N) (tile_at t _ (index_out t).2.1.2 l k (((cfg0.win 11).blk t).view.emb (ix2 l k)) rfl rfl)).symm.trans
    (congrFun ((blocks11 m c t (flush_rows t).2.1.2).trans (flushed11 m c t)) (ix2 l k))
theorem rows_12 (l : Fin 512) (k : Fin 1024) : (dats m 0 c).arrAt 12 cfg0.N (ix2 (rowAt t l) k) = (outsAt0 m c t).2.2.2.2.2.2.1 (ix2 l k) :=
  (congrArg ((dats m 0 c).arrAt 12 cfg0.N) (tile_at t _ (index_out t).2.2.1 l k (((cfg0.win 12).blk t).view.emb (ix2 l k)) rfl rfl)).symm.trans
    (congrFun ((blocks12 m c t (flush_rows t).2.2.1).trans (flushed12 m c t)) (ix2 l k))
theorem rows_13 (l : Fin 512) (k : Fin 128) : (dats m 0 c).arrAt 13 cfg0.N (ix2 (rowAt t l) k) = (outsAt0 m c t).2.2.2.2.2.2.2.1 (ix2 l k) :=
  (congrArg ((dats m 0 c).arrAt 13 cfg0.N) (tile_at t _ (index_out t).2.2.2 l k (((cfg0.win 13).blk t).view.emb (ix2 l k)) rfl rfl)).symm.trans
    (congrFun ((blocks13 m c t (flush_rows t).2.2.2).trans (flushed13 m c t)) (ix2 l k))
theorem piece_6 : (outsAt0 m c t).1 = View.canon (cols 4 (by omega) fun j => k0_pay6 (k0_pay2 (iblk m c 0 t) (iblk m c 2 t)) (slab (iblk m c 3 t) 0 j (by omega))) := by
  unfold outsAt0
  dsimp only
  rw [A_out6]
theorem piece_8 : (outsAt0 m c t).2.2.1 = View.canon (cols 2 (by omega) fun j => k0_pay8 (k0_pay2 (iblk m c 0 t) (iblk m c 2 t)) (slab (iblk m c 3 t) 5120 j (by omega))) := by
  unfold outsAt0
  dsimp only
  rw [A_out8]
theorem piece_9 : (outsAt0 m c t).2.2.2.1 = View.canon (cols 1 (by omega) fun j => k0_pay10 (k0_pay2 (iblk m c 0 t) (iblk m c 2 t)) (slab (iblk m c 3 t) 6144 j (by omega))) := by
  unfold outsAt0
  dsimp only
  rw [A_out9]
theorem piece_10 : (outsAt0 m c t).2.2.2.2.1 = View.canon (cols 1 (by omega) fun j => k0_pay11 (k0_pay2 (iblk m c 0 t) (iblk m c 2 t)) (slab (iblk m c 3 t) 6656 j (by omega))) := by
  unfold outsAt0
  dsimp only
  rw [A_out10]
theorem piece_11 : (outsAt0 m c t).2.2.2.2.2.1 = View.canon (cols 2 (by omega) fun j => k0_pay12 (k0_pay2 (iblk m c 0 t) (iblk m c 2 t)) (slab (iblk m c 3 t) 7168 j (by omega))) := by
  unfold outsAt0
  dsimp only
  rw [A_out11]
theorem piece_12 : (outsAt0 m c t).2.2.2.2.2.2.1 = View.canon (cols 2 (by omega) fun j => k0_pay12 (k0_pay2 (iblk m c 0 t) (iblk m c 2 t)) (slab (iblk m c 3 t) 8192 j (by omega))) := by
  unfold outsAt0
  dsimp only
  rw [A_out12]
theorem piece_13 : (outsAt0 m c t).2.2.2.2.2.2.2.1 = k0_pay18 (k0_pay2 (iblk m c 0 t) (iblk m c 2 t)) (View.ld (iblk m c 3 t) (Rect.unit (s := S1024x9472) ![0, 9216] S1024x128.size dtIn)) := by
  unfold outsAt0
  dsimp only
  rw [A_out13]
  rfl
theorem piece_7 : (outsAt0 m c t).2.1 = View.canon (cols 6 (by omega) fun j => k0_pay31 (biasRow (iblk m c 5 t) j) (tapRow (iblk m c 4 t) 3 j) (cread (BitVec.ofNat 32 (grid0.coords t 0 : ℕ)) (iblk m c 0 t) (iblk m c 1 t) (iblk m c 2 t) (iblk m c 3 t) 16 (by omega) j) (tapRow (iblk m c 4 t) 2 j) (cread (BitVec.ofNat 32 (grid0.coords t 0 : ℕ)) (iblk m c 0 t) (iblk m c 1 t) (iblk m c 2 t) (iblk m c 3 t) 15 (by omega) j) (tapRow (iblk m c 4 t) 1 j) (cread (BitVec.ofNat 32 (grid0.coords t 0 : ℕ)) (iblk m c 0 t) (iblk m c 1 t) (iblk m c 2 t) (iblk m c 3 t) 14 (by omega) j) (tapRow (iblk m c 4 t) 0 j) (cread (BitVec.ofNat 32 (grid0.coords t 0 : ℕ)) (iblk m c 0 t) (iblk m c 1 t) (iblk m c 2 t) (iblk m c 3 t) 13 (by omega) j)) := by
  unfold outsAt0
  dsimp only
  rw [A_out7]
theorem piece_14 : (outsAt0 m c t).2.2.2.2.2.2.2.2 = View.canon (cols3 6 (by omega) fun j => k0_pay1 (clast (BitVec.ofNat 32 (grid0.coords t 0 : ℕ)) (iblk m c 0 t) (iblk m c 1 t) (iblk m c 2 t) (iblk m c 3 t) j)) := by
  unfold outsAt0
  dsimp only
  rw [A_out14]

/-- The projection at a tile's row. -/
def pr (l : Fin 512) (col : Fin 9472) : EReal := proj (argX m c) (argG m c) (argW m c) (rowAt t l) col

/-- The gate of the recurrence. -/
theorem at_6 (l : Fin 512) (j : Fin 4) (k : Fin 512) :
    (dats m 0 c).arrAt 6 cfg0.N (ix2 (rowAt t l) (⟨512 * j.val + k.val, by omega⟩ : Fin 2048)) = (pr m c t l ⟨0 + 512 * j.val + k.val, by omega⟩) * sigT (pr m c t l ⟨0 + 512 * j.val + k.val, by omega⟩) := by
  refine (rows_6 m c t l _).trans ((congrFun (piece_6 m c t) _).trans ((canon_cols 4 _ _ l j k _).trans (((silu_pay _ _ l k)).trans ?_)))
  rw [mm_slab, tile_proj]
  rfl
/-- The queries. -/
theorem at_8 (l : Fin 512) (j : Fin 2) (k : Fin 512) :
    (dats m 0 c).arrAt 8 cfg0.N (ix2 (rowAt t l) (⟨512 * j.val + k.val, by omega⟩ : Fin 1024)) = (pr m c t l ⟨5120 + 512 * j.val + k.val, by omega⟩) * Ideal.ofBits .f32 0x3E000000#32 := by
  refine (rows_8 m c t l _).trans ((congrFun (piece_8 m c t) _).trans ((canon_cols 2 _ _ l j k _).trans (((scaled_pay _ _ l k)).trans ?_)))
  rw [mm_slab, tile_proj]
  rfl
/-- The keys. -/
theorem at_9 (l : Fin 512) (j : Fin 1) (k : Fin 512) :
    (dats m 0 c).arrAt 9 cfg0.N (ix2 (rowAt t l) (⟨512 * j.val + k.val, by omega⟩ : Fin 512)) = (pr m c t l ⟨6144 + 512 * j.val + k.val, by omega⟩) := by
  refine (rows_9 m c t l _).trans ((congrFun (piece_9 m c t) _).trans ((canon_cols 1 _ _ l j k _).trans (((plain_pay _ _ l k)).trans ?_)))
  rw [mm_slab, tile_proj]
  rfl
/-- The values. -/
theorem at_10 (l : Fin 512) (j : Fin 1) (k : Fin 512) :
    (dats m 0 c).arrAt 10 cfg0.N (ix2 (rowAt t l) (⟨512 * j.val + k.val, by omega⟩ : Fin 512)) = (pr m c t l ⟨6656 + 512 * j.val + k.val, by omega⟩) := by
  refine (rows_10 m c t l _).trans ((congrFun (piece_10 m c t) _).trans ((canon_cols 1 _ _ l j k _).trans (((plain_pay' _ _ l k)).trans ?_)))
  rw [mm_slab, tile_proj]
  rfl
/-- The two output gates. -/
theorem at_11 (l : Fin 512) (j : Fin 2) (k : Fin 512) :
    (dats m 0 c).arrAt 11 cfg0.N (ix2 (rowAt t l) (⟨512 * j.val + k.val, by omega⟩ : Fin 1024)) = sigT (pr m c t l ⟨7168 + 512 * j.val + k.val, by omega⟩) := by
  refine (rows_11 m c t l _).trans ((congrFun (piece_11 m c t) _).trans ((canon_cols 2 _ _ l j k _).trans (((sig_pay _ _ l k)).trans ?_)))
  rw [mm_slab, tile_proj]
  rfl
theorem at_12 (l : Fin 512) (j : Fin 2) (k : Fin 512) :
    (dats m 0 c).arrAt 12 cfg0.N (ix2 (rowAt t l) (⟨512 * j.val + k.val, by omega⟩ : Fin 1024)) = sigT (pr m c t l ⟨8192 + 512 * j.val + k.val, by omega⟩) := by
  refine (rows_12 m c t l _).trans ((congrFun (piece_12 m c t) _).trans ((canon_cols 2 _ _ l j k _).trans (((sig_pay _ _ l k)).trans ?_)))
  rw [mm_slab, tile_proj]
  rfl
/-- The time steps. -/
theorem at_13 (l : Fin 512) (k : Fin 128) : (dats m 0 c).arrAt 13 cfg0.N (ix2 (rowAt t l) k) = pr m c t l ⟨9216 + k.val, by omega⟩ := by
  refine (rows_13 m c t l _).trans ((congrFun (piece_13 m c t) _).trans ((time_slab _ _ _ l k).trans ?_))
  rw [tile_proj]
  rfl

/-! ### The convolution's columns -/

/-- The row `q` places before row `l`, in the buffer of a tile. -/
theorem tap_at (o q : ℕ) (ho : o ≤ 16) (hq : o + q = 16) (hq3 : q ≤ 3) (j : Fin 6) (l k : Fin 512) :
    cread (BitVec.ofNat 32 (grid0.coords t 0 : ℕ)) (iblk m c 0 t) (iblk m c 1 t) (iblk m c 2 t) (iblk m c 3 t) o ho j (ix2 l k)
      = tap (argX m c) (argG m c) (argW m c) ⟨t.val / 16, by have := point_lt t; omega⟩ ⟨512 * (t.val % 16) + l.val, by omega⟩ q ⟨512 * j.val + k.val, by omega⟩ := by
  have hl := point_lt t
  rw [cread_apply, coords_0, cbuf_apply ⟨t.val, hl⟩]
  unfold tap
  by_cases h : o + l.val < 16
  · rw [dif_pos h]
    by_cases h0 : t.val % 16 = 0
    · rw [if_pos h0, if_neg (by show ¬ q ≤ 512 * (t.val % 16) + l.val; omega)]
    · rw [if_neg h0, if_pos (by show q ≤ 512 * (t.val % 16) + l.val; omega), before_proj m c t (by omega)]
      refine congrArg₂ (proj (argX m c) (argG m c) (argW m c)) (Fin.ext ?_) (Fin.ext ?_)
      · show 512 * t.val - 16 + (o + l.val) = t.val / 16 * 8192 + (512 * (t.val % 16) + l.val - q); omega
      · show 2048 + 512 * j.val + k.val = 2048 + (512 * j.val + k.val); omega
  · rw [dif_neg h, if_pos (by show q ≤ 512 * (t.val % 16) + l.val; omega), tile_proj]
    refine congrArg₂ (proj (argX m c) (argG m c) (argW m c)) (Fin.ext ?_) (Fin.ext ?_)
    · show 512 * t.val + (o + l.val - 16) = t.val / 16 * 8192 + (512 * (t.val % 16) + l.val - q); omega
    · show 2048 + 512 * j.val + k.val = 2048 + (512 * j.val + k.val); omega

/-- The convolution at a tile's row. -/
def cv (l : Fin 512) (col : Fin 3072) : EReal :=
  conv (argX m c) (argG m c) (argW m c) (argK m c) (argB m c) ⟨t.val / 16, by have := point_lt t; omega⟩ ⟨512 * (t.val % 16) + l.val, by omega⟩ col

/-- The convolved columns. -/
theorem at_7 (l : Fin 512) (j : Fin 6) (k : Fin 512) :
    (dats m 0 c).arrAt 7 cfg0.N (ix2 (rowAt t l) (⟨512 * j.val + k.val, by omega⟩ : Fin 3072))
      = cv m c t l ⟨512 * j.val + k.val, by omega⟩ * sigT (cv m c t l ⟨512 * j.val + k.val, by omega⟩) := by
  refine (rows_7 m c t l _).trans ((congrFun (piece_7 m c t) _).trans ((canon_cols 6 _ _ l j k _).trans (act_pay _ _ _ _ _ _ _ _ _ l k _ ?_)))
  rw [tap_at m c t 16 0 _ rfl, tap_at m c t 15 1 _ rfl, tap_at m c t 14 2 _ rfl, tap_at m c t 13 3 _ rfl, bias_apply, tapRow_apply, tapRow_apply, tapRow_apply, tapRow_apply,
    block_5, block_4, block_4, block_4, block_4]
  · rfl
  all_goals omega

/-! ### The last eight rows of a sequence -/

theorem flush_last : ∀ t : Fin cfg0.N, ((cfg0.win 14).flush t = true ↔ t.val % 16 = 15) :=
  (by decide +kernel : ∀ t : Fin grid0.N, ((win0_14).flush t = true ↔ t.val % 16 = 15))
theorem apart : ∀ t t' : Fin cfg0.N, t.val % 16 = 15 → t'.val % 16 = 15 → win0_14.index t = win0_14.index t' → t = t' :=
  (by decide +kernel : ∀ t t' : Fin grid0.N, t.val % 16 = 15 → t'.val % 16 = 15 → win0_14.index t = win0_14.index t' → t = t')
theorem last_disjoint : ∀ t t' : Fin cfg0.N, (cfg0.win 14).flush t = true → (cfg0.win 14).flush t' = true → t ≠ t' →
    Disjoint ((cfg0.win 14).blk t).view.set ((cfg0.win 14).blk t').view.set :=
  fun t t' hf hf' hne => (cfg0.win 14).disjoint_blk fun h => hne (apart t t' ((flush_last t).1 hf) ((flush_last t').1 hf') h)

theorem last_at (idx : Fin 3 → ℕ) (e : idx = ![t.val / 16, 0, 0]) (l : Fin 8) (k : Fin 3072) (i : (⟨3, ![4, 8, 3072]⟩ : Shape).Idx)
    (h0 : (i 0).val = idx 0 * 1 + 1 * 0) (h1 : (i 1).val = idx 1 * 8 + 1 * l.val) (h2 : (i 2).val = idx 2 * 3072 + 1 * k.val) :
    i = ix3 ⟨t.val / 16, by have := point_lt t; omega⟩ l k := by
  subst e
  refine funext fun a => Fin.ext ?_
  match a with
  | ⟨0, _⟩ => refine h0.trans ?_; show t.val / 16 * 1 + 1 * 0 = t.val / 16; omega
  | ⟨1, _⟩ => refine h1.trans ?_; show 0 * 8 + 1 * l.val = l.val; omega
  | ⟨2, _⟩ => refine h2.trans ?_; show 0 * 3072 + 1 * k.val = k.val; omega

theorem rows_14 (ht : t.val % 16 = 15) (l : Fin 8) (k : Fin 3072) :
    (dats m 0 c).arrAt 14 cfg0.N (ix3 ⟨t.val / 16, by have := point_lt t; omega⟩ l k) = (outsAt0 m c t).2.2.2.2.2.2.2.2 (ix3 0 l k) :=
  (congrArg ((dats m 0 c).arrAt 14 cfg0.N) (last_at t _ (index_last t) l k (((cfg0.win 14).blk t).view.emb (ix3 0 l k)) rfl rfl rfl)).symm.trans
    (congrFun (((dats m 0 c).read_blk_arrAt_eq_flushed 14 last_disjoint cfg0.N t t.isLt ((flush_last t).2 ht)).trans (flushed14 m c t)) (ix3 0 l k))

theorem at_14 (ht : t.val % 16 = 15) (e : Fin 8) (j : Fin 6) (k : Fin 512) :
    (dats m 0 c).arrAt 14 cfg0.N (ix3 ⟨t.val / 16, by have := point_lt t; omega⟩ e (⟨512 * j.val + k.val, by omega⟩ : Fin 3072))
      = proj (argX m c) (argG m c) (argW m c) ⟨t.val / 16 * 8192 + (8184 + e.val), by have := point_lt t; omega⟩ ⟨2048 + (512 * j.val + k.val), by omega⟩ := by
  have hl := point_lt t
  refine (rows_14 m c t ht e _).trans ((congrFun (piece_14 m c t) _).trans ((canon_cols3 6 _ _ 0 e j k _).trans ((last_pay _ 0 e k).trans ?_)))
  rw [clast_apply, coords_0, cbuf_apply ⟨t.val, hl⟩, dif_neg (by show ¬ 520 + e.val < 16; omega), tile_proj]
  refine congrArg₂ (proj (argX m c) (argG m c) (argW m c)) (Fin.ext ?_) (Fin.ext ?_)
  · show 512 * t.val + (520 + e.val - 16) = t.val / 16 * 8192 + (8184 + e.val); omega
  · show 2048 + 512 * j.val + k.val = 2048 + (512 * j.val + k.val); omega

end Cert.InprojIdeal.Body

end
-- ==== Proof.InRef.lean ====
module

public import proofs.«01_k».proof.Proof.InSpec
public import proofs.«01_k».proof.Proof.Gen.InRefIdeal.Run

@[expose] public section

/-! The reference's results, one element at a time. -/

noncomputable section

open Idealize.ShloMosaic Idealize.ShloMosaic.TcCoe Idealize.SL.Sem

namespace Cert.InRefIdeal.Read
open Cert.InRefIdeal Cert.InRefIdeal.Gen Cert.InSame

/-- The whole projection as the reference prints it. -/
def pV (X : FVec Ideal S32768x1024 .f32) (g : FVec Ideal S1x1024 .f32) (w : FVec Ideal S1024x9472 .bf16) : FVec Ideal S32768x9472 .f32 :=
  Host.dotGeneral dot_S32768x1024_S1024x9472_S32768x9472_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g)) (extf .f32 w bitsLt_bf16_f32)

theorem pV_apply (X : FVec Ideal S32768x1024 .f32) (g : FVec Ideal S1x1024 .f32) (w : FVec Ideal S1024x9472 .bf16) (r : Fin 32768) (col : Fin 9472) :
    pV X g w (ix2 r col) = proj X g w r col := by
  unfold proj nrm
  pointwise [pV]

variable (p : FVec Ideal S32768x9472 .f32)

/-- The gate of the recurrence. -/
def zV : FVec Ideal S32768x2048 .bf16 :=
  truncf .bf16 (mulf (extractStridedSlice S32768x2048 ![0, 0] p slices_S32768x9472_S32768x2048_0_0) (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extractStridedSlice S32768x2048 ![0, 0] p slices_S32768x9472_S32768x2048_0_0)))))) bitsLt_bf16_f32

theorem z_apply (r : Fin 32768) (k : Fin 2048) :
    zV p (ix2 r k)
      = p (ix2 r ⟨k.val, by omega⟩) * sigE (p (ix2 r ⟨k.val, by omega⟩)) := by
  unfold sigE
  pointwise [zV]

/-- The queries. -/
def qV : FVec Ideal S32768x1024 .bf16 :=
  (truncf .bf16 (mulf (extractStridedSlice S32768x1024 ![0, 5120] p slices_S32768x9472_S32768x1024_0_5120) (broadcastInDim S32768x1024 ![] bcast_S_S32768x1024 (constant S_ .f32 0x3E000000#32))) bitsLt_bf16_f32)

theorem q_apply (r : Fin 32768) (k : Fin 1024) :
    qV p (ix2 r k)
      = p (ix2 r ⟨5120 + k.val, by omega⟩) * Ideal.ofBits .f32 0x3E000000#32 := by
  pointwise [qV]
/-- The keys. -/
def kV : FVec Ideal S32768x512 .bf16 :=
  (truncf .bf16 (extractStridedSlice S32768x512 ![0, 6144] p slices_S32768x9472_S32768x512_0_6144) bitsLt_bf16_f32)

theorem k_apply (r : Fin 32768) (k : Fin 512) :
    kV p (ix2 r k)
      = p (ix2 r ⟨6144 + k.val, by omega⟩) := by
  pointwise [kV]
/-- The values. -/
def vV : FVec Ideal S32768x512 .bf16 :=
  (truncf .bf16 (extractStridedSlice S32768x512 ![0, 6656] p slices_S32768x9472_S32768x512_0_6656) bitsLt_bf16_f32)

theorem v_apply (r : Fin 32768) (k : Fin 512) :
    vV p (ix2 r k)
      = p (ix2 r ⟨6656 + k.val, by omega⟩) := by
  pointwise [vV]
/-- The first output gate. -/
def gsV : FVec Ideal S32768x1024 .bf16 :=
  (truncf .bf16 (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extractStridedSlice S32768x1024 ![0, 7168] p slices_S32768x9472_S32768x1024_0_7168))))) bitsLt_bf16_f32)

theorem gs_apply (r : Fin 32768) (k : Fin 1024) :
    gsV p (ix2 r k)
      = sigE (p (ix2 r ⟨7168 + k.val, by omega⟩)) := by
  unfold sigE
  pointwise [gsV]
/-- The second output gate. -/
def gaV : FVec Ideal S32768x1024 .bf16 :=
  (truncf .bf16 (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extractStridedSlice S32768x1024 ![0, 8192] p slices_S32768x9472_S32768x1024_0_8192))))) bitsLt_bf16_f32)

theorem ga_apply (r : Fin 32768) (k : Fin 1024) :
    gaV p (ix2 r k)
      = sigE (p (ix2 r ⟨8192 + k.val, by omega⟩)) := by
  unfold sigE
  pointwise [gaV]
/-- The time steps. -/
def dtV : FVec Ideal S32768x128 .f32 :=
  (extractStridedSlice S32768x128 ![0, 9216] p slices_S32768x9472_S32768x128_0_9216)

theorem dt_apply (r : Fin 32768) (k : Fin 128) :
    dtV p (ix2 r k) = p (ix2 r ⟨9216 + k.val, by omega⟩) := by
  pointwise [dtV]

/-- The convolution's columns by sequence and place. -/
def uV : FVec Ideal S4x8192x3072 .f32 :=
  shapeCast _ (extractStridedSlice S32768x3072 ![0, 2048] p slices_S32768x9472_S32768x3072_0_2048) shapeCasts_S32768x3072_S4x8192x3072

theorem uV_apply (b : Fin 4) (s : Fin 8192) (k : Fin 3072) : uV p (ix3 b s k) = p (ix2 ⟨b.val * 8192 + s.val, by omega⟩ ⟨2048 + k.val, by omega⟩) := by
  pointwise [uV]

/-- The last eight rows of each sequence. -/
def windowV : FVec Ideal S4x8x3072 .f32 :=
  (extractStridedSlice S4x8x3072 ![0, 8184, 0] (uV p) slices_S4x8192x3072_S4x8x3072_0_8184_0)

theorem window_apply (b : Fin 4) (e : Fin 8) (k : Fin 3072) :
    windowV p (ix3 b e k)
      = p (ix2 ⟨b.val * 8192 + (8184 + e.val), by omega⟩ ⟨2048 + k.val, by omega⟩) := by
  unfold windowV
  refine Eq.trans ?_ (uV_apply p b ⟨8184 + e.val, by omega⟩ k)
  generalize uV p = u
  pointwise []

/-- With three rows of zeros before every sequence. -/
def padV (u : FVec Ideal S4x8192x3072 .f32) : FVec Ideal S4x8195x3072 .f32 :=
  concatenate S4x8195x3072 1 [⟨S4x3x3072, (broadcastInDim S4x3x3072 ![] bcast_S_S4x3x3072 (constant S_ .f32 0x00000000#32))⟩, ⟨S4x8192x3072, u⟩] concatenates_S4x3x3072_S4x8192x3072_S4x8195x3072_d1

theorem padV_apply (u : FVec Ideal S4x8192x3072 .f32) (b : Fin 4) (s : Fin 8195) (k : Fin 3072) :
    padV u (ix3 b s k) = if h : s.val < 3 then 0 else u (ix3 b ⟨s.val - 3, by omega⟩ k) := by
  pointwise [padV]

def rowV (u : FVec Ideal S3072 .f32) : FVec Ideal S4x8192x3072 .f32 :=
  broadcastInDim S4x8192x3072 ![0, 1, 2] bcast_S1x1x3072_S4x8192x3072_0_1_2 (broadcastInDim S1x1x3072 ![2] bcast_S3072_S1x1x3072_2 u)

theorem rowV_apply (u : FVec Ideal S3072 .f32) (b : Fin 4) (s : Fin 8192) (k : Fin 3072) : rowV u (ix3 b s k) = u (ix1 k) := by
  pointwise [rowV]

/-- The convolution as the reference prints it. -/
def convV (x : FVec Ideal S4x8195x3072 .f32) (cw : FVec Ideal S4x3072 .f32) (cb : FVec Ideal S1x3072 .f32) : FVec Ideal S4x8192x3072 .f32 :=
  addf (rowV (shapeCast _ cb shapeCasts_S1x3072_S3072))
    (addf (addf (addf (addf (broadcastInDim S4x8192x3072 ![] bcast_S_S4x8192x3072 (constant S_ .f32 0x00000000#32))
      (mulf (rowV (shapeCast _ (extractStridedSlice S1x3072 ![0, 0] cw slices_S4x3072_S1x3072_0_0) shapeCasts_S1x3072_S3072)) (extractStridedSlice S4x8192x3072 ![0, 0, 0] x slices_S4x8195x3072_S4x8192x3072_0_0_0)))
      (mulf (rowV (shapeCast _ (extractStridedSlice S1x3072 ![1, 0] cw slices_S4x3072_S1x3072_1_0) shapeCasts_S1x3072_S3072)) (extractStridedSlice S4x8192x3072 ![0, 1, 0] x slices_S4x8195x3072_S4x8192x3072_0_1_0)))
      (mulf (rowV (shapeCast _ (extractStridedSlice S1x3072 ![2, 0] cw slices_S4x3072_S1x3072_2_0) shapeCasts_S1x3072_S3072)) (extractStridedSlice S4x8192x3072 ![0, 2, 0] x slices_S4x8195x3072_S4x8192x3072_0_2_0)))
      (mulf (rowV (shapeCast _ (extractStridedSlice S1x3072 ![3, 0] cw slices_S4x3072_S1x3072_3_0) shapeCasts_S1x3072_S3072)) (extractStridedSlice S4x8192x3072 ![0, 3, 0] x slices_S4x8195x3072_S4x8192x3072_0_3_0)))

theorem convV_apply (x : FVec Ideal S4x8195x3072 .f32) (cw : FVec Ideal S4x3072 .f32) (cb : FVec Ideal S1x3072 .f32) (b : Fin 4) (s : Fin 8192) (k : Fin 3072) :
    convV x cw cb (ix3 b s k) = cb (ix2 0 k) + (0 + cw (ix2 0 k) * x (ix3 b ⟨s.val, by omega⟩ k) + cw (ix2 1 k) * x (ix3 b ⟨1 + s.val, by omega⟩ k)
      + cw (ix2 2 k) * x (ix3 b ⟨2 + s.val, by omega⟩ k) + cw (ix2 3 k) * x (ix3 b ⟨3 + s.val, by omega⟩ k)) := by
  pointwise [convV, rowV]

def actV (u : FVec Ideal S4x8192x3072 .f32) : FVec Ideal S32768x3072 .bf16 :=
  truncf .bf16 (shapeCast _ (mulf u (Host.divf (broadcastInDim S4x8192x3072 ![] bcast_S_S4x8192x3072 (constant S_ .f32 0x3F800000#32)) (addf (broadcastInDim S4x8192x3072 ![] bcast_S_S4x8192x3072 (constant S_ .f32 0x3F800000#32)) (Host.exp (Host.negf u))))) shapeCasts_S4x8192x3072_S32768x3072) bitsLt_bf16_f32

theorem actV_apply (u : FVec Ideal S4x8192x3072 .f32) (b : Fin 4) (s : Fin 8192) (k : Fin 3072) :
    actV u (ix2 ⟨b.val * 8192 + s.val, by omega⟩ k) = u (ix3 b s k) * sigE (u (ix3 b s k)) := by
  unfold sigE
  have h : shapeCast S32768x3072 u shapeCasts_S4x8192x3072_S32768x3072 (ix2 ⟨b.val * 8192 + s.val, by omega⟩ k) = u (ix3 b s k) := by
    pointwise []
  pointwise [actV]

theorem conv_read (X : FVec Ideal S32768x1024 .f32) (g : FVec Ideal S1x1024 .f32) (w : FVec Ideal S1024x9472 .bf16) (cw : FVec Ideal S4x3072 .f32) (cb : FVec Ideal S1x3072 .f32)
    (b : Fin 4) (s : Fin 8192) (k : Fin 3072) : convV (padV (uV (pV X g w))) cw cb (ix3 b s k) = conv X g w cw cb b s k := by
  have ht : ∀ (j e : ℕ) (he : e + s.val < 8195) (hj : e + j = 3), padV (uV (pV X g w)) (ix3 b ⟨e + s.val, he⟩ k) = tap X g w b s j k := by
    intro j e he hj
    rw [padV_apply]
    unfold tap
    by_cases h : j ≤ s.val
    · rw [if_pos h, dif_neg (by show ¬ e + s.val < 3; omega), uV_apply, pV_apply]
      congr 1
      apply Fin.ext
      show b.val * 8192 + (e + s.val - 3) = b.val * 8192 + (s.val - j)
      omega
    · rw [if_neg h, dif_pos (by show e + s.val < 3; omega)]
  rw [convV_apply, ht 2 1, ht 1 2, ht 0 3]
  · have h0 := ht 3 0 (by omega) rfl
    rw [show (⟨0 + s.val, by omega⟩ : Fin 8195) = ⟨s.val, by omega⟩ from Fin.ext (Nat.zero_add _)] at h0
    rw [h0]
    unfold conv
    generalize cb (ix2 0 k) = a
    generalize cw (ix2 0 k) * tap X g w b s 3 k = c0
    generalize cw (ix2 1 k) * tap X g w b s 2 k = c1
    generalize cw (ix2 2 k) * tap X g w b s 1 k = c2
    generalize cw (ix2 3 k) * tap X g w b s 0 k = c3
    rw [zero_add]
    ac_rfl
  all_goals rfl

end Cert.InRefIdeal.Read

end
-- ==== Proof.InEqual.lean ====
module

public import proofs.«01_k».proof.Proof.InArrays
public import proofs.«01_k».proof.Proof.InRef

@[expose] public section

/-! The nine results of the projection are the reference's. -/

noncomputable section

open Idealize.ShloMosaic Idealize.ShloMosaic.TcCoe Idealize.SL.Sem

namespace Cert.InSame
open Cert.InprojIdeal Cert.InprojIdeal.Gen Cert.InprojIdeal.Value Cert.InprojIdeal.Body
open Cert.InRefIdeal.Read (pV pV_apply zV z_apply qV q_apply kV k_apply vV v_apply gsV gs_apply gaV ga_apply dtV dt_apply windowV window_apply
  uV padV convV actV actV_apply conv_read)

/-- Two arrays of rows are the same when they are at each tile's rows. -/
theorem same_rows {w : ℕ} (f g : (⟨2, ![32768, w]⟩ : Shape).Idx → EReal) (h : ∀ (t : Fin cfg0.N) (l : Fin 512) (k : Fin w), f (ix2 (rowAt t l) k) = g (ix2 (rowAt t l) k)) : f = g := by
  funext y
  obtain ⟨r, k, rfl⟩ : ∃ r k, y = ix2 r k := ⟨y 0, y 1, funext fun a => by fin_cases a <;> rfl⟩
  have hr : r = rowAt ⟨r.val / 512, by rw [show cfg0.N = 64 from N_0]; omega⟩ ⟨r.val % 512, by omega⟩ :=
    Fin.ext (by show r.val = 512 * (r.val / 512) + r.val % 512; omega)
  rw [hr]
  exact h _ _ k
/-- … and at each block of columns. -/
theorem same_blocks {w : ℕ} (n : ℕ) (hw : w = 512 * n) (f g : (⟨2, ![32768, w]⟩ : Shape).Idx → EReal)
    (h : ∀ (t : Fin cfg0.N) (l : Fin 512) (j : Fin n) (k : Fin 512) (hk : 512 * j.val + k.val < w), f (ix2 (rowAt t l) ⟨512 * j.val + k.val, hk⟩) = g (ix2 (rowAt t l) ⟨512 * j.val + k.val, hk⟩)) : f = g := by
  refine same_rows f g fun t l k => ?_
  have hk : k = ⟨512 * (k.val / 512) + k.val % 512, by omega⟩ := Fin.ext (by show k.val = 512 * (k.val / 512) + k.val % 512; omega)
  have := h t l ⟨k.val / 512, by omega⟩ ⟨k.val % 512, by omega⟩ (by show 512 * (k.val / 512) + k.val % 512 < w; omega)
  rw [hk]
  exact this

variable (m : (ℓ : Loc nD τ sig) → Buf (Elt Ideal) ℓ) (c : Dev nD)

/-- The whole projection. -/
abbrev all : FVec Ideal Cert.InRefIdeal.S32768x9472 .f32 := pV (argX m c) (argG m c) (argW m c)

theorem all_at (t : Fin cfg0.N) (l : Fin 512) (col col' : Fin 9472) (e : col.val = col'.val) : all m c (ix2 (rowAt t l) col) = pr m c t l col' := by
  obtain rfl : col = col' := Fin.ext e
  exact pV_apply _ _ _ _ _

theorem z_same : (dats m 0 c).arrAt 6 cfg0.N = zV (all m c) :=
  same_blocks 4 rfl _ _ fun t l j k hk => by
    refine (at_6 m c t l j k).trans (((z_apply _ _ _).trans ?_).symm)
    rw [all_at m c t l _ ⟨0 + 512 * j.val + k.val, by omega⟩ (by show 512 * j.val + k.val = 0 + 512 * j.val + k.val; omega), ← sig_same]
theorem q_same : (dats m 0 c).arrAt 8 cfg0.N = qV (all m c) :=
  same_blocks 2 rfl _ _ fun t l j k hk => by
    refine (at_8 m c t l j k).trans (((q_apply _ _ _).trans ?_).symm)
    rw [all_at m c t l _ ⟨5120 + 512 * j.val + k.val, by omega⟩ (by show 5120 + (512 * j.val + k.val) = 5120 + 512 * j.val + k.val; omega)]
theorem k_same : (dats m 0 c).arrAt 9 cfg0.N = kV (all m c) :=
  same_blocks 1 rfl _ _ fun t l j k hk => by
    refine (at_9 m c t l j k).trans (((k_apply _ _ _).trans ?_).symm)
    rw [all_at m c t l _ ⟨6144 + 512 * j.val + k.val, by omega⟩ (by show 6144 + (512 * j.val + k.val) = 6144 + 512 * j.val + k.val; omega)]
theorem v_same : (dats m 0 c).arrAt 10 cfg0.N = vV (all m c) :=
  same_blocks 1 rfl _ _ fun t l j k hk => by
    refine (at_10 m c t l j k).trans (((v_apply _ _ _).trans ?_).symm)
    rw [all_at m c t l _ ⟨6656 + 512 * j.val + k.val, by omega⟩ (by show 6656 + (512 * j.val + k.val) = 6656 + 512 * j.val + k.val; omega)]
theorem gs_same : (dats m 0 c).arrAt 11 cfg0.N = gsV (all m c) :=
  same_blocks 2 rfl _ _ fun t l j k hk => by
    refine (at_11 m c t l j k).trans (((gs_apply _ _ _).trans ?_).symm)
    rw [all_at m c t l _ ⟨7168 + 512 * j.val + k.val, by omega⟩ (by show 7168 + (512 * j.val + k.val) = 7168 + 512 * j.val + k.val; omega), ← sig_same]
theorem ga_same : (dats m 0 c).arrAt 12 cfg0.N = gaV (all m c) :=
  same_blocks 2 rfl _ _ fun t l j k hk => by
    refine (at_12 m c t l j k).trans (((ga_apply _ _ _).trans ?_).symm)
    rw [all_at m c t l _ ⟨8192 + 512 * j.val + k.val, by omega⟩ (by show 8192 + (512 * j.val + k.val) = 8192 + 512 * j.val + k.val; omega), ← sig_same]
theorem dt_same : (dats m 0 c).arrAt 13 cfg0.N = dtV (all m c) :=
  same_rows _ _ fun t l k => (at_13 m c t l k).trans ((dt_apply _ _ _).trans (all_at m c t l _ _ rfl)).symm

theorem conv_same : (dats m 0 c).arrAt 7 cfg0.N = actV (convV (padV (uV (all m c))) (argK m c) (argB m c)) :=
  same_blocks 6 rfl _ _ fun t l j k hk => by
    have ht := point_lt t
    refine (at_7 m c t l j k).trans ?_
    have hr : rowAt t l = ⟨(⟨t.val / 16, by omega⟩ : Fin 4).val * 8192 + (⟨512 * (t.val % 16) + l.val, by omega⟩ : Fin 8192).val, by
        show t.val / 16 * 8192 + (512 * (t.val % 16) + l.val) < 32768; omega⟩ :=
      Fin.ext (by show 512 * t.val + l.val = t.val / 16 * 8192 + (512 * (t.val % 16) + l.val); omega)
    rw [hr]
    refine ((actV_apply _ _ _ _).trans ?_).symm
    rw [conv_read, ← sig_same]
    rfl

theorem window_same : (dats m 0 c).arrAt 14 cfg0.N = windowV (all m c) := by
  funext y
  obtain ⟨b, e, k, rfl⟩ : ∃ b e k, y = ix3 b e k := ⟨y 0, y 1, y 2, funext fun a => by fin_cases a <;> rfl⟩
  have hk : k = ⟨512 * (k.val / 512) + k.val % 512, by omega⟩ := Fin.ext (by show k.val = 512 * (k.val / 512) + k.val % 512; omega)
  have hN : 16 * b.val + 15 < cfg0.N := by rw [show cfg0.N = 64 from N_0]; omega
  have h := at_14 m c ⟨16 * b.val + 15, hN⟩ (by show (16 * b.val + 15) % 16 = 15; omega) e ⟨k.val / 512, by omega⟩ ⟨k.val % 512, by omega⟩
  have hb : (⟨(16 * b.val + 15) / 16, by omega⟩ : Fin 4) = b := Fin.ext (by show (16 * b.val + 15) / 16 = b.val; omega)
  refine Eq.trans ?_ (h.trans ?_)
  · show _ = (dats m 0 c).arrAt 14 cfg0.N (ix3 (⟨(16 * b.val + 15) / 16, _⟩ : Fin 4) e _)
    rw [hb, ← hk]
  · refine ((window_apply _ _ _ _).trans ((pV_apply _ _ _ _ _).trans ?_)).symm
    refine congrArg₂ (proj (argX m c) (argG m c) (argW m c)) (Fin.ext ?_) (Fin.ext ?_)
    · show b.val * 8192 + (8184 + e.val) = (16 * b.val + 15) / 16 * 8192 + (8184 + e.val); omega
    · show 2048 + k.val = 2048 + (512 * (k.val / 512) + k.val % 512); omega

end Cert.InSame

end
-- ==== Proof.lean ====
module

public import proofs.«01_k».proof.Defs
public import proofs.«01_k».proof.Proof.Gen.Mixer
public import proofs.«01_k».proof.Proof.Gen.Mixer.Frame
public import proofs.«01_k».proof.Proof.Gen.MixerIdeal
public import proofs.«01_k».proof.Proof.Gen.MixerIdeal.Frame
public import proofs.«01_k».proof.Proof.Gen.MixerIdeal.Value
public import proofs.«01_k».proof.Proof.Gen.RefIdeal
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojIdeal.Value
public import proofs.«01_k».proof.Proof.Gen.InRefIdeal
public import proofs.«01_k».proof.Proof.Gen.InRefIdeal.Run
public import proofs.«01_k».proof.Proof.RefLoop
public import proofs.«01_k».proof.Proof.HiddenRun
public import proofs.«01_k».proof.Proof.InEqual
public import Idealize.ShloMosaic.Adequacy
public import Idealize.ShloMosaic.Init

@[expose] public section

noncomputable section

namespace Cert.Proof

open Idealize.ShloMosaic Idealize.SL.Sem Cert.Same

/-- The side conditions of the precondition. -/
theorem pre_facts : Cert.Pre_finite.Facts := ⟨by decide, by decide, by decide, by decide⟩

attribute [local instance] pre_facts

/-- A value is real when its absolute value is below infinity. -/
theorem real_of_below (x : EReal) (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  have h' : max x (-x) < ⊤ := by
    by_contra hn
    have h0 : BitVec.ofBool (decide (max x (-x) < (⊤ : EReal))) = 1#1 := h
    rw [decide_eq_false hn] at h0
    exact absurd h0 (by decide)
  induction x with
  | bot => simp at h'
  | coe r => exact ⟨r, rfl⟩
  | top => simp at h'

/-- The precondition makes the queries, the keys and the sinks real. -/
theorem inputs_real (m : (ℓ : Loc Cert.MixerIdeal.nD Cert.MixerIdeal.τ Cert.MixerIdeal.sig) → Buf (Elt Ideal) ℓ) (h : Cert.Pre_MixerIdeal_finite m)
    (c : Dev Cert.MixerIdeal.nD) :
    Finite (m ((c.tc : Thread Cert.MixerIdeal.nD Cert.MixerIdeal.τ).loc Cert.MixerIdeal.main_arg3))
      ∧ Finite (m ((c.tc : Thread Cert.MixerIdeal.nD Cert.MixerIdeal.τ).loc Cert.MixerIdeal.main_arg4))
      ∧ Finite (m ((c.tc : Thread Cert.MixerIdeal.nD Cert.MixerIdeal.τ).loc Cert.MixerIdeal.main_arg13)) := by
  obtain ⟨h3, h4, h13⟩ := h c
  exact ⟨fun y => real_of_below _ (congrFun h3 y), fun y => real_of_below _ (congrFun h4 y), fun y => real_of_below _ (congrFun h13 y)⟩

/-- The reference ends, with its arguments unchanged and no semaphore raised. -/
theorem reference_ends : Cert.quiescent_RefIdeal := fun m g _ =>
  (θ_run _ _ _).mono (fun r h => ⟨fun c => (h c).2.2.2.2, sem_eq_zero_of_no_sems (by decide) r.2⟩)
    (Cert.RefIdeal.Loop.run_iter m g (fun c => Cert.RefIdeal.Read.iter (Cert.RefIdeal.Loop.initState m c)) (fun _ => rfl) (fun _ _ => rfl))

/-- The kernel's results are the reference's. -/
theorem results_same : Cert.algebraic_MixerIdeal_RefIdeal_pre_finite := by
  intro m g m' g' hpre hagree
  refine ⟨fun c => Cert.MixerIdeal.Value.G16 m c, fun c => Cert.MixerIdeal.Value.G17 m c, fun c => Cert.MixerIdeal.Value.G18 m c,
    fun c => Cert.MixerIdeal.Value.G19 m c, ?_, ?_⟩
  · refine (θ_run _ _ _).mono (fun r h c => ?_) (Cert.MixerIdeal.Value.run m g)
    exact h c
  · refine (θ_run _ _ _).mono (fun r h c => ?_) (Cert.RefIdeal.Loop.run_iter m' g' (fun c n => ref m c n) (fun c => ?_) (fun _ _ => rfl))
    · obtain ⟨h0, h1, h2, h3, ha⟩ := h c
      obtain ⟨e0, e1, e2, e3, e4, e5, e6, e7, e8, e9, e10, e11, e12, e13, e14, e15⟩ := hagree c
      obtain ⟨hq, hk, hs⟩ := inputs_real m hpre c
      rw [e0, e1, e2, e6, e7, e11, e12, e14, e15] at h0
      rw [e4] at h2
      rw [e5] at h3
      exact ⟨h0.trans (hidden_result m c hq hk hs).symm, h1.trans (state_result m c).symm, h2.trans (keys_result m c _).symm,
        h3.trans (values_result m c _).symm, ha⟩
    · obtain ⟨e0, e1, e2, e3, e4, e5, e6, e7, e8, e9, e10, e11, e12, e13, e14, e15⟩ := hagree c
      unfold Cert.RefIdeal.Loop.initState
      rw [e13, e2, e3, e4, e5, e8, e9, e10]
      rfl

/-- The projection's reference ends, with its arguments unchanged and no semaphore raised. -/
theorem projection_reference_ends : Cert.quiescent_InRefIdeal := fun m g _ =>
  (θ_run _ _ _).mono (fun r h => ⟨fun c => (h c).2.2.2.2.2.2.2.2.2, sem_eq_zero_of_no_sems (by decide) r.2⟩) (Cert.InRefIdeal.Value.run m g)

open Cert.InprojIdeal Cert.InprojIdeal.Gen Cert.InSame in
/-- The projection's results are its reference's. -/
theorem projections_same : Cert.algebraic_InprojIdeal_InRefIdeal := by
  intro m g m' g' _ hagree
  refine ⟨fun c => (dats m 0 c).arrAt 6 cfg0.N, fun c => (dats m 0 c).arrAt 7 cfg0.N, fun c => (dats m 0 c).arrAt 8 cfg0.N,
    fun c => (dats m 0 c).arrAt 9 cfg0.N, fun c => (dats m 0 c).arrAt 10 cfg0.N, fun c => (dats m 0 c).arrAt 11 cfg0.N,
    fun c => (dats m 0 c).arrAt 12 cfg0.N, fun c => (dats m 0 c).arrAt 13 cfg0.N, fun c => (dats m 0 c).arrAt 14 cfg0.N, ?_, ?_⟩
  · refine (θ_run _ _ _).mono (fun r h c => ?_) (Cert.InprojIdeal.Value.run_blocks m g)
    exact h c
  · refine (θ_run _ _ _).mono (fun r h c => ?_) (Cert.InRefIdeal.Value.run m' g')
    obtain ⟨h0, h1, h2, h3, h4, h5, h6, h7, h8, ha⟩ := h c
    obtain ⟨e0, e1, e2, e3, e4⟩ := hagree c
    unfold Cert.InRefIdeal.Value.res_main_v64 at h1
    rw [e0, e1, e2] at h0 h2 h3 h4 h5 h6 h7 h8
    rw [e0, e1, e2, e3, e4] at h1
    exact ⟨h0.trans (z_same m c).symm, h1.trans (conv_same m c).symm, h2.trans (q_same m c).symm, h3.trans (k_same m c).symm,
      h4.trans (v_same m c).symm, h5.trans (gs_same m c).symm, h6.trans (ga_same m c).symm, h7.trans (dt_same m c).symm,
      h8.trans (window_same m c).symm, ha⟩

theorem claim : Cert.Claim :=
  ⟨Cert.Mixer.Gen.facts, Cert.MixerIdeal.Gen.facts, Cert.RefIdeal.Gen.facts, Cert.Inproj.Gen.facts, Cert.InprojIdeal.Gen.facts,
   Cert.InRefIdeal.Gen.facts, pre_facts,
   fun m ρ _ => Cert.Mixer.Gen.frame m ρ, fun m ρ _ => Cert.MixerIdeal.Gen.frame m ρ,
   fun m ρ _ => Cert.MixerIdeal.Gen.frame m ρ, reference_ends, fun m ρ _ => reference_ends m ρ trivial,
   fun m ρ _ => Cert.Inproj.Gen.frame m ρ, fun m ρ _ => Cert.InprojIdeal.Gen.frame m ρ, projection_reference_ends,
   ⟨IdealRules.named_const.statement Cert.MixerIdeal.κ "masked" .f32 0xF49DC5AE#32 ⊥ rfl,
    IdealRules.named_const.statement Cert.MixerIdeal.κ "neg_inf" .f32 0xF149F2CA#32 ⊥ rfl⟩,
   results_same, trivial, projections_same⟩

end Cert.Proof

end
